-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2 = (fun _ => 1#1)

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9)
      ∧ r.2.mem ((c.tc : Thread Cert.KernelTail.nD Cert.KernelTail.τ).loc Cert.KernelTail.main_arg10) = m ((c.tc : Thread Cert.KernelTail.nD Cert.KernelTail.τ).loc Cert.KernelTail.main_arg10)
      ∧ r.2.mem ((c.tc : Thread Cert.KernelTail.nD Cert.KernelTail.τ).loc Cert.KernelTail.main_arg11) = m ((c.tc : Thread Cert.KernelTail.nD Cert.KernelTail.τ).loc Cert.KernelTail.main_arg11)
      ∧ r.2.mem ((c.tc : Thread Cert.KernelTail.nD Cert.KernelTail.τ).loc Cert.KernelTail.main_arg12) = m ((c.tc : Thread Cert.KernelTail.nD Cert.KernelTail.τ).loc Cert.KernelTail.main_arg12))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
      ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
      ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11)
      ∧ r.2.mem ((c.tc : Thread Cert.KernelTailIdeal.nD Cert.KernelTailIdeal.τ).loc Cert.KernelTailIdeal.main_arg12) = m ((c.tc : Thread Cert.KernelTailIdeal.nD Cert.KernelTailIdeal.τ).loc Cert.KernelTailIdeal.main_arg12))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11)
      ∧ r.2.mem ((c.tc : Thread Cert.ReferenceTailIdeal.nD Cert.ReferenceTailIdeal.τ).loc Cert.ReferenceTailIdeal.main_arg12) = m ((c.tc : Thread Cert.ReferenceTailIdeal.nD Cert.ReferenceTailIdeal.τ).loc Cert.ReferenceTailIdeal.main_arg12))
      ∧ r.2.sem = fun _ => 0)

def preserves_Kernel_KernelIdeal : Prop :=
  IdealRules.named_const.Statement Cert.KernelIdeal.κ "log2e_over_8" .f32 0x3E38AA3B#32 (((Real.log 2)⁻¹ * (1 / 8) : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_KernelTail_KernelTailIdeal : Prop :=
  IdealRules.named_const.Statement Cert.KernelTailIdeal.κ "neg_log2e" .f32 0xBFB8AA3B#32 ((-((Real.log 2)⁻¹) : ℝ) : EReal)

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)
      ∧ m' ((c.tc : Thread Cert.ReferenceTailIdeal.nD Cert.ReferenceTailIdeal.τ).loc Cert.ReferenceTailIdeal.main_arg10) = m ((c.tc : Thread Cert.KernelTailIdeal.nD Cert.KernelTailIdeal.τ).loc Cert.KernelTailIdeal.main_arg10)
      ∧ m' ((c.tc : Thread Cert.ReferenceTailIdeal.nD Cert.ReferenceTailIdeal.τ).loc Cert.ReferenceTailIdeal.main_arg11) = m ((c.tc : Thread Cert.KernelTailIdeal.nD Cert.KernelTailIdeal.τ).loc Cert.KernelTailIdeal.main_arg11)
      ∧ m' ((c.tc : Thread Cert.ReferenceTailIdeal.nD Cert.ReferenceTailIdeal.τ).loc Cert.ReferenceTailIdeal.main_arg12) = m ((c.tc : Thread Cert.KernelTailIdeal.nD Cert.KernelTailIdeal.τ).loc Cert.KernelTailIdeal.main_arg12)) →
    ∃ (v0 : (c : Dev Cert.KernelTailIdeal.nD) → Buf (Elt Ideal) ((c.tc : Thread Cert.KernelTailIdeal.nD Cert.KernelTailIdeal.τ).loc Cert.KernelTailIdeal.main_v43)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v43) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
          ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
          ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11)
          ∧ r.2.mem ((c.tc : Thread Cert.KernelTailIdeal.nD Cert.KernelTailIdeal.τ).loc Cert.KernelTailIdeal.main_arg12) = m ((c.tc : Thread Cert.KernelTailIdeal.nD Cert.KernelTailIdeal.τ).loc Cert.KernelTailIdeal.main_arg12))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v155) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11)
          ∧ r.2.mem ((c.tc : Thread Cert.ReferenceTailIdeal.nD Cert.ReferenceTailIdeal.τ).loc Cert.ReferenceTailIdeal.main_arg12) = m' ((c.tc : Thread Cert.ReferenceTailIdeal.nD Cert.ReferenceTailIdeal.τ).loc Cert.ReferenceTailIdeal.main_arg12))

def Claim : Prop :=
  ∃ (hKernel : Cert.Kernel.Facts) (hKernelIdeal : Cert.KernelIdeal.Facts) (hReferenceIdeal : Cert.ReferenceIdeal.Facts) (hKernelTail : Cert.KernelTail.Facts) (hKernelTailIdeal : Cert.KernelTailIdeal.Facts) (hReferenceTailIdeal : Cert.ReferenceTailIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelTail_KernelTailIdeal
    ∧ algebraic_KernelTailIdeal_ReferenceTailIdeal (hKernelTailIdeal := hKernelTailIdeal) (hReferenceTailIdeal := hReferenceTailIdeal)
-- ==== Pre_finite.lean ====
abbrev S8x2048x1024 : Shape := ⟨3, ![8, 2048, 1024]⟩
abbrev S2x1024 : Shape := ⟨2, ![2, 1024]⟩
abbrev S1x1024x1536 : Shape := ⟨3, ![1, 1024, 1536]⟩
abbrev S1x64 : Shape := ⟨2, ![1, 64]⟩
abbrev S1x1024x1024 : Shape := ⟨3, ![1, 1024, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S_ : Shape := ⟨0, ![]⟩

class Facts : Prop where
  bcast_S_S8x2048x1024 : S_.BroadcastsInDim S8x2048x1024 (![] : Fin 0 → Fin S8x2048x1024.rank)
  bcast_S_S2x1024 : S_.BroadcastsInDim S2x1024 (![] : Fin 0 → Fin S2x1024.rank)
  bcast_S_S1x1024x1536 : S_.BroadcastsInDim S1x1024x1536 (![] : Fin 0 → Fin S1x1024x1536.rank)
  bcast_S_S1x64 : S_.BroadcastsInDim S1x64 (![] : Fin 0 → Fin S1x64.rank)

variable [Facts]

def fn {F : FTy → Type} [FloatOps F] (main_arg0 : FVec F S8x2048x1024 .f32) (main_arg1 : FVec F S2x1024 .f32) (main_arg2 : FVec F S2x1024 .f32) (main_arg3 : FVec F S1x1024x1536 .f32) (main_arg4 : FVec F S1x64 .f32) (main_arg5 : FVec F S1x64 .f32) (main_arg6 : FVec F S1x1024x1024 .f32) (main_arg7 : FVec F S1x1024x4096 .f32) (main_arg8 : FVec F S1x2048 .f32) (main_arg9 : FVec F S1x8x128x128 .f32) (main_arg10 : FVec F S1x8x128 .f32) (main_arg11 : FVec F S1x2048x1024 .f32) (main_arg12 : FVec F S2x1024x5632 .f32) (main_arg13 : FVec F S2x3x5632 .f32) (main_arg14 : FVec F S2x5632 .f32) (main_arg15 : FVec F S2x2816x1024 .f32) : IVec S8x2048x1024 1 × IVec S2x1024 1 × IVec S1x1024x1536 1 × IVec S1x64 1 × IVec S1x64 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x1536 .f32 := Host.absf main_arg3
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg5
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  (main_v2, main_v5, main_v8, main_v11, main_v14)
-- ==== Kernel.lean ====
abbrev S8x2048x1024 : Shape := ⟨3, ![8, 2048, 1024]⟩
abbrev S2x1024 : Shape := ⟨2, ![2, 1024]⟩
abbrev S1x1024x1536 : Shape := ⟨3, ![1, 1024, 1536]⟩
abbrev S1x64 : Shape := ⟨2, ![1, 64]⟩
abbrev S1x1024x1024 : Shape := ⟨3, ![1, 1024, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S1024x1536 : Shape := ⟨2, ![1024, 1536]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1024x1024 : Shape := ⟨2, ![1024, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S2048x1024 : Shape := ⟨2, ![2048, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S16384x1024 : Shape := ⟨2, ![16384, 1024]⟩
abbrev S32 : Shape := ⟨1, ![32]⟩
abbrev S32x1 : Shape := ⟨2, ![32, 1]⟩
abbrev S32x64 : Shape := ⟨2, ![32, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x16384x128 : Shape := ⟨3, ![16, 16384, 128]⟩
abbrev S4x16384x128 : Shape := ⟨3, ![4, 16384, 128]⟩
abbrev S8x16384x128 : Shape := ⟨3, ![8, 16384, 128]⟩
abbrev S512x1024 : Shape := ⟨2, ![512, 1024]⟩
abbrev S512x128 : Shape := ⟨2, ![512, 128]⟩
abbrev S16x512x128 : Shape := ⟨3, ![16, 512, 128]⟩
abbrev S4x512x128 : Shape := ⟨3, ![4, 512, 128]⟩
abbrev S8x512x128 : Shape := ⟨3, ![8, 512, 128]⟩
abbrev S512 : Shape := ⟨1, ![512]⟩
abbrev S512x1 : Shape := ⟨2, ![512, 1]⟩
abbrev S256x128 : Shape := ⟨2, ![256, 128]⟩
abbrev S1024x256 : Shape := ⟨2, ![1024, 256]⟩
abbrev S512x256 : Shape := ⟨2, ![512, 256]⟩
abbrev S1x512x128 : Shape := ⟨3, ![1, 512, 128]⟩
abbrev S512x896 : Shape := ⟨2, ![512, 896]⟩
abbrev S4x2048x128 : Shape := ⟨3, ![4, 2048, 128]⟩
abbrev S8x2048x128 : Shape := ⟨3, ![8, 2048, 128]⟩
abbrev S1x2048x128 : Shape := ⟨3, ![1, 2048, 128]⟩
abbrev S512x2048 : Shape := ⟨2, ![512, 2048]⟩
abbrev S16x1024 : Shape := ⟨2, ![16, 1024]⟩
abbrev S544x1024 : Shape := ⟨2, ![544, 1024]⟩
abbrev S544x256 : Shape := ⟨2, ![544, 256]⟩
abbrev S3x256 : Shape := ⟨2, ![3, 256]⟩
abbrev S1x256 : Shape := ⟨2, ![1, 256]⟩
abbrev S512x2816 : Shape := ⟨2, ![512, 2816]⟩
abbrev S1024x2048 : Shape := ⟨2, ![1024, 2048]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 170
  | .vmem => 78
  | .smem => 0
  | _ => 0

abbrev hbmTy0_0 (i : Nat) : BufTy := match i % 128 with
  | 0 => ⟨S8x2048x1024, .f32⟩
  | 1 => ⟨S2x1024, .f32⟩
  | 2 => ⟨S2x1024, .f32⟩
  | 3 => ⟨S1x1024x1536, .f32⟩
  | 4 => ⟨S1x64, .f32⟩
  | 5 => ⟨S1x64, .f32⟩
  | 6 => ⟨S1x1024x1024, .f32⟩
  | 7 => ⟨S1x1024x4096, .f32⟩
  | 8 => ⟨S1x2048, .f32⟩
  | 9 => ⟨S1x8x128x128, .f32⟩
  | 10 => ⟨S1x8x128, .f32⟩
  | 11 => ⟨S1x2048x1024, .f32⟩
  | 12 => ⟨S2x1024x5632, .f32⟩
  | 13 => ⟨S2x3x5632, .f32⟩
  | 14 => ⟨S2x5632, .f32⟩
  | 15 => ⟨S2x2816x1024, .f32⟩
  | 16 => ⟨S1x1024, .f32⟩
  | 17 => ⟨S1024, .f32⟩
  | 18 => ⟨S1x1024, .f32⟩
  | 19 => ⟨S1x1024, .f32⟩
  | 20 => ⟨S1024, .f32⟩
  | 21 => ⟨S1x1024, .f32⟩
  | 22 => ⟨S1x1024, .f32⟩
  | 23 => ⟨S1024, .f32⟩
  | 24 => ⟨S1x1024, .f32⟩
  | 25 => ⟨S1x1024, .f32⟩
  | 26 => ⟨S1024, .f32⟩
  | 27 => ⟨S1x1024, .f32⟩
  | 28 => ⟨S1024x1536, .f32⟩
  | 29 => ⟨S1024x1536, .bf16⟩
  | 30 => ⟨S64, .f32⟩
  | 31 => ⟨S1x64, .f32⟩
  | 32 => ⟨S2x64, .f32⟩
  | 33 => ⟨S128, .f32⟩
  | 34 => ⟨S1x128, .f32⟩
  | 35 => ⟨S64, .f32⟩
  | 36 => ⟨S1x64, .f32⟩
  | 37 => ⟨S2x64, .f32⟩
  | 38 => ⟨S128, .f32⟩
  | 39 => ⟨S1x128, .f32⟩
  | 40 => ⟨S1024x1024, .f32⟩
  | 41 => ⟨S1024x1024, .bf16⟩
  | 42 => ⟨S1024x4096, .f32⟩
  | 43 => ⟨S1024x4096, .bf16⟩
  | 44 => ⟨S2048, .f32⟩
  | 45 => ⟨S1x2048, .f32⟩
  | 46 => ⟨S8x128x128, .f32⟩
  | 47 => ⟨S8x128x128, .bf16⟩
  | 48 => ⟨S8x128, .f32⟩
  | 49 => ⟨S128x8, .f32⟩
  | 50 => ⟨S128x8x256, .f32⟩
  | 51 => ⟨S128x2048, .f32⟩
  | 52 => ⟨S2048x1024, .f32⟩
  | 53 => ⟨S2048x1024, .bf16⟩
  | 54 => ⟨S1x1024x5632, .f32⟩
  | 55 => ⟨S1024x5632, .f32⟩
  | 56 => ⟨S1024x5632, .bf16⟩
  | 57 => ⟨S1x1024x5632, .f32⟩
  | 58 => ⟨S1024x5632, .f32⟩
  | 59 => ⟨S1024x5632, .bf16⟩
  | 60 => ⟨S1x3x5632, .f32⟩
  | 61 => ⟨S3x5632, .f32⟩
  | 62 => ⟨S1x3x5632, .f32⟩
  | 63 => ⟨S3x5632, .f32⟩
  | 64 => ⟨S1x5632, .f32⟩
  | 65 => ⟨S5632, .f32⟩
  | 66 => ⟨S1x5632, .f32⟩
  | 67 => ⟨S1x5632, .f32⟩
  | 68 => ⟨S5632, .f32⟩
  | 69 => ⟨S1x5632, .f32⟩
  | 70 => ⟨S1x2816x1024, .f32⟩
  | 71 => ⟨S2816x1024, .f32⟩
  | 72 => ⟨S2816x1024, .bf16⟩
  | 73 => ⟨S1x2816x1024, .f32⟩
  | 74 => ⟨S2816x1024, .f32⟩
  | 75 => ⟨S2816x1024, .bf16⟩
  | 76 => ⟨S16384x1024, .f32⟩
  | 77 => ⟨S32, .i32⟩
  | 78 => ⟨S32x1, .i32⟩
  | 79 => ⟨S32x64, .i32⟩
  | 80 => ⟨S2048, .i32⟩
  | 81 => ⟨S64, .i32⟩
  | 82 => ⟨S1x64, .i32⟩
  | 83 => ⟨S32x64, .i32⟩
  | 84 => ⟨S2048, .i32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S2048, .f32⟩
  | 100 => ⟨S2048x1, .f32⟩
  | 101 => ⟨S1x16, .f32⟩
  | 102 => ⟨S2048x16, .f32⟩
  | 103 => ⟨S2048x16, .f32⟩
  | 104 => ⟨S2048x16, .f32⟩
  | 105 => ⟨S2048, .f32⟩
  | 106 => ⟨S2048x1, .f32⟩
  | 107 => ⟨S1x16, .f32⟩
  | 108 => ⟨S2048x16, .f32⟩
  | 109 => ⟨S2048x16, .f32⟩
  | 110 => ⟨S2048x16, .f32⟩
  | 111 => ⟨S2048x64, .f32⟩
  | 112 => ⟨S2048x64, .f32⟩
  | 113 => ⟨S1x2048x1x64, .f32⟩
  | 114 => ⟨S1x2048x2x64, .f32⟩
  | 115 => ⟨S2048x128, .f32⟩
  | 116 => ⟨S2048x64, .f32⟩
  | 117 => ⟨S1x2048x1x64, .f32⟩
  | 118 => ⟨S1x2048x2x64, .f32⟩
  | 119 => ⟨S2048x128, .f32⟩
  | 120 => ⟨S128, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S128, .i32⟩
  | _ => ⟨S8x2048x1024, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S_, .i32⟩
  | 5 => ⟨S128, .i32⟩
  | 6 => ⟨S128, .i1⟩
  | 7 => ⟨S_, .i32⟩
  | 8 => ⟨S_, .i1⟩
  | 9 => ⟨S128, .i1⟩
  | 10 => ⟨S128, .i1⟩
  | 11 => ⟨S128, .i1⟩
  | 12 => ⟨S128, .i32⟩
  | 13 => ⟨S128, .i32⟩
  | 14 => ⟨S128, .i32⟩
  | 15 => ⟨S_, .i32⟩
  | 16 => ⟨S128, .i32⟩
  | 17 => ⟨S128, .i1⟩
  | 18 => ⟨S1x128, .i1⟩
  | 19 => ⟨S_, .f32⟩
  | 20 => ⟨S_, .f32⟩
  | 21 => ⟨S2048x128, .i1⟩
  | 22 => ⟨S2048x128, .f32⟩
  | 23 => ⟨S2048x128, .f32⟩
  | 24 => ⟨S1x128, .i1⟩
  | 25 => ⟨S2048x128, .f32⟩
  | 26 => ⟨S_, .f32⟩
  | 27 => ⟨S_, .f32⟩
  | 28 => ⟨S2048x128, .i1⟩
  | 29 => ⟨S2048x128, .f32⟩
  | 30 => ⟨S2048x128, .f32⟩
  | 31 => ⟨S16x16384x128, .bf16⟩
  | 32 => ⟨S4x16384x128, .bf16⟩
  | 33 => ⟨S8x16384x128, .bf16⟩
  | 34 => ⟨S16384x1024, .f32⟩
  | 35 => ⟨S16384x1024, .bf16⟩
  | 36 => ⟨S16384x1024, .f32⟩
  | 37 => ⟨S16384x1024, .bf16⟩
  | 38 => ⟨S16384x1024, .f32⟩
  | 39 => ⟨S16384x1024, .bf16⟩
  | 40 => ⟨S16384x1024, .f32⟩
  | 41 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S16x512x128, .bf16⟩
  | .local _ .vmem, ⟨13, _⟩ => ⟨S16x512x128, .bf16⟩
  | .local _ .vmem, ⟨14, _⟩ => ⟨S4x512x128, .bf16⟩
  | .local _ .vmem, ⟨15, _⟩ => ⟨S4x512x128, .bf16⟩
  | .local _ .vmem, ⟨16, _⟩ => ⟨S8x512x128, .bf16⟩
  | .local _ .vmem, ⟨17, _⟩ => ⟨S8x512x128, .bf16⟩
  | .local _ .vmem, ⟨18, _⟩ => ⟨S16x512x128, .bf16⟩
  | .local _ .vmem, ⟨19, _⟩ => ⟨S16x512x128, .bf16⟩
  | .local _ .vmem, ⟨20, _⟩ => ⟨S4x2048x128, .bf16⟩
  | .local _ .vmem, ⟨21, _⟩ => ⟨S4x2048x128, .bf16⟩
  | .local _ .vmem, ⟨22, _⟩ => ⟨S8x2048x128, .bf16⟩
  | .local _ .vmem, ⟨23, _⟩ => ⟨S8x2048x128, .bf16⟩
  | .local _ .vmem, ⟨24, _⟩ => ⟨S512x1024, .f32⟩
  | .local _ .vmem, ⟨25, _⟩ => ⟨S512x1024, .f32⟩
  | .local _ .vmem, ⟨26, _⟩ => ⟨S1024x1024, .bf16⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S16x1024, .bf16⟩
  | .local _ .vmem, ⟨33, _⟩ => ⟨S16x1024, .bf16⟩
  | .local _ .vmem, ⟨34, _⟩ => ⟨S512x1024, .bf16⟩
  | .local _ .vmem, ⟨35, _⟩ => ⟨S512x1024, .bf16⟩
  | .local _ .vmem, ⟨36, _⟩ => ⟨S16x1024, .bf16⟩
  | .local _ .vmem, ⟨37, _⟩ => ⟨S16x1024, .bf16⟩
  | .local _ .vmem, ⟨38, _⟩ => ⟨S512x1024, .f32⟩
  | .local _ .vmem, ⟨39, _⟩ => ⟨S512x1024, .f32⟩
  | .local _ .vmem, ⟨40, _⟩ => ⟨S1024x5632, .bf16⟩
  | .local _ .vmem, ⟨41, _⟩ => ⟨S3x5632, .f32⟩
  | .local _ .vmem, ⟨42, _⟩ => ⟨S1x5632, .f32⟩
  | .local _ .vmem, ⟨43, _⟩ => ⟨S2816x1024, .bf16⟩
  | .local _ .vmem, ⟨44, _⟩ => ⟨S1x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .bf16⟩
  | .local _ .vmem, ⟨48, _⟩ => ⟨S512x1024, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .f32⟩
  | .local _ .vmem, ⟨52, _⟩ => ⟨S512x1024, .f32⟩
  | .local _ .vmem, ⟨53, _⟩ => ⟨S1024x4096, .bf16⟩
  | .local _ .vmem, ⟨54, _⟩ => ⟨S1x2048, .f32⟩
  | .local _ .vmem, ⟨55, _⟩ => ⟨S8x128x128, .bf16⟩
  | .local _ .vmem, ⟨56, _⟩ => ⟨S128x2048, .f32⟩
  | .local _ .vmem, ⟨57, _⟩ => ⟨S2048x1024, .bf16⟩
  | .local _ .vmem, ⟨58, _⟩ => ⟨S1x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .bf16⟩
  | .local _ .vmem, ⟨62, _⟩ => ⟨S512x1024, .bf16⟩
  | .local _ .vmem, ⟨63, _⟩ => ⟨S16x1024, .bf16⟩
  | .local _ .vmem, ⟨64, _⟩ => ⟨S16x1024, .bf16⟩
  | .local _ .vmem, ⟨65, _⟩ => ⟨S512x1024, .bf16⟩
  | .local _ .vmem, ⟨66, _⟩ => ⟨S512x1024, .bf16⟩
  | .local _ .vmem, ⟨67, _⟩ => ⟨S16x1024, .bf16⟩
  | .local _ .vmem, ⟨68, _⟩ => ⟨S16x1024, .bf16⟩
  | .local _ .vmem, ⟨69, _⟩ => ⟨S512x1024, .f32⟩
  | .local _ .vmem, ⟨70, _⟩ => ⟨S512x1024, .f32⟩
  | .local _ .vmem, ⟨71, _⟩ => ⟨S1024x5632, .bf16⟩
  | .local _ .vmem, ⟨72, _⟩ => ⟨S3x5632, .f32⟩
  | .local _ .vmem, ⟨73, _⟩ => ⟨S1x5632, .f32⟩
  | .local _ .vmem, ⟨74, _⟩ => ⟨S2816x1024, .bf16⟩
  | .local _ .vmem, ⟨75, _⟩ => ⟨S1x1024, .f32⟩
  | .local _ .vmem, ⟨76, _⟩ => ⟨S512x1024, .f32⟩
  | .local _ .vmem, ⟨77, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst : Ref sig .tc := ⟨.hbm, 86, rfl⟩
abbrev main_v70 : Ref sig .tc := ⟨.hbm, 87, rfl⟩
abbrev main_v71 : Ref sig .tc := ⟨.hbm, 88, rfl⟩
abbrev main_cst_0 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_1 : Ref sig .tc := ⟨.hbm, 93, rfl⟩
abbrev main_v75 : Ref sig .tc := ⟨.hbm, 94, rfl⟩
abbrev main_v76 : Ref sig .tc := ⟨.hbm, 95, rfl⟩
abbrev main_cst_2 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_c : Ref sig .tc := ⟨.hbm, 121, rfl⟩
abbrev main_call0_v0 : Ref sig .tc := ⟨.hbm, 122, rfl⟩
abbrev main_call0_c : Ref sig .tc := ⟨.hbm, 123, rfl⟩
abbrev main_call0_v1 : Ref sig .tc := ⟨.hbm, 124, rfl⟩
abbrev main_call0_c_0 : Ref sig .tc := ⟨.hbm, 125, rfl⟩
abbrev main_call0_v2 : Ref sig .tc := ⟨.hbm, 126, rfl⟩
abbrev main_call0_v3 : Ref sig .tc := ⟨.hbm, 127, rfl⟩
abbrev main_call0_v4 : Ref sig .tc := ⟨.hbm, 128, rfl⟩
abbrev main_call0_c_1 : Ref sig .tc := ⟨.hbm, 129, rfl⟩
abbrev main_call0_v5 : Ref sig .tc := ⟨.hbm, 130, rfl⟩
abbrev main_call0_v6 : Ref sig .tc := ⟨.hbm, 131, rfl⟩
abbrev main_call0_c_2 : Ref sig .tc := ⟨.hbm, 132, rfl⟩
abbrev main_call0_v7 : Ref sig .tc := ⟨.hbm, 133, rfl⟩
abbrev main_call0_v8 : Ref sig .tc := ⟨.hbm, 134, rfl⟩
abbrev main_call0_c_3 : Ref sig .tc := ⟨.hbm, 135, rfl⟩
abbrev main_call0_v9 : Ref sig .tc := ⟨.hbm, 136, rfl⟩
abbrev main_call0_v10 : Ref sig .tc := ⟨.hbm, 137, rfl⟩
abbrev main_call0_v11 : Ref sig .tc := ⟨.hbm, 138, rfl⟩
abbrev main_call0_v12 : Ref sig .tc := ⟨.hbm, 139, rfl⟩
abbrev main_call0_v13 : Ref sig .tc := ⟨.hbm, 140, rfl⟩
abbrev main_call0_v14 : Ref sig .tc := ⟨.hbm, 141, rfl⟩
abbrev main_v101 : Ref sig .tc := ⟨.hbm, 142, rfl⟩
abbrev main_c_3 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_4 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_5 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v108 : Ref sig .tc := ⟨.hbm, 158, rfl⟩
abbrev main_v109_0 : Ref sig .tc := ⟨.hbm, 159, rfl⟩
abbrev main_v109_1 : Ref sig .tc := ⟨.hbm, 160, rfl⟩
abbrev main_v109_2 : Ref sig .tc := ⟨.hbm, 161, rfl⟩
abbrev main_v110_0 : Ref sig .tc := ⟨.hbm, 162, rfl⟩
abbrev main_v110_1 : Ref sig .tc := ⟨.hbm, 163, rfl⟩
abbrev main_v111_0 : Ref sig .tc := ⟨.hbm, 164, rfl⟩
abbrev main_v111_1 : Ref sig .tc := ⟨.hbm, 165, rfl⟩
abbrev main_v112_0 : Ref sig .tc := ⟨.hbm, 166, rfl⟩
abbrev main_v112_1 : Ref sig .tc := ⟨.hbm, 167, rfl⟩
abbrev main_v113 : Ref sig .tc := ⟨.hbm, 168, rfl⟩
abbrev main_v114 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg9_1 : Ref sig .tc := ⟨.vmem, 46, rfl⟩
abbrev cc2_stg10_0 : Ref sig .tc := ⟨.vmem, 47, rfl⟩
abbrev cc2_stg10_1 : Ref sig .tc := ⟨.vmem, 48, rfl⟩
abbrev cc3_stg0_0 : Ref sig .tc := ⟨.vmem, 49, rfl⟩
abbrev cc3_stg0_1 : Ref sig .tc := ⟨.vmem, 50, rfl⟩
abbrev cc3_stg1_0 : Ref sig .tc := ⟨.vmem, 51, rfl⟩
abbrev cc3_stg1_1 : Ref sig .tc := ⟨.vmem, 52, rfl⟩
abbrev cc3_stg2_0 : Ref sig .tc := ⟨.vmem, 53, rfl⟩
abbrev cc3_stg3_0 : Ref sig .tc := ⟨.vmem, 54, rfl⟩
abbrev cc3_stg4_0 : Ref sig .tc := ⟨.vmem, 55, rfl⟩
abbrev cc3_stg5_0 : Ref sig .tc := ⟨.vmem, 56, rfl⟩
abbrev cc3_stg6_0 : Ref sig .tc := ⟨.vmem, 57, rfl⟩
abbrev cc3_stg7_0 : Ref sig .tc := ⟨.vmem, 58, rfl⟩
abbrev cc3_stg8_0 : Ref sig .tc := ⟨.vmem, 59, rfl⟩
abbrev cc3_stg8_1 : Ref sig .tc := ⟨.vmem, 60, rfl⟩
abbrev cc3_stg9_0 : Ref sig .tc := ⟨.vmem, 61, rfl⟩
abbrev cc3_stg9_1 : Ref sig .tc := ⟨.vmem, 62, rfl⟩
abbrev cc4_stg0_0 : Ref sig .tc := ⟨.vmem, 63, rfl⟩
abbrev cc4_stg0_1 : Ref sig .tc := ⟨.vmem, 64, rfl⟩
abbrev cc4_stg1_0 : Ref sig .tc := ⟨.vmem, 65, rfl⟩
abbrev cc4_stg1_1 : Ref sig .tc := ⟨.vmem, 66, rfl⟩
abbrev cc4_stg2_0 : Ref sig .tc := ⟨.vmem, 67, rfl⟩
abbrev cc4_stg2_1 : Ref sig .tc := ⟨.vmem, 68, rfl⟩
abbrev cc4_stg3_0 : Ref sig .tc := ⟨.vmem, 69, rfl⟩
abbrev cc4_stg3_1 : Ref sig .tc := ⟨.vmem, 70, rfl⟩
abbrev cc4_stg4_0 : Ref sig .tc := ⟨.vmem, 71, rfl⟩
abbrev cc4_stg5_0 : Ref sig .tc := ⟨.vmem, 72, rfl⟩
abbrev cc4_stg6_0 : Ref sig .tc := ⟨.vmem, 73, rfl⟩
abbrev cc4_stg7_0 : Ref sig .tc := ⟨.vmem, 74, rfl⟩
abbrev cc4_stg8_0 : Ref sig .tc := ⟨.vmem, 75, rfl⟩
abbrev cc4_stg9_0 : Ref sig .tc := ⟨.vmem, 76, rfl⟩
abbrev cc4_stg9_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem8_0 : DmaSem sig := 44
abbrev cc2_sem9_0 : DmaSem sig := 45
abbrev cc2_sem9_1 : DmaSem sig := 46
abbrev cc2_sem10_0 : DmaSem sig := 47
abbrev cc2_sem10_1 : DmaSem sig := 48
abbrev cc3_sem0_0 : DmaSem sig := 49
abbrev cc3_sem0_1 : DmaSem sig := 50
abbrev cc3_sem1_0 : DmaSem sig := 51
abbrev cc3_sem1_1 : DmaSem sig := 52
abbrev cc3_sem2_0 : DmaSem sig := 53
abbrev cc3_sem3_0 : DmaSem sig := 54
abbrev cc3_sem4_0 : DmaSem sig := 55
abbrev cc3_sem5_0 : DmaSem sig := 56
abbrev cc3_sem6_0 : DmaSem sig := 57
abbrev cc3_sem7_0 : DmaSem sig := 58
abbrev cc3_sem8_0 : DmaSem sig := 59
abbrev cc3_sem8_1 : DmaSem sig := 60
abbrev cc3_sem9_0 : DmaSem sig := 61
abbrev cc3_sem9_1 : DmaSem sig := 62
abbrev cc4_sem0_0 : DmaSem sig := 63
abbrev cc4_sem0_1 : DmaSem sig := 64
abbrev cc4_sem1_0 : DmaSem sig := 65
abbrev cc4_sem1_1 : DmaSem sig := 66
abbrev cc4_sem2_0 : DmaSem sig := 67
abbrev cc4_sem2_1 : DmaSem sig := 68
abbrev cc4_sem3_0 : DmaSem sig := 69
abbrev cc4_sem3_1 : DmaSem sig := 70
abbrev cc4_sem4_0 : DmaSem sig := 71
abbrev cc4_sem5_0 : DmaSem sig := 72
abbrev cc4_sem6_0 : DmaSem sig := 73
abbrev cc4_sem7_0 : DmaSem sig := 74
abbrev cc4_sem8_0 : DmaSem sig := 75
abbrev cc4_sem9_0 : DmaSem sig := 76
abbrev cc4_sem9_1 : DmaSem sig := 77

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨3, ![8, 4, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S16x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S4x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S8x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x5632 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x5632 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x5632 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2816x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x1024 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x4096 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2048x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1024x5632 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x5632 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x5632 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2816x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S512x1024 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]
-- ==== KernelIdeal.lean ====
variable {F : FTy → Type} [FloatOps F] [Named F]
def κ : String → Option EReal := fun
  | "log2e_over_8" => some (((Real.log 2)⁻¹ * (1 / 8) : ℝ) : EReal)
  | "neg_log2e" => some ((-((Real.log 2)⁻¹) : ℝ) : EReal)
  | _ => none
-- ==== ReferenceIdeal.lean ====
abbrev S8x2048x1024 : Shape := ⟨3, ![8, 2048, 1024]⟩
abbrev S2x1024 : Shape := ⟨2, ![2, 1024]⟩
abbrev S1x1024x1536 : Shape := ⟨3, ![1, 1024, 1536]⟩
abbrev S1x64 : Shape := ⟨2, ![1, 64]⟩
abbrev S1x1024x1024 : Shape := ⟨3, ![1, 1024, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1536 : Shape := ⟨2, ![1024, 1536]⟩
abbrev S64 : Shape := ⟨1, ![64]⟩
abbrev S1024x1024 : Shape := ⟨2, ![1024, 1024]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S8x2048x1536 : Shape := ⟨3, ![8, 2048, 1536]⟩
abbrev S8x2048x16x64 : Shape := ⟨4, ![8, 2048, 16, 64]⟩
abbrev S8x2048x256 : Shape := ⟨3, ![8, 2048, 256]⟩
abbrev S8x2048x4x64 : Shape := ⟨4, ![8, 2048, 4, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x16x32 : Shape := ⟨4, ![8, 2048, 16, 32]⟩
abbrev S8x2048x16x16 : Shape := ⟨4, ![8, 2048, 16, 16]⟩
abbrev S1x2048x1x64 : Shape := ⟨4, ![1, 2048, 1, 64]⟩
abbrev S8x2048x4 : Shape := ⟨3, ![8, 2048, 4]⟩
abbrev S8x2048x4x1 : Shape := ⟨4, ![8, 2048, 4, 1]⟩
abbrev S8x2048x4x32 : Shape := ⟨4, ![8, 2048, 4, 32]⟩
abbrev S8x2048x4x16 : Shape := ⟨4, ![8, 2048, 4, 16]⟩
abbrev S8x2048x4x4x64 : Shape := ⟨5, ![8, 2048, 4, 4, 64]⟩
abbrev S8x4x2048x2048x4 : Shape := ⟨5, ![8, 4, 2048, 2048, 4]⟩
abbrev S8x4x4x2048x2048 : Shape := ⟨5, ![8, 4, 4, 2048, 2048]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S1024x4096 : Shape := ⟨2, ![1024, 4096]⟩
abbrev S8x128x128 : Shape := ⟨3, ![8, 128, 128]⟩
abbrev S8x128 : Shape := ⟨2, ![8, 128]⟩
abbrev S2048x1024 : Shape := ⟨2, ![2048, 1024]⟩
abbrev S8x2048x4096 : Shape := ⟨3, ![8, 2048, 4096]⟩
abbrev S8x2048x2048 : Shape := ⟨3, ![8, 2048, 2048]⟩
abbrev S1x1x2048 : Shape := ⟨3, ![1, 1, 2048]⟩
abbrev S8x16x128x8x256 : Shape := ⟨5, ![8, 16, 128, 8, 256]⟩
abbrev S8x8x16x256x128 : Shape := ⟨5, ![8, 8, 16, 256, 128]⟩
abbrev S128x8 : Shape := ⟨2, ![128, 8]⟩
abbrev S1x1x128x8x1 : Shape := ⟨5, ![1, 1, 128, 8, 1]⟩

abbrev nBuf : Space → Nat
  | .hbm => 379
  | .vmem => 0
  | .smem => 0
  | _ => 0

abbrev hbmTy0_0 (i : Nat) : BufTy := match i % 128 with
  | 0 => ⟨S8x2048x1024, .f32⟩
  | 1 => ⟨S2x1024, .f32⟩
  | 2 => ⟨S2x1024, .f32⟩
  | 3 => ⟨S1x1024x1536, .f32⟩
  | 4 => ⟨S1x64, .f32⟩
  | 5 => ⟨S1x64, .f32⟩
  | 6 => ⟨S1x1024x1024, .f32⟩
  | 7 => ⟨S1x1024x4096, .f32⟩
  | 8 => ⟨S1x2048, .f32⟩
  | 9 => ⟨S1x8x128x128, .f32⟩
  | 10 => ⟨S1x8x128, .f32⟩
  | 11 => ⟨S1x2048x1024, .f32⟩
  | 12 => ⟨S2x1024x5632, .f32⟩
  | 13 => ⟨S2x3x5632, .f32⟩
  | 14 => ⟨S2x5632, .f32⟩
  | 15 => ⟨S2x2816x1024, .f32⟩
  | 16 => ⟨S1x1024, .f32⟩
  | 17 => ⟨S1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S1024x1536, .f32⟩
  | 35 => ⟨S64, .f32⟩
  | 36 => ⟨S64, .f32⟩
  | 37 => ⟨S1024x1024, .f32⟩
  | 38 => ⟨S32, .i32⟩
  | 39 => ⟨S32x1, .i32⟩
  | 40 => ⟨S32x64, .i32⟩
  | 41 => ⟨S2048, .i32⟩
  | 42 => ⟨S64, .i32⟩
  | 43 => ⟨S1x64, .i32⟩
  | 44 => ⟨S32x64, .i32⟩
  | 45 => ⟨S2048, .i32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S2048, .f32⟩
  | 61 => ⟨S2048x1, .f32⟩
  | 62 => ⟨S1x16, .f32⟩
  | 63 => ⟨S2048x16, .f32⟩
  | 64 => ⟨S2048x16, .f32⟩
  | 65 => ⟨S2048x16, .f32⟩
  | 66 => ⟨S2048, .f32⟩
  | 67 => ⟨S2048x1, .f32⟩
  | 68 => ⟨S1x16, .f32⟩
  | 69 => ⟨S2048x16, .f32⟩
  | 70 => ⟨S2048x16, .f32⟩
  | 71 => ⟨S2048x16, .f32⟩
  | 72 => ⟨S2048x64, .f32⟩
  | 73 => ⟨S2048x64, .f32⟩
  | 74 => ⟨S2048x64, .f32⟩
  | 75 => ⟨S8x2048x1536, .f32⟩
  | 76 => ⟨S8x2048x1024, .f32⟩
  | 77 => ⟨S8x2048x16x64, .f32⟩
  | 78 => ⟨S8x2048x256, .f32⟩
  | 79 => ⟨S8x2048x4x64, .f32⟩
  | 80 => ⟨S8x2048x256, .f32⟩
  | 81 => ⟨S8x2048x4x64, .f32⟩
  | 82 => ⟨S8x2048x16x64, .f32⟩
  | 83 => ⟨S_, .f32⟩
  | 84 => ⟨S8x2048x16, .f32⟩
  | 85 => ⟨S8x2048x16x1, .f32⟩
  | 86 => ⟨S_, .f32⟩
  | 87 => ⟨S8x2048x16x1, .f32⟩
  | 88 => ⟨S8x2048x16x1, .f32⟩
  | 89 => ⟨S_, .f32⟩
  | 90 => ⟨S8x2048x16x1, .f32⟩
  | 91 => ⟨S8x2048x16x1, .f32⟩
  | 92 => ⟨S8x2048x16x1, .f32⟩
  | 93 => ⟨S8x2048x16x64, .f32⟩
  | 94 => ⟨S8x2048x16x64, .f32⟩
  | 95 => ⟨S1x1x1x64, .f32⟩
  | 96 => ⟨S8x2048x16x64, .f32⟩
  | 97 => ⟨S8x2048x16x64, .f32⟩
  | 98 => ⟨S8x2048x16x32, .f32⟩
  | 99 => ⟨S8x2048x16x16, .f32⟩
  | 100 => ⟨S8x2048x16x16, .f32⟩
  | 101 => ⟨S8x2048x16x16, .f32⟩
  | 102 => ⟨S8x2048x16x32, .f32⟩
  | 103 => ⟨S8x2048x16x32, .f32⟩
  | 104 => ⟨S8x2048x16x16, .f32⟩
  | 105 => ⟨S8x2048x16x16, .f32⟩
  | 106 => ⟨S8x2048x16x16, .f32⟩
  | 107 => ⟨S8x2048x16x32, .f32⟩
  | 108 => ⟨S8x2048x16x64, .f32⟩
  | 109 => ⟨S1x2048x1x64, .f32⟩
  | 110 => ⟨S8x2048x16x64, .f32⟩
  | 111 => ⟨S8x2048x16x64, .f32⟩
  | 112 => ⟨S1x2048x1x64, .f32⟩
  | 113 => ⟨S8x2048x16x64, .f32⟩
  | 114 => ⟨S8x2048x16x64, .f32⟩
  | 115 => ⟨S8x2048x16x64, .f32⟩
  | 116 => ⟨S8x2048x4x64, .f32⟩
  | 117 => ⟨S_, .f32⟩
  | 118 => ⟨S8x2048x4, .f32⟩
  | 119 => ⟨S8x2048x4x1, .f32⟩
  | 120 => ⟨S_, .f32⟩
  | 121 => ⟨S8x2048x4x1, .f32⟩
  | 122 => ⟨S8x2048x4x1, .f32⟩
  | 123 => ⟨S_, .f32⟩
  | 124 => ⟨S8x2048x4x1, .f32⟩
  | 125 => ⟨S8x2048x4x1, .f32⟩
  | 126 => ⟨S8x2048x4x1, .f32⟩
  | 127 => ⟨S8x2048x4x64, .f32⟩
  | _ => ⟨S8x2048x1024, .f32⟩

abbrev hbmTy0_1 (i : Nat) : BufTy := match i % 128 with
  | 0 => ⟨S8x2048x4x64, .f32⟩
  | 1 => ⟨S1x1x1x64, .f32⟩
  | 2 => ⟨S8x2048x4x64, .f32⟩
  | 3 => ⟨S8x2048x4x64, .f32⟩
  | 4 => ⟨S8x2048x4x32, .f32⟩
  | 5 => ⟨S8x2048x4x16, .f32⟩
  | 6 => ⟨S8x2048x4x16, .f32⟩
  | 7 => ⟨S8x2048x4x16, .f32⟩
  | 8 => ⟨S8x2048x4x32, .f32⟩
  | 9 => ⟨S8x2048x4x32, .f32⟩
  | 10 => ⟨S8x2048x4x16, .f32⟩
  | 11 => ⟨S8x2048x4x16, .f32⟩
  | 12 => ⟨S8x2048x4x16, .f32⟩
  | 13 => ⟨S8x2048x4x32, .f32⟩
  | 14 => ⟨S8x2048x4x64, .f32⟩
  | 15 => ⟨S1x2048x1x64, .f32⟩
  | 16 => ⟨S8x2048x4x64, .f32⟩
  | 17 => ⟨S8x2048x4x64, .f32⟩
  | 18 => ⟨S1x2048x1x64, .f32⟩
  | 19 => ⟨S8x2048x4x64, .f32⟩
  | 20 => ⟨S8x2048x4x64, .f32⟩
  | 21 => ⟨S8x2048x4x64, .f32⟩
  | 22 => ⟨S8x2048x4x4x64, .f32⟩
  | 23 => ⟨S8x4x2048x2048x4, .f32⟩
  | 24 => ⟨S8x4x4x2048x2048, .f32⟩
  | 25 => ⟨S_, .f32⟩
  | 26 => ⟨S8x4x4x2048x2048, .f32⟩
  | 27 => ⟨S8x4x4x2048x2048, .f32⟩
  | 28 => ⟨S_, .f32⟩
  | 29 => ⟨S8x4x4x2048, .f32⟩
  | 30 => ⟨S_, .f32⟩
  | 31 => ⟨S8x4x4x2048, .f32⟩
  | 32 => ⟨S8x4x4x2048, .f32⟩
  | 33 => ⟨S8x4x4x2048x1, .f32⟩
  | 34 => ⟨S8x4x4x2048x2048, .f32⟩
  | 35 => ⟨S8x4x4x2048x2048, .f32⟩
  | 36 => ⟨S8x4x4x2048x2048, .f32⟩
  | 37 => ⟨S_, .f32⟩
  | 38 => ⟨S8x4x4x2048, .f32⟩
  | 39 => ⟨S8x4x4x2048x1, .f32⟩
  | 40 => ⟨S8x4x4x2048x2048, .f32⟩
  | 41 => ⟨S8x4x4x2048x2048, .f32⟩
  | 42 => ⟨S8x4x64x4x2048, .f32⟩
  | 43 => ⟨S8x2048x4x4x64, .f32⟩
  | 44 => ⟨S8x2048x1024, .f32⟩
  | 45 => ⟨S8x2048x1024, .f32⟩
  | 46 => ⟨S8x2048x1024, .f32⟩
  | 47 => ⟨S1x1024, .f32⟩
  | 48 => ⟨S1024, .f32⟩
  | 49 => ⟨S8x2048x1024, .f32⟩
  | 50 => ⟨S_, .f32⟩
  | 51 => ⟨S8x2048, .f32⟩
  | 52 => ⟨S8x2048x1, .f32⟩
  | 53 => ⟨S_, .f32⟩
  | 54 => ⟨S8x2048x1, .f32⟩
  | 55 => ⟨S8x2048x1, .f32⟩
  | 56 => ⟨S_, .f32⟩
  | 57 => ⟨S8x2048x1, .f32⟩
  | 58 => ⟨S8x2048x1, .f32⟩
  | 59 => ⟨S8x2048x1, .f32⟩
  | 60 => ⟨S8x2048x1024, .f32⟩
  | 61 => ⟨S8x2048x1024, .f32⟩
  | 62 => ⟨S1x1x1024, .f32⟩
  | 63 => ⟨S8x2048x1024, .f32⟩
  | 64 => ⟨S8x2048x1024, .f32⟩
  | 65 => ⟨S1x1024x5632, .f32⟩
  | 66 => ⟨S1024x5632, .f32⟩
  | 67 => ⟨S1x3x5632, .f32⟩
  | 68 => ⟨S3x5632, .f32⟩
  | 69 => ⟨S1x5632, .f32⟩
  | 70 => ⟨S5632, .f32⟩
  | 71 => ⟨S1x2816x1024, .f32⟩
  | 72 => ⟨S2816x1024, .f32⟩
  | 73 => ⟨S8x2048x5632, .f32⟩
  | 74 => ⟨S_, .i32⟩
  | 75 => ⟨S_, .f32⟩
  | 76 => ⟨S8x2050x5632, .f32⟩
  | 77 => ⟨S8x2048x5632, .f32⟩
  | 78 => ⟨S1x5632, .f32⟩
  | 79 => ⟨S5632, .f32⟩
  | 80 => ⟨S1x1x5632, .f32⟩
  | 81 => ⟨S8x2048x5632, .f32⟩
  | 82 => ⟨S8x2048x5632, .f32⟩
  | 83 => ⟨S8x2048x5632, .f32⟩
  | 84 => ⟨S1x5632, .f32⟩
  | 85 => ⟨S5632, .f32⟩
  | 86 => ⟨S1x1x5632, .f32⟩
  | 87 => ⟨S8x2048x5632, .f32⟩
  | 88 => ⟨S8x2048x5632, .f32⟩
  | 89 => ⟨S8x2048x5632, .f32⟩
  | 90 => ⟨S8x2048x5632, .f32⟩
  | 91 => ⟨S1x5632, .f32⟩
  | 92 => ⟨S5632, .f32⟩
  | 93 => ⟨S1x1x5632, .f32⟩
  | 94 => ⟨S8x2048x5632, .f32⟩
  | 95 => ⟨S8x2048x5632, .f32⟩
  | 96 => ⟨S8x2048x5632, .f32⟩
  | 97 => ⟨S1x1x5632, .f32⟩
  | 98 => ⟨S8x2048x5632, .f32⟩
  | 99 => ⟨S8x2048x5632, .f32⟩
  | 100 => ⟨S8x2048x2816, .f32⟩
  | 101 => ⟨S8x2048x2816, .f32⟩
  | 102 => ⟨S8x2048x2816, .f32⟩
  | 103 => ⟨S8x2048x2816, .f32⟩
  | 104 => ⟨S_, .f32⟩
  | 105 => ⟨S8x2048x2816, .f32⟩
  | 106 => ⟨S8x2048x2816, .f32⟩
  | 107 => ⟨S_, .f32⟩
  | 108 => ⟨S8x2048x2816, .f32⟩
  | 109 => ⟨S8x2048x2816, .f32⟩
  | 110 => ⟨S8x2048x2816, .f32⟩
  | 111 => ⟨S8x2048x2816, .f32⟩
  | 112 => ⟨S8x2048x1024, .f32⟩
  | 113 => ⟨S8x2048x1024, .f32⟩
  | 114 => ⟨S1x1024, .f32⟩
  | 115 => ⟨S1024, .f32⟩
  | 116 => ⟨S8x2048x1024, .f32⟩
  | 117 => ⟨S_, .f32⟩
  | 118 => ⟨S8x2048, .f32⟩
  | 119 => ⟨S8x2048x1, .f32⟩
  | 120 => ⟨S_, .f32⟩
  | 121 => ⟨S8x2048x1, .f32⟩
  | 122 => ⟨S8x2048x1, .f32⟩
  | 123 => ⟨S_, .f32⟩
  | 124 => ⟨S8x2048x1, .f32⟩
  | 125 => ⟨S8x2048x1, .f32⟩
  | 126 => ⟨S8x2048x1, .f32⟩
  | 127 => ⟨S8x2048x1024, .f32⟩
  | _ => ⟨S8x2048x1024, .f32⟩

abbrev hbmTy0_2 (i : Nat) : BufTy := match i % 128 with
  | 0 => ⟨S8x2048x1024, .f32⟩
  | 1 => ⟨S1x1x1024, .f32⟩
  | 2 => ⟨S8x2048x1024, .f32⟩
  | 3 => ⟨S8x2048x1024, .f32⟩
  | 4 => ⟨S1024x4096, .f32⟩
  | 5 => ⟨S2048, .f32⟩
  | 6 => ⟨S8x128x128, .f32⟩
  | 7 => ⟨S8x128, .f32⟩
  | 8 => ⟨S2048x1024, .f32⟩
  | 9 => ⟨S8x2048x4096, .f32⟩
  | 10 => ⟨S8x2048x4096, .f32⟩
  | 11 => ⟨S8x2048x4096, .f32⟩
  | 12 => ⟨S_, .f32⟩
  | 13 => ⟨S8x2048x4096, .f32⟩
  | 14 => ⟨S8x2048x4096, .f32⟩
  | 15 => ⟨S8x2048x4096, .f32⟩
  | 16 => ⟨S_, .f32⟩
  | 17 => ⟨S8x2048x4096, .f32⟩
  | 18 => ⟨S8x2048x4096, .f32⟩
  | 19 => ⟨S8x2048x4096, .f32⟩
  | 20 => ⟨S_, .f32⟩
  | 21 => ⟨S8x2048x4096, .f32⟩
  | 22 => ⟨S8x2048x4096, .f32⟩
  | 23 => ⟨S_, .f32⟩
  | 24 => ⟨S8x2048x4096, .f32⟩
  | 25 => ⟨S8x2048x4096, .f32⟩
  | 26 => ⟨S8x2048x4096, .f32⟩
  | 27 => ⟨S8x2048x2048, .f32⟩
  | 28 => ⟨S8x2048x2048, .f32⟩
  | 29 => ⟨S8x2048x2048, .f32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S_, .f32⟩
  | 37 => ⟨S8x2048x1, .f32⟩
  | 38 => ⟨S8x2048x1, .f32⟩
  | 39 => ⟨S8x2048x1, .f32⟩
  | 40 => ⟨S8x2048x2048, .f32⟩
  | 41 => ⟨S8x2048x2048, .f32⟩
  | 42 => ⟨S1x1x2048, .f32⟩
  | 43 => ⟨S8x2048x2048, .f32⟩
  | 44 => ⟨S8x2048x2048, .f32⟩
  | 45 => ⟨S8x16x128x8x256, .f32⟩
  | 46 => ⟨S8x8x16x256x128, .f32⟩
  | 47 => ⟨S8x16x128x8x256, .f32⟩
  | 48 => ⟨S128x8, .f32⟩
  | 49 => ⟨S1x1x128x8x1, .f32⟩
  | 50 => ⟨S8x16x128x8x256, .f32⟩
  | 51 => ⟨S8x16x128x8x256, .f32⟩
  | 52 => ⟨S8x2048x2048, .f32⟩
  | 53 => ⟨S8x2048x2048, .f32⟩
  | 54 => ⟨S8x2048x1024, .f32⟩
  | 55 => ⟨S8x2048x1024, .f32⟩
  | 56 => ⟨S1x1024, .f32⟩
  | 57 => ⟨S1024, .f32⟩
  | 58 => ⟨S8x2048x1024, .f32⟩
  | 59 => ⟨S_, .f32⟩
  | 60 => ⟨S8x2048, .f32⟩
  | 61 => ⟨S8x2048x1, .f32⟩
  | 62 => ⟨S_, .f32⟩
  | 63 => ⟨S8x2048x1, .f32⟩
  | 64 => ⟨S8x2048x1, .f32⟩
  | 65 => ⟨S_, .f32⟩
  | 66 => ⟨S8x2048x1, .f32⟩
  | 67 => ⟨S8x2048x1, .f32⟩
  | 68 => ⟨S8x2048x1, .f32⟩
  | 69 => ⟨S8x2048x1024, .f32⟩
  | 70 => ⟨S8x2048x1024, .f32⟩
  | 71 => ⟨S1x1x1024, .f32⟩
  | 72 => ⟨S8x2048x1024, .f32⟩
  | 73 => ⟨S8x2048x1024, .f32⟩
  | 74 => ⟨S1x1024x5632, .f32⟩
  | 75 => ⟨S1024x5632, .f32⟩
  | 76 => ⟨S1x3x5632, .f32⟩
  | 77 => ⟨S3x5632, .f32⟩
  | 78 => ⟨S1x5632, .f32⟩
  | 79 => ⟨S5632, .f32⟩
  | 80 => ⟨S1x2816x1024, .f32⟩
  | 81 => ⟨S2816x1024, .f32⟩
  | 82 => ⟨S8x2048x5632, .f32⟩
  | 83 => ⟨S_, .i32⟩
  | 84 => ⟨S_, .f32⟩
  | 85 => ⟨S8x2050x5632, .f32⟩
  | 86 => ⟨S8x2048x5632, .f32⟩
  | 87 => ⟨S1x5632, .f32⟩
  | 88 => ⟨S5632, .f32⟩
  | 89 => ⟨S1x1x5632, .f32⟩
  | 90 => ⟨S8x2048x5632, .f32⟩
  | 91 => ⟨S8x2048x5632, .f32⟩
  | 92 => ⟨S8x2048x5632, .f32⟩
  | 93 => ⟨S1x5632, .f32⟩
  | 94 => ⟨S5632, .f32⟩
  | 95 => ⟨S1x1x5632, .f32⟩
  | 96 => ⟨S8x2048x5632, .f32⟩
  | 97 => ⟨S8x2048x5632, .f32⟩
  | 98 => ⟨S8x2048x5632, .f32⟩
  | 99 => ⟨S8x2048x5632, .f32⟩
  | 100 => ⟨S1x5632, .f32⟩
  | 101 => ⟨S5632, .f32⟩
  | 102 => ⟨S1x1x5632, .f32⟩
  | 103 => ⟨S8x2048x5632, .f32⟩
  | 104 => ⟨S8x2048x5632, .f32⟩
  | 105 => ⟨S8x2048x5632, .f32⟩
  | 106 => ⟨S1x1x5632, .f32⟩
  | 107 => ⟨S8x2048x5632, .f32⟩
  | 108 => ⟨S8x2048x5632, .f32⟩
  | 109 => ⟨S8x2048x2816, .f32⟩
  | 110 => ⟨S8x2048x2816, .f32⟩
  | 111 => ⟨S8x2048x2816, .f32⟩
  | 112 => ⟨S8x2048x2816, .f32⟩
  | 113 => ⟨S_, .f32⟩
  | 114 => ⟨S8x2048x2816, .f32⟩
  | 115 => ⟨S8x2048x2816, .f32⟩
  | 116 => ⟨S_, .f32⟩
  | 117 => ⟨S8x2048x2816, .f32⟩
  | 118 => ⟨S8x2048x2816, .f32⟩
  | 119 => ⟨S8x2048x2816, .f32⟩
  | 120 => ⟨S8x2048x2816, .f32⟩
  | 121 => ⟨S8x2048x1024, .f32⟩
  | 122 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_6 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_cst_10 : Ref sig .tc := ⟨.hbm, 120, rfl⟩
abbrev main_v93 : Ref sig .tc := ⟨.hbm, 121, rfl⟩
abbrev main_v94 : Ref sig .tc := ⟨.hbm, 122, rfl⟩
abbrev main_cst_11 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_12 : Ref sig .tc := ⟨.hbm, 153, rfl⟩
abbrev main_v124 : Ref sig .tc := ⟨.hbm, 154, rfl⟩
abbrev main_v125 : Ref sig .tc := ⟨.hbm, 155, rfl⟩
abbrev main_cst_13 : Ref sig .tc := ⟨.hbm, 156, rfl⟩
abbrev main_v126 : Ref sig .tc := ⟨.hbm, 157, rfl⟩
abbrev main_cst_14 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_cst_15 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_cst_16 : Ref sig .tc := ⟨.hbm, 178, rfl⟩
abbrev main_v145 : Ref sig .tc := ⟨.hbm, 179, rfl⟩
abbrev main_v146 : Ref sig .tc := ⟨.hbm, 180, rfl⟩
abbrev main_cst_17 : Ref sig .tc := ⟨.hbm, 181, rfl⟩
abbrev main_v147 : Ref sig .tc := ⟨.hbm, 182, rfl⟩
abbrev main_v148 : Ref sig .tc := ⟨.hbm, 183, rfl⟩
abbrev main_cst_18 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_c : Ref sig .tc := ⟨.hbm, 202, rfl⟩
abbrev main_call0_v0 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_call1_v0 : Ref sig .tc := ⟨.hbm, 230, rfl⟩
abbrev main_call1_v1 : Ref sig .tc := ⟨.hbm, 231, rfl⟩
abbrev main_call1_cst : Ref sig .tc := ⟨.hbm, 232, rfl⟩
abbrev main_call1_v2 : Ref sig .tc := ⟨.hbm, 233, rfl⟩
abbrev main_call1_v3 : Ref sig .tc := ⟨.hbm, 234, rfl⟩
abbrev main_call1_cst_0 : Ref sig .tc := ⟨.hbm, 235, rfl⟩
abbrev main_call1_v4 : Ref sig .tc := ⟨.hbm, 236, rfl⟩
abbrev main_call1_v5 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_19 : Ref sig .tc := ⟨.hbm, 245, rfl⟩
abbrev main_v199 : Ref sig .tc := ⟨.hbm, 246, rfl⟩
abbrev main_v200 : Ref sig .tc := ⟨.hbm, 247, rfl⟩
abbrev main_cst_20 : Ref sig .tc := ⟨.hbm, 248, rfl⟩
abbrev main_v201 : Ref sig .tc := ⟨.hbm, 249, rfl⟩
abbrev main_v202 : Ref sig .tc := ⟨.hbm, 250, rfl⟩
abbrev main_cst_21 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_cst_22 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_cst_23 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_cst_24 : Ref sig .tc := ⟨.hbm, 276, rfl⟩
abbrev main_v225 : Ref sig .tc := ⟨.hbm, 277, rfl⟩
abbrev main_v226 : Ref sig .tc := ⟨.hbm, 278, rfl⟩
abbrev main_cst_25 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_cst_26 : Ref sig .tc := ⟨.hbm, 286, rfl⟩
abbrev main_v233 : Ref sig .tc := ⟨.hbm, 287, rfl⟩
abbrev main_v234 : Ref sig .tc := ⟨.hbm, 288, rfl⟩
abbrev main_cst_27 : Ref sig .tc := ⟨.hbm, 289, rfl⟩
abbrev main_v235 : Ref sig .tc := ⟨.hbm, 290, rfl⟩
abbrev main_v236 : Ref sig .tc := ⟨.hbm, 291, rfl⟩
abbrev main_cst_28 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_cst_29 : Ref sig .tc := ⟨.hbm, 315, rfl⟩
abbrev main_v259 : Ref sig .tc := ⟨.hbm, 316, rfl⟩
abbrev main_v260 : Ref sig .tc := ⟨.hbm, 317, rfl⟩
abbrev main_cst_30 : Ref sig .tc := ⟨.hbm, 318, rfl⟩
abbrev main_v261 : Ref sig .tc := ⟨.hbm, 319, rfl⟩
abbrev main_v262 : Ref sig .tc := ⟨.hbm, 320, rfl⟩
abbrev main_cst_31 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_c_32 : Ref sig .tc := ⟨.hbm, 339, rfl⟩
abbrev main_call2_v0 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_call3_v0 : Ref sig .tc := ⟨.hbm, 367, rfl⟩
abbrev main_call3_v1 : Ref sig .tc := ⟨.hbm, 368, rfl⟩
abbrev main_call3_cst : Ref sig .tc := ⟨.hbm, 369, rfl⟩
abbrev main_call3_v2 : Ref sig .tc := ⟨.hbm, 370, rfl⟩
abbrev main_call3_v3 : Ref sig .tc := ⟨.hbm, 371, rfl⟩
abbrev main_call3_cst_0 : Ref sig .tc := ⟨.hbm, 372, rfl⟩
abbrev main_call3_v4 : Ref sig .tc := ⟨.hbm, 373, rfl⟩
abbrev main_call3_v5 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩

abbrev nD : Nat := 1
abbrev τ : Topo := Topo.v7x

variable {F : FTy → Type} [FloatOps F]
-- ==== KernelTail.lean ====
abbrev S16384x1024 : Shape := ⟨2, ![16384, 1024]⟩
abbrev S2x1024 : Shape := ⟨2, ![2, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x1024 : Shape := ⟨2, ![1, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S2048x1024 : Shape := ⟨2, ![2048, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S16x1024 : Shape := ⟨2, ![16, 1024]⟩
abbrev S512x1024 : Shape := ⟨2, ![512, 1024]⟩
abbrev S544x1024 : Shape := ⟨2, ![544, 1024]⟩
abbrev S1024x256 : Shape := ⟨2, ![1024, 256]⟩
abbrev S544x256 : Shape := ⟨2, ![544, 256]⟩
abbrev S512x256 : Shape := ⟨2, ![512, 256]⟩
abbrev S3x256 : Shape := ⟨2, ![3, 256]⟩
abbrev S1x256 : Shape := ⟨2, ![1, 256]⟩
abbrev S512x2816 : Shape := ⟨2, ![512, 2816]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S1x128x128 : Shape := ⟨3, ![1, 128, 128]⟩
abbrev S128x128 : Shape := ⟨2, ![128, 128]⟩
abbrev S128x256 : Shape := ⟨2, ![128, 256]⟩
abbrev S2x8192x1024 : Shape := ⟨3, ![2, 8192, 1024]⟩

abbrev nBuf : Space → Nat
  | .hbm => 59
  | .vmem => 46
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1024, .f32⟩
  | .hbm, ⟨3, _⟩ => ⟨S2x1024, .f32⟩
  | .hbm, ⟨4, _⟩ => ⟨S1x1024x4096, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S2x1024x5632, .f32⟩
  | .hbm, ⟨10, _⟩ => ⟨S2x3x5632, .f32⟩
  | .hbm, ⟨11, _⟩ => ⟨S2x5632, .f32⟩
  | .hbm, ⟨12, _⟩ => ⟨S2x2816x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x4096, .f32⟩
  | .hbm, ⟨20, _⟩ => ⟨S1024x4096, .bf16⟩
  | .hbm, ⟨21, _⟩ => ⟨S2048, .f32⟩
  | .hbm, ⟨22, _⟩ => ⟨S1x2048, .f32⟩
  | .hbm, ⟨23, _⟩ => ⟨S8x128x128, .f32⟩
  | .hbm, ⟨24, _⟩ => ⟨S8x128x128, .bf16⟩
  | .hbm, ⟨25, _⟩ => ⟨S8x128, .f32⟩
  | .hbm, ⟨26, _⟩ => ⟨S128x8, .f32⟩
  | .hbm, ⟨27, _⟩ => ⟨S128x8x256, .f32⟩
  | .hbm, ⟨28, _⟩ => ⟨S128x2048, .f32⟩
  | .hbm, ⟨29, _⟩ => ⟨S2048x1024, .f32⟩
  | .hbm, ⟨30, _⟩ => ⟨S2048x1024, .bf16⟩
  | .hbm, ⟨31, _⟩ => ⟨S1x1024x5632, .f32⟩
  | .hbm, ⟨32, _⟩ => ⟨S1024x5632, .f32⟩
  | .hbm, ⟨33, _⟩ => ⟨S1024x5632, .bf16⟩
  | .hbm, ⟨34, _⟩ => ⟨S1x1024x5632, .f32⟩
  | .hbm, ⟨35, _⟩ => ⟨S1024x5632, .f32⟩
  | .hbm, ⟨36, _⟩ => ⟨S1024x5632, .bf16⟩
  | .hbm, ⟨37, _⟩ => ⟨S1x3x5632, .f32⟩
  | .hbm, ⟨38, _⟩ => ⟨S3x5632, .f32⟩
  | .hbm, ⟨39, _⟩ => ⟨S1x3x5632, .f32⟩
  | .hbm, ⟨40, _⟩ => ⟨S3x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S1x5632, .f32⟩
  | .hbm, ⟨45, _⟩ => ⟨S5632, .f32⟩
  | .hbm, ⟨46, _⟩ => ⟨S1x5632, .f32⟩
  | .hbm, ⟨47, _⟩ => ⟨S1x2816x1024, .f32⟩
  | .hbm, ⟨48, _⟩ => ⟨S2816x1024, .f32⟩
  | .hbm, ⟨49, _⟩ => ⟨S2816x1024, .bf16⟩
  | .hbm, ⟨50, _⟩ => ⟨S1x2816x1024, .f32⟩
  | .hbm, ⟨51, _⟩ => ⟨S2816x1024, .f32⟩
  | .hbm, ⟨52, _⟩ => ⟨S2816x1024, .bf16⟩
  | .hbm, ⟨53, _⟩ => ⟨S16384x1024, .f32⟩
  | .hbm, ⟨54, _⟩ => ⟨S16384x1024, .bf16⟩
  | .hbm, ⟨55, _⟩ => ⟨S16384x1024, .f32⟩
  | .hbm, ⟨56, _⟩ => ⟨S16384x1024, .bf16⟩
  | .hbm, ⟨57, _⟩ => ⟨S16384x1024, .f32⟩
  | .hbm, ⟨58, _⟩ => ⟨S2x8192x1024, .f32⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .f32⟩
  | .local _ .vmem, ⟨7, _⟩ => ⟨S512x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S1024x4096, .bf16⟩
  | .local _ .vmem, ⟨22, _⟩ => ⟨S1x2048, .f32⟩
  | .local _ .vmem, ⟨23, _⟩ => ⟨S8x128x128, .bf16⟩
  | .local _ .vmem, ⟨24, _⟩ => ⟨S128x2048, .f32⟩
  | .local _ .vmem, ⟨25, _⟩ => ⟨S2048x1024, .bf16⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | .local _ .vmem, ⟨31, _⟩ => ⟨S16x1024, .bf16⟩
  | .local _ .vmem, ⟨32, _⟩ => ⟨S16x1024, .bf16⟩
  | .local _ .vmem, ⟨33, _⟩ => ⟨S512x1024, .bf16⟩
  | .local _ .vmem, ⟨34, _⟩ => ⟨S512x1024, .bf16⟩
  | .local _ .vmem, ⟨35, _⟩ => ⟨S16x1024, .bf16⟩
  | .local _ .vmem, ⟨36, _⟩ => ⟨S16x1024, .bf16⟩
  | .local _ .vmem, ⟨37, _⟩ => ⟨S512x1024, .f32⟩
  | .local _ .vmem, ⟨38, _⟩ => ⟨S512x1024, .f32⟩
  | .local _ .vmem, ⟨39, _⟩ => ⟨S1024x5632, .bf16⟩
  | .local _ .vmem, ⟨40, _⟩ => ⟨S3x5632, .f32⟩
  | .local _ .vmem, ⟨41, _⟩ => ⟨S1x5632, .f32⟩
  | .local _ .vmem, ⟨42, _⟩ => ⟨S2816x1024, .bf16⟩
  | .local _ .vmem, ⟨43, _⟩ => ⟨S1x1024, .f32⟩
  | .local _ .vmem, ⟨44, _⟩ => ⟨S512x1024, .f32⟩
  | .local _ .vmem, ⟨45, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v41_0 : Ref sig .tc := ⟨.hbm, 55, rfl⟩
abbrev main_v41_1 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg1_1 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg9_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem9_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x5632 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x5632 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x5632 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2816x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelTailIdeal.lean ====
variable {F : FTy → Type} [FloatOps F] [Named F]
def κ : String → Option EReal := fun
  | "neg_log2e" => some ((-((Real.log 2)⁻¹) : ℝ) : EReal)
  | _ => none
-- ==== ReferenceTailIdeal.lean ====
abbrev S16384x1024 : Shape := ⟨2, ![16384, 1024]⟩
abbrev S2x1024 : Shape := ⟨2, ![2, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x8192x1024 : Shape := ⟨3, ![2, 8192, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S2x8192x5632 : Shape := ⟨3, ![2, 8192, 5632]⟩
abbrev S_ : Shape := ⟨0, ![]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S2x8192x4096 : Shape := ⟨3, ![2, 8192, 4096]⟩
abbrev S2x8192x2048 : Shape := ⟨3, ![2, 8192, 2048]⟩
abbrev S1x1x2048 : Shape := ⟨3, ![1, 1, 2048]⟩
abbrev S2x64x128x8x256 : Shape := ⟨5, ![2, 64, 128, 8, 256]⟩
abbrev S8x2x64x256x128 : Shape := ⟨5, ![8, 2, 64, 256, 128]⟩
abbrev S128x8 : Shape := ⟨2, ![128, 8]⟩
abbrev S1x1x128x8x1 : Shape := ⟨5, ![1, 1, 128, 8, 1]⟩

abbrev nBuf : Space → Nat
  | .hbm => 202
  | .vmem => 0
  | .smem => 0
  | _ => 0

abbrev hbmTy0_0 (i : Nat) : BufTy := match i % 128 with
  | 0 => ⟨S16384x1024, .bf16⟩
  | 1 => ⟨S16384x1024, .f32⟩
  | 2 => ⟨S2x1024, .f32⟩
  | 3 => ⟨S2x1024, .f32⟩
  | 4 => ⟨S1x1024x4096, .f32⟩
  | 5 => ⟨S1x2048, .f32⟩
  | 6 => ⟨S1x8x128x128, .f32⟩
  | 7 => ⟨S1x8x128, .f32⟩
  | 8 => ⟨S1x2048x1024, .f32⟩
  | 9 => ⟨S2x1024x5632, .f32⟩
  | 10 => ⟨S2x3x5632, .f32⟩
  | 11 => ⟨S2x5632, .f32⟩
  | 12 => ⟨S2x2816x1024, .f32⟩
  | 13 => ⟨S16384x1024, .f32⟩
  | 14 => ⟨S2x8192x1024, .f32⟩
  | 15 => ⟨S2x8192x1024, .f32⟩
  | 16 => ⟨S1x1024x5632, .f32⟩
  | 17 => ⟨S1024x5632, .f32⟩
  | 18 => ⟨S1x3x5632, .f32⟩
  | 19 => ⟨S3x5632, .f32⟩
  | 20 => ⟨S1x5632, .f32⟩
  | 21 => ⟨S5632, .f32⟩
  | 22 => ⟨S1x2816x1024, .f32⟩
  | 23 => ⟨S2816x1024, .f32⟩
  | 24 => ⟨S2x8192x5632, .f32⟩
  | 25 => ⟨S_, .i32⟩
  | 26 => ⟨S_, .f32⟩
  | 27 => ⟨S2x8194x5632, .f32⟩
  | 28 => ⟨S2x8192x5632, .f32⟩
  | 29 => ⟨S1x5632, .f32⟩
  | 30 => ⟨S5632, .f32⟩
  | 31 => ⟨S1x1x5632, .f32⟩
  | 32 => ⟨S2x8192x5632, .f32⟩
  | 33 => ⟨S2x8192x5632, .f32⟩
  | 34 => ⟨S2x8192x5632, .f32⟩
  | 35 => ⟨S1x5632, .f32⟩
  | 36 => ⟨S5632, .f32⟩
  | 37 => ⟨S1x1x5632, .f32⟩
  | 38 => ⟨S2x8192x5632, .f32⟩
  | 39 => ⟨S2x8192x5632, .f32⟩
  | 40 => ⟨S2x8192x5632, .f32⟩
  | 41 => ⟨S2x8192x5632, .f32⟩
  | 42 => ⟨S1x5632, .f32⟩
  | 43 => ⟨S5632, .f32⟩
  | 44 => ⟨S1x1x5632, .f32⟩
  | 45 => ⟨S2x8192x5632, .f32⟩
  | 46 => ⟨S2x8192x5632, .f32⟩
  | 47 => ⟨S2x8192x5632, .f32⟩
  | 48 => ⟨S1x1x5632, .f32⟩
  | 49 => ⟨S2x8192x5632, .f32⟩
  | 50 => ⟨S2x8192x5632, .f32⟩
  | 51 => ⟨S2x8192x2816, .f32⟩
  | 52 => ⟨S2x8192x2816, .f32⟩
  | 53 => ⟨S2x8192x2816, .f32⟩
  | 54 => ⟨S2x8192x2816, .f32⟩
  | 55 => ⟨S_, .f32⟩
  | 56 => ⟨S2x8192x2816, .f32⟩
  | 57 => ⟨S2x8192x2816, .f32⟩
  | 58 => ⟨S_, .f32⟩
  | 59 => ⟨S2x8192x2816, .f32⟩
  | 60 => ⟨S2x8192x2816, .f32⟩
  | 61 => ⟨S2x8192x2816, .f32⟩
  | 62 => ⟨S2x8192x2816, .f32⟩
  | 63 => ⟨S2x8192x1024, .f32⟩
  | 64 => ⟨S2x8192x1024, .f32⟩
  | 65 => ⟨S1x1024, .f32⟩
  | 66 => ⟨S1024, .f32⟩
  | 67 => ⟨S2x8192x1024, .f32⟩
  | 68 => ⟨S_, .f32⟩
  | 69 => ⟨S2x8192, .f32⟩
  | 70 => ⟨S2x8192x1, .f32⟩
  | 71 => ⟨S_, .f32⟩
  | 72 => ⟨S2x8192x1, .f32⟩
  | 73 => ⟨S2x8192x1, .f32⟩
  | 74 => ⟨S_, .f32⟩
  | 75 => ⟨S2x8192x1, .f32⟩
  | 76 => ⟨S2x8192x1, .f32⟩
  | 77 => ⟨S2x8192x1, .f32⟩
  | 78 => ⟨S2x8192x1024, .f32⟩
  | 79 => ⟨S2x8192x1024, .f32⟩
  | 80 => ⟨S1x1x1024, .f32⟩
  | 81 => ⟨S2x8192x1024, .f32⟩
  | 82 => ⟨S2x8192x1024, .f32⟩
  | 83 => ⟨S1024x4096, .f32⟩
  | 84 => ⟨S2048, .f32⟩
  | 85 => ⟨S8x128x128, .f32⟩
  | 86 => ⟨S8x128, .f32⟩
  | 87 => ⟨S2048x1024, .f32⟩
  | 88 => ⟨S2x8192x4096, .f32⟩
  | 89 => ⟨S2x8192x4096, .f32⟩
  | 90 => ⟨S2x8192x4096, .f32⟩
  | 91 => ⟨S_, .f32⟩
  | 92 => ⟨S2x8192x4096, .f32⟩
  | 93 => ⟨S2x8192x4096, .f32⟩
  | 94 => ⟨S2x8192x4096, .f32⟩
  | 95 => ⟨S_, .f32⟩
  | 96 => ⟨S2x8192x4096, .f32⟩
  | 97 => ⟨S2x8192x4096, .f32⟩
  | 98 => ⟨S2x8192x4096, .f32⟩
  | 99 => ⟨S_, .f32⟩
  | 100 => ⟨S2x8192x4096, .f32⟩
  | 101 => ⟨S2x8192x4096, .f32⟩
  | 102 => ⟨S_, .f32⟩
  | 103 => ⟨S2x8192x4096, .f32⟩
  | 104 => ⟨S2x8192x4096, .f32⟩
  | 105 => ⟨S2x8192x4096, .f32⟩
  | 106 => ⟨S2x8192x2048, .f32⟩
  | 107 => ⟨S2x8192x2048, .f32⟩
  | 108 => ⟨S2x8192x2048, .f32⟩
  | 109 => ⟨S_, .f32⟩
  | 110 => ⟨S2x8192, .f32⟩
  | 111 => ⟨S2x8192x1, .f32⟩
  | 112 => ⟨S_, .f32⟩
  | 113 => ⟨S2x8192x1, .f32⟩
  | 114 => ⟨S2x8192x1, .f32⟩
  | 115 => ⟨S_, .f32⟩
  | 116 => ⟨S2x8192x1, .f32⟩
  | 117 => ⟨S2x8192x1, .f32⟩
  | 118 => ⟨S2x8192x1, .f32⟩
  | 119 => ⟨S2x8192x2048, .f32⟩
  | 120 => ⟨S2x8192x2048, .f32⟩
  | 121 => ⟨S1x1x2048, .f32⟩
  | 122 => ⟨S2x8192x2048, .f32⟩
  | 123 => ⟨S2x8192x2048, .f32⟩
  | 124 => ⟨S2x64x128x8x256, .f32⟩
  | 125 => ⟨S8x2x64x256x128, .f32⟩
  | 126 => ⟨S2x64x128x8x256, .f32⟩
  | 127 => ⟨S128x8, .f32⟩
  | _ => ⟨S16384x1024, .bf16⟩

abbrev hbmTy0_1 (i : Nat) : BufTy := match i % 128 with
  | 0 => ⟨S1x1x128x8x1, .f32⟩
  | 1 => ⟨S2x64x128x8x256, .f32⟩
  | 2 => ⟨S2x64x128x8x256, .f32⟩
  | 3 => ⟨S2x8192x2048, .f32⟩
  | 4 => ⟨S2x8192x2048, .f32⟩
  | 5 => ⟨S2x8192x1024, .f32⟩
  | 6 => ⟨S2x8192x1024, .f32⟩
  | 7 => ⟨S1x1024, .f32⟩
  | 8 => ⟨S1024, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S1x1024x5632, .f32⟩
  | 26 => ⟨S1024x5632, .f32⟩
  | 27 => ⟨S1x3x5632, .f32⟩
  | 28 => ⟨S3x5632, .f32⟩
  | 29 => ⟨S1x5632, .f32⟩
  | 30 => ⟨S5632, .f32⟩
  | 31 => ⟨S1x2816x1024, .f32⟩
  | 32 => ⟨S2816x1024, .f32⟩
  | 33 => ⟨S2x8192x5632, .f32⟩
  | 34 => ⟨S_, .i32⟩
  | 35 => ⟨S_, .f32⟩
  | 36 => ⟨S2x8194x5632, .f32⟩
  | 37 => ⟨S2x8192x5632, .f32⟩
  | 38 => ⟨S1x5632, .f32⟩
  | 39 => ⟨S5632, .f32⟩
  | 40 => ⟨S1x1x5632, .f32⟩
  | 41 => ⟨S2x8192x5632, .f32⟩
  | 42 => ⟨S2x8192x5632, .f32⟩
  | 43 => ⟨S2x8192x5632, .f32⟩
  | 44 => ⟨S1x5632, .f32⟩
  | 45 => ⟨S5632, .f32⟩
  | 46 => ⟨S1x1x5632, .f32⟩
  | 47 => ⟨S2x8192x5632, .f32⟩
  | 48 => ⟨S2x8192x5632, .f32⟩
  | 49 => ⟨S2x8192x5632, .f32⟩
  | 50 => ⟨S2x8192x5632, .f32⟩
  | 51 => ⟨S1x5632, .f32⟩
  | 52 => ⟨S5632, .f32⟩
  | 53 => ⟨S1x1x5632, .f32⟩
  | 54 => ⟨S2x8192x5632, .f32⟩
  | 55 => ⟨S2x8192x5632, .f32⟩
  | 56 => ⟨S2x8192x5632, .f32⟩
  | 57 => ⟨S1x1x5632, .f32⟩
  | 58 => ⟨S2x8192x5632, .f32⟩
  | 59 => ⟨S2x8192x5632, .f32⟩
  | 60 => ⟨S2x8192x2816, .f32⟩
  | 61 => ⟨S2x8192x2816, .f32⟩
  | 62 => ⟨S2x8192x2816, .f32⟩
  | 63 => ⟨S2x8192x2816, .f32⟩
  | 64 => ⟨S_, .f32⟩
  | 65 => ⟨S2x8192x2816, .f32⟩
  | 66 => ⟨S2x8192x2816, .f32⟩
  | 67 => ⟨S_, .f32⟩
  | 68 => ⟨S2x8192x2816, .f32⟩
  | 69 => ⟨S2x8192x2816, .f32⟩
  | 70 => ⟨S2x8192x2816, .f32⟩
  | 71 => ⟨S2x8192x2816, .f32⟩
  | 72 => ⟨S2x8192x1024, .f32⟩
  | 73 => ⟨S2x8192x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst : Ref sig .tc := ⟨.hbm, 68, rfl⟩
abbrev main_v45 : Ref sig .tc := ⟨.hbm, 69, rfl⟩
abbrev main_v46 : Ref sig .tc := ⟨.hbm, 70, rfl⟩
abbrev main_cst_0 : Ref sig .tc := ⟨.hbm, 71, rfl⟩
abbrev main_v47 : Ref sig .tc := ⟨.hbm, 72, rfl⟩
abbrev main_v48 : Ref sig .tc := ⟨.hbm, 73, rfl⟩
abbrev main_cst_1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_2 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_3 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_4 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_v80 : Ref sig .tc := ⟨.hbm, 111, rfl⟩
abbrev main_cst_7 : Ref sig .tc := ⟨.hbm, 112, rfl⟩
abbrev main_v81 : Ref sig .tc := ⟨.hbm, 113, rfl⟩
abbrev main_v82 : Ref sig .tc := ⟨.hbm, 114, rfl⟩
abbrev main_cst_8 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_9 : Ref sig .tc := ⟨.hbm, 138, rfl⟩
abbrev main_v105 : Ref sig .tc := ⟨.hbm, 139, rfl⟩
abbrev main_v106 : Ref sig .tc := ⟨.hbm, 140, rfl⟩
abbrev main_cst_10 : Ref sig .tc := ⟨.hbm, 141, rfl⟩
abbrev main_v107 : Ref sig .tc := ⟨.hbm, 142, rfl⟩
abbrev main_v108 : Ref sig .tc := ⟨.hbm, 143, rfl⟩
abbrev main_cst_11 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_12 : Ref sig .tc := ⟨.hbm, 162, rfl⟩
abbrev main_call2_v0 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call3_v0 : Ref sig .tc := ⟨.hbm, 190, rfl⟩
abbrev main_call3_v1 : Ref sig .tc := ⟨.hbm, 191, rfl⟩
abbrev main_call3_cst : Ref sig .tc := ⟨.hbm, 192, rfl⟩
abbrev main_call3_v2 : Ref sig .tc := ⟨.hbm, 193, rfl⟩
abbrev main_call3_v3 : Ref sig .tc := ⟨.hbm, 194, rfl⟩
abbrev main_call3_cst_0 : Ref sig .tc := ⟨.hbm, 195, rfl⟩
abbrev main_call3_v4 : Ref sig .tc := ⟨.hbm, 196, rfl⟩
abbrev main_call3_v5 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩

abbrev nD : Nat := 1
abbrev τ : Topo := Topo.v7x

variable {F : FTy → Type} [FloatOps F]
-- ==== Proof.Model.lean ====
module

public import proofs.«01_k».proof.KernelIdeal
public import Idealize.ShloMosaic.Lib.Pointwise

@[expose] public section

set_option maxRecDepth 16384

noncomputable section

open Idealize.ShloMosaic

/-! The layer's mathematics over the extended reals, row by row. A batch of sequences is flattened to rows numbered by
naturals; a weight is a function of its coordinates. Both the kernel's arrays and the reference's result are read as
these functions. -/
namespace Cert.M

/-- the small number every normalisation adds to the mean square -/
abbrev eps : EReal := Ideal.ofBits .f32 0x358637BD#32

/-- one entry of the root-mean-square normalisation of the row `x`, scaled by the gains `g`; `d` is the row's length -/
def rms {n : ℕ} (d : EReal) (x g : Fin n → EReal) (j : Fin n) : EReal :=
  x j * Ideal.rsqrt (Ideal.div (∑ k, x k * x k) d + eps) * g j

/-- the tanh form of the gelu -/
def gelu (z : EReal) : EReal :=
  Ideal.ofBits .f32 0x3F000000#32 * z *
    (1 + Ideal.tanh (Ideal.ofBits .f32 0x3F4C422A#32 * (z + Ideal.ofBits .f32 0x3D372713#32 * (z * z * z))))

/-- a row times a matrix -/
def mv {n p : ℕ} (h : Fin n → EReal) (W : Fin n → Fin p → EReal) (c : Fin p) : EReal := ∑ k, h k * W k c

/-! ### the spatial gating unit -/
section sgu
variable (H : ℕ → Fin 1024 → EReal) (X : ℕ → Fin 1024 → EReal) (W : Fin 1024 → Fin 4096 → EReal)
  (vg : Fin 2048 → EReal) (ws : Fin 8 → Fin 128 → Fin 128 → EReal) (bs : Fin 128 → Fin 2048 → EReal)
  (wo : Fin 2048 → Fin 1024 → EReal)

/-- the projection through the gelu: columns below 2048 gate, the others are mixed -/
def sguZ (r : ℕ) (c : Fin 4096) : EReal := gelu (mv (H r) W c)
/-- the half that is mixed, normalised -/
def sguV (r : ℕ) (c : Fin 2048) : EReal :=
  rms (Ideal.ofBits .f32 0x45000000#32) (fun j : Fin 2048 => sguZ H W r ⟨2048 + j, by omega⟩) vg c
/-- the gate times the mixture over the 128 positions of the row's chunk -/
def sguY (r : ℕ) (c : Fin 2048) : EReal :=
  sguZ H W r ⟨c, by omega⟩ *
    ((∑ q : Fin 128, ws ⟨c / 256, by omega⟩ ⟨r % 128, by omega⟩ q * sguV H W vg (128 * (r / 128) + q) c)
      + bs ⟨r % 128, by omega⟩ c)
/-- the rows after the unit's residual addition -/
def sguX (r : ℕ) (e : Fin 1024) : EReal := X r e + mv (sguY H W vg ws bs r) wo e
end sgu

/-! ### the gated feed-forward with its convolution along the sequence -/
section ffn
variable (L : ℕ) (H : ℕ → Fin 1024 → EReal) (X : ℕ → Fin 1024 → EReal) (W : Fin 1024 → Fin 5632 → EReal)
  (cw : Fin 3 → Fin 5632 → EReal) (cb : Fin 5632 → EReal) (wd : Fin 2816 → Fin 1024 → EReal)

/-- the width-3 convolution along a sequence of `L` rows, zero beyond its ends -/
def conv (r : ℕ) (c : Fin 5632) : EReal :=
  (if r % L = 0 then 0 else mv (H (r - 1)) W c) * cw 0 c + mv (H r) W c * cw 1 c
    + (if r % L = L - 1 then 0 else mv (H (r + 1)) W c) * cw 2 c + cb c
/-- gate times its logistic, times the other half -/
def ffnA (r : ℕ) (c : Fin 2816) : EReal :=
  conv L H W cw cb r ⟨c, by omega⟩ * Ideal.div 1 (1 + Ideal.exp (-(conv L H W cw cb r ⟨c, by omega⟩)))
    * conv L H W cw cb r ⟨2816 + c, by omega⟩
/-- the rows after the feed-forward's residual addition -/
def ffnX (r : ℕ) (e : Fin 1024) : EReal := X r e + mv (ffnA L H W cw cb r) wd e
end ffn

/-- a row normalised for the next part of the layer -/
def nrm (X : ℕ → Fin 1024 → EReal) (g : Fin 1024 → EReal) (r : ℕ) : Fin 1024 → EReal :=
  rms (Ideal.ofBits .f32 0x44800000#32) (X r) g

open Cert.KernelIdeal in
/-- a flattened batch's rows, numbered by naturals -/
def rows {φ : FTy} (X : FVec Ideal S16384x1024 φ) : ℕ → Fin 1024 → EReal :=
  fun r k => X (ix2 ⟨r % 16384, Nat.mod_lt _ (by decide)⟩ k)

end Cert.M
end
-- ==== Proof.ModelQ.lean ====
module

public import proofs.«01_k».proof.Proof.Model

@[expose] public section

set_option maxRecDepth 16384

noncomputable section

open Idealize.ShloMosaic

/-! The projections to packed queries, keys and values, as functions of a row's number: what the kernel computes. -/
namespace Cert.M

/-- the mean square of a lane's half of a block of 128 lanes: a product with a matrix, of the squares and of what
    a rounding of theirs leaves -/
def ms (b : Fin 128 → EReal) (l : Fin 128) : EReal :=
  (∑ k : Fin 128, b k * b k * if (k : ℕ) % 128 / 64 = (l : ℕ) / 64 then Ideal.ofBits .f32 0x3C800000#32 else 0)
    + ∑ k : Fin 128, (b k * b k - b k * b k) * if (128 + (k : ℕ)) % 128 / 64 = (l : ℕ) / 64 then Ideal.ofBits .f32 0x3C800000#32 else 0

/-- a block normalised by the mean squares of its halves, times a gain -/
def xn (b g : Fin 128 → EReal) (l : Fin 128) : EReal := b l * Ideal.rsqrt (ms b l + eps) * g l

/-- lanes turned by tables: a lane, the lane 16 before it and the lane 16 after it -/
def rope (z co sa sb : Fin 128 → EReal) (l : Fin 128) : EReal :=
  z l * co l + z ⟨(l + 112) % 128, Nat.mod_lt _ (by decide)⟩ * sa l + z ⟨(l + 16) % 128, Nat.mod_lt _ (by decide)⟩ * sb l

section qkv
variable (H : ℕ → Fin 1024 → EReal) (W : Fin 1024 → Fin 1536 → EReal) (g : Fin 128 → EReal) (co sa sb : ℕ → Fin 128 → EReal)

/-- lane `l` of block `j` of the projections of row `r` -/
def yb (j r : ℕ) (l : Fin 128) : EReal := mv (H r) W ⟨(128 * j + l) % 1536, Nat.mod_lt _ (by decide)⟩

/-- the block normalised and turned -/
def qk (j r : ℕ) (l : Fin 128) : EReal := rope (xn (yb H W j r) g) (co r) (sa r) (sb r) l

/-- a head's query in its half of the lanes -/
def qP (h r : ℕ) (e : Fin 128) : EReal := if (e : ℕ) / 64 = h % 2 then qk H W g co sa sb (h / 2) r e else 0

/-- a head's key in both halves of the lanes -/
def kP (h r : ℕ) (e : Fin 128) : EReal := qk H W g co sa sb (8 + h / 2) r ⟨64 * (h % 2) + e % 64, by omega⟩

/-- a head's value in one half of the lanes, ones in the other -/
def vP (h r : ℕ) (e : Fin 128) : EReal := if (e : ℕ) / 64 = h % 2 then yb H W (10 + h / 4) r ⟨64 * (h / 2 % 2) + e % 64, by omega⟩ else 1

theorem qP_eq (h j s r : ℕ) (e : Fin 128) (hj : h / 2 = j) (hs : h % 2 = s) :
    qP H W g co sa sb h r e = if (e : ℕ) / 64 = s then qk H W g co sa sb j r e else 0 := by
  subst hj hs; rfl

theorem kP_eq (h j s r : ℕ) (e : Fin 128) (hj : 8 + h / 2 = j) (hs : h % 2 = s) :
    kP H W g co sa sb h r e = qk H W g co sa sb j r ⟨64 * s + e % 64, by omega⟩ := by
  subst hj hs; rfl

theorem vP_eq (h j s u r : ℕ) (e : Fin 128) (hj : 10 + h / 4 = j) (hs : h % 2 = s) (hu : h / 2 % 2 = u) :
    vP H W h r e = if (e : ℕ) / 64 = s then yb H W j r ⟨64 * u + e % 64, by omega⟩ else 1 := by
  subst hj hs hu; rfl
end qkv

end Cert.M
end
-- ==== Proof.ModelA.lean ====
module

public import proofs.«01_k».proof.Proof.Model

@[expose] public section

set_option maxRecDepth 16384

noncomputable section

open Idealize.ShloMosaic

/-! The attention over whole sequences, as functions of a row's number: what the kernel computes from its
packed queries, keys and values. -/
namespace Cert.M

/-- the largest of finitely many numbers -/
def mx {n : ℕ} (s : Fin n → EReal) : EReal := Finset.univ.fold max ⊥ s

section attention
variable (Q K V : ℕ → ℕ → Fin 128 → EReal)

/-- head `h`'s score of row `r` against the `κ`-th row of its sequence -/
def att_s (h r : ℕ) (κ : Fin 2048) : EReal := ∑ e, Q h r e * K (h / 4) (2048 * (r / 2048) + κ) e

/-- weights times packed values -/
def att_pv (h r : ℕ) (e : Fin 128) : EReal :=
  ∑ κ : Fin 2048, Ideal.exp2 (att_s Q K h r κ - mx (att_s Q K h r)) * V (2 * (h / 4) + h % 2) (2048 * (r / 2048) + κ) e

/-- the quotient of the weighted sum by the sum of weights, both lying in the packed product -/
def att_o (r : ℕ) (c : Fin 1024) : EReal :=
  if h : (c : ℕ) % 128 < 64 then
    Ideal.div (att_pv Q K V (2 * (c / 128)) r ⟨c % 128, by omega⟩) (att_pv Q K V (2 * (c / 128)) r ⟨c % 128 + 64, by omega⟩)
  else
    Ideal.div (att_pv Q K V (2 * (c / 128) + 1) r ⟨c % 128, by omega⟩) (att_pv Q K V (2 * (c / 128) + 1) r ⟨c % 128 - 64, by omega⟩)

/-- the rows after the residual addition -/
def att_x (X : ℕ → Fin 1024 → EReal) (wo : Fin 1024 → Fin 1024 → EReal) (r : ℕ) (e : Fin 1024) : EReal :=
  X r e + mv (att_o Q K V r) wo e
end attention

/-- a stack of row arrays, read at numbers -/
def planes {n : ℕ} [NeZero n] {φ : FTy} (X : FVec Ideal ⟨3, ![n, 16384, 128]⟩ φ) : ℕ → ℕ → Fin 128 → EReal :=
  fun h r e => X (ix3 ⟨h % n, Nat.mod_lt _ (Nat.pos_of_neZero n)⟩ ⟨r % 16384, Nat.mod_lt _ (by decide)⟩ e)

end Cert.M
end
-- ==== Proof.ModelR.lean ====
module

public import proofs.«01_k».proof.Proof.ModelA

@[expose] public section

noncomputable section

open Idealize.ShloMosaic Idealize.ShloMosaic.TcCoe

/-! The attention in the textbook form: the softmax of the scaled scores, times the values, head by head. -/
namespace Cert.M

/-- the rotation angle of lane `d` at position `s`: lanes below 32 turn with the position's row in the grid of 64
columns, the others with its column; the frequencies are the negative powers of 10000 -/
def ang (s : Fin 2048) (d : Fin 64) : EReal :=
  (if (d : ℕ) < 32 then FloatOps.sitofp (F := Ideal) .f32 (BitVec.ofNat 32 (s / 64)) else FloatOps.sitofp (F := Ideal) .f32 (BitVec.ofNat 32 (s % 64)))
    * Ideal.pow (Ideal.ofBits .f32 0x461C4000#32)
      (Ideal.div (-(0 + Ideal.ofBits .f32 0x40000000#32 * FloatOps.sitofp (F := Ideal) .f32 (BitVec.ofNat 32 (d % 16)))) (Ideal.ofBits .f32 0x42000000#32))

/-- the rotation of a head's lanes: the halves of each 32 lanes turn against each other -/
def ropeR (z co si : Fin 64 → EReal) (d : Fin 64) : EReal :=
  z d * co d + (if h : (d : ℕ) % 32 < 16 then -z ⟨d + 16, by omega⟩ else z ⟨d - 16, by omega⟩) * si d

section attention
variable (H : ℕ → Fin 1024 → EReal) (W : Fin 1024 → Fin 1536 → EReal) (qg kg : Fin 64 → EReal)

/-- a head's query: normalised, rotated by the row's position in its sequence -/
def qR (h : Fin 16) (r : ℕ) : Fin 64 → EReal :=
  ropeR (rms (Ideal.ofBits .f32 0x42800000#32) (fun j : Fin 64 => mv (H r) W ⟨h * 64 + j, by omega⟩) qg)
    (fun d => Ideal.cos (ang ⟨r % 2048, Nat.mod_lt _ (by decide)⟩ d)) (fun d => Ideal.sin (ang ⟨r % 2048, Nat.mod_lt _ (by decide)⟩ d))
/-- a key, the same with its own gains -/
def kR (h : Fin 4) (r : ℕ) : Fin 64 → EReal :=
  ropeR (rms (Ideal.ofBits .f32 0x42800000#32) (fun j : Fin 64 => mv (H r) W ⟨1024 + (h * 64 + j), by omega⟩) kg)
    (fun d => Ideal.cos (ang ⟨r % 2048, Nat.mod_lt _ (by decide)⟩ d)) (fun d => Ideal.sin (ang ⟨r % 2048, Nat.mod_lt _ (by decide)⟩ d))
/-- a value -/
def vR (h : Fin 4) (r : ℕ) (d : Fin 64) : EReal := mv (H r) W ⟨1280 + (h * 64 + d), by omega⟩
/-- the scaled score of row `r` against the `k`-th row of its sequence; four query heads share a key head -/
def sR (h : Fin 16) (r : ℕ) (k : Fin 2048) : EReal :=
  (∑ d : Fin 64, kR H W kg ⟨h / 4, by omega⟩ (2048 * (r / 2048) + k) d * qR H W qg h r d) * Ideal.ofBits .f32 0x3E000000#32
/-- the exponential of a score, the row's largest score subtracted -/
def pR (h : Fin 16) (r : ℕ) (k : Fin 2048) : EReal := Ideal.exp (sR H W qg kg h r k - mx (sR H W qg kg h r))
/-- a head's output: the values averaged with the softmax weights -/
def oR (h : Fin 16) (r : ℕ) (d : Fin 64) : EReal :=
  ∑ k : Fin 2048, vR H W ⟨h / 4, by omega⟩ (2048 * (r / 2048) + k) d * Ideal.div (pR H W qg kg h r k) (∑ k : Fin 2048, pR H W qg kg h r k)
/-- the rows after the attention's residual addition -/
def xR (X : ℕ → Fin 1024 → EReal) (wo : Fin 1024 → Fin 1024 → EReal) (r : ℕ) (e : Fin 1024) : EReal :=
  X r e + mv (fun c : Fin 1024 => oR H W qg kg ⟨c / 64, by omega⟩ r ⟨c % 64, by omega⟩) wo e
end attention

end Cert.M
end
-- ==== Proof.Scal.lean ====
module

public import proofs.«01_k».proof.KernelIdeal
public import proofs.«01_k».proof.KernelTailIdeal
public import Idealize.ShloMosaic.Lib.Pointwise

@[expose] public section

set_option maxRecDepth 16384

noncomputable section

open Idealize.ShloMosaic

/-! Facts about single extended reals: the powers of two the kernel takes are the exponentials of the layer. -/
namespace Cert.Scal

/-- the named constant `neg_log2e` is minus the logarithm of e to base 2 -/
theorem named_neg (b : BitVec 32) : Named.named (F := Ideal) Cert.KernelIdeal.κ "neg_log2e" (φ := .f32) b = ((-((Real.log 2)⁻¹) : ℝ) : EReal) := by
  simp [Named.named, Cert.KernelIdeal.κ]

/-- the same in the program of the prompt's later parts -/
theorem named_neg_tail (b : BitVec 32) : Named.named (F := Ideal) Cert.KernelTailIdeal.κ "neg_log2e" (φ := .f32) b = ((-((Real.log 2)⁻¹) : ℝ) : EReal) := by
  simp [Named.named, Cert.KernelTailIdeal.κ]

/-- the named constant `log2e_over_8` is an eighth of the logarithm of e to base 2 -/
theorem named_pos (b : BitVec 32) : Named.named (F := Ideal) Cert.KernelIdeal.κ "log2e_over_8" (φ := .f32) b = (((Real.log 2)⁻¹ * (1 / 8) : ℝ) : EReal) := by
  simp [Named.named, Cert.KernelIdeal.κ]

theorem log2_pos : (0 : ℝ) < Real.log 2 := Real.log_pos (by norm_num)

/-- two to the power of a number over the logarithm of 2 is its exponential -/
theorem rpow_two (r : ℝ) : Real.rpow 2 (r * (Real.log 2)⁻¹) = Real.exp r := by
  show (2 : ℝ) ^ (r * (Real.log 2)⁻¹) = _
  rw [Real.rpow_def_of_pos (by norm_num), mul_comm r, ← mul_assoc, mul_inv_cancel₀ log2_pos.ne', one_mul]

theorem exp2_neg (x : EReal) : Ideal.exp2 (x * ((-((Real.log 2)⁻¹) : ℝ) : EReal)) = Ideal.exp (-x) := by
  have h : -((Real.log 2)⁻¹) < (0 : ℝ) := neg_lt_zero.mpr (inv_pos.mpr log2_pos)
  induction x with
  | bot => rw [EReal.bot_mul_coe_of_neg h]; rfl
  | top => rw [EReal.top_mul_coe_of_neg h]; rfl
  | coe r =>
    rw [← EReal.coe_mul, ← EReal.coe_neg, Ideal.exp2_coe, Ideal.exp_coe, mul_neg, ← neg_mul, rpow_two]

end Cert.Scal
end
-- ==== Proof.Soft.lean ====
module

public import proofs.«01_k».proof.Proof.ModelR
public import proofs.«01_k».proof.Proof.Scal

@[expose] public section

noncomputable section

open Idealize.ShloMosaic Idealize.ShloMosaic.TcCoe

/-! The softmax over real scores: the kernel's powers of two of scores over the logarithm of 2, divided once at the end,
average the values as the textbook's exponentials divided one by one do. -/
namespace Cert.M

/-- an extended real that is a real number -/
def IsR (a : EReal) : Prop := ∃ r : ℝ, a = r

theorem IsR.coe (r : ℝ) : IsR (r : EReal) := ⟨r, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.neg {a : EReal} (ha : IsR a) : IsR (-a) := by
  obtain ⟨x, rfl⟩ := ha; exact ⟨-x, (EReal.coe_neg x).symm⟩
theorem IsR.zero : IsR 0 := ⟨0, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} {s : Finset ι} {f : ι → EReal} (h : ∀ i, IsR (f i)) : IsR (∑ i ∈ s, f i) := by
  choose g hg using h
  exact ⟨∑ i ∈ s, g i, by rw [coe_sum]; exact Finset.sum_congr rfl fun i _ => hg i⟩

theorem mv_isR {n p : ℕ} {h : Fin n → EReal} {W : Fin n → Fin p → EReal} (hh : ∀ k, IsR (h k)) (hW : ∀ k c, IsR (W k c)) (c : Fin p) :
    IsR (mv h W c) := IsR.sum fun k => (hh k).mul (hW k c)

/-- the largest of finitely many real numbers is one of them -/
theorem mx_isR {n : ℕ} [NeZero n] (f : Fin n → EReal) (h : ∀ i, IsR (f i)) : IsR (mx f) := by
  obtain ⟨i, _, hi⟩ := Finset.exists_mem_eq_sup (Finset.univ : Finset (Fin n)) Finset.univ_nonempty f
  have : mx f = Finset.univ.sup f := rfl
  rw [this, hi]
  exact h i

theorem soft {n : ℕ} [NeZero n] (s v : Fin n → ℝ) (m₁ m₂ : ℝ) :
    Ideal.div (∑ k, Ideal.exp2 ((((Real.log 2)⁻¹ * (1 / 8) * s k : ℝ) : EReal) - m₁) * (v k : EReal))
        (∑ k, Ideal.exp2 ((((Real.log 2)⁻¹ * (1 / 8) * s k : ℝ) : EReal) - m₁) * 1)
      = ∑ k, (v k : EReal) * Ideal.div (Ideal.exp (((s k * (1 / 8) : ℝ) : EReal) - m₂)) (∑ k, Ideal.exp (((s k * (1 / 8) : ℝ) : EReal) - m₂)) := by
  have hA : ∀ k, Ideal.exp2 ((((Real.log 2)⁻¹ * (1 / 8) * s k : ℝ) : EReal) - m₁)
      = ((Real.exp (s k * (1 / 8)) * Real.exp (-(m₁ * Real.log 2)) : ℝ) : EReal) := fun k => by
    rw [← EReal.coe_sub, Ideal.exp2_coe, ← Real.exp_add, ← Cert.Scal.rpow_two]
    congr 2
    have := Cert.Scal.log2_pos.ne'
    field_simp
    ring
  have hB : ∀ k, Ideal.exp (((s k * (1 / 8) : ℝ) : EReal) - m₂) = ((Real.exp (s k * (1 / 8)) * Real.exp (-m₂) : ℝ) : EReal) := fun k => by
    rw [← EReal.coe_sub, Ideal.exp_coe, ← Real.exp_add, sub_eq_add_neg]
  have hE : 0 < ∑ k : Fin n, Real.exp (s k * (1 / 8)) := Finset.sum_pos (fun k _ => Real.exp_pos _) Finset.univ_nonempty
  have hP : ∀ c : ℝ, ∑ k, Real.exp (s k * (1 / 8)) * Real.exp c ≠ 0 := fun c => by
    rw [← Finset.sum_mul]; exact (mul_pos hE (Real.exp_pos c)).ne'
  simp only [hA, hB, mul_one, ← EReal.coe_mul, ← coe_sum]
  rw [Ideal.div_coe (hP _)]
  simp only [Ideal.div_coe (hP _), ← EReal.coe_mul, ← coe_sum]
  congr 1
  rw [Finset.sum_mul]
  refine Finset.sum_congr rfl fun k _ => ?_
  rw [← Finset.sum_mul, ← Finset.sum_mul]
  have h1 := (Real.exp_pos (-(m₁ * Real.log 2))).ne'
  have h2 := (Real.exp_pos (-m₂)).ne'
  have h3 := hE.ne'
  field_simp

end Cert.M
end
-- ==== Proof.AttEq.lean ====
module

public import proofs.«01_k».proof.Proof.ModelQ
public import proofs.«01_k».proof.Proof.Soft

@[expose] public section

noncomputable section

open Idealize.ShloMosaic Idealize.ShloMosaic.TcCoe

/-! The kernel's packed attention is the textbook's, for rows whose projections are real numbers. -/
namespace Cert.M

theorem w64 : Ideal.ofBits .f32 0x42800000#32 = ((64 : ℝ) : EReal) := by
  simp [Ideal.ofBits, Ideal.ieee]; norm_num; rw [← EReal.coe_mul]; congr 1; norm_num
theorem w_64 : Ideal.ofBits .f32 0x3C800000#32 = ((1 / 64 : ℝ) : EReal) := by
  simp [Ideal.ofBits, Ideal.ieee]; norm_num; rw [← EReal.coe_mul]; congr 1; norm_num
theorem w_8 : Ideal.ofBits .f32 0x3E000000#32 = ((1 / 8 : ℝ) : EReal) := by
  simp [Ideal.ofBits, Ideal.ieee]; norm_num; rw [← EReal.coe_mul]; congr 1; norm_num
theorem w1024 : Ideal.ofBits .f32 0x44800000#32 = ((1024 : ℝ) : EReal) := by
  simp [Ideal.ofBits, Ideal.ieee]; norm_num; rw [← EReal.coe_mul]; congr 1; norm_num
theorem weps : ∃ r : ℝ, 0 < r ∧ eps = r := by
  refine ⟨8796093 / 8796093022208, by norm_num, ?_⟩
  simp [Ideal.ofBits, Ideal.ieee]; norm_num; rw [← EReal.coe_mul]; congr 1; norm_num

/-- a normalised real row is real -/
theorem rms_isR {n : ℕ} (d : ℝ) (hd : 0 < d) {x g : Fin n → EReal} (hx : ∀ k, IsR (x k)) (hg : ∀ k, IsR (g k)) (j : Fin n) :
    IsR (rms (d : EReal) x g j) := by
  unfold rms
  obtain ⟨e, he, hee⟩ := weps
  choose x' hx' using hx
  refine ((IsR.mul ⟨x' j, hx' j⟩ ?_).mul (hg j))
  have h : Ideal.div (∑ k, x k * x k) d + eps = (((∑ k, x' k * x' k) * (1 / d) + e : ℝ) : EReal) := by
    rw [Ideal.div_coe hd.ne', hee, EReal.coe_add, EReal.coe_mul, coe_sum]
    simp only [hx', EReal.coe_mul]
  have hp : 0 < (∑ k, x' k * x' k) * (1 / d) + e :=
    add_pos_of_nonneg_of_pos (mul_nonneg (Finset.sum_nonneg fun k _ => mul_self_nonneg _) (by positivity)) he
  rw [h, Ideal.rsqrt_coe, if_neg hp.not_gt, if_neg hp.ne']
  exact ⟨_, rfl⟩

/-- the sum over 128 lanes as two sums over 64 -/
theorem sum128 (f : Fin 128 → EReal) : ∑ k, f k = (∑ k : Fin 64, f ⟨k, by omega⟩) + ∑ k : Fin 64, f ⟨64 + k, by omega⟩ :=
  Fin.sum_univ_add (a := 64) (b := 64) f

/-- the kernel's mean of squares is taken over the 64 lanes of the lane's own half -/
theorem ms_eq (b : Fin 128 → EReal) (hb : ∀ k, IsR (b k)) (l : Fin 128) :
    ms b l = Ideal.div (∑ k : Fin 64, b ⟨64 * (l / 64) + k, by omega⟩ * b ⟨64 * (l / 64) + k, by omega⟩) (Ideal.ofBits .f32 0x42800000#32) := by
  have hz : ∀ k, b k * b k - b k * b k = 0 := fun k => by
    obtain ⟨r, hr⟩ := (hb k).mul (hb k)
    rw [hr, ← EReal.coe_sub, sub_self]; rfl
  unfold ms
  simp only [hz, zero_mul, Finset.sum_const_zero, add_zero]
  rw [w64, Ideal.div_coe (by norm_num), w_64, sum128]
  choose b' hb' using hb
  have hc : (∑ k : Fin 64, b ⟨64 * (l / 64) + k, by omega⟩ * b ⟨64 * (l / 64) + k, by omega⟩) * ((1 / 64 : ℝ) : EReal)
      = ∑ k : Fin 64, b ⟨64 * (l / 64) + k, by omega⟩ * b ⟨64 * (l / 64) + k, by omega⟩ * ((1 / 64 : ℝ) : EReal) := by
    simp only [hb', ← EReal.coe_mul, ← coe_sum]
    rw [Finset.sum_mul]
  rw [hc]
  by_cases h : (l : ℕ) / 64 = 0
  · refine (congrArg₂ (· + ·) (Finset.sum_congr rfl fun k _ => ?_) (Finset.sum_eq_zero fun k _ => ?_)).trans (add_zero _)
    · rw [if_pos (by show (k : ℕ) % 128 / 64 = _; omega)]
      have : (⟨k, by omega⟩ : Fin 128) = ⟨64 * (l / 64) + k, by omega⟩ := Fin.ext (by show (k : ℕ) = 64 * (l / 64) + k; omega)
      rw [this]
    · rw [if_neg (by show ¬ (64 + (k : ℕ)) % 128 / 64 = _; omega), mul_zero]
  · refine (congrArg₂ (· + ·) (Finset.sum_eq_zero fun k _ => ?_) (Finset.sum_congr rfl fun k _ => ?_)).trans (zero_add _)
    · rw [if_neg (by show ¬ (k : ℕ) % 128 / 64 = _; omega), mul_zero]
    · rw [if_pos (by show (64 + (k : ℕ)) % 128 / 64 = _; omega)]
      have : (⟨64 + k, by omega⟩ : Fin 128) = ⟨64 * (l / 64) + k, by omega⟩ := Fin.ext (by show (64 + k : ℕ) = 64 * (l / 64) + k; omega)
      rw [this]

/-- a lane of the kernel's normalisation, as the textbook's over the lane's head -/
theorem xn_eq (b g : Fin 128 → EReal) (hb : ∀ k, IsR (b k)) (l : Fin 128) (s : ℕ) (hs : (l : ℕ) / 64 = s) :
    xn b g l = rms (Ideal.ofBits .f32 0x42800000#32) (fun j : Fin 64 => b ⟨64 * s + j, by omega⟩) (fun j : Fin 64 => g ⟨64 * s + j, by omega⟩)
      ⟨l % 64, Nat.mod_lt _ (by decide)⟩ := by
  subst hs
  have hl : (⟨64 * (l / 64) + l % 64, by omega⟩ : Fin 128) = l := Fin.ext (by show 64 * ((l : ℕ) / 64) + l % 64 = l; omega)
  unfold xn rms
  rw [ms_eq b hb l]
  simp only [hl]

/-- the kernel's two rolls with masked sines are the textbook's rotation of each half -/
theorem rope_eq (z co sa sb : Fin 128 → EReal) (c s : Fin 64 → EReal)
    (hc : ∀ l : Fin 128, co l = c ⟨l % 64, Nat.mod_lt _ (by decide)⟩)
    (ha : ∀ l : Fin 128, sa l = if (l : ℕ) % 32 < 16 then 0 else s ⟨l % 64, Nat.mod_lt _ (by decide)⟩)
    (hb : ∀ l : Fin 128, sb l = if (l : ℕ) % 32 < 16 then -s ⟨l % 64, Nat.mod_lt _ (by decide)⟩ else 0)
    (w : Fin 64 → EReal) (l : Fin 128) (t : ℕ) (ht : (l : ℕ) / 64 = t)
    (hw : ∀ (d : Fin 64) (k : Fin 128), (k : ℕ) = 64 * t + d → z k = w d) :
    rope z co sa sb l = ropeR w c s ⟨l % 64, Nat.mod_lt _ (by decide)⟩ := by
  subst ht
  unfold rope ropeR
  rw [hc, ha, hb, hw ⟨l % 64, Nat.mod_lt _ (by decide)⟩ l (by show (l : ℕ) = 64 * (l / 64) + l % 64; omega)]
  by_cases h : (l : ℕ) % 32 < 16
  · rw [if_pos h, if_pos h, mul_zero, add_zero, dif_pos (show (l : ℕ) % 64 % 32 < 16 by omega)]
    rw [hw ⟨l % 64 + 16, by omega⟩ _ (by show ((l : ℕ) + 16) % 128 = 64 * (l / 64) + (l % 64 + 16); omega), mul_neg, neg_mul]
  · rw [if_neg h, if_neg h, mul_zero, add_zero, dif_neg (show ¬ (l : ℕ) % 64 % 32 < 16 by omega)]
    rw [hw ⟨l % 64 - 16, by omega⟩ _ (by show ((l : ℕ) + 112) % 128 = 64 * (l / 64) + (l % 64 - 16); omega)]

theorem rms_scale {n : ℕ} (d c : EReal) (x g : Fin n → EReal) (j : Fin n) : rms d x (fun j => g j * c) j = rms d x g j * c := by
  unfold rms
  exact (mul_assoc _ _ _).symm

/-- a rotation of scaled lanes is the scaled rotation -/
theorem ropeR_scale (z co si : Fin 64 → EReal) (hz : ∀ d, IsR (z d)) (hc : ∀ d, IsR (co d)) (hs : ∀ d, IsR (si d)) (c : ℝ) (d : Fin 64) :
    ropeR (fun d => z d * c) co si d = ropeR z co si d * c := by
  choose z' hz' using hz
  choose c' hc' using hc
  choose s' hs' using hs
  unfold ropeR
  simp only [hz', hc', hs', ← EReal.coe_mul, ← EReal.coe_neg]
  split_ifs
  · simp only [← EReal.coe_mul, ← EReal.coe_add]; congr 1; ring
  · simp only [← EReal.coe_mul, ← EReal.coe_add]; congr 1; ring

theorem ropeR_isR (z co si : Fin 64 → EReal) (hz : ∀ d, IsR (z d)) (hc : ∀ d, IsR (co d)) (hs : ∀ d, IsR (si d)) (d : Fin 64) : IsR (ropeR z co si d) := by
  unfold ropeR
  refine ((hz d).mul (hc d)).add (IsR.mul ?_ (hs d))
  split_ifs
  · exact (hz _).neg
  · exact hz _

theorem ang_isR (s : Fin 2048) (d : Fin 64) : IsR (ang s d) := by
  have hi : ∀ n : ℕ, IsR (FloatOps.sitofp (F := Ideal) .f32 (BitVec.ofNat 32 n) : EReal) := fun n => ⟨_, rfl⟩
  have hw : ∀ w : BitVec 32, w = 0x461C4000#32 ∨ w = 0x40000000#32 → IsR (Ideal.ofBits .f32 w) := by
    rintro w (rfl | rfl)
    · exact ⟨10000, by simp [Ideal.ofBits, Ideal.ieee]; norm_num; rw [← EReal.coe_mul]; congr 1; norm_num⟩
    · exact ⟨2, by simp [Ideal.ofBits, Ideal.ieee]; norm_num; rw [← EReal.coe_mul]; congr 1; norm_num⟩
  have h32 : Ideal.ofBits .f32 0x42000000#32 = ((32 : ℝ) : EReal) := by simp [Ideal.ofBits, Ideal.ieee]; norm_num; rw [← EReal.coe_mul]; congr 1; norm_num
  unfold ang
  refine IsR.mul ?_ ?_
  · split_ifs <;> exact hi _
  · rw [h32, Ideal.div_coe (by norm_num)]
    obtain ⟨x, hx⟩ := hw _ (.inl rfl)
    obtain ⟨y, hy⟩ := ((IsR.zero.add ((hw _ (.inr rfl)).mul (hi (d % 16)))).neg).mul (IsR.coe (1 / 32))
    rw [hx, hy, Ideal.pow_coe_coe]
    exact ⟨_, rfl⟩

theorem cos_isR (s : Fin 2048) (d : Fin 64) : IsR (Ideal.cos (ang s d)) := by
  obtain ⟨r, hr⟩ := ang_isR s d
  rw [hr, Ideal.cos_coe]; exact ⟨_, rfl⟩
theorem sin_isR (s : Fin 2048) (d : Fin 64) : IsR (Ideal.sin (ang s d)) := by
  obtain ⟨r, hr⟩ := ang_isR s d
  rw [hr, Ideal.sin_coe]; exact ⟨_, rfl⟩

end Cert.M
end
-- ==== Proof.AttEq2.lean ====
module

public import proofs.«01_k».proof.Proof.AttEq

@[expose] public section

noncomputable section

open Idealize.ShloMosaic Idealize.ShloMosaic.TcCoe

/-! The kernel's attention, from packed queries, keys and values, is the textbook's. -/
namespace Cert.M

section
variable (H : ℕ → Fin 1024 → EReal) (W : Fin 1024 → Fin 1536 → EReal) (qg kg : Fin 64 → EReal) (gq gk : Fin 128 → EReal)
  (co sa sb : ℕ → Fin 128 → EReal)

/-- the tables are the cosines and the masked sines of the angles -/
structure Tab : Prop where
  co : ∀ (r : ℕ) (l : Fin 128), co r l = Ideal.cos (ang ⟨r % 2048, Nat.mod_lt _ (by decide)⟩ ⟨l % 64, Nat.mod_lt _ (by decide)⟩)
  sa : ∀ (r : ℕ) (l : Fin 128), sa r l = if (l : ℕ) % 32 < 16 then 0 else Ideal.sin (ang ⟨r % 2048, Nat.mod_lt _ (by decide)⟩ ⟨l % 64, Nat.mod_lt _ (by decide)⟩)
  sb : ∀ (r : ℕ) (l : Fin 128), sb r l = if (l : ℕ) % 32 < 16 then -Ideal.sin (ang ⟨r % 2048, Nat.mod_lt _ (by decide)⟩ ⟨l % 64, Nat.mod_lt _ (by decide)⟩) else 0

variable {co sa sb}

/-- a block's lane, normalised and turned, is its head's -/
theorem qk_eq (hT : Tab co sa sb) (hY : ∀ r c, IsR (mv (H r) W c)) (g : Fin 128 → EReal) (j r : ℕ) (l : Fin 128) (t : ℕ) (ht : (l : ℕ) / 64 = t)
    (y : Fin 64 → EReal) (hy : ∀ i : Fin 64, yb H W j r ⟨64 * t + i, by omega⟩ = y i) (d : Fin 64) (hd : (l : ℕ) % 64 = d) :
    qk H W g co sa sb j r l = ropeR (rms (Ideal.ofBits .f32 0x42800000#32) y (fun i : Fin 64 => g ⟨64 * t + i, by omega⟩))
      (fun d => Ideal.cos (ang ⟨r % 2048, Nat.mod_lt _ (by decide)⟩ d)) (fun d => Ideal.sin (ang ⟨r % 2048, Nat.mod_lt _ (by decide)⟩ d)) d := by
  have hy' : (fun i : Fin 64 => yb H W j r ⟨64 * t + i, by omega⟩) = y := funext hy
  have hd' : (⟨l % 64, Nat.mod_lt _ (by decide)⟩ : Fin 64) = d := Fin.ext hd
  subst hd'
  rw [← hy']
  refine rope_eq _ _ _ _ (fun d => Ideal.cos (ang ⟨r % 2048, Nat.mod_lt _ (by decide)⟩ d)) (fun d => Ideal.sin (ang ⟨r % 2048, Nat.mod_lt _ (by decide)⟩ d))
    (hT.co r) (hT.sa r) (hT.sb r) _ l t ht fun i k hk => ?_
  have hk' : (k : ℕ) / 64 = t := by omega
  rw [xn_eq (yb H W j r) g (fun k => hY r _) k t hk']
  exact congrArg _ (Fin.ext (by show (k : ℕ) % 64 = i; omega))

/-- a packed query is the scaled query of its head, in the head's half of the lanes -/
theorem qP_eq' (hT : Tab co sa sb) (hY : ∀ r c, IsR (mv (H r) W c)) (hq : ∀ d, IsR (qg d)) (κ : ℝ)
    (hg : ∀ l : Fin 128, gq l = qg ⟨l % 64, Nat.mod_lt _ (by decide)⟩ * κ) (h : Fin 16) (r : ℕ) (e : Fin 128) (d : Fin 64) (hd : (e : ℕ) % 64 = d) :
    qP H W gq co sa sb h r e = if (e : ℕ) / 64 = (h : ℕ) % 2 then qR H W qg h r d * κ else 0 := by
  unfold qP
  by_cases he : (e : ℕ) / 64 = (h : ℕ) % 2
  · rw [if_pos he, if_pos he]
    rw [qk_eq H W hT hY gq (h / 2) r e (h % 2) he (fun j : Fin 64 => mv (H r) W ⟨h * 64 + j, by omega⟩)
      (fun i => congrArg (mv (H r) W) (Fin.ext (by show (128 * ((h : ℕ) / 2) + (64 * (h % 2) + i)) % 1536 = h * 64 + i; omega))) d hd]
    have hG : (fun i : Fin 64 => gq ⟨64 * ((h : ℕ) % 2) + i, by omega⟩) = fun i => qg i * κ := funext fun i => by
      rw [hg]; exact congrArg (fun z => qg z * (κ : EReal)) (Fin.ext (by show (64 * ((h : ℕ) % 2) + i) % 64 = i; omega))
    rw [hG]
    have hS : rms (Ideal.ofBits .f32 0x42800000#32) (fun j : Fin 64 => mv (H r) W ⟨h * 64 + j, by omega⟩) (fun i => qg i * κ)
        = fun d => rms (Ideal.ofBits .f32 0x42800000#32) (fun j : Fin 64 => mv (H r) W ⟨h * 64 + j, by omega⟩) qg d * κ := funext fun d => rms_scale _ _ _ _ _
    rw [hS]
    refine ropeR_scale _ _ _ (fun d => ?_) (fun d => cos_isR _ d) (fun d => sin_isR _ d) κ d
    rw [w64]
    exact rms_isR 64 (by norm_num) (fun k => hY r _) hq d
  · rw [if_neg he, if_neg he]

theorem kP_eq' (hT : Tab co sa sb) (hY : ∀ r c, IsR (mv (H r) W c))
    (hg : ∀ l : Fin 128, gk l = kg ⟨l % 64, Nat.mod_lt _ (by decide)⟩) (h : Fin 4) (r : ℕ) (e : Fin 128) (d : Fin 64) (hd : (e : ℕ) % 64 = d) :
    kP H W gk co sa sb h r e = kR H W kg h r d := by
  unfold kP
  rw [qk_eq H W hT hY gk (8 + h / 2) r _ (h % 2) (by show (64 * ((h : ℕ) % 2) + e % 64) / 64 = _; omega) (fun j : Fin 64 => mv (H r) W ⟨1024 + (h * 64 + j), by omega⟩)
      (fun i => congrArg (mv (H r) W) (Fin.ext (by show (128 * (8 + (h : ℕ) / 2) + (64 * (h % 2) + i)) % 1536 = 1024 + (h * 64 + i); omega))) d
      (by show (64 * ((h : ℕ) % 2) + e % 64) % 64 = d; omega)]
  have hG : (fun i : Fin 64 => gk ⟨64 * ((h : ℕ) % 2) + i, by omega⟩) = kg := funext fun i => by
    rw [hg]; exact congrArg kg (Fin.ext (by show (64 * ((h : ℕ) % 2) + i) % 64 = i; omega))
  rw [hG]
  rfl

theorem qR_isR (hY : ∀ r c, IsR (mv (H r) W c)) (hq : ∀ d, IsR (qg d)) (h : Fin 16) (r : ℕ) (d : Fin 64) : IsR (qR H W qg h r d) := by
  refine ropeR_isR _ _ _ (fun d => ?_) (fun d => cos_isR _ d) (fun d => sin_isR _ d) d
  rw [w64]
  exact rms_isR 64 (by norm_num) (fun k => hY r _) hq d

theorem kR_isR (hY : ∀ r c, IsR (mv (H r) W c)) (hk : ∀ d, IsR (kg d)) (h : Fin 4) (r : ℕ) (d : Fin 64) : IsR (kR H W kg h r d) := by
  refine ropeR_isR _ _ _ (fun d => ?_) (fun d => cos_isR _ d) (fun d => sin_isR _ d) d
  rw [w64]
  exact rms_isR 64 (by norm_num) (fun k => hY r _) hk d

end

/-- the parts of a statement about rows: the projections and gains are real, the tables and tiled gains as the kernel takes them -/
structure Setup (H : ℕ → Fin 1024 → EReal) (W : Fin 1024 → Fin 1536 → EReal) (qg kg : Fin 64 → EReal) (gq gk : Fin 128 → EReal)
    (co sa sb : ℕ → Fin 128 → EReal) : Prop where
  tab : Tab co sa sb
  y : ∀ r c, IsR (mv (H r) W c)
  q : ∀ d, IsR (qg d)
  k : ∀ d, IsR (kg d)
  gq : ∀ l : Fin 128, gq l = qg ⟨l % 64, Nat.mod_lt _ (by decide)⟩ * (((Real.log 2)⁻¹ * (1 / 8) : ℝ) : EReal)
  gk : ∀ l : Fin 128, gk l = kg ⟨l % 64, Nat.mod_lt _ (by decide)⟩

section
variable {H : ℕ → Fin 1024 → EReal} {W : Fin 1024 → Fin 1536 → EReal} {qg kg : Fin 64 → EReal} {gq gk : Fin 128 → EReal}
  {co sa sb : ℕ → Fin 128 → EReal} (S : Setup H W qg kg gq gk co sa sb)
include S

/-- the kernel's score is the product of a key and a query, over 8 times the logarithm of 2 -/
theorem att_s_eq (h : Fin 16) (r : ℕ) (κ : Fin 2048) :
    ∃ s : ℝ, (∑ d : Fin 64, kR H W kg ⟨h / 4, by omega⟩ (2048 * (r / 2048) + κ) d * qR H W qg h r d) = s
      ∧ att_s (qP H W gq co sa sb) (kP H W gk co sa sb) h r κ = (((Real.log 2)⁻¹ * (1 / 8) * s : ℝ) : EReal) := by
  choose q hq using qR_isR H W qg S.y S.q h r
  choose k hk using kR_isR H W kg S.y S.k ⟨h / 4, by omega⟩ (2048 * (r / 2048) + κ)
  refine ⟨∑ d, k d * q d, ?_, ?_⟩
  · rw [coe_sum]
    exact Finset.sum_congr rfl fun d _ => by rw [hq, hk, EReal.coe_mul]
  · unfold att_s
    have hQ := fun (e : Fin 128) (d : Fin 64) => qP_eq' H W qg gq S.tab S.y S.q _ S.gq h r e d
    have hK := fun (e : Fin 128) (d : Fin 64) => kP_eq' H W kg gk S.tab S.y S.gk ⟨h / 4, by omega⟩ (2048 * (r / 2048) + κ) e d
    have hsum : (((Real.log 2)⁻¹ * (1 / 8) * ∑ d, k d * q d : ℝ) : EReal)
        = ∑ d : Fin 64, qR H W qg h r d * (((Real.log 2)⁻¹ * (1 / 8) : ℝ) : EReal) * kR H W kg ⟨h / 4, by omega⟩ (2048 * (r / 2048) + κ) d := by
      rw [Finset.mul_sum, coe_sum]
      refine Finset.sum_congr rfl fun d _ => ?_
      rw [hq, hk, ← EReal.coe_mul, ← EReal.coe_mul]
      congr 1; ring
    rw [hsum, sum128]
    by_cases h2 : (h : ℕ) % 2 = 0
    · refine (congrArg₂ (· + ·) (Finset.sum_congr rfl fun d _ => ?_) (Finset.sum_eq_zero fun d _ => ?_)).trans (add_zero _)
      · rw [hQ ⟨d, by omega⟩ d (Nat.mod_eq_of_lt d.isLt), if_pos (by show (d : ℕ) / 64 = _; omega)]
        exact congrArg₂ (· * ·) rfl (hK ⟨d, by omega⟩ d (Nat.mod_eq_of_lt d.isLt))
      · rw [hQ ⟨64 + d, by omega⟩ d (by show (64 + (d : ℕ)) % 64 = d; omega), if_neg (by show ¬ (64 + (d : ℕ)) / 64 = _; omega), zero_mul]
    · refine (congrArg₂ (· + ·) (Finset.sum_eq_zero fun d _ => ?_) (Finset.sum_congr rfl fun d _ => ?_)).trans (zero_add _)
      · rw [hQ ⟨d, by omega⟩ d (Nat.mod_eq_of_lt d.isLt), if_neg (by show ¬ (d : ℕ) / 64 = _; omega), zero_mul]
      · rw [hQ ⟨64 + d, by omega⟩ d (by show (64 + (d : ℕ)) % 64 = d; omega), if_pos (by show (64 + (d : ℕ)) / 64 = _; omega)]
        exact congrArg₂ (· * ·) rfl (hK ⟨64 + d, by omega⟩ d (by show (64 + (d : ℕ)) % 64 = d; omega))

/-- the packed quotient is the head's average of the values -/
theorem head_eq (h : Fin 16) (r : ℕ) (d : Fin 64) (a b : Fin 128) (ha : (a : ℕ) / 64 = h % 2) (had : (a : ℕ) % 64 = d) (hb : (b : ℕ) / 64 ≠ h % 2) :
    Ideal.div (att_pv (qP H W gq co sa sb) (kP H W gk co sa sb) (vP H W) h r a) (att_pv (qP H W gq co sa sb) (kP H W gk co sa sb) (vP H W) h r b)
      = oR H W qg kg h r d := by
  choose s hs hk using att_s_eq S h r
  have hv : ∀ κ : Fin 2048, vP H W (2 * (h / 4) + h % 2) (2048 * (r / 2048) + κ) a = vR H W ⟨h / 4, by omega⟩ (2048 * (r / 2048) + κ) d := fun κ => by
    unfold vP
    rw [if_pos (by omega)]
    have e1 : (2 * ((h : ℕ) / 4) + h % 2) / 2 = h / 4 := by omega
    have e2 : (2 * ((h : ℕ) / 4) + h % 2) / 4 = h / 4 / 2 := by omega
    exact congrArg (mv (H _) W) (Fin.ext (by
      show (128 * (10 + (2 * ((h : ℕ) / 4) + h % 2) / 4) + (64 * ((2 * (h / 4) + h % 2) / 2 % 2) + a % 64)) % 1536 = 1280 + (h / 4 * 64 + d); rw [e1, e2]; omega))
  have h1 : ∀ κ : Fin 2048, vP H W (2 * (h / 4) + h % 2) (2048 * (r / 2048) + κ) b = 1 := fun κ => by
    unfold vP
    rw [if_neg (by omega)]
  have hvr : ∀ κ : Fin 2048, IsR (vR H W ⟨h / 4, by omega⟩ (2048 * (r / 2048) + κ) d) := fun κ => S.y _ _
  choose v hvv using hvr
  have hR : ∀ κ, sR H W qg kg h r κ = ((s κ * (1 / 8) : ℝ) : EReal) := fun κ => by
    unfold sR
    rw [hs, w_8, EReal.coe_mul]
  have hfK : att_s (qP H W gq co sa sb) (kP H W gk co sa sb) h r = fun κ => (((Real.log 2)⁻¹ * (1 / 8) * s κ : ℝ) : EReal) := funext hk
  have hfR : sR H W qg kg h r = fun κ => ((s κ * (1 / 8) : ℝ) : EReal) := funext hR
  obtain ⟨m₁, hm₁⟩ := mx_isR (fun κ => (((Real.log 2)⁻¹ * (1 / 8) * s κ : ℝ) : EReal)) fun κ => IsR.coe _
  obtain ⟨m₂, hm₂⟩ := mx_isR (fun κ => ((s κ * (1 / 8) : ℝ) : EReal)) fun κ => IsR.coe _
  unfold att_pv oR pR
  rw [hfK, hfR, hm₁, hm₂]
  simp only [hv, h1, hvv]
  exact soft s v m₁ m₂

/-- the kernel's attention, row by row, is the textbook's -/
theorem att_x_eq (X : ℕ → Fin 1024 → EReal) (wo : Fin 1024 → Fin 1024 → EReal) (r : ℕ) (e : Fin 1024) :
    att_x (qP H W gq co sa sb) (kP H W gk co sa sb) (vP H W) X wo r e = xR H W qg kg X wo r e := by
  unfold att_x xR
  refine congrArg₂ (· + ·) rfl (congrArg (fun z => mv z wo e) (funext fun c => ?_))
  unfold att_o
  split_ifs with hc
  · have : 2 * ((c : ℕ) / 128) = ((⟨c / 64, by omega⟩ : Fin 16) : ℕ) := by show 2 * ((c : ℕ) / 128) = c / 64; omega
    rw [this]
    exact head_eq S ⟨c / 64, by omega⟩ r ⟨c % 64, by omega⟩ _ _ (by show (c : ℕ) % 128 / 64 = c / 64 % 2; omega) (by show (c : ℕ) % 128 % 64 = c % 64; omega)
      (by show ((c : ℕ) % 128 + 64) / 64 ≠ c / 64 % 2; omega)
  · have : 2 * ((c : ℕ) / 128) + 1 = ((⟨c / 64, by omega⟩ : Fin 16) : ℕ) := by show 2 * ((c : ℕ) / 128) + 1 = c / 64; omega
    rw [this]
    exact head_eq S ⟨c / 64, by omega⟩ r ⟨c % 64, by omega⟩ _ _ (by show (c : ℕ) % 128 / 64 = c / 64 % 2; omega) (by show (c : ℕ) % 128 % 64 = c % 64; omega)
      (by show ((c : ℕ) % 128 - 64) / 64 ≠ c / 64 % 2; omega)
end

end Cert.M
end
-- ==== Proof.Stage.lean ====
module

public import proofs.«01_k».proof.Proof.ModelR
public import Idealize.ShloMosaic.Lib.Pipeline.ValueKit

@[expose] public section

noncomputable section

open Idealize.ShloMosaic Idealize.ShloMosaic.TcCoe

/-! Stages of a computation over a stack of sequences, as the model's functions of the flattened rows. -/
namespace Cert.M

/-- the rows of `B` sequences of `S` rows, numbered by naturals -/
def fl (B S : ℕ) [NeZero B] [NeZero S] (v : FVec Ideal ⟨3, ![B, S, 1024]⟩ .f32) : ℕ → Fin 1024 → EReal :=
  fun r k => v (ix3 ⟨r / S % B, Nat.mod_lt _ (NeZero.pos B)⟩ ⟨r % S, Nat.mod_lt _ (NeZero.pos S)⟩ k)

section
variable {B S : ℕ} [NeZero B] [NeZero S]

theorem fl_of (v : FVec Ideal ⟨3, ![B, S, 1024]⟩ .f32) (r : ℕ) (b : Fin B) (s : Fin S) (h : r = S * b + s) :
    fl B S v r = fun k => v (ix3 b s k) := by
  have hb : (⟨r / S % B, Nat.mod_lt _ (NeZero.pos B)⟩ : Fin B) = b := Fin.ext (by
    show r / S % B = b
    rw [h, Nat.mul_add_div (NeZero.pos S), Nat.div_eq_of_lt s.isLt, Nat.add_zero, Nat.mod_eq_of_lt b.isLt])
  have hs : (⟨r % S, Nat.mod_lt _ (NeZero.pos S)⟩ : Fin S) = s := Fin.ext (by
    show r % S = s
    rw [h, Nat.mul_add_mod, Nat.mod_eq_of_lt s.isLt])
  funext k
  unfold fl
  rw [hb, hs]

/-- rows normalised one by one -/
theorem nrm_of (X : FVec Ideal ⟨3, ![B, S, 1024]⟩ .f32) (g : Fin 1024 → EReal) (P : Fin B → Fin S → Fin 1024 → EReal)
    (hP : ∀ b s k, P b s k = rms (Ideal.ofBits .f32 0x44800000#32) (fun j => X (ix3 b s j)) g k) (b : Fin B) (s : Fin S) :
    P b s = nrm (fl B S X) g (S * b + s) := by
  funext k
  unfold nrm
  rw [hP, fl_of X _ b s rfl]

variable (H : ℕ → Fin 1024 → EReal) (X : FVec Ideal ⟨3, ![B, S, 1024]⟩ .f32) (P : Fin B → Fin S → Fin 1024 → EReal)
  (hP : ∀ b s, P b s = H (S * b + s))
include hP

theorem mv_of {p : ℕ} (W : Fin 1024 → Fin p → EReal) (b : Fin B) (s : Fin S) (c : Fin p) (r : ℕ) (h : r = S * b + s) :
    mv (P b s) W c = mv (H r) W c := by
  rw [hP, h]

/-- the feed-forward -/
theorem ffn_of (W : Fin 1024 → Fin 5632 → EReal) (cw : Fin 3 → Fin 5632 → EReal) (cb : Fin 5632 → EReal) (wd : Fin 2816 → Fin 1024 → EReal)
    (T C : Fin B → Fin S → Fin 5632 → EReal) (A : Fin B → Fin S → Fin 2816 → EReal)
    (hT : ∀ b s c, T b s c = mv (P b s) W c)
    (hC : ∀ b (s : Fin S) c, C b s c = (if h : (s : ℕ) = 0 then 0 else T b ⟨s - 1, by omega⟩ c) * cw 0 c + T b s c * cw 1 c
      + (if h : (s : ℕ) = S - 1 then 0 else T b ⟨s + 1, by omega⟩ c) * cw 2 c + cb c)
    (hA : ∀ b s (c : Fin 2816), A b s c = C b s ⟨c, by omega⟩ * Ideal.div 1 (1 + Ideal.exp (-(C b s ⟨c, by omega⟩))) * C b s ⟨2816 + c, by omega⟩)
    (b : Fin B) (s : Fin S) (e : Fin 1024) :
    X (ix3 b s e) + mv (A b s) wd e = ffnX S H (fl B S X) W cw cb wd (S * b + s) e := by
  have hm : (S * (b : ℕ) + s) % S = s := by rw [Nat.mul_add_mod, Nat.mod_eq_of_lt s.isLt]
  have hconv : ∀ c, C b s c = conv S H W cw cb (S * b + s) c := fun c => by
    unfold conv
    rw [hC, hm]
    have h0 : (if h : (s : ℕ) = 0 then (0 : EReal) else T b ⟨s - 1, by omega⟩ c) = if (s : ℕ) = 0 then 0 else mv (H (S * b + s - 1)) W c := by
      by_cases h : (s : ℕ) = 0
      · rw [dif_pos h, if_pos h]
      · rw [dif_neg h, if_neg h, hT, mv_of H P hP W b ⟨s - 1, by omega⟩ c (S * b + s - 1) (by show _ = S * (b : ℕ) + (s - 1); omega)]
    have h2 : (if h : (s : ℕ) = S - 1 then (0 : EReal) else T b ⟨s + 1, by omega⟩ c) = if (s : ℕ) = S - 1 then 0 else mv (H (S * b + s + 1)) W c := by
      by_cases h : (s : ℕ) = S - 1
      · rw [dif_pos h, if_pos h]
      · rw [dif_neg h, if_neg h, hT, mv_of H P hP W b ⟨s + 1, by omega⟩ c (S * b + s + 1) (by show _ = S * (b : ℕ) + (s + 1); omega)]
    rw [h0, h2, hT, mv_of H P hP W b s c (S * b + s) rfl]
  unfold ffnX
  rw [fl_of X _ b s rfl]
  refine congrArg₂ (· + ·) rfl (congrArg (fun z => mv z wd e) (funext fun c => ?_))
  unfold ffnA
  rw [hA, hconv, hconv]

/-- the spatial gating unit; a sequence is a whole number of blocks of 128 rows -/
theorem sgu_of (n : ℕ) (hS : S = 128 * n)
    (W : Fin 1024 → Fin 4096 → EReal) (vg : Fin 2048 → EReal) (ws : Fin 8 → Fin 128 → Fin 128 → EReal) (bs : Fin 128 → Fin 2048 → EReal)
    (wo : Fin 2048 → Fin 1024 → EReal) (T Z : Fin B → Fin S → Fin 4096 → EReal) (V Y : Fin B → Fin S → Fin 2048 → EReal)
    (hT : ∀ b s c, T b s c = mv (P b s) W c) (hZ : ∀ b s c, Z b s c = gelu (T b s c))
    (hV : ∀ b s c, V b s c = rms (Ideal.ofBits .f32 0x45000000#32) (fun j : Fin 2048 => Z b s ⟨2048 + j, by omega⟩) vg c)
    (hY : ∀ b (s : Fin S) (c : Fin 2048), Y b s c = Z b s ⟨c, by omega⟩ * ((∑ q : Fin 128, ws ⟨c / 256, by omega⟩ ⟨s % 128, by omega⟩ q * V b ⟨128 * (s / 128) + q, by omega⟩ c)
      + bs ⟨s % 128, by omega⟩ c))
    (b : Fin B) (s : Fin S) (e : Fin 1024) :
    X (ix3 b s e) + mv (Y b s) wo e = sguX H (fl B S X) W vg ws bs wo (S * b + s) e := by
  have hz : ∀ (s : Fin S) (r : ℕ) (h : r = S * b + s) c, Z b s c = sguZ H W r c := fun s r h c => by
    unfold sguZ
    rw [hZ, hT, mv_of H P hP W b s c r h]
  have hv : ∀ (s : Fin S) (r : ℕ) (h : r = S * b + s) c, V b s c = sguV H W vg r c := fun s r h c => by
    unfold sguV
    rw [hV]
    exact congrArg (fun z => rms (Ideal.ofBits .f32 0x45000000#32) z vg c) (funext fun j => hz s r h _)
  unfold sguX
  rw [fl_of X _ b s rfl]
  refine congrArg₂ (· + ·) rfl (congrArg (fun z => mv z wo e) (funext fun c => ?_))
  unfold sguY
  have e : S * (b : ℕ) = 128 * (n * b) := by rw [hS, Nat.mul_assoc]
  have hm : (⟨s % 128, by omega⟩ : Fin 128) = ⟨(S * b + s) % 128, by omega⟩ := Fin.ext (by show (s : ℕ) % 128 = (S * b + s) % 128; omega)
  rw [hY, hz s _ rfl, hm]
  refine congrArg₂ (· * ·) rfl (congrArg₂ (· + ·) (Finset.sum_congr rfl fun q _ => congrArg₂ (· * ·) rfl ?_) rfl)
  exact hv _ _ (by show 128 * ((S * (b : ℕ) + s) / 128) + q = S * b + (128 * (s / 128) + q); omega) c
end

section
variable (X : FVec Ideal ⟨3, ![8, 2048, 1024]⟩ .f32) (g : Fin 1024 → EReal) (P : Fin 8 → Fin 2048 → Fin 1024 → EReal)
  (hP : ∀ b s k, P b s k = rms (Ideal.ofBits .f32 0x44800000#32) (fun j => X (ix3 b s j)) g k)
include hP

/-- the attention -/
theorem att_of (W : Fin 1024 → Fin 1536 → EReal) (qg kg : Fin 64 → EReal) (wo : Fin 1024 → Fin 1024 → EReal)
    (co si : Fin 2048 → Fin 64 → EReal) (hco : ∀ s d, co s d = Ideal.cos (ang s d)) (hsi : ∀ s d, si s d = Ideal.sin (ang s d))
    (T : Fin 8 → Fin 2048 → Fin 1536 → EReal) (Q Qr : Fin 8 → Fin 2048 → Fin 16 → Fin 64 → EReal) (K Kr Vv : Fin 8 → Fin 2048 → Fin 4 → Fin 64 → EReal)
    (Sc E : Fin 8 → Fin 4 → Fin 4 → Fin 2048 → Fin 2048 → EReal) (O : Fin 8 → Fin 2048 → Fin 1024 → EReal)
    (hT : ∀ b s c, T b s c = mv (P b s) W c)
    (hQ : ∀ b s (h : Fin 16) d, Q b s h d = rms (Ideal.ofBits .f32 0x42800000#32) (fun j : Fin 64 => T b s ⟨h * 64 + j, by omega⟩) qg d)
    (hQr : ∀ b s h d, Qr b s h d = ropeR (Q b s h) (co s) (si s) d)
    (hK : ∀ b s (h : Fin 4) d, K b s h d = rms (Ideal.ofBits .f32 0x42800000#32) (fun j : Fin 64 => T b s ⟨1024 + (h * 64 + j), by omega⟩) kg d)
    (hKr : ∀ b s h d, Kr b s h d = ropeR (K b s h) (co s) (si s) d)
    (hV : ∀ b s (h : Fin 4) (d : Fin 64), Vv b s h d = T b s ⟨1280 + (h * 64 + d), by omega⟩)
    (hS : ∀ b (h g : Fin 4) r k, Sc b h g r k = (∑ d : Fin 64, Kr b k h d * Qr b r ⟨h * 4 + g, by omega⟩ d) * Ideal.ofBits .f32 0x3E000000#32)
    (hE : ∀ b h g r k, E b h g r k = Ideal.exp (Sc b h g r k - mx (Sc b h g r)))
    (hO : ∀ b s (c : Fin 1024), O b s c = ∑ k : Fin 2048, Vv b k ⟨c / 256, by omega⟩ ⟨c % 64, by omega⟩
      * Ideal.div (E b ⟨c / 256, by omega⟩ ⟨c / 64 % 4, by omega⟩ s k) (∑ k : Fin 2048, E b ⟨c / 256, by omega⟩ ⟨c / 64 % 4, by omega⟩ s k))
    (b : Fin 8) (s : Fin 2048) (e : Fin 1024) :
    X (ix3 b s e) + mv (O b s) wo e = xR (nrm (fl 8 2048 X) g) W qg kg (fl 8 2048 X) wo (2048 * b + s) e := by
  have ht : ∀ (s : Fin 2048) (r : ℕ) (h : r = 2048 * b + s) c, T b s c = mv (nrm (fl 8 2048 X) g r) W c := fun s r h c => by
    rw [hT, mv_of (nrm (fl 8 2048 X) g) P (nrm_of X g P hP) W b s c r h]
  have hc : ∀ (s : Fin 2048) (r : ℕ) (h : r = 2048 * b + s), co s = fun d => Ideal.cos (ang ⟨r % 2048, Nat.mod_lt _ (by decide)⟩ d) := fun s r h => funext fun d => by
    rw [hco]
    exact congrArg (fun z => Ideal.cos (ang z d)) (Fin.ext (by show (s : ℕ) = r % 2048; omega))
  have hs' : ∀ (s : Fin 2048) (r : ℕ) (h : r = 2048 * b + s), si s = fun d => Ideal.sin (ang ⟨r % 2048, Nat.mod_lt _ (by decide)⟩ d) := fun s r h => funext fun d => by
    rw [hsi]
    exact congrArg (fun z => Ideal.sin (ang z d)) (Fin.ext (by show (s : ℕ) = r % 2048; omega))
  have hq : ∀ (s : Fin 2048) (r : ℕ) (_ : r = 2048 * b + s) h d, Qr b s h d = qR (nrm (fl 8 2048 X) g) W qg h r d := fun s r hr h d => by
    unfold qR
    rw [hQr, hc s r hr, hs' s r hr]
    refine congrArg (fun z => ropeR z _ _ d) (funext fun d => ?_)
    rw [hQ]
    exact congrArg (fun z => rms _ z qg d) (funext fun j => ht s r hr _)
  have hk : ∀ (s : Fin 2048) (r : ℕ) (_ : r = 2048 * b + s) h d, Kr b s h d = kR (nrm (fl 8 2048 X) g) W kg h r d := fun s r hr h d => by
    unfold kR
    rw [hKr, hc s r hr, hs' s r hr]
    refine congrArg (fun z => ropeR z _ _ d) (funext fun d => ?_)
    rw [hK]
    exact congrArg (fun z => rms _ z kg d) (funext fun j => ht s r hr _)
  have hrow : ∀ k : Fin 2048, 2048 * ((2048 * (b : ℕ) + s) / 2048) + k = 2048 * b + k := fun k => by omega
  unfold xR
  rw [fl_of X _ b s rfl]
  refine congrArg₂ (· + ·) rfl (congrArg (fun z => mv z wo e) (funext fun c => ?_))
  have hsc : Sc b ⟨c / 256, by omega⟩ ⟨c / 64 % 4, by omega⟩ s = sR (nrm (fl 8 2048 X) g) W qg kg ⟨c / 64, by omega⟩ (2048 * b + s) := funext fun k => by
    unfold sR
    rw [hS, hrow]
    refine congrArg₂ (· * ·) (Finset.sum_congr rfl fun d _ => congrArg₂ (· * ·) ?_ ?_) rfl
    · rw [hk k _ rfl]
      exact congrArg (fun z => kR _ W kg z _ d) (Fin.ext (by show (c : ℕ) / 256 = c / 64 / 4; omega))
    · rw [hq s _ rfl]
      exact congrArg (fun z => qR _ W qg z _ d) (Fin.ext (by show (c : ℕ) / 256 * 4 + c / 64 % 4 = c / 64; omega))
  have he : E b ⟨c / 256, by omega⟩ ⟨c / 64 % 4, by omega⟩ s = pR (nrm (fl 8 2048 X) g) W qg kg ⟨c / 64, by omega⟩ (2048 * b + s) := funext fun k => by
    unfold pR
    rw [hE, hsc]
  rw [hO]
  simp only [he]
  unfold oR
  refine Finset.sum_congr rfl fun k _ => congrArg₂ (· * ·) ?_ rfl
  rw [hV, hrow]
  unfold vR
  rw [ht k _ rfl]
  exact congrArg (mv _ W) (Fin.ext (by show 1280 + ((c : ℕ) / 256 * 64 + c % 64) = 1280 + (c / 64 / 4 * 64 + c % 64); omega))
end

end Cert.M
end
-- ==== Proof.Cong.lean ====
module

public import proofs.«01_k».proof.Proof.ModelA
public import proofs.«01_k».proof.Proof.Stage

@[expose] public section

noncomputable section

open Idealize.ShloMosaic Idealize.ShloMosaic.TcCoe

/-! Arrays of flattened rows against arrays of sequences. -/
namespace Cert.M

section
variable {Q K V Q' K' V' : ℕ → ℕ → Fin 128 → EReal}
  (hQ : ∀ h r, h < 16 → r < 16384 → Q h r = Q' h r) (hK : ∀ h r, h < 4 → r < 16384 → K h r = K' h r) (hV : ∀ h r, h < 8 → r < 16384 → V h r = V' h r)

include hQ hK in
theorem att_s_congr (h r : ℕ) (hh : h < 16) (hr : r < 16384) : att_s Q K h r = att_s Q' K' h r := by
  funext κ
  unfold att_s
  rw [hQ h r hh hr, hK (h / 4) _ (by omega) (by omega)]

include hQ hK hV in
theorem att_pv_congr (h r : ℕ) (hh : h < 16) (hr : r < 16384) : att_pv Q K V h r = att_pv Q' K' V' h r := by
  funext e
  unfold att_pv
  rw [att_s_congr hQ hK h r hh hr]
  exact Finset.sum_congr rfl fun κ _ => by rw [hV _ (2048 * (r / 2048) + κ) (by omega) (by omega)]

include hQ hK hV in
/-- the attention at the batch's rows reads the packed arrays at their own planes and rows -/
theorem att_x_congr (X : ℕ → Fin 1024 → EReal) (wo : Fin 1024 → Fin 1024 → EReal) (r : ℕ) (hr : r < 16384) (e : Fin 1024) :
    att_x Q K V X wo r e = att_x Q' K' V' X wo r e := by
  unfold att_x
  refine congrArg₂ (· + ·) rfl (congrArg (fun z => mv z wo e) (funext fun c => ?_))
  unfold att_o
  rw [att_pv_congr hQ hK hV (2 * (c / 128)) r (by omega) hr, att_pv_congr hQ hK hV (2 * (c / 128) + 1) r (by omega) hr]
end

open Cert.KernelIdeal in
/-- an array of rows that holds a stack of sequences, one after the other -/
theorem rows_of {B S : ℕ} [NeZero B] [NeZero S] (hBS : S * B = 16384) {φ : FTy} (A : FVec Ideal S16384x1024 φ) (R : ℕ → Fin 1024 → EReal) (v : FVec Ideal ⟨3, ![B, S, 1024]⟩ .f32)
    (hA : A = fun i => R (i 0) (i 1)) (hR : ∀ (b : Fin B) (s : Fin S) (e : Fin 1024), v (ix3 b s e) = R (S * b + s) e) : rows A = fl B S v := by
  funext r k
  unfold rows fl
  rw [hA, hR]
  exact congrArg (fun z => R z k) (by show r % 16384 = S * (r / S % B) + r % S; rw [← hBS, Nat.mod_mul, Nat.add_comm])

open Cert.KernelIdeal in
/-- the same, each row normalised -/
theorem rows_nrm {B S : ℕ} [NeZero B] [NeZero S] (hBS : S * B = 16384) {φ : FTy} (A : FVec Ideal S16384x1024 φ) (R : ℕ → Fin 1024 → EReal) (g : Fin 1024 → EReal) (v : FVec Ideal ⟨3, ![B, S, 1024]⟩ .f32)
    (hA : A = fun i => nrm R g (i 0) (i 1)) (hR : ∀ (b : Fin B) (s : Fin S) (e : Fin 1024), v (ix3 b s e) = R (S * b + s) e) : rows A = nrm (fl B S v) g := by
  funext r k
  unfold rows
  rw [hA]
  unfold nrm
  have : R (r % 16384) = fl B S v r := funext fun j => by
    unfold fl
    rw [hR]
    exact congrArg (fun z => R z j) (by show r % 16384 = S * (r / S % B) + r % S; rw [← hBS, Nat.mod_mul, Nat.add_comm])
  exact congrArg (fun z => rms _ z g k) this

end Cert.M
end
-- ==== Proof.RefA.lean ====
module

public import proofs.«01_k».proof.Proof.Model
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe

/-! The reference's stages after the attention, read at an element. -/
namespace Cert.ReferenceIdeal.Ref
open Cert.ReferenceIdeal Cert.ReferenceIdeal.Gen Cert.ReferenceIdeal.Read

section
variable (x0 : (⟨S8x2048x1024, .f32⟩ : BufTy).Contents (Elt Ideal)) (x1 : (⟨S2x1024, .f32⟩ : BufTy).Contents (Elt Ideal)) (x2 : (⟨S2x1024, .f32⟩ : BufTy).Contents (Elt Ideal)) (x3 : (⟨S1x1024x1536, .f32⟩ : BufTy).Contents (Elt Ideal)) (x4 : (⟨S1x64, .f32⟩ : BufTy).Contents (Elt Ideal)) (x5 : (⟨S1x64, .f32⟩ : BufTy).Contents (Elt Ideal)) (x6 : (⟨S1x1024x1024, .f32⟩ : BufTy).Contents (Elt Ideal)) (x7 : (⟨S1x1024x4096, .f32⟩ : BufTy).Contents (Elt Ideal)) (x8 : (⟨S1x2048, .f32⟩ : BufTy).Contents (Elt Ideal)) (x9 : (⟨S1x8x128x128, .f32⟩ : BufTy).Contents (Elt Ideal)) (x10 : (⟨S1x8x128, .f32⟩ : BufTy).Contents (Elt Ideal)) (x11 : (⟨S1x2048x1024, .f32⟩ : BufTy).Contents (Elt Ideal)) (x12 : (⟨S2x1024x5632, .f32⟩ : BufTy).Contents (Elt Ideal)) (x13 : (⟨S2x3x5632, .f32⟩ : BufTy).Contents (Elt Ideal)) (x14 : (⟨S2x5632, .f32⟩ : BufTy).Contents (Elt Ideal)) (x15 : (⟨S2x2816x1024, .f32⟩ : BufTy).Contents (Elt Ideal))

theorem zero_word : (FloatOps.sitofp (F := Ideal) FTy.f32 (0#32) : EReal) = 0 := by
  show (((0#32 : BitVec 32).toInt : ℝ) : EReal) = 0
  simp

/-- one row of padding before a sequence: the row before row `s` -/
theorem pad_lo (s : Fin 2048) (f : ∀ n : ℕ, n < 2048 → EReal) :
    (if h : 1 ≤ (s : ℕ) ∧ (s : ℕ) - 1 < 2048 then f (s - 1) h.2 else (FloatOps.sitofp (F := Ideal) FTy.f32 (0#32) : EReal))
      = if h : (s : ℕ) = 0 then 0 else f (s - 1) (by omega) := by
  rw [zero_word]
  by_cases h : (s : ℕ) = 0
  · rw [dif_neg (by omega), dif_pos h]
  · rw [dif_pos ⟨by omega, by omega⟩, dif_neg h]

/-- one row of padding after a sequence: the row after row `s` -/
theorem pad_hi (s : Fin 2048) (f : ∀ n : ℕ, n < 2048 → EReal) :
    (if h : 1 ≤ 2 + (s : ℕ) ∧ 2 + (s : ℕ) - 1 < 2048 then f (2 + s - 1) h.2 else (FloatOps.sitofp (F := Ideal) FTy.f32 (0#32) : EReal))
      = if h : (s : ℕ) = 2047 then 0 else f (s + 1) (by omega) := by
  rw [zero_word]
  by_cases h : (s : ℕ) = 2047
  · rw [dif_neg (by omega), dif_pos h]
  · rw [dif_pos ⟨by omega, by omega⟩, dif_neg h]
    congr 1; omega

theorem v14_at (b : Fin 8) (s : Fin 2048) (k : Fin 1024) : (val_main_v14 (F := Ideal) x0 x1) (ix3 b s k)
    = M.rms (Ideal.ofBits .f32 0x44800000#32) (fun j => x0 (ix3 b s j)) (fun j => x1 (ix2 0 j)) k := by
  unfold M.rms
  pointwise [val_main_v14, val_main_v13, val_main_v12, val_main_v1, val_main_v0, val_main_v11, val_main_v10, val_main_v9, val_main_v8, val_main_v7, val_main_cst_1, val_main_v6, val_main_v5, val_main_cst_0, val_main_v4, val_main_v3, val_main_cst, val_main_v2]

theorem v156_at (b : Fin 8) (s : Fin 2048) (k : Fin 1024) : (val_main_v156 (F := Ideal) x0 x1 x2 x3 x4 x5 x6) (ix3 b s k)
    = M.rms (Ideal.ofBits .f32 0x44800000#32) (fun j => (val_main_v141 (F := Ideal) x0 x1 x3 x4 x5 x6) (ix3 b s j)) (fun j => x2 (ix2 0 j)) k := by
  unfold M.rms
  pointwise [val_main_v156, val_main_v155, val_main_v154, val_main_v143, val_main_v142, val_main_v153, val_main_v152, val_main_v151, val_main_v150, val_main_v149, val_main_cst_18, val_main_v148, val_main_v147, val_main_cst_17, val_main_v146, val_main_v145, val_main_cst_16, val_main_v144]

theorem v210_at (b : Fin 8) (s : Fin 2048) (k : Fin 1024) : (val_main_v210 (F := Ideal) x0 x1 x2 x3 x4 x5 x6 x12 x13 x14 x15) (ix3 b s k)
    = M.rms (Ideal.ofBits .f32 0x44800000#32) (fun j => (val_main_v195 (F := Ideal) x0 x1 x2 x3 x4 x5 x6 x12 x13 x14 x15) (ix3 b s j)) (fun j => x1 (ix2 1 j)) k := by
  unfold M.rms
  pointwise [val_main_v210, val_main_v209, val_main_v208, val_main_v197, val_main_v196, val_main_v207, val_main_v206, val_main_v205, val_main_v204, val_main_v203, val_main_cst_21, val_main_v202, val_main_v201, val_main_cst_20, val_main_v200, val_main_v199, val_main_cst_19, val_main_v198]

theorem v270_at (b : Fin 8) (s : Fin 2048) (k : Fin 1024) : (val_main_v270 (F := Ideal) x0 x1 x2 x3 x4 x5 x6 x7 x8 x9 x10 x11 x12 x13 x14 x15) (ix3 b s k)
    = M.rms (Ideal.ofBits .f32 0x44800000#32) (fun j => (val_main_v255 (F := Ideal) x0 x1 x2 x3 x4 x5 x6 x7 x8 x9 x10 x11 x12 x13 x14 x15) (ix3 b s j)) (fun j => x2 (ix2 1 j)) k := by
  unfold M.rms
  pointwise [val_main_v270, val_main_v269, val_main_v268, val_main_v257, val_main_v256, val_main_v267, val_main_v266, val_main_v265, val_main_v264, val_main_v263, val_main_cst_31, val_main_v262, val_main_v261, val_main_cst_30, val_main_v260, val_main_v259, val_main_cst_29, val_main_v258]

theorem v165_at (b : Fin 8) (s : Fin 2048) (c : Fin 5632) : (val_main_v165 (F := Ideal) x0 x1 x2 x3 x4 x5 x6 x12) (ix3 b s c)
    = M.mv (fun k => (val_main_v156 (F := Ideal) x0 x1 x2 x3 x4 x5 x6) (ix3 b s k)) (fun k c => x12 (ix3 0 k c)) c := by
  unfold M.mv
  pointwise [val_main_v165, val_main_v158, val_main_v157]

theorem v189_at (b : Fin 8) (s : Fin 2048) (c : Fin 5632) : (val_main_v189 (F := Ideal) x0 x1 x2 x3 x4 x5 x6 x12 x13 x14) (ix3 b s c)
    = (if h : (s : ℕ) = 0 then 0 else (val_main_v165 (F := Ideal) x0 x1 x2 x3 x4 x5 x6 x12) (ix3 b ⟨s - 1, by omega⟩ c)) * x13 (ix3 0 0 c) + (val_main_v165 (F := Ideal) x0 x1 x2 x3 x4 x5 x6 x12) (ix3 b s c) * x13 (ix3 0 1 c)
      + (if h : (s : ℕ) = 2047 then 0 else (val_main_v165 (F := Ideal) x0 x1 x2 x3 x4 x5 x6 x12) (ix3 b ⟨s + 1, by omega⟩ c)) * x13 (ix3 0 2 c) + x14 (ix2 0 c) := by
  pointwise [val_main_v189, val_main_v188, val_main_v187, val_main_v162, val_main_v161, val_main_v186, val_main_v185, val_main_v184, val_main_v183, val_main_v182, val_main_v181, val_main_v160, val_main_v159, val_main_v180, val_main_v166, val_main_call0_v0, val_main_c, val_main_v179, val_main_v178, val_main_v177, val_main_v176, val_main_v175, val_main_v174, val_main_v173, val_main_v172, val_main_v171, val_main_v170, val_main_v169, val_main_v168, val_main_v167]
  refine congrArg₂ (· + ·) (congrArg₂ (· + ·) (congrArg₂ (· + ·) (congrArg₂ (· * ·) (pad_lo s fun n hn => (val_main_v165 (F := Ideal) x0 x1 x2 x3 x4 x5 x6 x12) (ix3 b ⟨n, hn⟩ c)) rfl) rfl)
    (congrArg₂ (· * ·) (pad_hi s fun n hn => (val_main_v165 (F := Ideal) x0 x1 x2 x3 x4 x5 x6 x12) (ix3 b ⟨n, hn⟩ c)) rfl)) rfl

theorem v193_at (b : Fin 8) (s : Fin 2048) (c : Fin 2816) : (val_main_v193 (F := Ideal) x0 x1 x2 x3 x4 x5 x6 x12 x13 x14) (ix3 b s c)
    = (val_main_v189 (F := Ideal) x0 x1 x2 x3 x4 x5 x6 x12 x13 x14) (ix3 b s ⟨c, by omega⟩) * Ideal.div 1 (1 + Ideal.exp (-((val_main_v189 (F := Ideal) x0 x1 x2 x3 x4 x5 x6 x12 x13 x14) (ix3 b s ⟨c, by omega⟩)))) * (val_main_v189 (F := Ideal) x0 x1 x2 x3 x4 x5 x6 x12 x13 x14) (ix3 b s ⟨2816 + c, by omega⟩) := by
  pointwise [val_main_v193, val_main_v191, val_main_v192, val_main_call1_v5, val_main_call1_v3, val_main_call1_v1, val_main_call1_v0, val_main_v190, val_main_call1_v2, val_main_call1_cst, val_main_call1_v4, val_main_call1_cst_0]

theorem v195_at (b : Fin 8) (s : Fin 2048) (e : Fin 1024) : (val_main_v195 (F := Ideal) x0 x1 x2 x3 x4 x5 x6 x12 x13 x14 x15) (ix3 b s e)
    = (val_main_v141 (F := Ideal) x0 x1 x3 x4 x5 x6) (ix3 b s e) + M.mv (fun c => (val_main_v193 (F := Ideal) x0 x1 x2 x3 x4 x5 x6 x12 x13 x14) (ix3 b s c)) (fun c e => x15 (ix3 0 c e)) e := by
  unfold M.mv
  pointwise [val_main_v195, val_main_v194, val_main_v164, val_main_v163]

theorem v279_at (b : Fin 8) (s : Fin 2048) (c : Fin 5632) : (val_main_v279 (F := Ideal) x0 x1 x2 x3 x4 x5 x6 x7 x8 x9 x10 x11 x12 x13 x14 x15) (ix3 b s c)
    = M.mv (fun k => (val_main_v270 (F := Ideal) x0 x1 x2 x3 x4 x5 x6 x7 x8 x9 x10 x11 x12 x13 x14 x15) (ix3 b s k)) (fun k c => x12 (ix3 1 k c)) c := by
  unfold M.mv
  pointwise [val_main_v279, val_main_v272, val_main_v271]

theorem v303_at (b : Fin 8) (s : Fin 2048) (c : Fin 5632) : (val_main_v303 (F := Ideal) x0 x1 x2 x3 x4 x5 x6 x7 x8 x9 x10 x11 x12 x13 x14 x15) (ix3 b s c)
    = (if h : (s : ℕ) = 0 then 0 else (val_main_v279 (F := Ideal) x0 x1 x2 x3 x4 x5 x6 x7 x8 x9 x10 x11 x12 x13 x14 x15) (ix3 b ⟨s - 1, by omega⟩ c)) * x13 (ix3 1 0 c) + (val_main_v279 (F := Ideal) x0 x1 x2 x3 x4 x5 x6 x7 x8 x9 x10 x11 x12 x13 x14 x15) (ix3 b s c) * x13 (ix3 1 1 c)
      + (if h : (s : ℕ) = 2047 then 0 else (val_main_v279 (F := Ideal) x0 x1 x2 x3 x4 x5 x6 x7 x8 x9 x10 x11 x12 x13 x14 x15) (ix3 b ⟨s + 1, by omega⟩ c)) * x13 (ix3 1 2 c) + x14 (ix2 1 c) := by
  pointwise [val_main_v303, val_main_v302, val_main_v301, val_main_v276, val_main_v275, val_main_v300, val_main_v299, val_main_v298, val_main_v297, val_main_v296, val_main_v295, val_main_v274, val_main_v273, val_main_v294, val_main_v280, val_main_call2_v0, val_main_c_32, val_main_v293, val_main_v292, val_main_v291, val_main_v290, val_main_v289, val_main_v288, val_main_v287, val_main_v286, val_main_v285, val_main_v284, val_main_v283, val_main_v282, val_main_v281]
  refine congrArg₂ (· + ·) (congrArg₂ (· + ·) (congrArg₂ (· + ·) (congrArg₂ (· * ·) (pad_lo s fun n hn => (val_main_v279 (F := Ideal) x0 x1 x2 x3 x4 x5 x6 x7 x8 x9 x10 x11 x12 x13 x14 x15) (ix3 b ⟨n, hn⟩ c)) rfl) rfl)
    (congrArg₂ (· * ·) (pad_hi s fun n hn => (val_main_v279 (F := Ideal) x0 x1 x2 x3 x4 x5 x6 x7 x8 x9 x10 x11 x12 x13 x14 x15) (ix3 b ⟨n, hn⟩ c)) rfl)) rfl

theorem v307_at (b : Fin 8) (s : Fin 2048) (c : Fin 2816) : (val_main_v307 (F := Ideal) x0 x1 x2 x3 x4 x5 x6 x7 x8 x9 x10 x11 x12 x13 x14 x15) (ix3 b s c)
    = (val_main_v303 (F := Ideal) x0 x1 x2 x3 x4 x5 x6 x7 x8 x9 x10 x11 x12 x13 x14 x15) (ix3 b s ⟨c, by omega⟩) * Ideal.div 1 (1 + Ideal.exp (-((val_main_v303 (F := Ideal) x0 x1 x2 x3 x4 x5 x6 x7 x8 x9 x10 x11 x12 x13 x14 x15) (ix3 b s ⟨c, by omega⟩)))) * (val_main_v303 (F := Ideal) x0 x1 x2 x3 x4 x5 x6 x7 x8 x9 x10 x11 x12 x13 x14 x15) (ix3 b s ⟨2816 + c, by omega⟩) := by
  pointwise [val_main_v307, val_main_v305, val_main_v306, val_main_call3_v5, val_main_call3_v3, val_main_call3_v1, val_main_call3_v0, val_main_v304, val_main_call3_v2, val_main_call3_cst, val_main_call3_v4, val_main_call3_cst_0]

theorem v309_at (b : Fin 8) (s : Fin 2048) (e : Fin 1024) : (val_main_v309 (F := Ideal) x0 x1 x2 x3 x4 x5 x6 x7 x8 x9 x10 x11 x12 x13 x14 x15) (ix3 b s e)
    = (val_main_v255 (F := Ideal) x0 x1 x2 x3 x4 x5 x6 x7 x8 x9 x10 x11 x12 x13 x14 x15) (ix3 b s e) + M.mv (fun c => (val_main_v307 (F := Ideal) x0 x1 x2 x3 x4 x5 x6 x7 x8 x9 x10 x11 x12 x13 x14 x15) (ix3 b s c)) (fun c e => x15 (ix3 1 c e)) e := by
  unfold M.mv
  pointwise [val_main_v309, val_main_v308, val_main_v278, val_main_v277]

end

end Cert.ReferenceIdeal.Ref
end
-- ==== Proof.RefB.lean ====
module

public import proofs.«01_k».proof.Proof.Model
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe

/-! The reference's spatial gating unit, read at an element. -/
namespace Cert.ReferenceIdeal.Ref
open Cert.ReferenceIdeal Cert.ReferenceIdeal.Gen Cert.ReferenceIdeal.Read

section
variable (x0 : (⟨S8x2048x1024, .f32⟩ : BufTy).Contents (Elt Ideal)) (x1 : (⟨S2x1024, .f32⟩ : BufTy).Contents (Elt Ideal)) (x2 : (⟨S2x1024, .f32⟩ : BufTy).Contents (Elt Ideal)) (x3 : (⟨S1x1024x1536, .f32⟩ : BufTy).Contents (Elt Ideal)) (x4 : (⟨S1x64, .f32⟩ : BufTy).Contents (Elt Ideal)) (x5 : (⟨S1x64, .f32⟩ : BufTy).Contents (Elt Ideal)) (x6 : (⟨S1x1024x1024, .f32⟩ : BufTy).Contents (Elt Ideal)) (x7 : (⟨S1x1024x4096, .f32⟩ : BufTy).Contents (Elt Ideal)) (x8 : (⟨S1x2048, .f32⟩ : BufTy).Contents (Elt Ideal)) (x9 : (⟨S1x8x128x128, .f32⟩ : BufTy).Contents (Elt Ideal)) (x10 : (⟨S1x8x128, .f32⟩ : BufTy).Contents (Elt Ideal)) (x11 : (⟨S1x2048x1024, .f32⟩ : BufTy).Contents (Elt Ideal)) (x12 : (⟨S2x1024x5632, .f32⟩ : BufTy).Contents (Elt Ideal)) (x13 : (⟨S2x3x5632, .f32⟩ : BufTy).Contents (Elt Ideal)) (x14 : (⟨S2x5632, .f32⟩ : BufTy).Contents (Elt Ideal)) (x15 : (⟨S2x2816x1024, .f32⟩ : BufTy).Contents (Elt Ideal))

theorem v216_at (b : Fin 8) (s : Fin 2048) (c : Fin 4096) : (val_main_v216 (F := Ideal) x0 x1 x2 x3 x4 x5 x6 x7 x12 x13 x14 x15) (ix3 b s c)
    = M.mv (fun k => (val_main_v210 (F := Ideal) x0 x1 x2 x3 x4 x5 x6 x12 x13 x14 x15) (ix3 b s k)) (fun k c => x7 (ix3 0 k c)) c := by
  unfold M.mv
  pointwise [val_main_v216, val_main_v211]

theorem v229_at (b : Fin 8) (s : Fin 2048) (c : Fin 4096) : (val_main_v229 (F := Ideal) x0 x1 x2 x3 x4 x5 x6 x7 x12 x13 x14 x15) (ix3 b s c) = M.gelu ((val_main_v216 (F := Ideal) x0 x1 x2 x3 x4 x5 x6 x7 x12 x13 x14 x15) (ix3 b s c)) := by
  unfold M.gelu
  pointwise [val_main_v229, val_main_v228, val_main_v226, val_main_v224, val_main_v223, val_main_v221, val_main_v220, val_main_v218, val_main_v217, val_main_v219, val_main_cst_22, val_main_v222, val_main_cst_23, val_main_v225, val_main_cst_24, val_main_v227, val_main_cst_25]
  exact (mul_left_comm _ _ _).trans (mul_assoc _ _ _).symm

theorem v244_at (b : Fin 8) (s : Fin 2048) (c : Fin 2048) : (val_main_v244 (F := Ideal) x0 x1 x2 x3 x4 x5 x6 x7 x8 x12 x13 x14 x15) (ix3 b s c)
    = M.rms (Ideal.ofBits .f32 0x45000000#32) (fun j : Fin 2048 => (val_main_v229 (F := Ideal) x0 x1 x2 x3 x4 x5 x6 x7 x12 x13 x14 x15) (ix3 b s ⟨2048 + j, by omega⟩)) (fun j => x8 (ix2 0 j)) c := by
  unfold M.rms
  pointwise [val_main_v244, val_main_v243, val_main_v242, val_main_v212, val_main_v241, val_main_v240, val_main_v239, val_main_v238, val_main_v237, val_main_cst_28, val_main_v236, val_main_v235, val_main_cst_27, val_main_v234, val_main_v233, val_main_cst_26, val_main_v232, val_main_v231]

theorem v253_at (b : Fin 8) (s : Fin 2048) (c : Fin 2048) : (val_main_v253 (F := Ideal) x0 x1 x2 x3 x4 x5 x6 x7 x8 x9 x10 x12 x13 x14 x15) (ix3 b s c)
    = (val_main_v229 (F := Ideal) x0 x1 x2 x3 x4 x5 x6 x7 x12 x13 x14 x15) (ix3 b s ⟨c, by omega⟩) * ((∑ q : Fin 128, x9 (ix4 0 ⟨c / 256, by omega⟩ ⟨s % 128, by omega⟩ q) * (val_main_v244 (F := Ideal) x0 x1 x2 x3 x4 x5 x6 x7 x8 x12 x13 x14 x15) (ix3 b ⟨128 * (s / 128) + q, by omega⟩ c))
      + x10 (ix3 0 ⟨c / 256, by omega⟩ ⟨s % 128, by omega⟩)) := by
  pointwise [val_main_v253, val_main_v252, val_main_v251, val_main_v250, val_main_v249, val_main_v248, val_main_v214, val_main_v247, val_main_v246, val_main_v213, val_main_v245, val_main_v230]
  refine congrArg₂ (· * ·) rfl (congrArg₂ (· + ·) (Finset.sum_congr rfl fun q _ => ?_) rfl)
  exact (mul_comm _ _).trans (congrArg₂ (· * ·) rfl (congrArg (val_main_v244 (F := Ideal) x0 x1 x2 x3 x4 x5 x6 x7 x8 x12 x13 x14 x15) (congrArg (fun z => ix3 b z c) (Fin.ext (by show (s : ℕ) / 128 * 128 + q = 128 * (s / 128) + q; omega)))))

theorem v255_at (b : Fin 8) (s : Fin 2048) (e : Fin 1024) : (val_main_v255 (F := Ideal) x0 x1 x2 x3 x4 x5 x6 x7 x8 x9 x10 x11 x12 x13 x14 x15) (ix3 b s e)
    = (val_main_v195 (F := Ideal) x0 x1 x2 x3 x4 x5 x6 x12 x13 x14 x15) (ix3 b s e) + M.mv (fun c => (val_main_v253 (F := Ideal) x0 x1 x2 x3 x4 x5 x6 x7 x8 x9 x10 x12 x13 x14 x15) (ix3 b s c)) (fun c e => x11 (ix3 0 c e)) e := by
  unfold M.mv
  pointwise [val_main_v255, val_main_v254, val_main_v215]

end

end Cert.ReferenceIdeal.Ref
end
-- ==== Proof.RefQ.lean ====
module

public import proofs.«01_k».proof.Proof.ModelR
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe

/-! The reference's attention, read at an element. -/
namespace Cert.ReferenceIdeal.Ref
open Cert.ReferenceIdeal Cert.ReferenceIdeal.Gen Cert.ReferenceIdeal.Read

section
variable (x0 : (⟨S8x2048x1024, .f32⟩ : BufTy).Contents (Elt Ideal)) (x1 : (⟨S2x1024, .f32⟩ : BufTy).Contents (Elt Ideal)) (x2 : (⟨S2x1024, .f32⟩ : BufTy).Contents (Elt Ideal)) (x3 : (⟨S1x1024x1536, .f32⟩ : BufTy).Contents (Elt Ideal)) (x4 : (⟨S1x64, .f32⟩ : BufTy).Contents (Elt Ideal)) (x5 : (⟨S1x64, .f32⟩ : BufTy).Contents (Elt Ideal)) (x6 : (⟨S1x1024x1024, .f32⟩ : BufTy).Contents (Elt Ideal)) (x7 : (⟨S1x1024x4096, .f32⟩ : BufTy).Contents (Elt Ideal)) (x8 : (⟨S1x2048, .f32⟩ : BufTy).Contents (Elt Ideal)) (x9 : (⟨S1x8x128x128, .f32⟩ : BufTy).Contents (Elt Ideal)) (x10 : (⟨S1x8x128, .f32⟩ : BufTy).Contents (Elt Ideal)) (x11 : (⟨S1x2048x1024, .f32⟩ : BufTy).Contents (Elt Ideal)) (x12 : (⟨S2x1024x5632, .f32⟩ : BufTy).Contents (Elt Ideal)) (x13 : (⟨S2x3x5632, .f32⟩ : BufTy).Contents (Elt Ideal)) (x14 : (⟨S2x5632, .f32⟩ : BufTy).Contents (Elt Ideal)) (x15 : (⟨S2x2816x1024, .f32⟩ : BufTy).Contents (Elt Ideal))

theorem v52_at (b : Fin 8) (s : Fin 2048) (c : Fin 1536) : (val_main_v52 (F := Ideal) x0 x1 x3) (ix3 b s c)
    = M.mv (fun k => (val_main_v14 (F := Ideal) x0 x1) (ix3 b s k)) (fun k c => x3 (ix3 0 k c)) c := by
  unfold M.mv
  pointwise [val_main_v52, val_main_v15]

theorem v71_at (b : Fin 8) (s : Fin 2048) (h : Fin 16) (d : Fin 64) : (val_main_v71 (F := Ideal) x0 x1 x3 x4) (ix4 b s h d)
    = M.rms (Ideal.ofBits .f32 0x42800000#32) (fun j : Fin 64 => (val_main_v52 (F := Ideal) x0 x1 x3) (ix3 b s ⟨h * 64 + j, by omega⟩)) (fun j => x4 (ix2 0 j)) d := by
  unfold M.rms
  pointwise [val_main_v71, val_main_v70, val_main_v69, val_main_v16, val_main_v68, val_main_v67, val_main_v66, val_main_v65, val_main_v64, val_main_cst_8, val_main_v63, val_main_v62, val_main_cst_7, val_main_v61, val_main_v60, val_main_cst_6, val_main_v59, val_main_v54, val_main_v53]

theorem v102_at (b : Fin 8) (s : Fin 2048) (h : Fin 4) (d : Fin 64) : (val_main_v102 (F := Ideal) x0 x1 x3 x5) (ix4 b s h d)
    = M.rms (Ideal.ofBits .f32 0x42800000#32) (fun j : Fin 64 => (val_main_v52 (F := Ideal) x0 x1 x3) (ix3 b s ⟨1024 + (h * 64 + j), by omega⟩)) (fun j => x5 (ix2 0 j)) d := by
  unfold M.rms
  pointwise [val_main_v102, val_main_v101, val_main_v100, val_main_v17, val_main_v99, val_main_v98, val_main_v97, val_main_v96, val_main_v95, val_main_cst_11, val_main_v94, val_main_v93, val_main_cst_10, val_main_v92, val_main_v91, val_main_cst_9, val_main_v90, val_main_v56, val_main_v55]

theorem v58_at (b : Fin 8) (s : Fin 2048) (h : Fin 4) (d : Fin 64) : (val_main_v58 (F := Ideal) x0 x1 x3) (ix4 b s h d)
    = (val_main_v52 (F := Ideal) x0 x1 x3) (ix3 b s ⟨1280 + (h * 64 + d), by omega⟩) := by
  pointwise [val_main_v58, val_main_v57]

theorem v50_at (s : Fin 2048) (d : Fin 64) : (val_main_v50 (F := Ideal) ) (ix2 s d) = Ideal.cos (M.ang s d) := by
  have hd := d.isLt
  pointwise [val_main_v50, val_main_v49, val_main_v48, val_main_v47, val_main_v45, val_main_v36, val_main_v34, val_main_v33, val_main_cst_4, val_main_v32, val_main_v31, val_main_v29, val_main_v27, val_main_v28, val_main_cst_2, val_main_v30, val_main_cst_3, val_main_v35, val_main_cst_5, val_main_v46, val_main_v44, val_main_v43, val_main_v26, val_main_v25, val_main_v24, val_main_v23, val_main_v42, val_main_v41, val_main_v39, val_main_v40, val_main_v38, val_main_v37, val_main_v22, val_main_v21, val_main_v20, val_main_v19]
  refine congrArg _ ?_
  unfold M.ang
  rw [zero_add]
  by_cases h1 : (d : ℕ) < 16
  · rw [dif_pos h1, if_pos (by omega), show (d : ℕ) % 16 = d by omega]
  · by_cases h2 : (d : ℕ) - 16 < 16
    · rw [dif_neg h1, dif_pos h2, if_pos (by omega), show (d : ℕ) % 16 = d - 16 by omega]
    · by_cases h3 : (d : ℕ) - 16 - 16 < 16
      · rw [dif_neg h1, dif_neg h2, dif_pos h3, if_neg (by omega), show (d : ℕ) % 16 = d - 16 - 16 by omega]
      · rw [dif_neg h1, dif_neg h2, dif_neg h3, if_neg (by omega), show (d : ℕ) % 16 = d - 16 - 16 - 16 by omega]

theorem v51_at (s : Fin 2048) (d : Fin 64) : (val_main_v51 (F := Ideal) ) (ix2 s d) = Ideal.sin (M.ang s d) := by
  have hd := d.isLt
  pointwise [val_main_v51, val_main_v49, val_main_v48, val_main_v47, val_main_v45, val_main_v36, val_main_v34, val_main_v33, val_main_cst_4, val_main_v32, val_main_v31, val_main_v29, val_main_v27, val_main_v28, val_main_cst_2, val_main_v30, val_main_cst_3, val_main_v35, val_main_cst_5, val_main_v46, val_main_v44, val_main_v43, val_main_v26, val_main_v25, val_main_v24, val_main_v23, val_main_v42, val_main_v41, val_main_v39, val_main_v40, val_main_v38, val_main_v37, val_main_v22, val_main_v21, val_main_v20, val_main_v19]
  refine congrArg _ ?_
  unfold M.ang
  rw [zero_add]
  by_cases h1 : (d : ℕ) < 16
  · rw [dif_pos h1, if_pos (by omega), show (d : ℕ) % 16 = d by omega]
  · by_cases h2 : (d : ℕ) - 16 < 16
    · rw [dif_neg h1, dif_pos h2, if_pos (by omega), show (d : ℕ) % 16 = d - 16 by omega]
    · by_cases h3 : (d : ℕ) - 16 - 16 < 16
      · rw [dif_neg h1, dif_neg h2, dif_pos h3, if_neg (by omega), show (d : ℕ) % 16 = d - 16 - 16 by omega]
      · rw [dif_neg h1, dif_neg h2, dif_neg h3, if_neg (by omega), show (d : ℕ) % 16 = d - 16 - 16 - 16 by omega]

theorem v89_at (b : Fin 8) (s : Fin 2048) (h : Fin 16) (d : Fin 64) : (val_main_v89 (F := Ideal) x0 x1 x3 x4) (ix4 b s h d)
    = M.ropeR (fun d => (val_main_v71 (F := Ideal) x0 x1 x3 x4) (ix4 b s h d)) (fun d => (val_main_v50 (F := Ideal) ) (ix2 s d)) (fun d => (val_main_v51 (F := Ideal) ) (ix2 s d)) d := by
  unfold M.ropeR
  pointwise [val_main_v89, val_main_v88, val_main_v87, val_main_v86, val_main_v82, val_main_v81, val_main_v78, val_main_v77, val_main_v80, val_main_v79, val_main_v76, val_main_v73, val_main_v72, val_main_v75, val_main_v74, val_main_v85, val_main_v84, val_main_v83]
  refine congrArg₂ (· + ·) rfl (congrArg₂ (· * ·) ?_ rfl)
  by_cases h1 : (d : ℕ) < 32
  · by_cases h2 : (d : ℕ) < 16
    · rw [dif_pos h1, dif_pos h2, dif_pos (by omega)]
      exact congrArg (fun z => -(val_main_v71 (F := Ideal) x0 x1 x3 x4) (ix4 b s h z)) (Fin.ext (Nat.add_comm 16 d))
    · rw [dif_pos h1, dif_neg h2, dif_neg (by omega)]
  · by_cases h2 : (d : ℕ) - 32 < 16
    · rw [dif_neg h1, dif_pos h2, dif_pos (by omega)]
      exact congrArg (fun z => -(val_main_v71 (F := Ideal) x0 x1 x3 x4) (ix4 b s h z)) (Fin.ext (by show 32 + (16 + ((d : ℕ) - 32)) = d + 16; omega))
    · rw [dif_neg h1, dif_neg h2, dif_neg (by omega)]
      exact congrArg (fun z => (val_main_v71 (F := Ideal) x0 x1 x3 x4) (ix4 b s h z)) (Fin.ext (by show 32 + ((d : ℕ) - 32 - 16) = d - 16; omega))

theorem v120_at (b : Fin 8) (s : Fin 2048) (h : Fin 4) (d : Fin 64) : (val_main_v120 (F := Ideal) x0 x1 x3 x5) (ix4 b s h d)
    = M.ropeR (fun d => (val_main_v102 (F := Ideal) x0 x1 x3 x5) (ix4 b s h d)) (fun d => (val_main_v50 (F := Ideal) ) (ix2 s d)) (fun d => (val_main_v51 (F := Ideal) ) (ix2 s d)) d := by
  unfold M.ropeR
  pointwise [val_main_v120, val_main_v119, val_main_v118, val_main_v117, val_main_v113, val_main_v112, val_main_v109, val_main_v108, val_main_v111, val_main_v110, val_main_v107, val_main_v104, val_main_v103, val_main_v106, val_main_v105, val_main_v116, val_main_v115, val_main_v114]
  refine congrArg₂ (· + ·) rfl (congrArg₂ (· * ·) ?_ rfl)
  by_cases h1 : (d : ℕ) < 32
  · by_cases h2 : (d : ℕ) < 16
    · rw [dif_pos h1, dif_pos h2, dif_pos (by omega)]
      exact congrArg (fun z => -(val_main_v102 (F := Ideal) x0 x1 x3 x5) (ix4 b s h z)) (Fin.ext (Nat.add_comm 16 d))
    · rw [dif_pos h1, dif_neg h2, dif_neg (by omega)]
  · by_cases h2 : (d : ℕ) - 32 < 16
    · rw [dif_neg h1, dif_pos h2, dif_pos (by omega)]
      exact congrArg (fun z => -(val_main_v102 (F := Ideal) x0 x1 x3 x5) (ix4 b s h z)) (Fin.ext (by show 32 + (16 + ((d : ℕ) - 32)) = d + 16; omega))
    · rw [dif_neg h1, dif_neg h2, dif_neg (by omega)]
      exact congrArg (fun z => (val_main_v102 (F := Ideal) x0 x1 x3 x5) (ix4 b s h z)) (Fin.ext (by show 32 + ((d : ℕ) - 32 - 16) = d - 16; omega))

end

end Cert.ReferenceIdeal.Ref
end
-- ==== Proof.RefQ2.lean ====
module

public import proofs.«01_k».proof.Proof.ModelR
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe

/-! The reference's attention, read at an element. -/
namespace Cert.ReferenceIdeal.Ref
open Cert.ReferenceIdeal Cert.ReferenceIdeal.Gen Cert.ReferenceIdeal.Read

section
variable (x0 : (⟨S8x2048x1024, .f32⟩ : BufTy).Contents (Elt Ideal)) (x1 : (⟨S2x1024, .f32⟩ : BufTy).Contents (Elt Ideal)) (x2 : (⟨S2x1024, .f32⟩ : BufTy).Contents (Elt Ideal)) (x3 : (⟨S1x1024x1536, .f32⟩ : BufTy).Contents (Elt Ideal)) (x4 : (⟨S1x64, .f32⟩ : BufTy).Contents (Elt Ideal)) (x5 : (⟨S1x64, .f32⟩ : BufTy).Contents (Elt Ideal)) (x6 : (⟨S1x1024x1024, .f32⟩ : BufTy).Contents (Elt Ideal)) (x7 : (⟨S1x1024x4096, .f32⟩ : BufTy).Contents (Elt Ideal)) (x8 : (⟨S1x2048, .f32⟩ : BufTy).Contents (Elt Ideal)) (x9 : (⟨S1x8x128x128, .f32⟩ : BufTy).Contents (Elt Ideal)) (x10 : (⟨S1x8x128, .f32⟩ : BufTy).Contents (Elt Ideal)) (x11 : (⟨S1x2048x1024, .f32⟩ : BufTy).Contents (Elt Ideal)) (x12 : (⟨S2x1024x5632, .f32⟩ : BufTy).Contents (Elt Ideal)) (x13 : (⟨S2x3x5632, .f32⟩ : BufTy).Contents (Elt Ideal)) (x14 : (⟨S2x5632, .f32⟩ : BufTy).Contents (Elt Ideal)) (x15 : (⟨S2x2816x1024, .f32⟩ : BufTy).Contents (Elt Ideal))

theorem v125_at (b : Fin 8) (h : Fin 4) (g : Fin 4) (r k : Fin 2048) : (val_main_v125 (F := Ideal) x0 x1 x3 x4 x5) (ix5 b h g r k)
    = (∑ d : Fin 64, (val_main_v120 (F := Ideal) x0 x1 x3 x5) (ix4 b k h d) * (val_main_v89 (F := Ideal) x0 x1 x3 x4) (ix4 b r ⟨h * 4 + g, by omega⟩ d)) * Ideal.ofBits .f32 0x3E000000#32 := by
  pointwise [val_main_v125, val_main_v124, val_main_cst_12, val_main_v123, val_main_v122, val_main_v121]

theorem fold5 {n0 n1 n2 n3 n4 : ℕ} (v : FVec Ideal ⟨5, ![n0, n1, n2, n3, n4]⟩ .f32) {u : Shape} (c : FVec Ideal u .f32)
    (h : (⟨5, ![n0, n1, n2, n3, n4]⟩ : Shape).ReducesTo [4] ⟨4, ![n0, n1, n2, n3]⟩) (hu : 0 < u.numel) (hc : c (Shape.Idx.first hu) = ⊥)
    (a : Fin n0) (b : Fin n1) (d : Fin n2) (e : Fin n3) :
    Host.reduce FloatOps.maximumf v c h hu (ix4 a b d e) = M.mx fun k : Fin n4 => v (ix5 a b d e k) := by
  unfold M.mx
  rw [← hc]
  simp only [pointwise]

theorem bot_word : Ideal.ofBits .f32 0xFF800000#32 = ⊥ := by simp [Ideal.ofBits, Ideal.ieee]

theorem cst13 : val_main_cst_13 (F := Ideal) (Shape.Idx.first h_S_) = ⊥ := bot_word

theorem v126_at (b : Fin 8) (h : Fin 4) (g : Fin 4) (r : Fin 2048) : (val_main_v126 (F := Ideal) x0 x1 x3 x4 x5) (ix4 b h g r)
    = M.mx fun k : Fin 2048 => (val_main_v125 (F := Ideal) x0 x1 x3 x4 x5) (ix5 b h g r k) :=
  fold5 (val_main_v125 (F := Ideal) x0 x1 x3 x4 x5) (val_main_cst_13 (F := Ideal)) reducesTo_S8x4x4x2048x2048_S8x4x4x2048_d4 h_S_ cst13 b h g r

theorem v128_at (b : Fin 8) (h : Fin 4) (g : Fin 4) (r : Fin 2048) : (val_main_v128 (F := Ideal) x0 x1 x3 x4 x5) (ix4 b h g r) = (val_main_v126 (F := Ideal) x0 x1 x3 x4 x5) (ix4 b h g r) := by
  rw [val_main_v128_apply, val_main_v127_apply, val_main_cst_14_apply]
  generalize (val_main_v126 (F := Ideal) x0 x1 x3 x4 x5) (ix4 b h g r) = y
  exact (congrArg (fun z => max z y) bot_word).trans (max_eq_right bot_le)

theorem v132_at (b : Fin 8) (h : Fin 4) (g : Fin 4) (r k : Fin 2048) : (val_main_v132 (F := Ideal) x0 x1 x3 x4 x5) (ix5 b h g r k)
    = Ideal.exp ((val_main_v125 (F := Ideal) x0 x1 x3 x4 x5) (ix5 b h g r k) - (val_main_v128 (F := Ideal) x0 x1 x3 x4 x5) (ix4 b h g r)) := by
  pointwise [val_main_v132, val_main_v131, val_main_v130, val_main_v129]

theorem v139_at (b : Fin 8) (s : Fin 2048) (c : Fin 1024) : (val_main_v139 (F := Ideal) x0 x1 x3 x4 x5) (ix3 b s c)
    = ∑ k : Fin 2048, (val_main_v58 (F := Ideal) x0 x1 x3) (ix4 b k ⟨c / 256, by omega⟩ ⟨c % 64, by omega⟩) * Ideal.div ((val_main_v132 (F := Ideal) x0 x1 x3 x4 x5) (ix5 b ⟨c / 256, by omega⟩ ⟨c / 64 % 4, by omega⟩ s k))
        (∑ k : Fin 2048, (val_main_v132 (F := Ideal) x0 x1 x3 x4 x5) (ix5 b ⟨c / 256, by omega⟩ ⟨c / 64 % 4, by omega⟩ s k)) := by
  pointwise [val_main_v139, val_main_v138, val_main_v137, val_main_v136, val_main_v135, val_main_v134, val_main_v133, val_main_cst_15]

theorem v141_at (b : Fin 8) (s : Fin 2048) (e : Fin 1024) : (val_main_v141 (F := Ideal) x0 x1 x3 x4 x5 x6) (ix3 b s e)
    = x0 (ix3 b s e) + M.mv (fun c => (val_main_v139 (F := Ideal) x0 x1 x3 x4 x5) (ix3 b s c)) (fun c e => x6 (ix3 0 c e)) e := by
  unfold M.mv
  pointwise [val_main_v141, val_main_v140, val_main_v18]

end

end Cert.ReferenceIdeal.Ref
end
-- ==== Proof.RefStage.lean ====
module

public import proofs.«01_k».proof.Proof.RefA
public import proofs.«01_k».proof.Proof.RefB
public import proofs.«01_k».proof.Proof.RefQ
public import proofs.«01_k».proof.Proof.RefQ2
public import proofs.«01_k».proof.Proof.Stage

@[expose] public section

set_option maxRecDepth 16384

noncomputable section

open Idealize.ShloMosaic Idealize.ShloMosaic.TcCoe

/-! The reference's four residual streams as the model's functions of the rows. -/
namespace Cert.ReferenceIdeal.Ref
open Cert.ReferenceIdeal Cert.ReferenceIdeal.Gen Cert.ReferenceIdeal.Read

section
variable (x0 : (⟨S8x2048x1024, .f32⟩ : BufTy).Contents (Elt Ideal)) (x1 : (⟨S2x1024, .f32⟩ : BufTy).Contents (Elt Ideal)) (x2 : (⟨S2x1024, .f32⟩ : BufTy).Contents (Elt Ideal)) (x3 : (⟨S1x1024x1536, .f32⟩ : BufTy).Contents (Elt Ideal)) (x4 : (⟨S1x64, .f32⟩ : BufTy).Contents (Elt Ideal)) (x5 : (⟨S1x64, .f32⟩ : BufTy).Contents (Elt Ideal)) (x6 : (⟨S1x1024x1024, .f32⟩ : BufTy).Contents (Elt Ideal)) (x7 : (⟨S1x1024x4096, .f32⟩ : BufTy).Contents (Elt Ideal)) (x8 : (⟨S1x2048, .f32⟩ : BufTy).Contents (Elt Ideal)) (x9 : (⟨S1x8x128x128, .f32⟩ : BufTy).Contents (Elt Ideal)) (x10 : (⟨S1x8x128, .f32⟩ : BufTy).Contents (Elt Ideal)) (x11 : (⟨S1x2048x1024, .f32⟩ : BufTy).Contents (Elt Ideal)) (x12 : (⟨S2x1024x5632, .f32⟩ : BufTy).Contents (Elt Ideal)) (x13 : (⟨S2x3x5632, .f32⟩ : BufTy).Contents (Elt Ideal)) (x14 : (⟨S2x5632, .f32⟩ : BufTy).Contents (Elt Ideal)) (x15 : (⟨S2x2816x1024, .f32⟩ : BufTy).Contents (Elt Ideal))

/-- the stream after the attention -/
theorem v141_st (b : Fin 8) (s : Fin 2048) (e : Fin 1024) : (val_main_v141 (F := Ideal) x0 x1 x3 x4 x5 x6) (ix3 b s e)
    = M.xR (M.nrm (M.fl 8 2048 x0) (fun j => x1 (ix2 0 j))) (fun k c => x3 (ix3 0 k c)) (fun d => x4 (ix2 0 d)) (fun d => x5 (ix2 0 d)) (M.fl 8 2048 x0)
      (fun c e => x6 (ix3 0 c e)) (2048 * b + s) e := by
  rw [v141_at]
  exact M.att_of x0 _ (fun b s k => val_main_v14 (F := Ideal) x0 x1 (ix3 b s k)) (v14_at x0 x1) _ _ _ _
    (fun s d => val_main_v50 (F := Ideal) (ix2 s d)) (fun s d => val_main_v51 (F := Ideal) (ix2 s d)) v50_at v51_at
    (fun b s c => val_main_v52 (F := Ideal) x0 x1 x3 (ix3 b s c))
    (fun b s h d => val_main_v71 (F := Ideal) x0 x1 x3 x4 (ix4 b s h d)) (fun b s h d => val_main_v89 (F := Ideal) x0 x1 x3 x4 (ix4 b s h d))
    (fun b s h d => val_main_v102 (F := Ideal) x0 x1 x3 x5 (ix4 b s h d)) (fun b s h d => val_main_v120 (F := Ideal) x0 x1 x3 x5 (ix4 b s h d))
    (fun b s h d => val_main_v58 (F := Ideal) x0 x1 x3 (ix4 b s h d))
    (fun b h g r k => val_main_v125 (F := Ideal) x0 x1 x3 x4 x5 (ix5 b h g r k)) (fun b h g r k => val_main_v132 (F := Ideal) x0 x1 x3 x4 x5 (ix5 b h g r k))
    (fun b s c => val_main_v139 (F := Ideal) x0 x1 x3 x4 x5 (ix3 b s c))
    (v52_at x0 x1 x3) (v71_at x0 x1 x3 x4) (v89_at x0 x1 x3 x4) (v102_at x0 x1 x3 x5) (v120_at x0 x1 x3 x5) (v58_at x0 x1 x3)
    (v125_at x0 x1 x3 x4 x5) (fun b h g r k => by rw [v132_at, v128_at, v126_at]) (v139_at x0 x1 x3 x4 x5) b s e

/-- the stream after the first feed-forward -/
theorem v195_st (b : Fin 8) (s : Fin 2048) (e : Fin 1024) : (val_main_v195 (F := Ideal) x0 x1 x2 x3 x4 x5 x6 x12 x13 x14 x15) (ix3 b s e)
    = M.ffnX 2048 (M.nrm (M.fl 8 2048 (val_main_v141 (F := Ideal) x0 x1 x3 x4 x5 x6)) (fun j => x2 (ix2 0 j))) (M.fl 8 2048 (val_main_v141 (F := Ideal) x0 x1 x3 x4 x5 x6))
      (fun k c => x12 (ix3 0 k c)) (fun a c => x13 (ix3 0 a c)) (fun c => x14 (ix2 0 c)) (fun c e => x15 (ix3 0 c e)) (2048 * b + s) e := by
  rw [v195_at]
  exact M.ffn_of _ (val_main_v141 (F := Ideal) x0 x1 x3 x4 x5 x6) (fun b s k => val_main_v156 (F := Ideal) x0 x1 x2 x3 x4 x5 x6 (ix3 b s k)) (M.nrm_of (val_main_v141 (F := Ideal) x0 x1 x3 x4 x5 x6) _ _ (v156_at x0 x1 x2 x3 x4 x5 x6)) _ (fun a c => x13 (ix3 0 a c)) (fun c => x14 (ix2 0 c)) _
    (fun b s c => val_main_v165 (F := Ideal) x0 x1 x2 x3 x4 x5 x6 x12 (ix3 b s c)) (fun b s c => val_main_v189 (F := Ideal) x0 x1 x2 x3 x4 x5 x6 x12 x13 x14 (ix3 b s c))
    (fun b s c => val_main_v193 (F := Ideal) x0 x1 x2 x3 x4 x5 x6 x12 x13 x14 (ix3 b s c))
    (v165_at x0 x1 x2 x3 x4 x5 x6 x12) (v189_at x0 x1 x2 x3 x4 x5 x6 x12 x13 x14) (v193_at x0 x1 x2 x3 x4 x5 x6 x12 x13 x14) b s e

/-- the stream after the gating unit -/
theorem v255_st (b : Fin 8) (s : Fin 2048) (e : Fin 1024) : (val_main_v255 (F := Ideal) x0 x1 x2 x3 x4 x5 x6 x7 x8 x9 x10 x11 x12 x13 x14 x15) (ix3 b s e)
    = M.sguX (M.nrm (M.fl 8 2048 (val_main_v195 (F := Ideal) x0 x1 x2 x3 x4 x5 x6 x12 x13 x14 x15)) (fun j => x1 (ix2 1 j))) (M.fl 8 2048 (val_main_v195 (F := Ideal) x0 x1 x2 x3 x4 x5 x6 x12 x13 x14 x15))
      (fun k c => x7 (ix3 0 k c)) (fun c => x8 (ix2 0 c)) (fun g a q => x9 (ix4 0 g a q)) (fun a c => x10 (ix3 0 ⟨c / 256, by omega⟩ a)) (fun c e => x11 (ix3 0 c e)) (2048 * b + s) e := by
  rw [v255_at]
  exact M.sgu_of _ (val_main_v195 (F := Ideal) x0 x1 x2 x3 x4 x5 x6 x12 x13 x14 x15) (fun b s k => val_main_v210 (F := Ideal) x0 x1 x2 x3 x4 x5 x6 x12 x13 x14 x15 (ix3 b s k)) (M.nrm_of (val_main_v195 (F := Ideal) x0 x1 x2 x3 x4 x5 x6 x12 x13 x14 x15) _ _ (v210_at x0 x1 x2 x3 x4 x5 x6 x12 x13 x14 x15)) 16 rfl _ _
    (fun g a q => x9 (ix4 0 g a q)) (fun a c => x10 (ix3 0 ⟨c / 256, by omega⟩ a)) _
    (fun b s c => val_main_v216 (F := Ideal) x0 x1 x2 x3 x4 x5 x6 x7 x12 x13 x14 x15 (ix3 b s c)) (fun b s c => val_main_v229 (F := Ideal) x0 x1 x2 x3 x4 x5 x6 x7 x12 x13 x14 x15 (ix3 b s c))
    (fun b s c => val_main_v244 (F := Ideal) x0 x1 x2 x3 x4 x5 x6 x7 x8 x12 x13 x14 x15 (ix3 b s c)) (fun b s c => val_main_v253 (F := Ideal) x0 x1 x2 x3 x4 x5 x6 x7 x8 x9 x10 x12 x13 x14 x15 (ix3 b s c))
    (v216_at x0 x1 x2 x3 x4 x5 x6 x7 x12 x13 x14 x15) (v229_at x0 x1 x2 x3 x4 x5 x6 x7 x12 x13 x14 x15) (v244_at x0 x1 x2 x3 x4 x5 x6 x7 x8 x12 x13 x14 x15) (v253_at x0 x1 x2 x3 x4 x5 x6 x7 x8 x9 x10 x12 x13 x14 x15) b s e

/-- the result -/
theorem v309_st (b : Fin 8) (s : Fin 2048) (e : Fin 1024) : (val_main_v309 (F := Ideal) x0 x1 x2 x3 x4 x5 x6 x7 x8 x9 x10 x11 x12 x13 x14 x15) (ix3 b s e)
    = M.ffnX 2048 (M.nrm (M.fl 8 2048 (val_main_v255 (F := Ideal) x0 x1 x2 x3 x4 x5 x6 x7 x8 x9 x10 x11 x12 x13 x14 x15)) (fun j => x2 (ix2 1 j))) (M.fl 8 2048 (val_main_v255 (F := Ideal) x0 x1 x2 x3 x4 x5 x6 x7 x8 x9 x10 x11 x12 x13 x14 x15))
      (fun k c => x12 (ix3 1 k c)) (fun a c => x13 (ix3 1 a c)) (fun c => x14 (ix2 1 c)) (fun c e => x15 (ix3 1 c e)) (2048 * b + s) e := by
  rw [v309_at]
  exact M.ffn_of _ (val_main_v255 (F := Ideal) x0 x1 x2 x3 x4 x5 x6 x7 x8 x9 x10 x11 x12 x13 x14 x15) (fun b s k => val_main_v270 (F := Ideal) x0 x1 x2 x3 x4 x5 x6 x7 x8 x9 x10 x11 x12 x13 x14 x15 (ix3 b s k)) (M.nrm_of (val_main_v255 (F := Ideal) x0 x1 x2 x3 x4 x5 x6 x7 x8 x9 x10 x11 x12 x13 x14 x15) _ _ (v270_at x0 x1 x2 x3 x4 x5 x6 x7 x8 x9 x10 x11 x12 x13 x14 x15)) _ (fun a c => x13 (ix3 1 a c)) (fun c => x14 (ix2 1 c)) _
    (fun b s c => val_main_v279 (F := Ideal) x0 x1 x2 x3 x4 x5 x6 x7 x8 x9 x10 x11 x12 x13 x14 x15 (ix3 b s c)) (fun b s c => val_main_v303 (F := Ideal) x0 x1 x2 x3 x4 x5 x6 x7 x8 x9 x10 x11 x12 x13 x14 x15 (ix3 b s c))
    (fun b s c => val_main_v307 (F := Ideal) x0 x1 x2 x3 x4 x5 x6 x7 x8 x9 x10 x11 x12 x13 x14 x15 (ix3 b s c))
    (v279_at x0 x1 x2 x3 x4 x5 x6 x7 x8 x9 x10 x11 x12 x13 x14 x15) (v303_at x0 x1 x2 x3 x4 x5 x6 x7 x8 x9 x10 x11 x12 x13 x14 x15) (v307_at x0 x1 x2 x3 x4 x5 x6 x7 x8 x9 x10 x11 x12 x13 x14 x15) b s e
end

end Cert.ReferenceIdeal.Ref
end
-- ==== Proof.Host.lean ====
module

public import proofs.«01_k».proof.Proof.ModelR
public import proofs.«01_k».proof.Proof.Gen.KernelIdeal.Launch
public import Idealize.ShloMosaic.Lib.Pipeline.ValueKit

@[expose] public section

set_option maxRecDepth 16384

noncomputable section

open Idealize.ShloMosaic Idealize.ShloMosaic.TcCoe Idealize.SL.Sem

/-! What the host lines before the first region leave in the buffers the regions read. -/
namespace Cert.KernelIdeal.Host
open Cert.KernelIdeal Cert.KernelIdeal.Gen

variable (V : Valuation τ sig (Elt Ideal))

theorem v2_at (j : Fin 1024) : StableHlo.after (hostOps0 (F := Ideal)) V (Proc.devRef .tc main_v2) (ix2 0 j)
    = V (Proc.devRef .tc main_arg1) (ix2 0 j) := by
  after_results_simp
  pointwise []

theorem v5_at (j : Fin 1024) : StableHlo.after (hostOps0 (F := Ideal)) V (Proc.devRef .tc main_v5) (ix2 0 j)
    = V (Proc.devRef .tc main_arg1) (ix2 1 j) := by
  after_results_simp
  pointwise []

theorem v8_at (j : Fin 1024) : StableHlo.after (hostOps0 (F := Ideal)) V (Proc.devRef .tc main_v8) (ix2 0 j)
    = V (Proc.devRef .tc main_arg2) (ix2 0 j) := by
  after_results_simp
  pointwise []

theorem v11_at (j : Fin 1024) : StableHlo.after (hostOps0 (F := Ideal)) V (Proc.devRef .tc main_v11) (ix2 0 j)
    = V (Proc.devRef .tc main_arg2) (ix2 1 j) := by
  after_results_simp
  pointwise []

theorem v13_at (k : Fin 1024) (c : Fin 1536) : StableHlo.after (hostOps0 (F := Ideal)) V (Proc.devRef .tc main_v13) (ix2 k c)
    = V (Proc.devRef .tc main_arg3) (ix3 0 k c) := by
  after_results_simp
  pointwise []

theorem v18_at (l : Fin 128) : StableHlo.after (hostOps0 (F := Ideal)) V (Proc.devRef .tc main_v18) (ix2 0 l)
    = V (Proc.devRef .tc main_arg4) (ix2 0 ⟨l % 64, Nat.mod_lt _ (by decide)⟩) := by
  after_results_simp
  pointwise []

theorem v23_at (l : Fin 128) : StableHlo.after (hostOps0 (F := Ideal)) V (Proc.devRef .tc main_v23) (ix2 0 l)
    = V (Proc.devRef .tc main_arg5) (ix2 0 ⟨l % 64, Nat.mod_lt _ (by decide)⟩) := by
  after_results_simp
  pointwise []

theorem v25_at (k c : Fin 1024) : StableHlo.after (hostOps0 (F := Ideal)) V (Proc.devRef .tc main_v25) (ix2 k c)
    = V (Proc.devRef .tc main_arg6) (ix3 0 k c) := by
  after_results_simp
  pointwise []

theorem v27_at (k : Fin 1024) (c : Fin 4096) : StableHlo.after (hostOps0 (F := Ideal)) V (Proc.devRef .tc main_v27) (ix2 k c)
    = V (Proc.devRef .tc main_arg7) (ix3 0 k c) := by
  after_results_simp
  pointwise []

theorem v29_at (c : Fin 2048) : StableHlo.after (hostOps0 (F := Ideal)) V (Proc.devRef .tc main_v29) (ix2 0 c)
    = V (Proc.devRef .tc main_arg8) (ix2 0 c) := by
  after_results_simp
  pointwise []

theorem v31_at (g : Fin 8) (a q : Fin 128) : StableHlo.after (hostOps0 (F := Ideal)) V (Proc.devRef .tc main_v31) (ix3 g a q)
    = V (Proc.devRef .tc main_arg9) (ix4 0 g a q) := by
  after_results_simp
  pointwise []

theorem v35_at (a : Fin 128) (c : Fin 2048) : StableHlo.after (hostOps0 (F := Ideal)) V (Proc.devRef .tc main_v35) (ix2 a c)
    = V (Proc.devRef .tc main_arg10) (ix3 0 ⟨c / 256, by omega⟩ a) := by
  after_results_simp
  pointwise []

theorem v37_at (c : Fin 2048) (e : Fin 1024) : StableHlo.after (hostOps0 (F := Ideal)) V (Proc.devRef .tc main_v37) (ix2 c e)
    = V (Proc.devRef .tc main_arg11) (ix3 0 c e) := by
  after_results_simp
  pointwise []

theorem v40_at (k : Fin 1024) (c : Fin 5632) : StableHlo.after (hostOps0 (F := Ideal)) V (Proc.devRef .tc main_v40) (ix2 k c)
    = V (Proc.devRef .tc main_arg12) (ix3 0 k c) := by
  after_results_simp
  pointwise []

theorem v43_at (k : Fin 1024) (c : Fin 5632) : StableHlo.after (hostOps0 (F := Ideal)) V (Proc.devRef .tc main_v43) (ix2 k c)
    = V (Proc.devRef .tc main_arg12) (ix3 1 k c) := by
  after_results_simp
  pointwise []

theorem v45_at (k : Fin 3) (c : Fin 5632) : StableHlo.after (hostOps0 (F := Ideal)) V (Proc.devRef .tc main_v45) (ix2 k c)
    = V (Proc.devRef .tc main_arg13) (ix3 0 k c) := by
  after_results_simp
  pointwise []

theorem v47_at (k : Fin 3) (c : Fin 5632) : StableHlo.after (hostOps0 (F := Ideal)) V (Proc.devRef .tc main_v47) (ix2 k c)
    = V (Proc.devRef .tc main_arg13) (ix3 1 k c) := by
  after_results_simp
  pointwise []

theorem v50_at (c : Fin 5632) : StableHlo.after (hostOps0 (F := Ideal)) V (Proc.devRef .tc main_v50) (ix2 0 c)
    = V (Proc.devRef .tc main_arg14) (ix2 0 c) := by
  after_results_simp
  pointwise []

theorem v53_at (c : Fin 5632) : StableHlo.after (hostOps0 (F := Ideal)) V (Proc.devRef .tc main_v53) (ix2 0 c)
    = V (Proc.devRef .tc main_arg14) (ix2 1 c) := by
  after_results_simp
  pointwise []

theorem v56_at (c : Fin 2816) (e : Fin 1024) : StableHlo.after (hostOps0 (F := Ideal)) V (Proc.devRef .tc main_v56) (ix2 c e)
    = V (Proc.devRef .tc main_arg15) (ix3 0 c e) := by
  after_results_simp
  pointwise []

theorem v59_at (c : Fin 2816) (e : Fin 1024) : StableHlo.after (hostOps0 (F := Ideal)) V (Proc.devRef .tc main_v59) (ix2 c e)
    = V (Proc.devRef .tc main_arg15) (ix3 1 c e) := by
  after_results_simp
  pointwise []

theorem v60_at (r : Fin 16384) (e : Fin 1024) : StableHlo.after (hostOps0 (F := Ideal)) V (Proc.devRef .tc main_v60) (ix2 r e)
    = V (Proc.devRef .tc main_arg0) (ix3 ⟨r / 2048, by omega⟩ ⟨r % 2048, by omega⟩ e) := by
  after_results_simp
  pointwise []

end Cert.KernelIdeal.Host
end
-- ==== Proof.HostTab.lean ====
module

public import proofs.«01_k».proof.Proof.ModelR
public import proofs.«01_k».proof.Proof.Gen.KernelIdeal.Launch
public import Idealize.ShloMosaic.Lib.Pipeline.ValueKit

@[expose] public section

set_option maxRecDepth 16384

noncomputable section

open Idealize.ShloMosaic Idealize.ShloMosaic.TcCoe Idealize.SL.Sem

/-! What the host lines before the first region leave in the buffers the regions read. -/
namespace Cert.KernelIdeal.Host
open Cert.KernelIdeal Cert.KernelIdeal.Gen

variable (V : Valuation τ sig (Elt Ideal))

theorem v95_at (r : Fin 2048) (l : Fin 128) : StableHlo.after (hostOps0 (F := Ideal)) V (Proc.devRef .tc main_v95) (ix2 r l)
    = Ideal.cos (M.ang r ⟨l % 64, Nat.mod_lt _ (by decide)⟩) := by
  after_results_simp
  pointwise []
  after_results_simp
  pointwise []
  refine congrArg _ ?_
  unfold M.ang
  rw [zero_add]
  dsimp only
  by_cases h1 : (l : ℕ) % 64 < 16
  · rw [dif_pos h1, if_pos (by omega), show (l : ℕ) % 64 % 16 = l % 64 by omega]
  · by_cases h2 : (l : ℕ) % 64 - 16 < 16
    · rw [dif_neg h1, dif_pos h2, if_pos (by omega), show (l : ℕ) % 64 % 16 = l % 64 - 16 by omega]
    · by_cases h3 : (l : ℕ) % 64 - 16 - 16 < 16
      · rw [dif_neg h1, dif_neg h2, dif_pos h3, if_neg (by omega), show (l : ℕ) % 64 % 16 = l % 64 - 16 - 16 by omega]
      · rw [dif_neg h1, dif_neg h2, dif_neg h3, if_neg (by omega), show (l : ℕ) % 64 % 16 = l % 64 - 16 - 16 - 16 by omega]

theorem v99_at (r : Fin 2048) (l : Fin 128) : StableHlo.after (hostOps0 (F := Ideal)) V (Proc.devRef .tc main_v99) (ix2 r l)
    = Ideal.sin (M.ang r ⟨l % 64, Nat.mod_lt _ (by decide)⟩) := by
  after_results_simp
  pointwise []
  after_results_simp
  pointwise []
  refine congrArg _ ?_
  unfold M.ang
  rw [zero_add]
  dsimp only
  by_cases h1 : (l : ℕ) % 64 < 16
  · rw [dif_pos h1, if_pos (by omega), show (l : ℕ) % 64 % 16 = l % 64 by omega]
  · by_cases h2 : (l : ℕ) % 64 - 16 < 16
    · rw [dif_neg h1, dif_pos h2, if_pos (by omega), show (l : ℕ) % 64 % 16 = l % 64 - 16 by omega]
    · by_cases h3 : (l : ℕ) % 64 - 16 - 16 < 16
      · rw [dif_neg h1, dif_neg h2, dif_pos h3, if_neg (by omega), show (l : ℕ) % 64 % 16 = l % 64 - 16 - 16 by omega]
      · rw [dif_neg h1, dif_neg h2, dif_neg h3, if_neg (by omega), show (l : ℕ) % 64 % 16 = l % 64 - 16 - 16 - 16 by omega]

/-- the divisor of a remainder, one where it is zero -/
def rem0 (c : IVec S_ 32) : IVec S_ 32 := select (cmpi .eq c (constantI S_ 32 0#32)) (constantI S_ 32 1#32) c
/-- the remainder with the divisor's sign, as the host computes it -/
def rem (x : IVec S128 32) (c : IVec S_ 32) : IVec S128 32 :=
  select (andi (cmpi .ne (cmpi .slt (Host.remsi x (broadcastInDim S128 ![] bcast_S_S128 (rem0 c))) (broadcastInDim S128 ![] bcast_S_S128 (constantI S_ 32 0#32)))
        (broadcastInDim S128 ![] bcast_S_S128 (cmpi .slt (rem0 c) (constantI S_ 32 0#32))))
      (cmpi .ne (Host.remsi x (broadcastInDim S128 ![] bcast_S_S128 (rem0 c))) (broadcastInDim S128 ![] bcast_S_S128 (constantI S_ 32 0#32))))
    (addi (Host.remsi x (broadcastInDim S128 ![] bcast_S_S128 (rem0 c))) (broadcastInDim S128 ![] bcast_S_S128 (rem0 c)))
    (Host.remsi x (broadcastInDim S128 ![] bcast_S_S128 (rem0 c)))

theorem v100_at (l : Fin 128) : StableHlo.after (hostOps0 (F := Ideal)) V (Proc.devRef .tc main_v100) (ix1 l) = BitVec.ofNat 32 l := by
  after_results_simp
  pointwise []

theorem c_at (i : S_.Idx) : StableHlo.after (hostOps0 (F := Ideal)) V (Proc.devRef .tc main_c) i = 32#32 := by
  after_results_simp
  pointwise []

theorem rem_at (x : IVec S128 32) (c : IVec S_ 32) (h0 : ∀ l : Fin 128, x (ix1 l) = BitVec.ofNat 32 l) (hc : ∀ i, c i = 32#32) (l : Fin 128) :
    rem x c (ix1 l) = BitVec.ofNat 32 (l % 32) := by
  unfold rem rem0
  pointwise [h0, hc]
  revert l
  decide +kernel

set_option maxHeartbeats 2000000 in
theorem v101_at (l : Fin 128) (h0 : ∀ l, V (Proc.devRef .tc main_v100) (ix1 l) = BitVec.ofNat 32 l) (hc : ∀ i, V (Proc.devRef .tc main_c) i = 32#32) :
    StableHlo.after (hostOps0_1 (F := Ideal)) V (Proc.devRef .tc main_v101) (ix1 l) = BitVec.ofNat 32 (l % 32) := by
  have h : StableHlo.after (hostOps0_1 (F := Ideal)) V (Proc.devRef .tc main_v101) = rem (V (Proc.devRef .tc main_v100)) (V (Proc.devRef .tc main_c)) := by
    after_results_simp
    simp only [StableHlo.TRef.ofBuf_toBuf]
    rfl
  rw [h]
  exact rem_at _ _ h0 hc l

theorem v103_at (l : Fin 128) : StableHlo.after (hostOps0_2 (F := Ideal)) V (Proc.devRef .tc main_v103) (ix1 l) = IntOp.cmpi .sge (V (Proc.devRef .tc main_v101) (ix1 l)) 16#32 := by
  after_results_simp
  pointwise []

theorem v104_at (l : Fin 128) : StableHlo.after (hostOps0_2 (F := Ideal)) V (Proc.devRef .tc main_v104) (ix2 0 l) = IntOp.cmpi .sge (V (Proc.devRef .tc main_v101) (ix1 l)) 16#32 := by
  after_results_simp
  pointwise []

theorem cst4_at (i : S_.Idx) : StableHlo.after (hostOps0_2 (F := Ideal)) V (Proc.devRef .tc main_cst_4) i = (0 : EReal) := by
  after_results_simp
  pointwise []

theorem v105_at (r : Fin 2048) (l : Fin 128) : StableHlo.after (hostOps0_3 (F := Ideal)) V (Proc.devRef .tc main_v105) (ix2 r l)
    = Scalar.select (V (Proc.devRef .tc main_v104) (ix2 0 l)) (V (Proc.devRef .tc main_v99) (ix2 r l)) (V (Proc.devRef .tc main_cst_4) ix0) := by
  have h : StableHlo.after (hostOps0_3 (F := Ideal)) V (Proc.devRef .tc main_v105) = (select (broadcastInDim S2048x128 ![0, 1] bcast_S1x128_S2048x128_0_1 (V (Proc.devRef .tc main_v104) : IVec S1x128 1)) (V (Proc.devRef .tc main_v99)) (broadcastInDim S2048x128 ![] bcast_S_S2048x128 (id (V (Proc.devRef .tc main_cst_4)))) : FVec Ideal S2048x128 .f32) := by
    after_results_simp
    rfl
  rw [h]
  pointwise []
  rfl

theorem v106_at (l : Fin 128) : StableHlo.after (hostOps0_4 (F := Ideal)) V (Proc.devRef .tc main_v106) (ix2 0 l) = V (Proc.devRef .tc main_v103) (ix1 l) := by
  after_results_simp
  pointwise []

theorem v107_at (r : Fin 2048) (l : Fin 128) : StableHlo.after (hostOps0_4 (F := Ideal)) V (Proc.devRef .tc main_v107) (ix2 r l) = Neg.neg (α := EReal) (V (Proc.devRef .tc main_v99) (ix2 r l)) := by
  after_results_simp
  pointwise []

theorem cst5_at (i : S_.Idx) : StableHlo.after (hostOps0_4 (F := Ideal)) V (Proc.devRef .tc main_cst_5) i = (0 : EReal) := by
  after_results_simp
  pointwise []

theorem v108_at (r : Fin 2048) (l : Fin 128) : StableHlo.after (hostOps0_5 (F := Ideal)) V (Proc.devRef .tc main_v108) (ix2 r l)
    = Scalar.select (V (Proc.devRef .tc main_v106) (ix2 0 l)) (V (Proc.devRef .tc main_cst_5) ix0) (V (Proc.devRef .tc main_v107) (ix2 r l)) := by
  have h : StableHlo.after (hostOps0_5 (F := Ideal)) V (Proc.devRef .tc main_v108) = (select (broadcastInDim S2048x128 ![0, 1] bcast_S1x128_S2048x128_0_1 (V (Proc.devRef .tc main_v106) : IVec S1x128 1)) (broadcastInDim S2048x128 ![] bcast_S_S2048x128 (id (V (Proc.devRef .tc main_cst_5)))) (V (Proc.devRef .tc main_v107)) : FVec Ideal S2048x128 .f32) := by
    after_results_simp
    rfl
  rw [h]
  pointwise []
  rfl

/-- from lane 16 of each 32 on -/
theorem sge_at (l : Fin 128) : IntOp.cmpi .sge (BitVec.ofNat 32 (l % 32)) 16#32 = if (l : ℕ) % 32 < 16 then 0#1 else 1#1 := by
  revert l
  decide +kernel

theorem v114_at (b : Fin 8) (s : Fin 2048) (e : Fin 1024) : StableHlo.after (hostOps5 (F := Ideal)) V (Proc.devRef .tc main_v114) (ix3 b s e)
    = V (Proc.devRef .tc main_v113) (ix2 ⟨b * 2048 + s, by omega⟩ e) := by
  after_results_simp
  pointwise []

end Cert.KernelIdeal.Host
end
-- ==== Proof.Ffn.lean ====
module

public import proofs.«01_k».proof.Proof.Model
public import proofs.«01_k».proof.Proof.Scal
public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gated feed-forward's body, which both of its regions run: the operations on a 512-row block with its two
neighbouring rows, read at an element. -/
namespace Cert.KernelIdeal.Ffn
open Cert.KernelIdeal Cert.KernelIdeal.Gen

/-- the tile's position within its sequence of `n` tiles, as the kernel computes it -/
def posw (n arg0 : BitVec 32) : BitVec 32 :=
  let v0 : BitVec 1 := Scalar.cmpi .eq n 0#32
  let v1 : BitVec 32 := Scalar.select v0 1#32 n
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

theorem pos_first : ∀ n : Fin 32, Scalar.cmpi .eq (posw 4#32 (BitVec.ofNat 32 n)) 0#32 = if (n : ℕ) % 4 = 0 then 1#1 else 0#1 := by
  decide +kernel
theorem pos_last : ∀ n : Fin 32, Scalar.cmpi .eq (posw 4#32 (BitVec.ofNat 32 n)) 3#32 = if (n : ℕ) % 4 = 3 then 1#1 else 0#1 := by
  decide +kernel
theorem pos_first16 : ∀ n : Fin 32, Scalar.cmpi .eq (posw 16#32 (BitVec.ofNat 32 n)) 0#32 = if (n : ℕ) % 16 = 0 then 1#1 else 0#1 := by
  decide +kernel
theorem pos_last16 : ∀ n : Fin 32, Scalar.cmpi .eq (posw 16#32 (BitVec.ofNat 32 n)) 15#32 = if (n : ℕ) % 16 = 15 then 1#1 else 0#1 := by
  decide +kernel

/-- the rows before, of and after the tile, the outer ones zero at a sequence's ends -/
def hcat (c1 c2 : BitVec 1) (v10 : FVec Ideal S16x1024 .bf16) (v12 : FVec Ideal S16x1024 .bf16) (v20 : FVec Ideal S512x1024 .bf16) : FVec Ideal S544x1024 .bf16 :=
  concatenate S544x1024 0 [⟨S16x1024, Scalar.select c1 (broadcast S16x1024 (Scalar.ofBits (F := Ideal) .bf16 0x0000#16)) (shapeCast S16x1024 v10 shapeCasts_S16x1024_S16x1024)⟩,
    ⟨S512x1024, shapeCast S512x1024 v20 shapeCasts_S512x1024_S512x1024⟩,
    ⟨S16x1024, Scalar.select c2 (broadcast S16x1024 (Scalar.ofBits (F := Ideal) .bf16 0x0000#16)) (shapeCast S16x1024 v12 shapeCasts_S16x1024_S16x1024)⟩]
    concatenates_S16x1024_S512x1024_S16x1024_S544x1024_d0

/-- the projection of those rows on 256 columns -/
def mm (hc : FVec Ideal S544x1024 .bf16) (w : FVec Ideal S1024x256 .bf16) : FVec Ideal S544x256 .f32 :=
  matmul dot_S544x1024_S1024x256_S544x256_1_0_0_1_n_n none hc (shapeCast S1024x256 w shapeCasts_S1024x256_S1024x256) (constant S544x256 .f32 0x00000000#32)

/-- the width-3 convolution of the tile's rows -/
def cnv (y : FVec Ideal S544x256 .f32) (a : FVec Ideal S3x256 .f32) (b : FVec Ideal S1x256 .f32) : FVec Ideal S512x256 .f32 :=
  addf (addf (addf
    (mulf (extractStridedSlice S512x256 ![16, 0] (dynamicRotate 0 1#32 none y rotates_S544x256_d0) slices_S544x256_o16_0_S512x256)
      (broadcastTo S512x256 (extractStridedSlice S1x256 ![0, 0] (shapeCast S3x256 a shapeCasts_S3x256_S3x256) slices_S3x256_o0_0_S1x256) broadcasts_S1x256_S512x256))
    (mulf (extractStridedSlice S512x256 ![16, 0] y slices_S544x256_o16_0_S512x256)
      (broadcastTo S512x256 (extractStridedSlice S1x256 ![1, 0] (shapeCast S3x256 a shapeCasts_S3x256_S3x256) slices_S3x256_o1_0_S1x256) broadcasts_S1x256_S512x256)))
    (mulf (extractStridedSlice S512x256 ![16, 0] (dynamicRotate 0 543#32 none y rotates_S544x256_d0) slices_S544x256_o16_0_S512x256)
      (broadcastTo S512x256 (extractStridedSlice S1x256 ![2, 0] (shapeCast S3x256 a shapeCasts_S3x256_S3x256) slices_S3x256_o2_0_S1x256) broadcasts_S1x256_S512x256)))
    (broadcastTo S512x256 (shapeCast S1x256 b shapeCasts_S1x256_S1x256) broadcasts_S1x256_S512x256)

/-- gate times its logistic, times the other half; `ν` is the constant in the power of two -/
def act (ν : EReal) (g u : FVec Ideal S512x256 .f32) : FVec Ideal S512x256 .bf16 :=
  truncf .bf16 (mulf (mulf g (divf (broadcast S512x256 (Scalar.ofBits (F := Ideal) .f32 0x3F800000#32))
    (addf (broadcast S512x256 (Scalar.ofBits (F := Ideal) .f32 0x3F800000#32))
      (exp2 (mulf g (broadcast S512x256 (ν : Ideal .f32))))))) u) bitsLt_bf16_f32

/-- one chunk of 256 columns -/
def chk (ν : EReal) (hc : FVec Ideal S544x1024 .bf16) (wg wu : FVec Ideal S1024x256 .bf16) (ag : FVec Ideal S3x256 .f32) (bg : FVec Ideal S1x256 .f32)
    (au : FVec Ideal S3x256 .f32) (bu : FVec Ideal S1x256 .f32) : FVec Ideal S512x256 .bf16 :=
  act ν (cnv (mm hc wg) ag bg) (cnv (mm hc wu) au bu)

/-- the eleven chunks side by side -/
def cat (y0 y1 y2 y3 y4 y5 y6 y7 y8 y9 y10 : FVec Ideal S512x256 .bf16) : FVec Ideal S512x2816 .bf16 :=
  concatenate S512x2816 1 [⟨S512x256, y0⟩, ⟨S512x256, y1⟩, ⟨S512x256, y2⟩, ⟨S512x256, y3⟩, ⟨S512x256, y4⟩, ⟨S512x256, y5⟩, ⟨S512x256, y6⟩, ⟨S512x256, y7⟩, ⟨S512x256, y8⟩, ⟨S512x256, y9⟩, ⟨S512x256, y10⟩]
    concatenates_S512x256_S512x256_S512x256_S512x256_S512x256_S512x256_S512x256_S512x256_S512x256_S512x256_S512x256_S512x2816_d1

/-- the block after the residual addition, from the chunks -/
def xo (x : FVec Ideal S512x1024 .f32) (wd : FVec Ideal S2816x1024 .bf16) (y : FVec Ideal S512x2816 .bf16) : FVec Ideal S512x1024 .f32 :=
  addf (shapeCast S512x1024 x shapeCasts_S512x1024_S512x1024)
    (matmul dot_S512x2816_S2816x1024_S512x1024_1_0_0_1_n_n none y
      (shapeCast S2816x1024 wd shapeCasts_S2816x1024_S2816x1024) (constant S512x1024 .f32 0x00000000#32))

theorem act_at (ν : EReal) (hν : ν = ((-((Real.log 2)⁻¹) : ℝ) : EReal)) (g u : FVec Ideal S512x256 .f32) (p : Fin 512) (q : Fin 256) :
    act ν g u (ix2 p q) = g (ix2 p q) * Ideal.div 1 (1 + Ideal.exp (-(g (ix2 p q)))) * u (ix2 p q) := by
  pointwise [act]
  rw [hν]
  exact congrArg (fun z => g (ix2 p q) * Ideal.div 1 (1 + z) * u (ix2 p q)) (Scal.exp2_neg _)

theorem cnv_at (y : FVec Ideal S544x256 .f32) (a : FVec Ideal S3x256 .f32) (b : FVec Ideal S1x256 .f32) (p : Fin 512) (q : Fin 256) :
    cnv y a b (ix2 p q) = y (ix2 ⟨15 + p, by omega⟩ q) * a (ix2 0 q) + y (ix2 ⟨16 + p, by omega⟩ q) * a (ix2 1 q)
      + y (ix2 ⟨17 + p, by omega⟩ q) * a (ix2 2 q) + b (ix2 0 q) := by
  have e1 : (16 + (p : ℕ) + 544 - 1) % 544 = 15 + p := by omega
  have e2 : (16 + (p : ℕ) + 544 - 543) % 544 = 17 + p := by omega
  pointwise [cnv, e1, e2]

section pieces
variable (c1 c2 : BitVec 1) (v10 v12 : FVec Ideal S16x1024 .bf16) (v20 : FVec Ideal S512x1024 .bf16)

theorem hc_lo (s : Fin 544) (k : Fin 1024) (hs : (s : ℕ) < 16) : hcat c1 c2 v10 v12 v20 (ix2 s k)
    = Scalar.select c1 (0 : EReal) (v10 (ix2 ⟨s, hs⟩ k)) := by
  pointwise [hcat]
  exact dif_pos hs

theorem hc_mid (s : Fin 544) (k : Fin 1024) (hs : 16 ≤ (s : ℕ)) (hs' : (s : ℕ) - 16 < 512) : hcat c1 c2 v10 v12 v20 (ix2 s k)
    = v20 (ix2 ⟨(s : ℕ) - 16, hs'⟩ k) := by
  pointwise [hcat]
  exact (dif_neg (by omega)).trans (dif_pos hs')

theorem hc_hi (s : Fin 544) (k : Fin 1024) (hs : 528 ≤ (s : ℕ)) : hcat c1 c2 v10 v12 v20 (ix2 s k)
    = Scalar.select c2 (0 : EReal) (v12 (ix2 ⟨(s : ℕ) - 528, by omega⟩ k)) := by
  pointwise [hcat]
  refine (dif_neg (by omega)).trans ((dif_neg (by omega)).trans (congrArg (fun r => Scalar.select c2 (0 : EReal) (v12 (ix2 r k))) (Fin.ext ?_)))
  dsimp only
  omega
end pieces

section rows
variable (n l L t : ℕ) (H : ℕ → Fin 1024 → EReal) (c1 c2 : BitVec 1) (v10 v12 : FVec Ideal S16x1024 .bf16) (v20 : FVec Ideal S512x1024 .bf16)
  (hl : l + 1 = n) (hL : L = 512 * n)
  (hc1 : c1 = if t % n = 0 then 1#1 else 0#1) (hc2 : c2 = if t % n = l then 1#1 else 0#1)
  (h0 : t % n ≠ 0 → ∀ k, v10 (ix2 15 k) = H (512 * t - 1) k) (h2 : t % n ≠ l → ∀ k, v12 (ix2 0 k) = H (512 * t + 512) k)
  (h1 : ∀ (p : Fin 512) (k : Fin 1024), v20 (ix2 p k) = H (512 * t + p) k)
include hl hL hc1 hc2 h0 h1 h2

omit hl hc1 hc2 h0 h1 h2 in
/-- a row's place in its sequence -/
theorem place (p : Fin 512) : (512 * t + p) % L = p + 512 * (t % n) := by
  have a : (512 * t + (p : ℕ)) % 512 = p := by omega
  have b : (512 * t + (p : ℕ)) / 512 = t := by omega
  rw [hL, Nat.mod_mul, a, b]

theorem cur_at (p : Fin 512) (k : Fin 1024) : hcat c1 c2 v10 v12 v20 (ix2 ⟨16 + p, by omega⟩ k) = H (512 * t + p) k :=
  (hc_mid c1 c2 v10 v12 v20 _ k (by show 16 ≤ 16 + (p : ℕ); omega) (by have := p.isLt; show 16 + (p : ℕ) - 16 < 512; omega)).trans
    ((h1 _ _).trans (congrArg (H · k) (by show 512 * t + (16 + (p : ℕ) - 16) = _; omega)))

theorem prev_at (p : Fin 512) (k : Fin 1024) : hcat c1 c2 v10 v12 v20 (ix2 ⟨15 + p, by omega⟩ k)
    = if (512 * t + p) % L = 0 then 0 else H (512 * t + p - 1) k := by
  have hp := p.isLt
  have hm := place n L t hL p
  rw [hm]
  by_cases hz : (p : ℕ) = 0
  · refine (hc_lo c1 c2 v10 v12 v20 _ k (by show 15 + (p : ℕ) < 16; omega)).trans ?_
    by_cases ht : t % n = 0
    · rw [if_pos (by omega), hc1, if_pos ht]; rfl
    · rw [if_neg (by omega), hc1, if_neg ht]
      refine Eq.trans (congrArg (fun s => v10 (ix2 s k)) (Fin.ext (by show 15 + (p : ℕ) = 15; omega))) ((h0 ht k).trans (congrArg (H · k) (by omega)))
  · rw [if_neg (by omega)]
    exact (hc_mid c1 c2 v10 v12 v20 _ k (by show 16 ≤ 15 + (p : ℕ); omega) (by show 15 + (p : ℕ) - 16 < 512; omega)).trans
      ((h1 _ _).trans (congrArg (H · k) (by show 512 * t + (15 + (p : ℕ) - 16) = _; omega)))

theorem next_at (p : Fin 512) (k : Fin 1024) : hcat c1 c2 v10 v12 v20 (ix2 ⟨17 + p, by omega⟩ k)
    = if (512 * t + p) % L = L - 1 then 0 else H (512 * t + p + 1) k := by
  have hp := p.isLt
  have hm := place n L t hL p
  rw [hm]
  by_cases hz : (p : ℕ) = 511
  · refine (hc_hi c1 c2 v10 v12 v20 _ k (by show 528 ≤ 17 + (p : ℕ); omega)).trans ?_
    by_cases ht : t % n = l
    · rw [if_pos (by omega), hc2, if_pos ht]; rfl
    · rw [if_neg (by omega), hc2, if_neg ht]
      refine Eq.trans (congrArg (fun s => v12 (ix2 s k)) (Fin.ext (by show 17 + (p : ℕ) - 528 = 0; omega))) ((h2 ht k).trans (congrArg (H · k) (by omega)))
  · rw [if_neg (by omega)]
    exact (hc_mid c1 c2 v10 v12 v20 _ k (by show 16 ≤ 17 + (p : ℕ); omega) (by show 17 + (p : ℕ) - 16 < 512; omega)).trans
      ((h1 _ _).trans (congrArg (H · k) (by show 512 * t + (17 + (p : ℕ) - 16) = _; omega)))

/-- one half of a chunk: the convolution of the projection on the 256 columns from `o` -/
theorem half_at (W : Fin 1024 → Fin 5632 → EReal) (cw : Fin 3 → Fin 5632 → EReal) (cb : Fin 5632 → EReal) (o : ℕ) (ho : o + 256 ≤ 5632)
    (w : FVec Ideal S1024x256 .bf16) (a : FVec Ideal S3x256 .f32) (b : FVec Ideal S1x256 .f32)
    (hw : ∀ (k : Fin 1024) (q : Fin 256), w (ix2 k q) = W k ⟨o + q, by omega⟩)
    (ha : ∀ (k : Fin 3) (q : Fin 256), a (ix2 k q) = cw k ⟨o + q, by omega⟩)
    (hb : ∀ (q : Fin 256), b (ix2 0 q) = cb ⟨o + q, by omega⟩) (p : Fin 512) (q : Fin 256) :
    cnv (mm (hcat c1 c2 v10 v12 v20) w) a b (ix2 p q) = M.conv L H W cw cb (512 * t + p) ⟨o + q, by omega⟩ := by
  have hmm : ∀ (s : Fin 544), mm (hcat c1 c2 v10 v12 v20) w (ix2 s q)
      = ∑ k : Fin 1024, hcat c1 c2 v10 v12 v20 (ix2 s k) * W k ⟨o + q, by omega⟩ := by
    intro s
    pointwise [mm]
    simp only [hw]
  rw [cnv_at, hmm, hmm, hmm, ha, ha, ha, hb]
  simp only [cur_at n l L t H c1 c2 v10 v12 v20 hl hL hc1 hc2 h0 h2 h1, prev_at n l L t H c1 c2 v10 v12 v20 hl hL hc1 hc2 h0 h2 h1, next_at n l L t H c1 c2 v10 v12 v20 hl hL hc1 hc2 h0 h2 h1]
  unfold M.conv M.mv
  split_ifs <;> simp only [zero_mul, Finset.sum_const_zero]

theorem chk_at (ν : EReal) (hν : ν = ((-((Real.log 2)⁻¹) : ℝ) : EReal)) (W : Fin 1024 → Fin 5632 → EReal) (cw : Fin 3 → Fin 5632 → EReal) (cb : Fin 5632 → EReal) (o : ℕ) (ho : o + 256 ≤ 2816)
    (wg wu : FVec Ideal S1024x256 .bf16) (ag : FVec Ideal S3x256 .f32) (bg : FVec Ideal S1x256 .f32)
    (au : FVec Ideal S3x256 .f32) (bu : FVec Ideal S1x256 .f32)
    (hwg : ∀ (k : Fin 1024) (q : Fin 256), wg (ix2 k q) = W k ⟨o + q, by omega⟩)
    (hwu : ∀ (k : Fin 1024) (q : Fin 256), wu (ix2 k q) = W k ⟨2816 + o + q, by omega⟩)
    (hag : ∀ (k : Fin 3) (q : Fin 256), ag (ix2 k q) = cw k ⟨o + q, by omega⟩)
    (hau : ∀ (k : Fin 3) (q : Fin 256), au (ix2 k q) = cw k ⟨2816 + o + q, by omega⟩)
    (hbg : ∀ (q : Fin 256), bg (ix2 0 q) = cb ⟨o + q, by omega⟩)
    (hbu : ∀ (q : Fin 256), bu (ix2 0 q) = cb ⟨2816 + o + q, by omega⟩) (p : Fin 512) (q : Fin 256) :
    chk ν (hcat c1 c2 v10 v12 v20) wg wu ag bg au bu (ix2 p q) = M.ffnA L H W cw cb (512 * t + p) ⟨o + q, by omega⟩ := by
  unfold chk
  rw [act_at ν hν, half_at n l L t H c1 c2 v10 v12 v20 hl hL hc1 hc2 h0 h2 h1 W cw cb o (by omega) wg ag bg hwg hag hbg,
    half_at n l L t H c1 c2 v10 v12 v20 hl hL hc1 hc2 h0 h2 h1 W cw cb (2816 + o) (by omega) wu au bu hwu hau hbu]
  unfold M.ffnA
  simp only [Nat.add_assoc]
end rows

/-- a piece of the eleven read at its columns -/
theorem piece {xs : List ((s : Shape) × (s.Idx → EReal))} {h : Shape.Concatenates (xs.map (·.1)) S512x2816 1} (p : Fin 512) (c : Fin 2816)
    (y : FVec Ideal S512x256 .bf16) (Y : Fin 512 → Fin 2816 → EReal) {o : ℕ} {H : ∀ q : Fin 256, o + (q : ℕ) < 2816}
    (hy : ∀ (p : Fin 512) (q : Fin 256), y (ix2 p q) = Y p ⟨o + q, H q⟩) (k : ℕ) (hk : k < xs.length) (hx : xs[k] = ⟨S512x256, y⟩)
    (ho : ((((xs.take k).map (·.1)).map fun s => if h : s.rank = S512x2816.rank then s.size ((1 : Fin S512x2816.rank).cast h.symm) else 0).sum = o))
    (h1 : o ≤ (c : ℕ)) (h2 : (c : ℕ) < o + 256) :
    concatenate S512x2816 1 xs h (ix2 p c) = Y p c := by
  refine (concatenate_apply_piece (t := S512x2816) 1 xs h (ix2 p c) k hk S512x256 y hx rfl o ho (ix2 p ⟨(c : ℕ) - o, by omega⟩) ?_ ?_).trans
    ((hy _ _).trans (congrArg (Y p) (Fin.ext (by show o + ((c : ℕ) - o) = c; omega))))
  · intro b hb
    match b with
    | ⟨0, _⟩ => rfl
    | ⟨1, _⟩ => exact absurd rfl hb
  · show o + ((c : ℕ) - o) = c
    omega

set_option maxHeartbeats 2000000 in
theorem cat_at (y0 y1 y2 y3 y4 y5 y6 y7 y8 y9 y10 : FVec Ideal S512x256 .bf16) (Y : Fin 512 → Fin 2816 → EReal)
    (h0 : ∀ (p : Fin 512) (q : Fin 256), y0 (ix2 p q) = Y p ⟨0 + q, by omega⟩)
    (h1 : ∀ (p : Fin 512) (q : Fin 256), y1 (ix2 p q) = Y p ⟨256 + q, by omega⟩)
    (h2 : ∀ (p : Fin 512) (q : Fin 256), y2 (ix2 p q) = Y p ⟨512 + q, by omega⟩)
    (h3 : ∀ (p : Fin 512) (q : Fin 256), y3 (ix2 p q) = Y p ⟨768 + q, by omega⟩)
    (h4 : ∀ (p : Fin 512) (q : Fin 256), y4 (ix2 p q) = Y p ⟨1024 + q, by omega⟩)
    (h5 : ∀ (p : Fin 512) (q : Fin 256), y5 (ix2 p q) = Y p ⟨1280 + q, by omega⟩)
    (h6 : ∀ (p : Fin 512) (q : Fin 256), y6 (ix2 p q) = Y p ⟨1536 + q, by omega⟩)
    (h7 : ∀ (p : Fin 512) (q : Fin 256), y7 (ix2 p q) = Y p ⟨1792 + q, by omega⟩)
    (h8 : ∀ (p : Fin 512) (q : Fin 256), y8 (ix2 p q) = Y p ⟨2048 + q, by omega⟩)
    (h9 : ∀ (p : Fin 512) (q : Fin 256), y9 (ix2 p q) = Y p ⟨2304 + q, by omega⟩)
    (h10 : ∀ (p : Fin 512) (q : Fin 256), y10 (ix2 p q) = Y p ⟨2560 + q, by omega⟩)
    (p : Fin 512) (c : Fin 2816) : cat y0 y1 y2 y3 y4 y5 y6 y7 y8 y9 y10 (ix2 p c) = Y p c := by
  have hc := c.isLt
  unfold cat
  by_cases e0 : (c : ℕ) < 256
  · exact piece p c y0 Y h0 0 (by simp only [List.length_cons, List.length_nil]; omega) rfl rfl (by omega) (by omega)
  by_cases e1 : (c : ℕ) < 512
  · exact piece p c y1 Y h1 1 (by simp only [List.length_cons, List.length_nil]; omega) rfl rfl (by omega) (by omega)
  by_cases e2 : (c : ℕ) < 768
  · exact piece p c y2 Y h2 2 (by simp only [List.length_cons, List.length_nil]; omega) rfl rfl (by omega) (by omega)
  by_cases e3 : (c : ℕ) < 1024
  · exact piece p c y3 Y h3 3 (by simp only [List.length_cons, List.length_nil]; omega) rfl rfl (by omega) (by omega)
  by_cases e4 : (c : ℕ) < 1280
  · exact piece p c y4 Y h4 4 (by simp only [List.length_cons, List.length_nil]; omega) rfl rfl (by omega) (by omega)
  by_cases e5 : (c : ℕ) < 1536
  · exact piece p c y5 Y h5 5 (by simp only [List.length_cons, List.length_nil]; omega) rfl rfl (by omega) (by omega)
  by_cases e6 : (c : ℕ) < 1792
  · exact piece p c y6 Y h6 6 (by simp only [List.length_cons, List.length_nil]; omega) rfl rfl (by omega) (by omega)
  by_cases e7 : (c : ℕ) < 2048
  · exact piece p c y7 Y h7 7 (by simp only [List.length_cons, List.length_nil]; omega) rfl rfl (by omega) (by omega)
  by_cases e8 : (c : ℕ) < 2304
  · exact piece p c y8 Y h8 8 (by simp only [List.length_cons, List.length_nil]; omega) rfl rfl (by omega) (by omega)
  by_cases e9 : (c : ℕ) < 2560
  · exact piece p c y9 Y h9 9 (by simp only [List.length_cons, List.length_nil]; omega) rfl rfl (by omega) (by omega)
  exact piece p c y10 Y h10 10 (by simp only [List.length_cons, List.length_nil]; omega) rfl rfl (by omega) (by omega)

theorem xo_at (x : FVec Ideal S512x1024 .f32) (wd : FVec Ideal S2816x1024 .bf16) (y : FVec Ideal S512x2816 .bf16)
    (p : Fin 512) (e : Fin 1024) :
    xo x wd y (ix2 p e) = x (ix2 p e) + M.mv (fun c => y (ix2 p c)) (fun c e => wd (ix2 c e)) e := by
  unfold M.mv
  pointwise [xo]

/-- the following normalisation, over the block it normalises -/
def nrmV (x : FVec Ideal S512x1024 .f32) (g : FVec Ideal S1x1024 .f32) : FVec Ideal S512x1024 .bf16 :=
  truncf .bf16 (mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits (F := Ideal) .f32 0x44800000#32)))
      (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)) bitsLt_bf16_f32

theorem nrmV_at (x : FVec Ideal S512x1024 .f32) (g : FVec Ideal S1x1024 .f32) (p : Fin 512) (e : Fin 1024) :
    nrmV x g (ix2 p e) = M.rms (Ideal.ofBits .f32 0x44800000#32) (fun j => x (ix2 p j)) (fun j => g (ix2 0 j)) e := by
  pointwise [nrmV]
  rfl

end Cert.KernelIdeal.Ffn
end
-- ==== Proof.Attn.lean ====
module

public import proofs.«01_k».proof.Proof.ModelA
public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! One head of the attention over a block of 512 rows, and the pairing of heads, read at an element. -/
namespace Cert.KernelIdeal.Attn
open Cert.KernelIdeal Cert.KernelIdeal.Gen

/-- equal pieces side by side, read at a column -/
theorem side {n w m N : ℕ} (f : Fin N → (⟨2, ![n, w]⟩ : Shape).Idx → EReal)
    (h : Shape.Concatenates ((List.ofFn fun k : Fin N => (⟨(⟨2, ![n, w]⟩ : Shape), f k⟩ : (s : Shape) × (s.Idx → EReal))).map (·.1)) (⟨2, ![n, m]⟩ : Shape) 1)
    (hw : 0 < w) (hN : N * w = m) (p : Fin n) (c : Fin m) :
    concatenate (⟨2, ![n, m]⟩ : Shape) 1 (List.ofFn fun k : Fin N => (⟨(⟨2, ![n, w]⟩ : Shape), f k⟩ : (s : Shape) × (s.Idx → EReal))) h (ix2 p c)
      = f ⟨c / w, (Nat.div_lt_iff_lt_mul hw).mpr (hN ▸ c.isLt)⟩ (ix2 p ⟨c % w, Nat.mod_lt _ hw⟩) :=
  concatenate_ofFn_apply (s₁ := (⟨2, ![n, w]⟩ : Shape)) (t := (⟨2, ![n, m]⟩ : Shape)) 1 f h rfl w rfl (ix2 p c) _ rfl (ix2 p ⟨c % w, Nat.mod_lt _ hw⟩) rfl
    (fun b hb => match b, hb with
      | ⟨0, _⟩, _ => rfl
      | ⟨1, _⟩, hb => absurd rfl hb)

/-- scores of the block's rows -/
def sc (q : FVec Ideal S1x512x128 .bf16) (k : FVec Ideal S1x2048x128 .bf16) : FVec Ideal S512x2048 .f32 :=
  matmul dot_S512x128_S2048x128_S512x2048_1_1_0_0_n_n none (shapeCast S512x128 q shapeCasts_S1x512x128_S512x128)
    (shapeCast S2048x128 k shapeCasts_S1x2048x128_S2048x128) (constant S512x2048 .f32 0x00000000#32)

/-- the lanewise maximum of the sixteen column groups -/
def cm (s : FVec Ideal S512x2048 .f32) : FVec Ideal S512x128 .f32 :=
  (maximumf (maximumf (maximumf (maximumf (maximumf (maximumf (maximumf (maximumf (maximumf (maximumf (maximumf (maximumf (maximumf (maximumf (maximumf (extractStridedSlice S512x128 ![0, 0] s slices_S512x2048_o0_0_S512x128)
    (extractStridedSlice S512x128 ![0, 128] s slices_S512x2048_o0_128_S512x128))
    (extractStridedSlice S512x128 ![0, 256] s slices_S512x2048_o0_256_S512x128))
    (extractStridedSlice S512x128 ![0, 384] s slices_S512x2048_o0_384_S512x128))
    (extractStridedSlice S512x128 ![0, 512] s slices_S512x2048_o0_512_S512x128))
    (extractStridedSlice S512x128 ![0, 640] s slices_S512x2048_o0_640_S512x128))
    (extractStridedSlice S512x128 ![0, 768] s slices_S512x2048_o0_768_S512x128))
    (extractStridedSlice S512x128 ![0, 896] s slices_S512x2048_o0_896_S512x128))
    (extractStridedSlice S512x128 ![0, 1024] s slices_S512x2048_o0_1024_S512x128))
    (extractStridedSlice S512x128 ![0, 1152] s slices_S512x2048_o0_1152_S512x128))
    (extractStridedSlice S512x128 ![0, 1280] s slices_S512x2048_o0_1280_S512x128))
    (extractStridedSlice S512x128 ![0, 1408] s slices_S512x2048_o0_1408_S512x128))
    (extractStridedSlice S512x128 ![0, 1536] s slices_S512x2048_o0_1536_S512x128))
    (extractStridedSlice S512x128 ![0, 1664] s slices_S512x2048_o0_1664_S512x128))
    (extractStridedSlice S512x128 ![0, 1792] s slices_S512x2048_o0_1792_S512x128))
    (extractStridedSlice S512x128 ![0, 1920] s slices_S512x2048_o0_1920_S512x128))

/-- a row's largest score -/
def rmax (s : FVec Ideal S512x2048 .f32) : FVec Ideal S512 .f32 :=
  multiReduction .maximumf [1] S512 (cm s) 0xFF800000#32 reduces_S512x128_S512 (.inl rfl) rfl

/-- it, over the lanes -/
def mb (m : FVec Ideal S512 .f32) : FVec Ideal S512x128 .f32 :=
  broadcastTo S512x128 (shapeCast S512x1 (shapeCast S512x1 m shapeCasts_S512_S512x1) shapeCasts_S512x1_S512x1) broadcasts_S512x1_S512x128

/-- weights of column group 0 -/
def e0 (s : FVec Ideal S512x2048 .f32) (m : FVec Ideal S512 .f32) : FVec Ideal S512x128 .bf16 :=
  truncf .bf16 (exp2 (subf (extractStridedSlice S512x128 ![0, 0] s slices_S512x2048_o0_0_S512x128) (mb m))) bitsLt_bf16_f32

/-- weights of column group 1 -/
def e1 (s : FVec Ideal S512x2048 .f32) (m : FVec Ideal S512 .f32) : FVec Ideal S512x128 .bf16 :=
  truncf .bf16 (exp2 (subf (extractStridedSlice S512x128 ![0, 128] s slices_S512x2048_o0_128_S512x128) (mb m))) bitsLt_bf16_f32

/-- weights of column group 2 -/
def e2 (s : FVec Ideal S512x2048 .f32) (m : FVec Ideal S512 .f32) : FVec Ideal S512x128 .bf16 :=
  truncf .bf16 (exp2 (subf (extractStridedSlice S512x128 ![0, 256] s slices_S512x2048_o0_256_S512x128) (mb m))) bitsLt_bf16_f32

/-- weights of column group 3 -/
def e3 (s : FVec Ideal S512x2048 .f32) (m : FVec Ideal S512 .f32) : FVec Ideal S512x128 .bf16 :=
  truncf .bf16 (exp2 (subf (extractStridedSlice S512x128 ![0, 384] s slices_S512x2048_o0_384_S512x128) (mb m))) bitsLt_bf16_f32

/-- weights of column group 4 -/
def e4 (s : FVec Ideal S512x2048 .f32) (m : FVec Ideal S512 .f32) : FVec Ideal S512x128 .bf16 :=
  truncf .bf16 (exp2 (subf (extractStridedSlice S512x128 ![0, 512] s slices_S512x2048_o0_512_S512x128) (mb m))) bitsLt_bf16_f32

/-- weights of column group 5 -/
def e5 (s : FVec Ideal S512x2048 .f32) (m : FVec Ideal S512 .f32) : FVec Ideal S512x128 .bf16 :=
  truncf .bf16 (exp2 (subf (extractStridedSlice S512x128 ![0, 640] s slices_S512x2048_o0_640_S512x128) (mb m))) bitsLt_bf16_f32

/-- weights of column group 6 -/
def e6 (s : FVec Ideal S512x2048 .f32) (m : FVec Ideal S512 .f32) : FVec Ideal S512x128 .bf16 :=
  truncf .bf16 (exp2 (subf (extractStridedSlice S512x128 ![0, 768] s slices_S512x2048_o0_768_S512x128) (mb m))) bitsLt_bf16_f32

/-- weights of column group 7 -/
def e7 (s : FVec Ideal S512x2048 .f32) (m : FVec Ideal S512 .f32) : FVec Ideal S512x128 .bf16 :=
  truncf .bf16 (exp2 (subf (extractStridedSlice S512x128 ![0, 896] s slices_S512x2048_o0_896_S512x128) (mb m))) bitsLt_bf16_f32

/-- weights of column group 8 -/
def e8 (s : FVec Ideal S512x2048 .f32) (m : FVec Ideal S512 .f32) : FVec Ideal S512x128 .bf16 :=
  truncf .bf16 (exp2 (subf (extractStridedSlice S512x128 ![0, 1024] s slices_S512x2048_o0_1024_S512x128) (mb m))) bitsLt_bf16_f32

/-- weights of column group 9 -/
def e9 (s : FVec Ideal S512x2048 .f32) (m : FVec Ideal S512 .f32) : FVec Ideal S512x128 .bf16 :=
  truncf .bf16 (exp2 (subf (extractStridedSlice S512x128 ![0, 1152] s slices_S512x2048_o0_1152_S512x128) (mb m))) bitsLt_bf16_f32

/-- weights of column group 10 -/
def e10 (s : FVec Ideal S512x2048 .f32) (m : FVec Ideal S512 .f32) : FVec Ideal S512x128 .bf16 :=
  truncf .bf16 (exp2 (subf (extractStridedSlice S512x128 ![0, 1280] s slices_S512x2048_o0_1280_S512x128) (mb m))) bitsLt_bf16_f32

/-- weights of column group 11 -/
def e11 (s : FVec Ideal S512x2048 .f32) (m : FVec Ideal S512 .f32) : FVec Ideal S512x128 .bf16 :=
  truncf .bf16 (exp2 (subf (extractStridedSlice S512x128 ![0, 1408] s slices_S512x2048_o0_1408_S512x128) (mb m))) bitsLt_bf16_f32

/-- weights of column group 12 -/
def e12 (s : FVec Ideal S512x2048 .f32) (m : FVec Ideal S512 .f32) : FVec Ideal S512x128 .bf16 :=
  truncf .bf16 (exp2 (subf (extractStridedSlice S512x128 ![0, 1536] s slices_S512x2048_o0_1536_S512x128) (mb m))) bitsLt_bf16_f32

/-- weights of column group 13 -/
def e13 (s : FVec Ideal S512x2048 .f32) (m : FVec Ideal S512 .f32) : FVec Ideal S512x128 .bf16 :=
  truncf .bf16 (exp2 (subf (extractStridedSlice S512x128 ![0, 1664] s slices_S512x2048_o0_1664_S512x128) (mb m))) bitsLt_bf16_f32

/-- weights of column group 14 -/
def e14 (s : FVec Ideal S512x2048 .f32) (m : FVec Ideal S512 .f32) : FVec Ideal S512x128 .bf16 :=
  truncf .bf16 (exp2 (subf (extractStridedSlice S512x128 ![0, 1792] s slices_S512x2048_o0_1792_S512x128) (mb m))) bitsLt_bf16_f32

/-- weights of column group 15 -/
def e15 (s : FVec Ideal S512x2048 .f32) (m : FVec Ideal S512 .f32) : FVec Ideal S512x128 .bf16 :=
  truncf .bf16 (exp2 (subf (extractStridedSlice S512x128 ![0, 1920] s slices_S512x2048_o0_1920_S512x128) (mb m))) bitsLt_bf16_f32

/-- the weights -/
def pw (s : FVec Ideal S512x2048 .f32) (m : FVec Ideal S512 .f32) : FVec Ideal S512x2048 .bf16 :=
  concatenate S512x2048 1 [⟨S512x128, e0 s m⟩, ⟨S512x128, e1 s m⟩, ⟨S512x128, e2 s m⟩, ⟨S512x128, e3 s m⟩, ⟨S512x128, e4 s m⟩, ⟨S512x128, e5 s m⟩, ⟨S512x128, e6 s m⟩, ⟨S512x128, e7 s m⟩, ⟨S512x128, e8 s m⟩, ⟨S512x128, e9 s m⟩, ⟨S512x128, e10 s m⟩, ⟨S512x128, e11 s m⟩, ⟨S512x128, e12 s m⟩, ⟨S512x128, e13 s m⟩, ⟨S512x128, e14 s m⟩, ⟨S512x128, e15 s m⟩]
    concatenates_S512x128_S512x128_S512x128_S512x128_S512x128_S512x128_S512x128_S512x128_S512x128_S512x128_S512x128_S512x128_S512x128_S512x128_S512x128_S512x128_S512x2048_d1

/-- weights times packed values -/
def pvm (p : FVec Ideal S512x2048 .bf16) (v : FVec Ideal S1x2048x128 .bf16) : FVec Ideal S512x128 .f32 :=
  matmul dot_S512x2048_S2048x128_S512x128_1_0_0_1_n_n none p (shapeCast S2048x128 v shapeCasts_S1x2048x128_S2048x128) (constant S512x128 .f32 0x00000000#32)

/-- one head -/
def hd (q : FVec Ideal S1x512x128 .bf16) (k v : FVec Ideal S1x2048x128 .bf16) : FVec Ideal S512x128 .f32 :=
  pvm (pw (sc q k) (rmax (sc q k))) v

/-- two heads' quotients side by side -/
def pr (a0 a1 : FVec Ideal S512x128 .f32) : FVec Ideal S512x128 .bf16 :=
  truncf .bf16 (divf (select (cmpi .slt (iota .tc S512x128 32 [1] iota_S512x128_d1_w32) (broadcast S512x128 64#32)) a0 a1)
    (dynamicRotate 1 64#32 none (select (cmpi .slt (iota .tc S512x128 32 [1] iota_S512x128_d1_w32) (broadcast S512x128 64#32)) a1 a0) rotates_S512x128_d1)) bitsLt_bf16_f32

/-- the eight pairs side by side -/
def cat8 (y0 y1 y2 y3 y4 y5 y6 y7 : FVec Ideal S512x128 .bf16) : FVec Ideal S512x1024 .bf16 :=
  concatenate S512x1024 1 [⟨S512x128, y0⟩, ⟨S512x128, y1⟩, ⟨S512x128, y2⟩, ⟨S512x128, y3⟩, ⟨S512x128, y4⟩, ⟨S512x128, y5⟩, ⟨S512x128, y6⟩, ⟨S512x128, y7⟩]
    concatenates_S512x128_S512x128_S512x128_S512x128_S512x128_S512x128_S512x128_S512x128_S512x1024_d1

/-- the block after the residual addition -/
def xo (x : FVec Ideal S512x1024 .f32) (wo : FVec Ideal S1024x1024 .bf16) (o : FVec Ideal S512x1024 .bf16) : FVec Ideal S512x1024 .f32 :=
  addf (shapeCast S512x1024 x shapeCasts_S512x1024_S512x1024)
    (matmul dot_S512x1024_S1024x1024_S512x1024_1_0_0_1_n_n none o (shapeCast S1024x1024 wo shapeCasts_S1024x1024_S1024x1024) (constant S512x1024 .f32 0x00000000#32))

theorem sc_at (q : FVec Ideal S1x512x128 .bf16) (k : FVec Ideal S1x2048x128 .bf16) (p : Fin 512) (κ : Fin 2048) :
    sc q k (ix2 p κ) = ∑ e : Fin 128, q (ix3 0 p e) * k (ix3 0 κ e) := by
  pointwise [sc]

theorem cm_at (s : FVec Ideal S512x2048 .f32) (p : Fin 512) (l : Fin 128) : cm s (ix2 p l) = max (max (max (max (max (max (max (max (max (max (max (max (max (max (max (s (ix2 p ⟨l, by omega⟩)) (s (ix2 p ⟨128 + l, by omega⟩))) (s (ix2 p ⟨256 + l, by omega⟩))) (s (ix2 p ⟨384 + l, by omega⟩))) (s (ix2 p ⟨512 + l, by omega⟩))) (s (ix2 p ⟨640 + l, by omega⟩))) (s (ix2 p ⟨768 + l, by omega⟩))) (s (ix2 p ⟨896 + l, by omega⟩))) (s (ix2 p ⟨1024 + l, by omega⟩))) (s (ix2 p ⟨1152 + l, by omega⟩))) (s (ix2 p ⟨1280 + l, by omega⟩))) (s (ix2 p ⟨1408 + l, by omega⟩))) (s (ix2 p ⟨1536 + l, by omega⟩))) (s (ix2 p ⟨1664 + l, by omega⟩))) (s (ix2 p ⟨1792 + l, by omega⟩))) (s (ix2 p ⟨1920 + l, by omega⟩)) := by
  pointwise [cm]

theorem bot_word : Ideal.ofBits .f32 0xFF800000#32 = ⊥ := by
  simp [Ideal.ofBits, Ideal.ieee]

theorem rmax_at (s : FVec Ideal S512x2048 .f32) (p : Fin 512) : rmax s (ix1 p) = M.mx fun κ => s (ix2 p κ) := by
  pointwise [rmax]
  unfold M.mx
  simp only [cm_at]
  refine le_antisymm ?_ ?_
  · rw [Finset.fold_max_le]
    refine ⟨?_, fun l _ => ?_⟩
    · first | exact bot_le | (rw [bot_word]; exact bot_le)
    · simp only [max_le_iff]
      refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩
      all_goals exact (Finset.le_fold_max _).mpr (Or.inr ⟨_, Finset.mem_univ _, le_rfl⟩)
  · rw [Finset.fold_max_le]
    refine ⟨bot_le, fun κ _ => (Finset.le_fold_max _).mpr (Or.inr ⟨⟨κ % 128, Nat.mod_lt _ (by decide)⟩, Finset.mem_univ _, ?_⟩)⟩
    have hκ := κ.isLt
    have hd : (κ : ℕ) / 128 < 16 := by omega
    obtain ⟨c, hc⟩ : ∃ c, (κ : ℕ) / 128 = c := ⟨_, rfl⟩
    rw [hc] at hd
    interval_cases c
    · have e : κ = ⟨(κ : ℕ) % 128, by omega⟩ := Fin.ext (by dsimp only; omega)
      have e' : s (ix2 p κ) = s (ix2 p ⟨(κ : ℕ) % 128, by omega⟩) := congrArg (fun z => s (ix2 p z)) e
      rw [e']
      simp only [le_max_iff, le_refl, true_or, or_true]
    · have e : κ = ⟨128 + (κ : ℕ) % 128, by omega⟩ := Fin.ext (by dsimp only; omega)
      have e' : s (ix2 p κ) = s (ix2 p ⟨128 + (κ : ℕ) % 128, by omega⟩) := congrArg (fun z => s (ix2 p z)) e
      rw [e']
      simp only [le_max_iff, le_refl, true_or, or_true]
    · have e : κ = ⟨256 + (κ : ℕ) % 128, by omega⟩ := Fin.ext (by dsimp only; omega)
      have e' : s (ix2 p κ) = s (ix2 p ⟨256 + (κ : ℕ) % 128, by omega⟩) := congrArg (fun z => s (ix2 p z)) e
      rw [e']
      simp only [le_max_iff, le_refl, true_or, or_true]
    · have e : κ = ⟨384 + (κ : ℕ) % 128, by omega⟩ := Fin.ext (by dsimp only; omega)
      have e' : s (ix2 p κ) = s (ix2 p ⟨384 + (κ : ℕ) % 128, by omega⟩) := congrArg (fun z => s (ix2 p z)) e
      rw [e']
      simp only [le_max_iff, le_refl, true_or, or_true]
    · have e : κ = ⟨512 + (κ : ℕ) % 128, by omega⟩ := Fin.ext (by dsimp only; omega)
      have e' : s (ix2 p κ) = s (ix2 p ⟨512 + (κ : ℕ) % 128, by omega⟩) := congrArg (fun z => s (ix2 p z)) e
      rw [e']
      simp only [le_max_iff, le_refl, true_or, or_true]
    · have e : κ = ⟨640 + (κ : ℕ) % 128, by omega⟩ := Fin.ext (by dsimp only; omega)
      have e' : s (ix2 p κ) = s (ix2 p ⟨640 + (κ : ℕ) % 128, by omega⟩) := congrArg (fun z => s (ix2 p z)) e
      rw [e']
      simp only [le_max_iff, le_refl, true_or, or_true]
    · have e : κ = ⟨768 + (κ : ℕ) % 128, by omega⟩ := Fin.ext (by dsimp only; omega)
      have e' : s (ix2 p κ) = s (ix2 p ⟨768 + (κ : ℕ) % 128, by omega⟩) := congrArg (fun z => s (ix2 p z)) e
      rw [e']
      simp only [le_max_iff, le_refl, true_or, or_true]
    · have e : κ = ⟨896 + (κ : ℕ) % 128, by omega⟩ := Fin.ext (by dsimp only; omega)
      have e' : s (ix2 p κ) = s (ix2 p ⟨896 + (κ : ℕ) % 128, by omega⟩) := congrArg (fun z => s (ix2 p z)) e
      rw [e']
      simp only [le_max_iff, le_refl, true_or, or_true]
    · have e : κ = ⟨1024 + (κ : ℕ) % 128, by omega⟩ := Fin.ext (by dsimp only; omega)
      have e' : s (ix2 p κ) = s (ix2 p ⟨1024 + (κ : ℕ) % 128, by omega⟩) := congrArg (fun z => s (ix2 p z)) e
      rw [e']
      simp only [le_max_iff, le_refl, true_or, or_true]
    · have e : κ = ⟨1152 + (κ : ℕ) % 128, by omega⟩ := Fin.ext (by dsimp only; omega)
      have e' : s (ix2 p κ) = s (ix2 p ⟨1152 + (κ : ℕ) % 128, by omega⟩) := congrArg (fun z => s (ix2 p z)) e
      rw [e']
      simp only [le_max_iff, le_refl, true_or, or_true]
    · have e : κ = ⟨1280 + (κ : ℕ) % 128, by omega⟩ := Fin.ext (by dsimp only; omega)
      have e' : s (ix2 p κ) = s (ix2 p ⟨1280 + (κ : ℕ) % 128, by omega⟩) := congrArg (fun z => s (ix2 p z)) e
      rw [e']
      simp only [le_max_iff, le_refl, true_or, or_true]
    · have e : κ = ⟨1408 + (κ : ℕ) % 128, by omega⟩ := Fin.ext (by dsimp only; omega)
      have e' : s (ix2 p κ) = s (ix2 p ⟨1408 + (κ : ℕ) % 128, by omega⟩) := congrArg (fun z => s (ix2 p z)) e
      rw [e']
      simp only [le_max_iff, le_refl, true_or, or_true]
    · have e : κ = ⟨1536 + (κ : ℕ) % 128, by omega⟩ := Fin.ext (by dsimp only; omega)
      have e' : s (ix2 p κ) = s (ix2 p ⟨1536 + (κ : ℕ) % 128, by omega⟩) := congrArg (fun z => s (ix2 p z)) e
      rw [e']
      simp only [le_max_iff, le_refl, true_or, or_true]
    · have e : κ = ⟨1664 + (κ : ℕ) % 128, by omega⟩ := Fin.ext (by dsimp only; omega)
      have e' : s (ix2 p κ) = s (ix2 p ⟨1664 + (κ : ℕ) % 128, by omega⟩) := congrArg (fun z => s (ix2 p z)) e
      rw [e']
      simp only [le_max_iff, le_refl, true_or, or_true]
    · have e : κ = ⟨1792 + (κ : ℕ) % 128, by omega⟩ := Fin.ext (by dsimp only; omega)
      have e' : s (ix2 p κ) = s (ix2 p ⟨1792 + (κ : ℕ) % 128, by omega⟩) := congrArg (fun z => s (ix2 p z)) e
      rw [e']
      simp only [le_max_iff, le_refl, true_or, or_true]
    · have e : κ = ⟨1920 + (κ : ℕ) % 128, by omega⟩ := Fin.ext (by dsimp only; omega)
      have e' : s (ix2 p κ) = s (ix2 p ⟨1920 + (κ : ℕ) % 128, by omega⟩) := congrArg (fun z => s (ix2 p z)) e
      rw [e']
      simp only [le_max_iff, le_refl, true_or, or_true]

theorem mb_at (m : FVec Ideal S512 .f32) (p : Fin 512) (l : Fin 128) : mb m (ix2 p l) = m (ix1 p) := by
  pointwise [mb]

theorem e0_at (s : FVec Ideal S512x2048 .f32) (m : FVec Ideal S512 .f32) (p : Fin 512) (l : Fin 128) :
    e0 s m (ix2 p l) = Ideal.exp2 (s (ix2 p ⟨0 + l, by omega⟩) - m (ix1 p)) := by
  pointwise [e0, mb_at]
  rfl

theorem e1_at (s : FVec Ideal S512x2048 .f32) (m : FVec Ideal S512 .f32) (p : Fin 512) (l : Fin 128) :
    e1 s m (ix2 p l) = Ideal.exp2 (s (ix2 p ⟨128 + l, by omega⟩) - m (ix1 p)) := by
  pointwise [e1, mb_at]
  rfl

theorem e2_at (s : FVec Ideal S512x2048 .f32) (m : FVec Ideal S512 .f32) (p : Fin 512) (l : Fin 128) :
    e2 s m (ix2 p l) = Ideal.exp2 (s (ix2 p ⟨256 + l, by omega⟩) - m (ix1 p)) := by
  pointwise [e2, mb_at]
  rfl

theorem e3_at (s : FVec Ideal S512x2048 .f32) (m : FVec Ideal S512 .f32) (p : Fin 512) (l : Fin 128) :
    e3 s m (ix2 p l) = Ideal.exp2 (s (ix2 p ⟨384 + l, by omega⟩) - m (ix1 p)) := by
  pointwise [e3, mb_at]
  rfl

theorem e4_at (s : FVec Ideal S512x2048 .f32) (m : FVec Ideal S512 .f32) (p : Fin 512) (l : Fin 128) :
    e4 s m (ix2 p l) = Ideal.exp2 (s (ix2 p ⟨512 + l, by omega⟩) - m (ix1 p)) := by
  pointwise [e4, mb_at]
  rfl

theorem e5_at (s : FVec Ideal S512x2048 .f32) (m : FVec Ideal S512 .f32) (p : Fin 512) (l : Fin 128) :
    e5 s m (ix2 p l) = Ideal.exp2 (s (ix2 p ⟨640 + l, by omega⟩) - m (ix1 p)) := by
  pointwise [e5, mb_at]
  rfl

theorem e6_at (s : FVec Ideal S512x2048 .f32) (m : FVec Ideal S512 .f32) (p : Fin 512) (l : Fin 128) :
    e6 s m (ix2 p l) = Ideal.exp2 (s (ix2 p ⟨768 + l, by omega⟩) - m (ix1 p)) := by
  pointwise [e6, mb_at]
  rfl

theorem e7_at (s : FVec Ideal S512x2048 .f32) (m : FVec Ideal S512 .f32) (p : Fin 512) (l : Fin 128) :
    e7 s m (ix2 p l) = Ideal.exp2 (s (ix2 p ⟨896 + l, by omega⟩) - m (ix1 p)) := by
  pointwise [e7, mb_at]
  rfl

theorem e8_at (s : FVec Ideal S512x2048 .f32) (m : FVec Ideal S512 .f32) (p : Fin 512) (l : Fin 128) :
    e8 s m (ix2 p l) = Ideal.exp2 (s (ix2 p ⟨1024 + l, by omega⟩) - m (ix1 p)) := by
  pointwise [e8, mb_at]
  rfl

theorem e9_at (s : FVec Ideal S512x2048 .f32) (m : FVec Ideal S512 .f32) (p : Fin 512) (l : Fin 128) :
    e9 s m (ix2 p l) = Ideal.exp2 (s (ix2 p ⟨1152 + l, by omega⟩) - m (ix1 p)) := by
  pointwise [e9, mb_at]
  rfl

theorem e10_at (s : FVec Ideal S512x2048 .f32) (m : FVec Ideal S512 .f32) (p : Fin 512) (l : Fin 128) :
    e10 s m (ix2 p l) = Ideal.exp2 (s (ix2 p ⟨1280 + l, by omega⟩) - m (ix1 p)) := by
  pointwise [e10, mb_at]
  rfl

theorem e11_at (s : FVec Ideal S512x2048 .f32) (m : FVec Ideal S512 .f32) (p : Fin 512) (l : Fin 128) :
    e11 s m (ix2 p l) = Ideal.exp2 (s (ix2 p ⟨1408 + l, by omega⟩) - m (ix1 p)) := by
  pointwise [e11, mb_at]
  rfl

theorem e12_at (s : FVec Ideal S512x2048 .f32) (m : FVec Ideal S512 .f32) (p : Fin 512) (l : Fin 128) :
    e12 s m (ix2 p l) = Ideal.exp2 (s (ix2 p ⟨1536 + l, by omega⟩) - m (ix1 p)) := by
  pointwise [e12, mb_at]
  rfl

theorem e13_at (s : FVec Ideal S512x2048 .f32) (m : FVec Ideal S512 .f32) (p : Fin 512) (l : Fin 128) :
    e13 s m (ix2 p l) = Ideal.exp2 (s (ix2 p ⟨1664 + l, by omega⟩) - m (ix1 p)) := by
  pointwise [e13, mb_at]
  rfl

theorem e14_at (s : FVec Ideal S512x2048 .f32) (m : FVec Ideal S512 .f32) (p : Fin 512) (l : Fin 128) :
    e14 s m (ix2 p l) = Ideal.exp2 (s (ix2 p ⟨1792 + l, by omega⟩) - m (ix1 p)) := by
  pointwise [e14, mb_at]
  rfl

theorem e15_at (s : FVec Ideal S512x2048 .f32) (m : FVec Ideal S512 .f32) (p : Fin 512) (l : Fin 128) :
    e15 s m (ix2 p l) = Ideal.exp2 (s (ix2 p ⟨1920 + l, by omega⟩) - m (ix1 p)) := by
  pointwise [e15, mb_at]
  rfl

/-- the weights of a column group by its number -/
def ef (s : FVec Ideal S512x2048 .f32) (m : FVec Ideal S512 .f32) : Fin 16 → FVec Ideal S512x128 .bf16 :=
  ![e0 s m, e1 s m, e2 s m, e3 s m, e4 s m, e5 s m, e6 s m, e7 s m, e8 s m, e9 s m, e10 s m, e11 s m, e12 s m, e13 s m, e14 s m, e15 s m]

theorem ef_at (s : FVec Ideal S512x2048 .f32) (m : FVec Ideal S512 .f32) (p : Fin 512) (l : Fin 128) : ∀ n : Fin 16,
    ef s m n (ix2 p l) = Ideal.exp2 (s (ix2 p ⟨128 * n + l, by omega⟩) - m (ix1 p))
  | ⟨0, _⟩ => e0_at s m p l
  | ⟨1, _⟩ => e1_at s m p l
  | ⟨2, _⟩ => e2_at s m p l
  | ⟨3, _⟩ => e3_at s m p l
  | ⟨4, _⟩ => e4_at s m p l
  | ⟨5, _⟩ => e5_at s m p l
  | ⟨6, _⟩ => e6_at s m p l
  | ⟨7, _⟩ => e7_at s m p l
  | ⟨8, _⟩ => e8_at s m p l
  | ⟨9, _⟩ => e9_at s m p l
  | ⟨10, _⟩ => e10_at s m p l
  | ⟨11, _⟩ => e11_at s m p l
  | ⟨12, _⟩ => e12_at s m p l
  | ⟨13, _⟩ => e13_at s m p l
  | ⟨14, _⟩ => e14_at s m p l
  | ⟨15, _⟩ => e15_at s m p l
  | ⟨n + 16, h⟩ => absurd h (by omega)

theorem pw_at (s : FVec Ideal S512x2048 .f32) (m : FVec Ideal S512 .f32) (p : Fin 512) (c : Fin 2048) :
    pw s m (ix2 p c) = Ideal.exp2 (s (ix2 p c) - m (ix1 p)) :=
  (side (n := 512) (w := 128) (m := 2048) (ef s m) concatenates_S512x128_S512x128_S512x128_S512x128_S512x128_S512x128_S512x128_S512x128_S512x128_S512x128_S512x128_S512x128_S512x128_S512x128_S512x128_S512x128_S512x2048_d1 (by decide) rfl p c).trans ((ef_at s m p _ _).trans
    (congrArg (fun z => Ideal.exp2 (s (ix2 p z) - m (ix1 p))) (Fin.ext (Nat.div_add_mod (c : ℕ) 128))))

theorem hd_at (q : FVec Ideal S1x512x128 .bf16) (k v : FVec Ideal S1x2048x128 .bf16) (p : Fin 512) (e : Fin 128) :
    hd q k v (ix2 p e) = ∑ κ : Fin 2048, Ideal.exp2 (sc q k (ix2 p κ) - M.mx fun κ => sc q k (ix2 p κ)) * v (ix3 0 κ e) := by
  pointwise [hd, pvm]
  simp only [pw_at, rmax_at]

theorem lane : ∀ e : Fin 128, IntOp.cmpi .slt (BitVec.ofNat 32 e) 64#32 = if (e : ℕ) < 64 then 1#1 else 0#1 := by
  decide +kernel

theorem pr_at (a0 a1 : FVec Ideal S512x128 .f32) (p : Fin 512) (e : Fin 128) :
    pr a0 a1 (ix2 p e) = if h : (e : ℕ) < 64 then Ideal.div (a0 (ix2 p e)) (a0 (ix2 p ⟨e + 64, by omega⟩))
      else Ideal.div (a1 (ix2 p e)) (a1 (ix2 p ⟨e - 64, by omega⟩)) := by
  have h1 := lane e
  have h2 := lane ⟨(e + 128 - 64) % 128, Nat.mod_lt _ (by decide)⟩
  pointwise [pr]
  rw [h1]
  refine (congrArg (fun z => Ideal.div _ (Scalar.select z _ _)) h2).trans ?_
  by_cases he : (e : ℕ) < 64
  · have e2 : ((e : ℕ) + 128 - 64) % 128 = e + 64 := by omega
    rw [dif_pos he, if_pos he, if_neg (by dsimp only; omega)]
    exact congrArg (fun z => Ideal.div (a0 (ix2 p e)) (a0 (ix2 p z))) (Fin.ext e2)
  · have e2 : ((e : ℕ) + 128 - 64) % 128 = e - 64 := by omega
    rw [dif_neg he, if_neg he, if_pos (by dsimp only; omega)]
    exact congrArg (fun z => Ideal.div (a1 (ix2 p e)) (a1 (ix2 p z))) (Fin.ext e2)

theorem cat8_at (f : Fin 8 → FVec Ideal S512x128 .bf16) (p : Fin 512) (c : Fin 1024) :
    cat8 (f 0) (f 1) (f 2) (f 3) (f 4) (f 5) (f 6) (f 7) (ix2 p c) = f ⟨c / 128, by omega⟩ (ix2 p ⟨c % 128, by omega⟩) :=
  side (n := 512) (w := 128) (m := 1024) f concatenates_S512x128_S512x128_S512x128_S512x128_S512x128_S512x128_S512x128_S512x128_S512x1024_d1 (by decide) rfl p c

theorem xo_at (x : FVec Ideal S512x1024 .f32) (wo : FVec Ideal S1024x1024 .bf16) (o : FVec Ideal S512x1024 .bf16) (p : Fin 512) (e : Fin 1024) :
    xo x wo o (ix2 p e) = x (ix2 p e) + M.mv (fun c => o (ix2 p c)) (fun c e => wo (ix2 c e)) e := by
  unfold M.mv
  pointwise [xo]

end Cert.KernelIdeal.Attn
end
-- ==== Proof.Qkv.lean ====
module

public import proofs.«01_k».proof.Proof.ModelA
public import proofs.«01_k».proof.Proof.ModelQ
public import proofs.«01_k».proof.Proof.Ffn
public import proofs.«01_k».proof.Proof.Attn
public import proofs.«01_k».proof.Proof.Gen.KernelIdeal.Frame.Region0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The projections' operations, each read at an element. -/
namespace Cert.KernelIdeal.Qkv
open Cert.KernelIdeal Cert.KernelIdeal.Gen

/-- which half of its block a row of the averaging matrix belongs to -/
def w67 : IVec S256x128 32 := k0_pay11 (Scalar.select (Scalar.cmpi .eq 128#32 0#32) 1#32 128#32) k0_pay7 k0_pay8 k0_pay9 k0_pay10

/-- which half a column belongs to -/
def w91 : IVec S256x128 32 :=
  have w27 : IVec S256x128 32 := iota .tc S256x128 32 [1] iota_S256x128_d1_w32
  select (andi (k0_pay13 w27) (cmpi .ne (k0_pay14 w27) (broadcast S256x128 0#32))) (subi (k0_pay12 w27) (broadcast S256x128 1#32)) (k0_pay12 w27)

theorem w67_at : ∀ (k : Fin 256), w67 (ix2 k 0) = BitVec.ofNat 32 ((k : ℕ) % 128 / 64) := by decide +kernel

theorem w91_at : ∀ (l : Fin 128), w91 (ix2 0 l) = BitVec.ofNat 32 ((l : ℕ) / 64) := by decide +kernel

theorem half_eq : ∀ (a b : Fin 2), IntOp.cmpi .eq (BitVec.ofNat 32 (a : ℕ)) (BitVec.ofNat 32 (b : ℕ)) = if (a : ℕ) = b then 1#1 else 0#1 := by decide +kernel

/-- the averaging matrix -/
def avgV : FVec Ideal S256x128 .bf16 :=
  truncf .bf16 (select (cmpi .eq w67 w91) (broadcast S256x128 (Scalar.ofBits .f32 0x3C800000#32 : Ideal .f32)) (broadcast S256x128 (Scalar.ofBits .f32 0x00000000#32 : Ideal .f32))) bitsLt_bf16_f32

theorem avgV_at (k : Fin 256) (l : Fin 128) : avgV (ix2 k l) = if (k : ℕ) % 128 / 64 = (l : ℕ) / 64 then Ideal.ofBits .f32 0x3C800000#32 else 0 := by
  have h1 : w67 (ix2 k l) = BitVec.ofNat 32 ((k : ℕ) % 128 / 64) := w67_at k
  have h2 : w91 (ix2 k l) = BitVec.ofNat 32 ((l : ℕ) / 64) := w91_at l
  have h3 := half_eq ⟨(k : ℕ) % 128 / 64, by omega⟩ ⟨(l : ℕ) / 64, by omega⟩
  unfold avgV
  pointwise
  rw [h1, h2]
  refine (congrArg (fun z => Scalar.select z _ _) h3).trans ?_
  dsimp only
  split <;> rfl

/-- a block's squares and what rounding leaves of them, side by side -/
def sqV (b : FVec Ideal S512x128 .f32) : FVec Ideal S512x256 .bf16 :=
  have v110 : FVec Ideal S512x128 .f32 := mulf b b
  have v111 : FVec Ideal S512x128 .bf16 := truncf .bf16 v110 bitsLt_bf16_f32
  have v114 : FVec Ideal S512x128 .bf16 := truncf .bf16 (subf v110 (extf .f32 v111 bitsLt_bf16_f32)) bitsLt_bf16_f32
  concatenate S512x256 1 [⟨S512x128, v111⟩, ⟨S512x128, v114⟩] concatenates_S512x128_S512x128_S512x256_d1

theorem sqV_at (b : FVec Ideal S512x128 .f32) (p : Fin 512) (k : Fin 256) : sqV b (ix2 p k)
    = if h : (k : ℕ) < 128 then b (ix2 p ⟨k, h⟩) * b (ix2 p ⟨k, h⟩)
      else b (ix2 p ⟨k - 128, by omega⟩) * b (ix2 p ⟨k - 128, by omega⟩) - b (ix2 p ⟨k - 128, by omega⟩) * b (ix2 p ⟨k - 128, by omega⟩) := by
  pointwise [sqV]

/-- a block normalised by its halves' mean squares, times the gain -/
def xnV (b : FVec Ideal S512x128 .f32) (g : FVec Ideal S1x128 .f32) : FVec Ideal S512x128 .f32 :=
  mulf (mulf b (rsqrt (addf (matmul dot_S512x256_S256x128_S512x128_1_0_0_1_n_n none (sqV b) avgV (constant S512x128 .f32 0x00000000#32))
    (broadcast S512x128 (Scalar.ofBits .f32 0x358637BD#32 : Ideal .f32))))) (broadcastTo S512x128 g broadcasts_S1x128_S512x128)

theorem xnV_at (b : FVec Ideal S512x128 .f32) (g : FVec Ideal S1x128 .f32) (p : Fin 512) (e : Fin 128) :
    xnV b g (ix2 p e) = M.xn (fun l => b (ix2 p l)) (fun l => g (ix2 0 l)) e := by
  unfold M.xn M.ms
  pointwise [xnV, sqV]
  simp only [avgV_at]

/-- the block turned -/
def nrV (b : FVec Ideal S512x128 .f32) (g : FVec Ideal S1x128 .f32) (co sa sb : FVec Ideal S512x128 .f32) : FVec Ideal S512x128 .f32 :=
  addf (addf (mulf (xnV b g) co) (mulf (dynamicRotate 1 16#32 none (xnV b g) rotates_S512x128_d1) sa)) (mulf (dynamicRotate 1 112#32 none (xnV b g) rotates_S512x128_d1) sb)

theorem nrV_at (b : FVec Ideal S512x128 .f32) (g : FVec Ideal S1x128 .f32) (co sa sb : FVec Ideal S512x128 .f32) (p : Fin 512) (e : Fin 128) :
    nrV b g co sa sb (ix2 p e) = M.rope (M.xn (fun l => b (ix2 p l)) (fun l => g (ix2 0 l))) (fun l => co (ix2 p l)) (fun l => sa (ix2 p l)) (fun l => sb (ix2 p l)) e := by
  have e1 : ((e : ℕ) + 128 - 16) = e + 112 := by omega
  have e2 : ((e : ℕ) + 128 - 112) = e + 16 := by omega
  pointwise [nrV]
  simp only [xnV_at, e1, e2]
  rfl

/-- the projections' product for a tile of columns -/
def mmV (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256) (constant S512x256 .f32 0x00000000#32)

theorem mmV_at (h : FVec Ideal S512x1024 .bf16) (w : FVec Ideal S1024x256 .bf16) (p : Fin 512) (c : Fin 256) :
    mmV h w (ix2 p c) = M.mv (fun k => h (ix2 p k)) (fun k c => w (ix2 k c)) c := by
  unfold M.mv
  pointwise [mmV]

/-- the left factor, with a zero made of an earlier block added to its first lanes -/
def lhsV (h : FVec Ideal S512x1024 .bf16) (d : FVec Ideal S512x128 .f32) : FVec Ideal S512x1024 .bf16 :=
  have z : FVec Ideal S512x128 .f32 := broadcast S512x128 (Scalar.ofBits .f32 0x00000000#32 : Ideal .f32)
  concatenate S512x1024 1 [⟨S512x128, addf (extractStridedSlice S512x128 ![0, 0] h slices_S512x1024_o0_0_S512x128) (truncf .bf16 (minimumf (maximumf d z) z) bitsLt_bf16_f32)⟩,
    ⟨S512x896, extractStridedSlice S512x896 ![0, 128] h slices_S512x1024_o0_128_S512x896⟩] concatenates_S512x128_S512x896_S512x1024_d1

theorem lhsV_eq (h : FVec Ideal S512x1024 .bf16) (d : FVec Ideal S512x128 .f32) : lhsV h d = h := by
  funext i
  obtain ⟨p, c, rfl⟩ : ∃ (a : Fin 512) (b : Fin 1024), i = ix2 a b := ⟨i 0, i 1, eq_ix2 i⟩
  pointwise [lhsV]
  split
  · rw [min_eq_right (le_max_right _ _), add_zero]
  · next hc => exact congrArg (fun z => h (ix2 p z)) (Fin.ext (by dsimp only; omega))

/-- the two halves of a tile -/
def hL (y : FVec Ideal S512x256 .f32) : FVec Ideal S512x128 .f32 := extractStridedSlice S512x128 ![0, 0] y slices_S512x256_o0_0_S512x128
def hR (y : FVec Ideal S512x256 .f32) : FVec Ideal S512x128 .f32 := extractStridedSlice S512x128 ![0, 128] y slices_S512x256_o0_128_S512x128

theorem hL_at (y : FVec Ideal S512x256 .f32) (p : Fin 512) (e : Fin 128) : hL y (ix2 p e) = y (ix2 p ⟨e, by omega⟩) := by
  pointwise [hL]
theorem hR_at (y : FVec Ideal S512x256 .f32) (p : Fin 512) (e : Fin 128) : hR y (ix2 p e) = y (ix2 p ⟨128 + e, by omega⟩) := by
  pointwise [hR]

/-- lanes below 64 from the first block, the others from the second, as a plane -/
def st (a b : FVec Ideal S512x128 .f32) : FVec Ideal S1x512x128 .bf16 :=
  shapeCast S1x512x128 (truncf .bf16 (select k0_pay3 a b) bitsLt_bf16_f32 : FVec Ideal S512x128 .bf16) shapeCasts_S512x128_S1x512x128

theorem st_at (a b : FVec Ideal S512x128 .f32) (p : Fin 512) (e : Fin 128) : st a b (ix3 0 p e) = if (e : ℕ) / 64 = 0 then a (ix2 p e) else b (ix2 p e) := by
  have h1 := Attn.lane e
  pointwise [st, k0_pay3]
  rw [h1]
  by_cases he : (e : ℕ) < 64
  · rw [if_pos he, if_pos (by omega)]; rfl
  · rw [if_neg he, if_neg (by omega)]; rfl

/-- a block's halves exchanged -/
def sw (b : FVec Ideal S512x128 .f32) : FVec Ideal S512x128 .f32 := dynamicRotate 1 64#32 none b rotates_S512x128_d1

theorem sw_at (b : FVec Ideal S512x128 .f32) (p : Fin 512) (e : Fin 128) : sw b (ix2 p e) = b (ix2 p ⟨(e + 64) % 128, Nat.mod_lt _ (by decide)⟩) := by
  have e1 : ((e : ℕ) + 128 - 64) = e + 64 := by omega
  pointwise [sw]
  simp only [e1]

/-- a block of one number -/
def bc (w : BitVec 32) : FVec Ideal S512x128 .f32 := broadcast S512x128 (Scalar.ofBits .f32 w : Ideal .f32)

theorem bc0_at (p : Fin 512) (e : Fin 128) : bc 0x00000000#32 (ix2 p e) = 0 := by pointwise [bc]
theorem bc1_at (p : Fin 512) (e : Fin 128) : bc 0x3F800000#32 (ix2 p e) = 1 := by pointwise [bc]

/-- the queries' gain, scaled -/
def gqV (g : FVec Ideal S1x128 .f32) : FVec Ideal S1x128 .f32 := k0_pay16 g

theorem gqV_at (g : FVec Ideal S1x128 .f32) (e : Fin 128) : gqV g (ix2 0 e) = g (ix2 0 e) * ((((Real.log 2)⁻¹ * (1 / 8) : ℝ)) : EReal) := by
  pointwise [gqV, k0_pay16]
  rw [Scal.named_pos]

end Cert.KernelIdeal.Qkv
end
-- ==== Proof.QkvBlk.lean ====
module

public import proofs.«01_k».proof.Proof.ModelA
public import proofs.«01_k».proof.Proof.Qkv
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The projections' region: what its stores are, read at an element. -/
namespace Cert.KernelIdeal.Qkv
open Cert.KernelIdeal Cert.KernelIdeal.Gen

section block
variable (x0 : Vec Ideal S512x1024 .f32) (x1 : Vec Ideal S1x1024 .f32) (x2 : Vec Ideal S1024x1536 .bf16) (x3 : Vec Ideal S1x128 .f32) (x4 : Vec Ideal S1x128 .f32)
  (x5 : Vec Ideal S512x128 .f32) (x6 : Vec Ideal S512x128 .f32) (x7 : Vec Ideal S512x128 .f32)

/-- the rows normalised -/
def hV : FVec Ideal S512x1024 .bf16 := k0_pay83 x0 x1 x2 x3 x4 x5 x6 x7

theorem hV_eq : hV x0 x1 x2 x3 x4 x5 x6 x7 = Ffn.nrmV (shapeCast S512x1024 (View.ld x0 r0_0) shapeCasts_S512x1024_S512x1024) (View.ld x1 r0_1) := rfl

theorem avg_eq : k0_pay92 x0 x1 x2 x3 x4 x5 x6 x7 = avgV := rfl

/-- a block with the queries' gain -/
def nq (b : FVec Ideal S512x128 .f32) : FVec Ideal S512x128 .f32 := nrV b (k0_pay93 x0 x1 x2 x3 x4 x5 x6 x7) (k0_pay85 x0 x1 x2 x3 x4 x5 x6 x7) (k0_pay86 x0 x1 x2 x3 x4 x5 x6 x7) (k0_pay87 x0 x1 x2 x3 x4 x5 x6 x7)
/-- a block with the keys' gain -/
def nk (b : FVec Ideal S512x128 .f32) : FVec Ideal S512x128 .f32 := nrV b (k0_pay94 x0 x1 x2 x3 x4 x5 x6 x7) (k0_pay85 x0 x1 x2 x3 x4 x5 x6 x7) (k0_pay86 x0 x1 x2 x3 x4 x5 x6 x7) (k0_pay87 x0 x1 x2 x3 x4 x5 x6 x7)

/-- tile 0 of the projections -/
def y0 : FVec Ideal S512x256 .f32 := mmV (hV x0 x1 x2 x3 x4 x5 x6 x7) (View.ld x2 r0_4)

/-- tile 1 of the projections -/
def y1 : FVec Ideal S512x256 .f32 := mmV (hV x0 x1 x2 x3 x4 x5 x6 x7) (View.ld x2 r0_5)

/-- tile 2 of the projections -/
def y2 : FVec Ideal S512x256 .f32 := mmV (lhsV (hV x0 x1 x2 x3 x4 x5 x6 x7) (nq x0 x1 x2 x3 x4 x5 x6 x7 (hR (y0 x0 x1 x2 x3 x4 x5 x6 x7)))) (View.ld x2 r0_10)

/-- tile 3 of the projections -/
def y3 : FVec Ideal S512x256 .f32 := mmV (lhsV (hV x0 x1 x2 x3 x4 x5 x6 x7) (nq x0 x1 x2 x3 x4 x5 x6 x7 (hR (y1 x0 x1 x2 x3 x4 x5 x6 x7)))) (View.ld x2 r0_15)

/-- tile 4 of the projections -/
def y4 : FVec Ideal S512x256 .f32 := mmV (lhsV (hV x0 x1 x2 x3 x4 x5 x6 x7) (nq x0 x1 x2 x3 x4 x5 x6 x7 (hR (y2 x0 x1 x2 x3 x4 x5 x6 x7)))) (View.ld x2 r0_20)

/-- tile 5 of the projections -/
def y5 : FVec Ideal S512x256 .f32 := mmV (lhsV (hV x0 x1 x2 x3 x4 x5 x6 x7) (nq x0 x1 x2 x3 x4 x5 x6 x7 (hR (y3 x0 x1 x2 x3 x4 x5 x6 x7)))) (View.ld x2 r0_25)

theorem p95 : k0_pay95 x0 x1 x2 x3 x4 x5 x6 x7 = y0 x0 x1 x2 x3 x4 x5 x6 x7 := rfl
theorem p96 : k0_pay96 x0 x1 x2 x3 x4 x5 x6 x7 = y1 x0 x1 x2 x3 x4 x5 x6 x7 := rfl
theorem p97_98 : k0_pay23 (k0_pay87 x0 x1 x2 x3 x4 x5 x6 x7) (k0_pay97 x0 x1 x2 x3 x4 x5 x6 x7) (k0_pay98 x0 x1 x2 x3 x4 x5 x6 x7) = nq x0 x1 x2 x3 x4 x5 x6 x7 (hL (y0 x0 x1 x2 x3 x4 x5 x6 x7)) := rfl
theorem p99 : k0_pay99 x0 x1 x2 x3 x4 x5 x6 x7 = nq x0 x1 x2 x3 x4 x5 x6 x7 (hR (y0 x0 x1 x2 x3 x4 x5 x6 x7)) := by
  unfold k0_pay99
  rw [p95]
  rfl
theorem p100 : k0_pay100 x0 x1 x2 x3 x4 x5 x6 x7 = y2 x0 x1 x2 x3 x4 x5 x6 x7 := by
  unfold k0_pay100
  rw [p99]
  rfl
theorem p101 : k0_pay101 x0 x1 x2 x3 x4 x5 x6 x7 = y3 x0 x1 x2 x3 x4 x5 x6 x7 := by
  unfold k0_pay101
  rw [p96]
  rfl
theorem p102 : k0_pay102 x0 x1 x2 x3 x4 x5 x6 x7 = y4 x0 x1 x2 x3 x4 x5 x6 x7 := by
  unfold k0_pay102
  rw [p100]
  rfl
theorem p106 : k0_pay106 x0 x1 x2 x3 x4 x5 x6 x7 = y5 x0 x1 x2 x3 x4 x5 x6 x7 := by
  unfold k0_pay106 k0_pay103 k0_pay104 k0_pay105
  rw [p101]
  rfl

theorem s8_0 : k0_pay24 (k0_pay84 x0 x1 x2 x3 x4 x5 x6 x7) (k0_pay87 x0 x1 x2 x3 x4 x5 x6 x7) (k0_pay97 x0 x1 x2 x3 x4 x5 x6 x7) (k0_pay98 x0 x1 x2 x3 x4 x5 x6 x7) = st (nq x0 x1 x2 x3 x4 x5 x6 x7 (hL (y0 x0 x1 x2 x3 x4 x5 x6 x7))) (bc 0x00000000#32) := by
  rfl

theorem s8_1 : k0_pay25 (k0_pay84 x0 x1 x2 x3 x4 x5 x6 x7) (k0_pay87 x0 x1 x2 x3 x4 x5 x6 x7) (k0_pay97 x0 x1 x2 x3 x4 x5 x6 x7) (k0_pay98 x0 x1 x2 x3 x4 x5 x6 x7) = st (bc 0x00000000#32) (nq x0 x1 x2 x3 x4 x5 x6 x7 (hL (y0 x0 x1 x2 x3 x4 x5 x6 x7))) := by
  rfl

theorem s8_2 : k0_pay27 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay95 x0 x1 x2 x3 x4 x5 x6 x7) = st (nq x0 x1 x2 x3 x4 x5 x6 x7 (hR (y0 x0 x1 x2 x3 x4 x5 x6 x7))) (bc 0x00000000#32) := by
  rw [p95]
  rfl

theorem s8_3 : k0_pay28 (k0_pay84 x0 x1 x2 x3 x4 x5 x6 x7) (k0_pay99 x0 x1 x2 x3 x4 x5 x6 x7) = st (bc 0x00000000#32) (nq x0 x1 x2 x3 x4 x5 x6 x7 (hR (y0 x0 x1 x2 x3 x4 x5 x6 x7))) := by
  rw [p99]
  rfl

theorem s8_4 : k0_pay32 (k0_pay31 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay96 x0 x1 x2 x3 x4 x5 x6 x7)) = st (nq x0 x1 x2 x3 x4 x5 x6 x7 (hL (y1 x0 x1 x2 x3 x4 x5 x6 x7))) (bc 0x00000000#32) := by
  rw [p96]
  rfl

theorem s8_5 : k0_pay33 (k0_pay84 x0 x1 x2 x3 x4 x5 x6 x7) (k0_pay30 (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay96 x0 x1 x2 x3 x4 x5 x6 x7)) = st (bc 0x00000000#32) (nq x0 x1 x2 x3 x4 x5 x6 x7 (hL (y1 x0 x1 x2 x3 x4 x5 x6 x7))) := by
  rw [p96]
  rfl

theorem s8_6 : k0_pay35 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay96 x0 x1 x2 x3 x4 x5 x6 x7) = st (nq x0 x1 x2 x3 x4 x5 x6 x7 (hR (y1 x0 x1 x2 x3 x4 x5 x6 x7))) (bc 0x00000000#32) := by
  rw [p96]
  rfl

theorem s8_7 : k0_pay37 (k0_pay36 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay96 x0 x1 x2 x3 x4 x5 x6 x7)) = st (bc 0x00000000#32) (nq x0 x1 x2 x3 x4 x5 x6 x7 (hR (y1 x0 x1 x2 x3 x4 x5 x6 x7))) := by
  rw [p96]
  rfl

theorem s8_8 : k0_pay40 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay100 x0 x1 x2 x3 x4 x5 x6 x7) = st (nq x0 x1 x2 x3 x4 x5 x6 x7 (hL (y2 x0 x1 x2 x3 x4 x5 x6 x7))) (bc 0x00000000#32) := by
  rw [p100]
  rfl

theorem s8_9 : k0_pay42 (k0_pay41 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay100 x0 x1 x2 x3 x4 x5 x6 x7)) = st (bc 0x00000000#32) (nq x0 x1 x2 x3 x4 x5 x6 x7 (hL (y2 x0 x1 x2 x3 x4 x5 x6 x7))) := by
  rw [p100]
  rfl

theorem s8_10 : k0_pay44 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay100 x0 x1 x2 x3 x4 x5 x6 x7) = st (nq x0 x1 x2 x3 x4 x5 x6 x7 (hR (y2 x0 x1 x2 x3 x4 x5 x6 x7))) (bc 0x00000000#32) := by
  rw [p100]
  rfl

theorem s8_11 : k0_pay45 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay100 x0 x1 x2 x3 x4 x5 x6 x7) = st (bc 0x00000000#32) (nq x0 x1 x2 x3 x4 x5 x6 x7 (hR (y2 x0 x1 x2 x3 x4 x5 x6 x7))) := by
  rw [p100]
  rfl

theorem s8_12 : k0_pay49 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay101 x0 x1 x2 x3 x4 x5 x6 x7) = st (nq x0 x1 x2 x3 x4 x5 x6 x7 (hL (y3 x0 x1 x2 x3 x4 x5 x6 x7))) (bc 0x00000000#32) := by
  rw [p101]
  rfl

theorem s8_13 : k0_pay50 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay101 x0 x1 x2 x3 x4 x5 x6 x7) = st (bc 0x00000000#32) (nq x0 x1 x2 x3 x4 x5 x6 x7 (hL (y3 x0 x1 x2 x3 x4 x5 x6 x7))) := by
  rw [p101]
  rfl

theorem s8_14 : k0_pay55 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay103 x0 x1 x2 x3 x4 x5 x6 x7) (k0_pay104 x0 x1 x2 x3 x4 x5 x6 x7) (k0_pay105 x0 x1 x2 x3 x4 x5 x6 x7) = st (nq x0 x1 x2 x3 x4 x5 x6 x7 (hR (y3 x0 x1 x2 x3 x4 x5 x6 x7))) (bc 0x00000000#32) := by
  unfold k0_pay103 k0_pay104 k0_pay105
  rw [p101]
  rfl

theorem s8_15 : k0_pay56 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay93 x0 x1 x2 x3 x4 x5 x6 x7) (k0_pay103 x0 x1 x2 x3 x4 x5 x6 x7) (k0_pay104 x0 x1 x2 x3 x4 x5 x6 x7) (k0_pay105 x0 x1 x2 x3 x4 x5 x6 x7) = st (bc 0x00000000#32) (nq x0 x1 x2 x3 x4 x5 x6 x7 (hR (y3 x0 x1 x2 x3 x4 x5 x6 x7))) := by
  unfold k0_pay103 k0_pay104 k0_pay105
  rw [p101]
  rfl

/-- the planes stored -/
def f8 (h : Fin 16) : FVec Ideal S1x512x128 .bf16 := match h with
  | ⟨0, _⟩ => st (nq x0 x1 x2 x3 x4 x5 x6 x7 (hL (y0 x0 x1 x2 x3 x4 x5 x6 x7))) (bc 0x00000000#32)
  | ⟨1, _⟩ => st (bc 0x00000000#32) (nq x0 x1 x2 x3 x4 x5 x6 x7 (hL (y0 x0 x1 x2 x3 x4 x5 x6 x7)))
  | ⟨2, _⟩ => st (nq x0 x1 x2 x3 x4 x5 x6 x7 (hR (y0 x0 x1 x2 x3 x4 x5 x6 x7))) (bc 0x00000000#32)
  | ⟨3, _⟩ => st (bc 0x00000000#32) (nq x0 x1 x2 x3 x4 x5 x6 x7 (hR (y0 x0 x1 x2 x3 x4 x5 x6 x7)))
  | ⟨4, _⟩ => st (nq x0 x1 x2 x3 x4 x5 x6 x7 (hL (y1 x0 x1 x2 x3 x4 x5 x6 x7))) (bc 0x00000000#32)
  | ⟨5, _⟩ => st (bc 0x00000000#32) (nq x0 x1 x2 x3 x4 x5 x6 x7 (hL (y1 x0 x1 x2 x3 x4 x5 x6 x7)))
  | ⟨6, _⟩ => st (nq x0 x1 x2 x3 x4 x5 x6 x7 (hR (y1 x0 x1 x2 x3 x4 x5 x6 x7))) (bc 0x00000000#32)
  | ⟨7, _⟩ => st (bc 0x00000000#32) (nq x0 x1 x2 x3 x4 x5 x6 x7 (hR (y1 x0 x1 x2 x3 x4 x5 x6 x7)))
  | ⟨8, _⟩ => st (nq x0 x1 x2 x3 x4 x5 x6 x7 (hL (y2 x0 x1 x2 x3 x4 x5 x6 x7))) (bc 0x00000000#32)
  | ⟨9, _⟩ => st (bc 0x00000000#32) (nq x0 x1 x2 x3 x4 x5 x6 x7 (hL (y2 x0 x1 x2 x3 x4 x5 x6 x7)))
  | ⟨10, _⟩ => st (nq x0 x1 x2 x3 x4 x5 x6 x7 (hR (y2 x0 x1 x2 x3 x4 x5 x6 x7))) (bc 0x00000000#32)
  | ⟨11, _⟩ => st (bc 0x00000000#32) (nq x0 x1 x2 x3 x4 x5 x6 x7 (hR (y2 x0 x1 x2 x3 x4 x5 x6 x7)))
  | ⟨12, _⟩ => st (nq x0 x1 x2 x3 x4 x5 x6 x7 (hL (y3 x0 x1 x2 x3 x4 x5 x6 x7))) (bc 0x00000000#32)
  | ⟨13, _⟩ => st (bc 0x00000000#32) (nq x0 x1 x2 x3 x4 x5 x6 x7 (hL (y3 x0 x1 x2 x3 x4 x5 x6 x7)))
  | ⟨14, _⟩ => st (nq x0 x1 x2 x3 x4 x5 x6 x7 (hR (y3 x0 x1 x2 x3 x4 x5 x6 x7))) (bc 0x00000000#32)
  | ⟨15, _⟩ => st (bc 0x00000000#32) (nq x0 x1 x2 x3 x4 x5 x6 x7 (hR (y3 x0 x1 x2 x3 x4 x5 x6 x7)))
  | ⟨n + 16, h⟩ => absurd h (by omega)

theorem out8_f (h : Fin 16) (p : Fin 512) (e : Fin 128) : out0_8 (F := Ideal) x0 x1 x2 x3 x4 x5 x6 x7 (ix3 h p e) = f8 x0 x1 x2 x3 x4 x5 x6 x7 h (ix3 0 p e) := by
  unfold out0_8
  rw [s8_0, s8_1, s8_2, s8_3, s8_4, s8_5, s8_6, s8_7, s8_8, s8_9, s8_10, s8_11, s8_12, s8_13, s8_14, s8_15]
  refine View.canon_ofFn_unit_eq_of_forall (Val := Elt Ideal) (e := .bf16) (S := S16x512x128) (N := 16) (fun k => ![15 - (k : ℕ), 0, 0]) S1x512x128.size ?_ (fun k => f8 x0 x1 x2 x3 x4 x5 x6 x7 k.rev) (ix3 h p e) _ ⟨h.rev, ?_⟩ ?_
  · exact (by decide +kernel : ∀ (k : Fin 16) (a : Fin 3), (![15 - (k : ℕ), 0, 0] : Fin 3 → ℕ) a + S1x512x128.size a ≤ S16x512x128.size a)
  · intro a
    match a with
    | ⟨0, _⟩ => show 15 - (h.rev : ℕ) ≤ (h : ℕ) ∧ (h : ℕ) < 15 - (h.rev : ℕ) + 1
                rw [Fin.val_rev]; omega
    | ⟨1, _⟩ => exact ⟨Nat.zero_le _, p.isLt.trans_eq (Nat.zero_add _).symm⟩
    | ⟨2, _⟩ => exact ⟨Nat.zero_le _, e.isLt.trans_eq (Nat.zero_add _).symm⟩
  · intro k x hx
    have h0 : (h : ℕ) = 15 - (k : ℕ) + (x 0 : ℕ) := hx 0
    have h1 : (p : ℕ) = 0 + (x 1 : ℕ) := hx 1
    have h2 : (e : ℕ) = 0 + (x 2 : ℕ) := hx 2
    have hx0 : (x 0 : ℕ) < 1 := (x 0).isLt
    have hk : k.rev = h := Fin.ext (by rw [Fin.val_rev]; omega)
    have hx' : x = ix3 0 p e := by
      rw [eq_ix3 x]
      congr 1
      · exact Fin.ext (by show (x 0 : ℕ) = 0; omega)
      · exact Fin.ext (by omega)
      · exact Fin.ext (by omega)
    rw [hk, hx']

theorem s9_0 : k0_pay62 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay94 x0 x1 x2 x3 x4 x5 x6 x7) (k0_pay102 x0 x1 x2 x3 x4 x5 x6 x7) = st (nk x0 x1 x2 x3 x4 x5 x6 x7 (hL (y4 x0 x1 x2 x3 x4 x5 x6 x7))) (sw (nk x0 x1 x2 x3 x4 x5 x6 x7 (hL (y4 x0 x1 x2 x3 x4 x5 x6 x7)))) := by
  rw [p102]
  rfl

theorem s9_1 : k0_pay63 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay92 x0 x1 x2 x3 x4 x5 x6 x7) (k0_pay94 x0 x1 x2 x3 x4 x5 x6 x7) (k0_pay102 x0 x1 x2 x3 x4 x5 x6 x7) = st (sw (nk x0 x1 x2 x3 x4 x5 x6 x7 (hL (y4 x0 x1 x2 x3 x4 x5 x6 x7)))) (nk x0 x1 x2 x3 x4 x5 x6 x7 (hL (y4 x0 x1 x2 x3 x4 x5 x6 x7))) := by
  rw [p102]
  rfl

theorem s9_2 : k0_pay67 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay94 x0 x1 x2 x3 x4 x5 x6 x7) (k0_pay107 x0 x1 x2 x3 x4 x5 x6 x7) = st (nk x0 x1 x2 x3 x4 x5 x6 x7 (hR (y4 x0 x1 x2 x3 x4 x5 x6 x7))) (sw (nk x0 x1 x2 x3 x4 x5 x6 x7 (hR (y4 x0 x1 x2 x3 x4 x5 x6 x7)))) := by
  unfold k0_pay107
  rw [p102]
  rfl

theorem s9_3 : k0_pay68 (k0_pay84 x0 x1 x2 x3 x4 x5 x6 x7) (k0_pay85 x0 x1 x2 x3 x4 x5 x6 x7) (k0_pay86 x0 x1 x2 x3 x4 x5 x6 x7) (k0_pay87 x0 x1 x2 x3 x4 x5 x6 x7) (k0_pay94 x0 x1 x2 x3 x4 x5 x6 x7) (k0_pay107 x0 x1 x2 x3 x4 x5 x6 x7) = st (sw (nk x0 x1 x2 x3 x4 x5 x6 x7 (hR (y4 x0 x1 x2 x3 x4 x5 x6 x7)))) (nk x0 x1 x2 x3 x4 x5 x6 x7 (hR (y4 x0 x1 x2 x3 x4 x5 x6 x7))) := by
  unfold k0_pay107
  rw [p102]
  rfl

/-- the planes stored -/
def f9 (h : Fin 4) : FVec Ideal S1x512x128 .bf16 := match h with
  | ⟨0, _⟩ => st (nk x0 x1 x2 x3 x4 x5 x6 x7 (hL (y4 x0 x1 x2 x3 x4 x5 x6 x7))) (sw (nk x0 x1 x2 x3 x4 x5 x6 x7 (hL (y4 x0 x1 x2 x3 x4 x5 x6 x7))))
  | ⟨1, _⟩ => st (sw (nk x0 x1 x2 x3 x4 x5 x6 x7 (hL (y4 x0 x1 x2 x3 x4 x5 x6 x7)))) (nk x0 x1 x2 x3 x4 x5 x6 x7 (hL (y4 x0 x1 x2 x3 x4 x5 x6 x7)))
  | ⟨2, _⟩ => st (nk x0 x1 x2 x3 x4 x5 x6 x7 (hR (y4 x0 x1 x2 x3 x4 x5 x6 x7))) (sw (nk x0 x1 x2 x3 x4 x5 x6 x7 (hR (y4 x0 x1 x2 x3 x4 x5 x6 x7))))
  | ⟨3, _⟩ => st (sw (nk x0 x1 x2 x3 x4 x5 x6 x7 (hR (y4 x0 x1 x2 x3 x4 x5 x6 x7)))) (nk x0 x1 x2 x3 x4 x5 x6 x7 (hR (y4 x0 x1 x2 x3 x4 x5 x6 x7)))
  | ⟨n + 4, h⟩ => absurd h (by omega)

theorem out9_f (h : Fin 4) (p : Fin 512) (e : Fin 128) : out0_9 (F := Ideal) x0 x1 x2 x3 x4 x5 x6 x7 (ix3 h p e) = f9 x0 x1 x2 x3 x4 x5 x6 x7 h (ix3 0 p e) := by
  unfold out0_9
  rw [s9_0, s9_1, s9_2, s9_3]
  refine View.canon_ofFn_unit_eq_of_forall (Val := Elt Ideal) (e := .bf16) (S := S4x512x128) (N := 4) (fun k => ![3 - (k : ℕ), 0, 0]) S1x512x128.size ?_ (fun k => f9 x0 x1 x2 x3 x4 x5 x6 x7 k.rev) (ix3 h p e) _ ⟨h.rev, ?_⟩ ?_
  · exact (by decide +kernel : ∀ (k : Fin 4) (a : Fin 3), (![3 - (k : ℕ), 0, 0] : Fin 3 → ℕ) a + S1x512x128.size a ≤ S4x512x128.size a)
  · intro a
    match a with
    | ⟨0, _⟩ => show 3 - (h.rev : ℕ) ≤ (h : ℕ) ∧ (h : ℕ) < 3 - (h.rev : ℕ) + 1
                rw [Fin.val_rev]; omega
    | ⟨1, _⟩ => exact ⟨Nat.zero_le _, p.isLt.trans_eq (Nat.zero_add _).symm⟩
    | ⟨2, _⟩ => exact ⟨Nat.zero_le _, e.isLt.trans_eq (Nat.zero_add _).symm⟩
  · intro k x hx
    have h0 : (h : ℕ) = 3 - (k : ℕ) + (x 0 : ℕ) := hx 0
    have h1 : (p : ℕ) = 0 + (x 1 : ℕ) := hx 1
    have h2 : (e : ℕ) = 0 + (x 2 : ℕ) := hx 2
    have hx0 : (x 0 : ℕ) < 1 := (x 0).isLt
    have hk : k.rev = h := Fin.ext (by rw [Fin.val_rev]; omega)
    have hx' : x = ix3 0 p e := by
      rw [eq_ix3 x]
      congr 1
      · exact Fin.ext (by show (x 0 : ℕ) = 0; omega)
      · exact Fin.ext (by omega)
      · exact Fin.ext (by omega)
    rw [hk, hx']

theorem s10_0 : k0_pay71 (k0_pay84 x0 x1 x2 x3 x4 x5 x6 x7) (k0_pay106 x0 x1 x2 x3 x4 x5 x6 x7) = st (hL (y5 x0 x1 x2 x3 x4 x5 x6 x7)) (bc 0x3F800000#32) := by
  rw [p106]
  rfl

theorem s10_1 : k0_pay72 (k0_pay84 x0 x1 x2 x3 x4 x5 x6 x7) (k0_pay106 x0 x1 x2 x3 x4 x5 x6 x7) = st (bc 0x3F800000#32) (sw (hL (y5 x0 x1 x2 x3 x4 x5 x6 x7))) := by
  rw [p106]
  rfl

theorem s10_2 : k0_pay74 (k0_pay73 (k0_pay84 x0 x1 x2 x3 x4 x5 x6 x7) (k0_pay106 x0 x1 x2 x3 x4 x5 x6 x7)) = st (sw (hL (y5 x0 x1 x2 x3 x4 x5 x6 x7))) (bc 0x3F800000#32) := by
  rw [p106]
  rfl

theorem s10_3 : k0_pay75 (k0_pay84 x0 x1 x2 x3 x4 x5 x6 x7) (k0_pay69 (k0_pay106 x0 x1 x2 x3 x4 x5 x6 x7)) = st (bc 0x3F800000#32) (hL (y5 x0 x1 x2 x3 x4 x5 x6 x7)) := by
  rw [p106]
  rfl

theorem s10_4 : k0_pay78 (k0_pay84 x0 x1 x2 x3 x4 x5 x6 x7) (k0_pay106 x0 x1 x2 x3 x4 x5 x6 x7) = st (hR (y5 x0 x1 x2 x3 x4 x5 x6 x7)) (bc 0x3F800000#32) := by
  rw [p106]
  rfl

theorem s10_5 : k0_pay79 (k0_pay84 x0 x1 x2 x3 x4 x5 x6 x7) (k0_pay106 x0 x1 x2 x3 x4 x5 x6 x7) = st (bc 0x3F800000#32) (sw (hR (y5 x0 x1 x2 x3 x4 x5 x6 x7))) := by
  rw [p106]
  rfl

theorem s10_6 : k0_pay80 (k0_pay84 x0 x1 x2 x3 x4 x5 x6 x7) (k0_pay106 x0 x1 x2 x3 x4 x5 x6 x7) = st (sw (hR (y5 x0 x1 x2 x3 x4 x5 x6 x7))) (bc 0x3F800000#32) := by
  rw [p106]
  rfl

theorem s10_7 : k0_pay1 (k0_pay81 (k0_pay84 x0 x1 x2 x3 x4 x5 x6 x7) (k0_pay106 x0 x1 x2 x3 x4 x5 x6 x7)) = st (bc 0x3F800000#32) (hR (y5 x0 x1 x2 x3 x4 x5 x6 x7)) := by
  rw [p106]
  rfl

/-- the planes stored -/
def f10 (h : Fin 8) : FVec Ideal S1x512x128 .bf16 := match h with
  | ⟨0, _⟩ => st (hL (y5 x0 x1 x2 x3 x4 x5 x6 x7)) (bc 0x3F800000#32)
  | ⟨1, _⟩ => st (bc 0x3F800000#32) (sw (hL (y5 x0 x1 x2 x3 x4 x5 x6 x7)))
  | ⟨2, _⟩ => st (sw (hL (y5 x0 x1 x2 x3 x4 x5 x6 x7))) (bc 0x3F800000#32)
  | ⟨3, _⟩ => st (bc 0x3F800000#32) (hL (y5 x0 x1 x2 x3 x4 x5 x6 x7))
  | ⟨4, _⟩ => st (hR (y5 x0 x1 x2 x3 x4 x5 x6 x7)) (bc 0x3F800000#32)
  | ⟨5, _⟩ => st (bc 0x3F800000#32) (sw (hR (y5 x0 x1 x2 x3 x4 x5 x6 x7)))
  | ⟨6, _⟩ => st (sw (hR (y5 x0 x1 x2 x3 x4 x5 x6 x7))) (bc 0x3F800000#32)
  | ⟨7, _⟩ => st (bc 0x3F800000#32) (hR (y5 x0 x1 x2 x3 x4 x5 x6 x7))
  | ⟨n + 8, h⟩ => absurd h (by omega)

theorem out10_f (h : Fin 8) (p : Fin 512) (e : Fin 128) : out0_10 (F := Ideal) x0 x1 x2 x3 x4 x5 x6 x7 (ix3 h p e) = f10 x0 x1 x2 x3 x4 x5 x6 x7 h (ix3 0 p e) := by
  unfold out0_10
  rw [s10_0, s10_1, s10_2, s10_3, s10_4, s10_5, s10_6, s10_7]
  refine View.canon_ofFn_unit_eq_of_forall (Val := Elt Ideal) (e := .bf16) (S := S8x512x128) (N := 8) (fun k => ![7 - (k : ℕ), 0, 0]) S1x512x128.size ?_ (fun k => f10 x0 x1 x2 x3 x4 x5 x6 x7 k.rev) (ix3 h p e) _ ⟨h.rev, ?_⟩ ?_
  · exact (by decide +kernel : ∀ (k : Fin 8) (a : Fin 3), (![7 - (k : ℕ), 0, 0] : Fin 3 → ℕ) a + S1x512x128.size a ≤ S8x512x128.size a)
  · intro a
    match a with
    | ⟨0, _⟩ => show 7 - (h.rev : ℕ) ≤ (h : ℕ) ∧ (h : ℕ) < 7 - (h.rev : ℕ) + 1
                rw [Fin.val_rev]; omega
    | ⟨1, _⟩ => exact ⟨Nat.zero_le _, p.isLt.trans_eq (Nat.zero_add _).symm⟩
    | ⟨2, _⟩ => exact ⟨Nat.zero_le _, e.isLt.trans_eq (Nat.zero_add _).symm⟩
  · intro k x hx
    have h0 : (h : ℕ) = 7 - (k : ℕ) + (x 0 : ℕ) := hx 0
    have h1 : (p : ℕ) = 0 + (x 1 : ℕ) := hx 1
    have h2 : (e : ℕ) = 0 + (x 2 : ℕ) := hx 2
    have hx0 : (x 0 : ℕ) < 1 := (x 0).isLt
    have hk : k.rev = h := Fin.ext (by rw [Fin.val_rev]; omega)
    have hx' : x = ix3 0 p e := by
      rw [eq_ix3 x]
      congr 1
      · exact Fin.ext (by show (x 0 : ℕ) = 0; omega)
      · exact Fin.ext (by omega)
      · exact Fin.ext (by omega)
    rw [hk, hx']

end block

end Cert.KernelIdeal.Qkv
end
-- ==== Proof.QkvAt.lean ====
module

public import proofs.«01_k».proof.Proof.ModelA
public import proofs.«01_k».proof.Proof.QkvBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The projections' stores as functions of rows. -/
namespace Cert.KernelIdeal.Qkv
open Cert.KernelIdeal Cert.KernelIdeal.Gen

section block
variable (x0 : Vec Ideal S512x1024 .f32) (x1 : Vec Ideal S1x1024 .f32) (x2 : Vec Ideal S1024x1536 .bf16) (x3 : Vec Ideal S1x128 .f32) (x4 : Vec Ideal S1x128 .f32)
  (x5 : Vec Ideal S512x128 .f32) (x6 : Vec Ideal S512x128 .f32) (x7 : Vec Ideal S512x128 .f32)
  (t : ℕ) (X : ℕ → Fin 1024 → EReal) (C A B : ℕ → Fin 128 → EReal)
  (hX : ∀ (p : Fin 512) (k : Fin 1024), x0 (ix2 p k) = X (512 * t + p) k)
  (hC : ∀ (p : Fin 512) (l : Fin 128), x5 (ix2 p l) = C (512 * t + p) l)
  (hA : ∀ (p : Fin 512) (l : Fin 128), x6 (ix2 p l) = A (512 * t + p) l)
  (hB : ∀ (p : Fin 512) (l : Fin 128), x7 (ix2 p l) = B (512 * t + p) l)

/-- the rows normalised -/
def Hn : ℕ → Fin 1024 → EReal := M.nrm X (fun j => x1 (ix2 0 j))

section
include hX
theorem hV_at (p : Fin 512) (k : Fin 1024) : hV x0 x1 x2 x3 x4 x5 x6 x7 (ix2 p k) = Hn x1 X (512 * t + p) k := by
  rw [hV_eq, Ffn.nrmV_at]
  unfold Hn M.nrm
  congr 1
  · funext j
    pointwise
    exact hX p j
  · funext j
    pointwise

/-- a tile's product from its left factor -/
theorem tile_at (n : ℕ) (hn : 256 * n + 255 < 1536) (h : FVec Ideal S512x1024 .bf16) (w : FVec Ideal S1024x256 .bf16) (hh : h = hV x0 x1 x2 x3 x4 x5 x6 x7)
    (hw : ∀ (k : Fin 1024) (c : Fin 256), w (ix2 k c) = x2 (ix2 k ⟨256 * n + c, by omega⟩)) (p : Fin 512) (c : Fin 256) :
    mmV h w (ix2 p c) = M.mv (Hn x1 X (512 * t + p)) (fun k c => x2 (ix2 k c)) ⟨256 * n + c, by omega⟩ := by
  subst hh
  rw [mmV_at]
  unfold M.mv
  simp only [hV_at x0 x1 x2 x3 x4 x5 x6 x7 t X hX, hw]

theorem y0_at (p : Fin 512) (c : Fin 256) : y0 x0 x1 x2 x3 x4 x5 x6 x7 (ix2 p c) = M.mv (Hn x1 X (512 * t + p)) (fun k c => x2 (ix2 k c)) ⟨256 * 0 + c, by omega⟩ := by
  refine tile_at x0 x1 x2 x3 x4 x5 x6 x7 t X hX 0 (by decide) _ _ (rfl) (fun k c => ?_) p c
  pointwise

theorem y1_at (p : Fin 512) (c : Fin 256) : y1 x0 x1 x2 x3 x4 x5 x6 x7 (ix2 p c) = M.mv (Hn x1 X (512 * t + p)) (fun k c => x2 (ix2 k c)) ⟨256 * 1 + c, by omega⟩ := by
  refine tile_at x0 x1 x2 x3 x4 x5 x6 x7 t X hX 1 (by decide) _ _ (rfl) (fun k c => ?_) p c
  pointwise

theorem y2_at (p : Fin 512) (c : Fin 256) : y2 x0 x1 x2 x3 x4 x5 x6 x7 (ix2 p c) = M.mv (Hn x1 X (512 * t + p)) (fun k c => x2 (ix2 k c)) ⟨256 * 2 + c, by omega⟩ := by
  refine tile_at x0 x1 x2 x3 x4 x5 x6 x7 t X hX 2 (by decide) _ _ (lhsV_eq _ _) (fun k c => ?_) p c
  pointwise

theorem y3_at (p : Fin 512) (c : Fin 256) : y3 x0 x1 x2 x3 x4 x5 x6 x7 (ix2 p c) = M.mv (Hn x1 X (512 * t + p)) (fun k c => x2 (ix2 k c)) ⟨256 * 3 + c, by omega⟩ := by
  refine tile_at x0 x1 x2 x3 x4 x5 x6 x7 t X hX 3 (by decide) _ _ (lhsV_eq _ _) (fun k c => ?_) p c
  pointwise

theorem y4_at (p : Fin 512) (c : Fin 256) : y4 x0 x1 x2 x3 x4 x5 x6 x7 (ix2 p c) = M.mv (Hn x1 X (512 * t + p)) (fun k c => x2 (ix2 k c)) ⟨256 * 4 + c, by omega⟩ := by
  refine tile_at x0 x1 x2 x3 x4 x5 x6 x7 t X hX 4 (by decide) _ _ (lhsV_eq _ _) (fun k c => ?_) p c
  pointwise

theorem y5_at (p : Fin 512) (c : Fin 256) : y5 x0 x1 x2 x3 x4 x5 x6 x7 (ix2 p c) = M.mv (Hn x1 X (512 * t + p)) (fun k c => x2 (ix2 k c)) ⟨256 * 5 + c, by omega⟩ := by
  refine tile_at x0 x1 x2 x3 x4 x5 x6 x7 t X hX 5 (by decide) _ _ (lhsV_eq _ _) (fun k c => ?_) p c
  pointwise

end

/-- the twelve blocks of the projections -/
def blk (j : Fin 12) : FVec Ideal S512x128 .f32 := match j with
  | ⟨0, _⟩ => hL (y0 x0 x1 x2 x3 x4 x5 x6 x7)
  | ⟨1, _⟩ => hR (y0 x0 x1 x2 x3 x4 x5 x6 x7)
  | ⟨2, _⟩ => hL (y1 x0 x1 x2 x3 x4 x5 x6 x7)
  | ⟨3, _⟩ => hR (y1 x0 x1 x2 x3 x4 x5 x6 x7)
  | ⟨4, _⟩ => hL (y2 x0 x1 x2 x3 x4 x5 x6 x7)
  | ⟨5, _⟩ => hR (y2 x0 x1 x2 x3 x4 x5 x6 x7)
  | ⟨6, _⟩ => hL (y3 x0 x1 x2 x3 x4 x5 x6 x7)
  | ⟨7, _⟩ => hR (y3 x0 x1 x2 x3 x4 x5 x6 x7)
  | ⟨8, _⟩ => hL (y4 x0 x1 x2 x3 x4 x5 x6 x7)
  | ⟨9, _⟩ => hR (y4 x0 x1 x2 x3 x4 x5 x6 x7)
  | ⟨10, _⟩ => hL (y5 x0 x1 x2 x3 x4 x5 x6 x7)
  | ⟨11, _⟩ => hR (y5 x0 x1 x2 x3 x4 x5 x6 x7)
  | ⟨n + 12, h⟩ => absurd h (by omega)

/-- the lanes of a tile's first half -/
theorem lo_at (n : ℕ) (hn : n < 6) (r : ℕ) (y : FVec Ideal S512x256 .f32) (p : Fin 512)
    (hy : ∀ c : Fin 256, y (ix2 p c) = M.mv (Hn x1 X r) (fun k c => x2 (ix2 k c)) ⟨256 * n + c, by omega⟩) (l : Fin 128) :
    hL y (ix2 p l) = M.yb (Hn x1 X) (fun k c => x2 (ix2 k c)) (2 * n) r l := by
  rw [hL_at, hy]
  unfold M.yb
  exact congrArg _ (Fin.ext (by dsimp only; omega))

/-- the lanes of its second half -/
theorem hi_at (n : ℕ) (hn : n < 6) (r : ℕ) (y : FVec Ideal S512x256 .f32) (p : Fin 512)
    (hy : ∀ c : Fin 256, y (ix2 p c) = M.mv (Hn x1 X r) (fun k c => x2 (ix2 k c)) ⟨256 * n + c, by omega⟩) (l : Fin 128) :
    hR y (ix2 p l) = M.yb (Hn x1 X) (fun k c => x2 (ix2 k c)) (2 * n + 1) r l := by
  rw [hR_at, hy]
  unfold M.yb
  exact congrArg _ (Fin.ext (by dsimp only; omega))

/-- the queries' gain in the kernel -/
def gq : Fin 128 → EReal := fun l => x3 (ix2 0 l) * ((((Real.log 2)⁻¹ * (1 / 8) : ℝ)) : EReal)

section
variable (j : ℕ) (b : FVec Ideal S512x128 .f32) (p : Fin 512)
  (hb : ∀ l : Fin 128, b (ix2 p l) = M.yb (Hn x1 X) (fun k c => x2 (ix2 k c)) j (512 * t + p) l)
include hb hC hA hB

theorem nq_at (e : Fin 128) : nq x0 x1 x2 x3 x4 x5 x6 x7 b (ix2 p e) = M.qk (Hn x1 X) (fun k c => x2 (ix2 k c)) (gq x3) C A B j (512 * t + p) e := by
  have hg : ∀ l : Fin 128, k0_pay93 x0 x1 x2 x3 x4 x5 x6 x7 (ix2 0 l) = gq x3 l := by
    intro l
    refine (gqV_at (View.ld x3 r0_3) l).trans ?_
    unfold gq
    pointwise
  have hc : ∀ l : Fin 128, k0_pay85 x0 x1 x2 x3 x4 x5 x6 x7 (ix2 p l) = C (512 * t + p) l := by
    intro l
    refine Eq.trans ?_ (hC p l)
    pointwise [k0_pay85, k0_pay4]
  have ha : ∀ l : Fin 128, k0_pay86 x0 x1 x2 x3 x4 x5 x6 x7 (ix2 p l) = A (512 * t + p) l := by
    intro l
    refine Eq.trans ?_ (hA p l)
    pointwise [k0_pay86, k0_pay5]
  have hB' : ∀ l : Fin 128, k0_pay87 x0 x1 x2 x3 x4 x5 x6 x7 (ix2 p l) = B (512 * t + p) l := by
    intro l
    refine Eq.trans ?_ (hB p l)
    pointwise [k0_pay87, k0_pay6]
  unfold nq M.qk
  rw [nrV_at]
  simp only [hb, hg, hc, ha, hB']

theorem nk_at (e : Fin 128) : nk x0 x1 x2 x3 x4 x5 x6 x7 b (ix2 p e) = M.qk (Hn x1 X) (fun k c => x2 (ix2 k c)) (fun l => x4 (ix2 0 l)) C A B j (512 * t + p) e := by
  have hg : ∀ l : Fin 128, k0_pay94 x0 x1 x2 x3 x4 x5 x6 x7 (ix2 0 l) = x4 (ix2 0 l) := by
    intro l
    pointwise [k0_pay94, k0_pay17]
  have hc : ∀ l : Fin 128, k0_pay85 x0 x1 x2 x3 x4 x5 x6 x7 (ix2 p l) = C (512 * t + p) l := by
    intro l
    refine Eq.trans ?_ (hC p l)
    pointwise [k0_pay85, k0_pay4]
  have ha : ∀ l : Fin 128, k0_pay86 x0 x1 x2 x3 x4 x5 x6 x7 (ix2 p l) = A (512 * t + p) l := by
    intro l
    refine Eq.trans ?_ (hA p l)
    pointwise [k0_pay86, k0_pay5]
  have hB' : ∀ l : Fin 128, k0_pay87 x0 x1 x2 x3 x4 x5 x6 x7 (ix2 p l) = B (512 * t + p) l := by
    intro l
    refine Eq.trans ?_ (hB p l)
    pointwise [k0_pay87, k0_pay6]
  unfold nk M.qk
  rw [nrV_at]
  simp only [hb, hg, hc, ha, hB']
end

section
variable (b : FVec Ideal S512x128 .f32) (p : Fin 512) (G : Fin 128 → EReal) (hb : ∀ l : Fin 128, b (ix2 p l) = G l)
include hb

theorem q_lo (e : Fin 128) : st b (bc 0x00000000#32) (ix3 0 p e) = if (e : ℕ) / 64 = 0 then G e else 0 := by
  rw [st_at, bc0_at, hb]

theorem q_hi (e : Fin 128) : st (bc 0x00000000#32) b (ix3 0 p e) = if (e : ℕ) / 64 = 1 then G e else 0 := by
  rw [st_at, bc0_at, hb]
  by_cases he : (e : ℕ) / 64 = 0
  · rw [if_pos he, if_neg (by omega)]
  · rw [if_neg he, if_pos (by omega)]

theorem k_lo (e : Fin 128) : st b (sw b) (ix3 0 p e) = G ⟨64 * 0 + e % 64, by omega⟩ := by
  rw [st_at, sw_at, hb, hb]
  split
  · exact congrArg G (Fin.ext (by dsimp only; omega))
  · exact congrArg G (Fin.ext (by dsimp only; omega))

theorem k_hi (e : Fin 128) : st (sw b) b (ix3 0 p e) = G ⟨64 * 1 + e % 64, by omega⟩ := by
  rw [st_at, sw_at, hb, hb]
  split
  · exact congrArg G (Fin.ext (by dsimp only; omega))
  · exact congrArg G (Fin.ext (by dsimp only; omega))

theorem v_0 (e : Fin 128) : st b (bc 0x3F800000#32) (ix3 0 p e) = if (e : ℕ) / 64 = 0 then G ⟨64 * 0 + e % 64, by omega⟩ else 1 := by
  rw [st_at, bc1_at, hb]
  split
  · exact congrArg G (Fin.ext (by dsimp only; omega))
  · rfl

theorem v_1 (e : Fin 128) : st (bc 0x3F800000#32) (sw b) (ix3 0 p e) = if (e : ℕ) / 64 = 1 then G ⟨64 * 0 + e % 64, by omega⟩ else 1 := by
  rw [st_at, bc1_at, sw_at, hb]
  by_cases he : (e : ℕ) / 64 = 0
  · rw [if_pos he, if_neg (by omega)]
  · rw [if_neg he, if_pos (by omega)]
    exact congrArg G (Fin.ext (by dsimp only; omega))

theorem v_2 (e : Fin 128) : st (sw b) (bc 0x3F800000#32) (ix3 0 p e) = if (e : ℕ) / 64 = 0 then G ⟨64 * 1 + e % 64, by omega⟩ else 1 := by
  rw [st_at, bc1_at, sw_at, hb]
  split
  · exact congrArg G (Fin.ext (by dsimp only; omega))
  · rfl

theorem v_3 (e : Fin 128) : st (bc 0x3F800000#32) b (ix3 0 p e) = if (e : ℕ) / 64 = 1 then G ⟨64 * 1 + e % 64, by omega⟩ else 1 := by
  rw [st_at, bc1_at, hb]
  by_cases he : (e : ℕ) / 64 = 0
  · rw [if_pos he, if_neg (by omega)]
  · rw [if_neg he, if_pos (by omega)]
    exact congrArg G (Fin.ext (by dsimp only; omega))
end

include hX

theorem b_at (j : Fin 12) (p : Fin 512) (l : Fin 128) : blk x0 x1 x2 x3 x4 x5 x6 x7 j (ix2 p l) = M.yb (Hn x1 X) (fun k c => x2 (ix2 k c)) j (512 * t + p) l := match j with
  | ⟨0, _⟩ => lo_at x1 x2 X 0 (by decide) (512 * t + p) _ p (y0_at x0 x1 x2 x3 x4 x5 x6 x7 t X hX p) l
  | ⟨1, _⟩ => hi_at x1 x2 X 0 (by decide) (512 * t + p) _ p (y0_at x0 x1 x2 x3 x4 x5 x6 x7 t X hX p) l
  | ⟨2, _⟩ => lo_at x1 x2 X 1 (by decide) (512 * t + p) _ p (y1_at x0 x1 x2 x3 x4 x5 x6 x7 t X hX p) l
  | ⟨3, _⟩ => hi_at x1 x2 X 1 (by decide) (512 * t + p) _ p (y1_at x0 x1 x2 x3 x4 x5 x6 x7 t X hX p) l
  | ⟨4, _⟩ => lo_at x1 x2 X 2 (by decide) (512 * t + p) _ p (y2_at x0 x1 x2 x3 x4 x5 x6 x7 t X hX p) l
  | ⟨5, _⟩ => hi_at x1 x2 X 2 (by decide) (512 * t + p) _ p (y2_at x0 x1 x2 x3 x4 x5 x6 x7 t X hX p) l
  | ⟨6, _⟩ => lo_at x1 x2 X 3 (by decide) (512 * t + p) _ p (y3_at x0 x1 x2 x3 x4 x5 x6 x7 t X hX p) l
  | ⟨7, _⟩ => hi_at x1 x2 X 3 (by decide) (512 * t + p) _ p (y3_at x0 x1 x2 x3 x4 x5 x6 x7 t X hX p) l
  | ⟨8, _⟩ => lo_at x1 x2 X 4 (by decide) (512 * t + p) _ p (y4_at x0 x1 x2 x3 x4 x5 x6 x7 t X hX p) l
  | ⟨9, _⟩ => hi_at x1 x2 X 4 (by decide) (512 * t + p) _ p (y4_at x0 x1 x2 x3 x4 x5 x6 x7 t X hX p) l
  | ⟨10, _⟩ => lo_at x1 x2 X 5 (by decide) (512 * t + p) _ p (y5_at x0 x1 x2 x3 x4 x5 x6 x7 t X hX p) l
  | ⟨11, _⟩ => hi_at x1 x2 X 5 (by decide) (512 * t + p) _ p (y5_at x0 x1 x2 x3 x4 x5 x6 x7 t X hX p) l
  | ⟨n + 12, h⟩ => absurd h (by omega)

include hC hA hB

theorem f8_at (h : Fin 16) (p : Fin 512) (e : Fin 128) : f8 x0 x1 x2 x3 x4 x5 x6 x7 h (ix3 0 p e) = M.qP (Hn x1 X) (fun k c => x2 (ix2 k c)) (gq x3) C A B h (512 * t + p) e := match h with
  | ⟨0, _⟩ => (q_lo _ p _ (nq_at x0 x1 x2 x3 x4 x5 x6 x7 t X C A B hC hA hB 0 _ p (b_at x0 x1 x2 x3 x4 x5 x6 x7 t X hX 0 p)) e).trans (M.qP_eq _ _ _ _ _ _ 0 0 0 _ e rfl rfl).symm
  | ⟨1, _⟩ => (q_hi _ p _ (nq_at x0 x1 x2 x3 x4 x5 x6 x7 t X C A B hC hA hB 0 _ p (b_at x0 x1 x2 x3 x4 x5 x6 x7 t X hX 0 p)) e).trans (M.qP_eq _ _ _ _ _ _ 1 0 1 _ e rfl rfl).symm
  | ⟨2, _⟩ => (q_lo _ p _ (nq_at x0 x1 x2 x3 x4 x5 x6 x7 t X C A B hC hA hB 1 _ p (b_at x0 x1 x2 x3 x4 x5 x6 x7 t X hX 1 p)) e).trans (M.qP_eq _ _ _ _ _ _ 2 1 0 _ e rfl rfl).symm
  | ⟨3, _⟩ => (q_hi _ p _ (nq_at x0 x1 x2 x3 x4 x5 x6 x7 t X C A B hC hA hB 1 _ p (b_at x0 x1 x2 x3 x4 x5 x6 x7 t X hX 1 p)) e).trans (M.qP_eq _ _ _ _ _ _ 3 1 1 _ e rfl rfl).symm
  | ⟨4, _⟩ => (q_lo _ p _ (nq_at x0 x1 x2 x3 x4 x5 x6 x7 t X C A B hC hA hB 2 _ p (b_at x0 x1 x2 x3 x4 x5 x6 x7 t X hX 2 p)) e).trans (M.qP_eq _ _ _ _ _ _ 4 2 0 _ e rfl rfl).symm
  | ⟨5, _⟩ => (q_hi _ p _ (nq_at x0 x1 x2 x3 x4 x5 x6 x7 t X C A B hC hA hB 2 _ p (b_at x0 x1 x2 x3 x4 x5 x6 x7 t X hX 2 p)) e).trans (M.qP_eq _ _ _ _ _ _ 5 2 1 _ e rfl rfl).symm
  | ⟨6, _⟩ => (q_lo _ p _ (nq_at x0 x1 x2 x3 x4 x5 x6 x7 t X C A B hC hA hB 3 _ p (b_at x0 x1 x2 x3 x4 x5 x6 x7 t X hX 3 p)) e).trans (M.qP_eq _ _ _ _ _ _ 6 3 0 _ e rfl rfl).symm
  | ⟨7, _⟩ => (q_hi _ p _ (nq_at x0 x1 x2 x3 x4 x5 x6 x7 t X C A B hC hA hB 3 _ p (b_at x0 x1 x2 x3 x4 x5 x6 x7 t X hX 3 p)) e).trans (M.qP_eq _ _ _ _ _ _ 7 3 1 _ e rfl rfl).symm
  | ⟨8, _⟩ => (q_lo _ p _ (nq_at x0 x1 x2 x3 x4 x5 x6 x7 t X C A B hC hA hB 4 _ p (b_at x0 x1 x2 x3 x4 x5 x6 x7 t X hX 4 p)) e).trans (M.qP_eq _ _ _ _ _ _ 8 4 0 _ e rfl rfl).symm
  | ⟨9, _⟩ => (q_hi _ p _ (nq_at x0 x1 x2 x3 x4 x5 x6 x7 t X C A B hC hA hB 4 _ p (b_at x0 x1 x2 x3 x4 x5 x6 x7 t X hX 4 p)) e).trans (M.qP_eq _ _ _ _ _ _ 9 4 1 _ e rfl rfl).symm
  | ⟨10, _⟩ => (q_lo _ p _ (nq_at x0 x1 x2 x3 x4 x5 x6 x7 t X C A B hC hA hB 5 _ p (b_at x0 x1 x2 x3 x4 x5 x6 x7 t X hX 5 p)) e).trans (M.qP_eq _ _ _ _ _ _ 10 5 0 _ e rfl rfl).symm
  | ⟨11, _⟩ => (q_hi _ p _ (nq_at x0 x1 x2 x3 x4 x5 x6 x7 t X C A B hC hA hB 5 _ p (b_at x0 x1 x2 x3 x4 x5 x6 x7 t X hX 5 p)) e).trans (M.qP_eq _ _ _ _ _ _ 11 5 1 _ e rfl rfl).symm
  | ⟨12, _⟩ => (q_lo _ p _ (nq_at x0 x1 x2 x3 x4 x5 x6 x7 t X C A B hC hA hB 6 _ p (b_at x0 x1 x2 x3 x4 x5 x6 x7 t X hX 6 p)) e).trans (M.qP_eq _ _ _ _ _ _ 12 6 0 _ e rfl rfl).symm
  | ⟨13, _⟩ => (q_hi _ p _ (nq_at x0 x1 x2 x3 x4 x5 x6 x7 t X C A B hC hA hB 6 _ p (b_at x0 x1 x2 x3 x4 x5 x6 x7 t X hX 6 p)) e).trans (M.qP_eq _ _ _ _ _ _ 13 6 1 _ e rfl rfl).symm
  | ⟨14, _⟩ => (q_lo _ p _ (nq_at x0 x1 x2 x3 x4 x5 x6 x7 t X C A B hC hA hB 7 _ p (b_at x0 x1 x2 x3 x4 x5 x6 x7 t X hX 7 p)) e).trans (M.qP_eq _ _ _ _ _ _ 14 7 0 _ e rfl rfl).symm
  | ⟨15, _⟩ => (q_hi _ p _ (nq_at x0 x1 x2 x3 x4 x5 x6 x7 t X C A B hC hA hB 7 _ p (b_at x0 x1 x2 x3 x4 x5 x6 x7 t X hX 7 p)) e).trans (M.qP_eq _ _ _ _ _ _ 15 7 1 _ e rfl rfl).symm
  | ⟨n + 16, h⟩ => absurd h (by omega)

theorem out8_at (h : Fin 16) (p : Fin 512) (e : Fin 128) : out0_8 (F := Ideal) x0 x1 x2 x3 x4 x5 x6 x7 (ix3 h p e) = M.qP (Hn x1 X) (fun k c => x2 (ix2 k c)) (gq x3) C A B h (512 * t + p) e :=
  (out8_f x0 x1 x2 x3 x4 x5 x6 x7 h p e).trans (f8_at x0 x1 x2 x3 x4 x5 x6 x7 t X C A B hX hC hA hB h p e)

theorem f9_at (h : Fin 4) (p : Fin 512) (e : Fin 128) : f9 x0 x1 x2 x3 x4 x5 x6 x7 h (ix3 0 p e) = M.kP (Hn x1 X) (fun k c => x2 (ix2 k c)) (fun l => x4 (ix2 0 l)) C A B h (512 * t + p) e := match h with
  | ⟨0, _⟩ => (k_lo _ p _ (nk_at x0 x1 x2 x3 x4 x5 x6 x7 t X C A B hC hA hB 8 _ p (b_at x0 x1 x2 x3 x4 x5 x6 x7 t X hX 8 p)) e).trans (M.kP_eq _ _ _ _ _ _ 0 8 0 _ e rfl rfl).symm
  | ⟨1, _⟩ => (k_hi _ p _ (nk_at x0 x1 x2 x3 x4 x5 x6 x7 t X C A B hC hA hB 8 _ p (b_at x0 x1 x2 x3 x4 x5 x6 x7 t X hX 8 p)) e).trans (M.kP_eq _ _ _ _ _ _ 1 8 1 _ e rfl rfl).symm
  | ⟨2, _⟩ => (k_lo _ p _ (nk_at x0 x1 x2 x3 x4 x5 x6 x7 t X C A B hC hA hB 9 _ p (b_at x0 x1 x2 x3 x4 x5 x6 x7 t X hX 9 p)) e).trans (M.kP_eq _ _ _ _ _ _ 2 9 0 _ e rfl rfl).symm
  | ⟨3, _⟩ => (k_hi _ p _ (nk_at x0 x1 x2 x3 x4 x5 x6 x7 t X C A B hC hA hB 9 _ p (b_at x0 x1 x2 x3 x4 x5 x6 x7 t X hX 9 p)) e).trans (M.kP_eq _ _ _ _ _ _ 3 9 1 _ e rfl rfl).symm
  | ⟨n + 4, h⟩ => absurd h (by omega)

theorem out9_at (h : Fin 4) (p : Fin 512) (e : Fin 128) : out0_9 (F := Ideal) x0 x1 x2 x3 x4 x5 x6 x7 (ix3 h p e) = M.kP (Hn x1 X) (fun k c => x2 (ix2 k c)) (fun l => x4 (ix2 0 l)) C A B h (512 * t + p) e :=
  (out9_f x0 x1 x2 x3 x4 x5 x6 x7 h p e).trans (f9_at x0 x1 x2 x3 x4 x5 x6 x7 t X C A B hX hC hA hB h p e)

theorem f10_at (h : Fin 8) (p : Fin 512) (e : Fin 128) : f10 x0 x1 x2 x3 x4 x5 x6 x7 h (ix3 0 p e) = M.vP (Hn x1 X) (fun k c => x2 (ix2 k c)) h (512 * t + p) e := match h with
  | ⟨0, _⟩ => (v_0 _ p _ (b_at x0 x1 x2 x3 x4 x5 x6 x7 t X hX 10 p) e).trans (M.vP_eq _ _ 0 10 0 0 _ e rfl rfl rfl).symm
  | ⟨1, _⟩ => (v_1 _ p _ (b_at x0 x1 x2 x3 x4 x5 x6 x7 t X hX 10 p) e).trans (M.vP_eq _ _ 1 10 1 0 _ e rfl rfl rfl).symm
  | ⟨2, _⟩ => (v_2 _ p _ (b_at x0 x1 x2 x3 x4 x5 x6 x7 t X hX 10 p) e).trans (M.vP_eq _ _ 2 10 0 1 _ e rfl rfl rfl).symm
  | ⟨3, _⟩ => (v_3 _ p _ (b_at x0 x1 x2 x3 x4 x5 x6 x7 t X hX 10 p) e).trans (M.vP_eq _ _ 3 10 1 1 _ e rfl rfl rfl).symm
  | ⟨4, _⟩ => (v_0 _ p _ (b_at x0 x1 x2 x3 x4 x5 x6 x7 t X hX 11 p) e).trans (M.vP_eq _ _ 4 11 0 0 _ e rfl rfl rfl).symm
  | ⟨5, _⟩ => (v_1 _ p _ (b_at x0 x1 x2 x3 x4 x5 x6 x7 t X hX 11 p) e).trans (M.vP_eq _ _ 5 11 1 0 _ e rfl rfl rfl).symm
  | ⟨6, _⟩ => (v_2 _ p _ (b_at x0 x1 x2 x3 x4 x5 x6 x7 t X hX 11 p) e).trans (M.vP_eq _ _ 6 11 0 1 _ e rfl rfl rfl).symm
  | ⟨7, _⟩ => (v_3 _ p _ (b_at x0 x1 x2 x3 x4 x5 x6 x7 t X hX 11 p) e).trans (M.vP_eq _ _ 7 11 1 1 _ e rfl rfl rfl).symm
  | ⟨n + 8, h⟩ => absurd h (by omega)

theorem out10_at (h : Fin 8) (p : Fin 512) (e : Fin 128) : out0_10 (F := Ideal) x0 x1 x2 x3 x4 x5 x6 x7 (ix3 h p e) = M.vP (Hn x1 X) (fun k c => x2 (ix2 k c)) h (512 * t + p) e :=
  (out10_f x0 x1 x2 x3 x4 x5 x6 x7 h p e).trans (f10_at x0 x1 x2 x3 x4 x5 x6 x7 t X C A B hX hC hA hB h p e)

end block

end Cert.KernelIdeal.Qkv
end
-- ==== Proof.QkvArr.lean ====
module

public import proofs.«01_k».proof.Proof.QkvAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The three arrays the projections' region leaves. -/
namespace Cert.KernelIdeal.Qkv
open Cert.KernelIdeal Cert.KernelIdeal.Gen

theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val % 4, 0]
    ∧ win0_6.index t = ![t.val % 4, 0]
    ∧ win0_7.index t = ![t.val % 4, 0]
    ∧ win0_8.index t = ![0, t.val, 0]
    ∧ win0_9.index t = ![0, t.val, 0]
    ∧ win0_10.index t = ![0, t.val, 0] :=
  (by decide +kernel : ∀ t : Fin grid0.N, _)

theorem lt32 (t : Fin cfg0.N) : t.val < 32 := lt_of_lt_of_eq t.isLt (by decide)

variable (V : (c : Dev nD) → (b : Ref sig .tc) → Buf (Elt Ideal) ((c : Thread nD τ).loc b))

/-- a table's row for a row's position in its sequence -/
def tab (T : FVec Ideal S2048x128 .f32) : ℕ → Fin 128 → EReal := fun r l => T (ix2 ⟨r % 2048, Nat.mod_lt _ (by decide)⟩ l)

/-- the rows normalised, over what the region reads -/
def hn (X : FVec Ideal S16384x1024 .f32) (g : FVec Ideal S1x1024 .f32) : ℕ → Fin 1024 → EReal := Hn g (M.rows X)

/-- the queries -/
def resq (X : FVec Ideal S16384x1024 .f32) (g : FVec Ideal S1x1024 .f32) (W : FVec Ideal S1024x1536 .bf16) (q : FVec Ideal S1x128 .f32)
    (C A B : FVec Ideal S2048x128 .f32) : ℕ → ℕ → Fin 128 → EReal :=
  M.qP (hn X g) (fun k c => W (ix2 k c)) (gq q) (tab C) (tab A) (tab B)

/-- the keys -/
def resk (X : FVec Ideal S16384x1024 .f32) (g : FVec Ideal S1x1024 .f32) (W : FVec Ideal S1024x1536 .bf16) (q : FVec Ideal S1x128 .f32)
    (C A B : FVec Ideal S2048x128 .f32) : ℕ → ℕ → Fin 128 → EReal :=
  M.kP (hn X g) (fun k c => W (ix2 k c)) (fun l => q (ix2 0 l)) (tab C) (tab A) (tab B)

/-- the values -/
def resv (X : FVec Ideal S16384x1024 .f32) (g : FVec Ideal S1x1024 .f32) (W : FVec Ideal S1024x1536 .bf16) : ℕ → ℕ → Fin 128 → EReal :=
  M.vP (hn X g) (fun k c => W (ix2 k c))

theorem xrow (c : Dev nD) (t : Fin cfg0.N) (p : Fin 512) (k : Fin 1024) :
    iblk0 V c 0 t (ix2 p k) = M.rows (φ := .f32) (V c main_v60) (512 * t.val + p) k := by
  unfold M.rows
  have ht := lt32 t
  blk_ext [iblk0, idx t]

theorem tab5 (c : Dev nD) (t : Fin cfg0.N) (p : Fin 512) (l : Fin 128) :
    iblk0 V c 5 t (ix2 p l) = tab (V c main_v95) (512 * t.val + p) l := by
  unfold tab
  have ht := lt32 t
  have e1 : (512 * t.val + (p : ℕ)) % 2048 = t.val % 4 * 512 + p := by omega
  blk_ext [iblk0, idx t, e1]

theorem tab6 (c : Dev nD) (t : Fin cfg0.N) (p : Fin 512) (l : Fin 128) :
    iblk0 V c 6 t (ix2 p l) = tab (V c main_v105) (512 * t.val + p) l := by
  unfold tab
  have ht := lt32 t
  have e1 : (512 * t.val + (p : ℕ)) % 2048 = t.val % 4 * 512 + p := by omega
  blk_ext [iblk0, idx t, e1]

theorem tab7 (c : Dev nD) (t : Fin cfg0.N) (p : Fin 512) (l : Fin 128) :
    iblk0 V c 7 t (ix2 p l) = tab (V c main_v108) (512 * t.val + p) l := by
  unfold tab
  have ht := lt32 t
  have e1 : (512 * t.val + (p : ℕ)) % 2048 = t.val % 4 * 512 + p := by omega
  blk_ext [iblk0, idx t, e1]
theorem iblk_1 (c : Dev nD) (t : Fin cfg0.N) : iblk0 V c 1 t = V c main_v2 := by blk_ext! [iblk0, idx t]
theorem iblk_2 (c : Dev nD) (t : Fin cfg0.N) : iblk0 V c 2 t = V c main_v13 := by blk_ext! [iblk0, idx t]
theorem iblk_3 (c : Dev nD) (t : Fin cfg0.N) : iblk0 V c 3 t = V c main_v18 := by blk_ext! [iblk0, idx t]
theorem iblk_4 (c : Dev nD) (t : Fin cfg0.N) : iblk0 V c 4 t = V c main_v23 := by blk_ext! [iblk0, idx t]

/-- the array of the queries -/
theorem final8 (c : Dev nD) : (dat0 V c).arrAt 8 cfg0.N
    = fun i : S16x16384x128.Idx => resq (V c main_v60) (V c main_v2) (V c main_v13) (V c main_v18) (V c main_v95) (V c main_v105) (V c main_v108) (i 0) (i 1) (i 2) := by
  refine (dat0 V c).arrAt_eq_of_covers 8 _ (by decide +kernel) fun t _ y => ?_
  blk_simp
  rw [after0_8]
  obtain ⟨y0, y1, y2, rfl⟩ : ∃ (a : Fin 16) (b : Fin 512) (d : Fin 128), y = ix3 a b d := ⟨y 0, y 1, y 2, eq_ix3 y⟩
  have h := out8_at (iblk0 V c 0 t) (iblk0 V c 1 t) (iblk0 V c 2 t) (iblk0 V c 3 t) (iblk0 V c 4 t) (iblk0 V c 5 t) (iblk0 V c 6 t) (iblk0 V c 7 t) t.val _ _ _ _
    (xrow V c t) (tab5 V c t) (tab6 V c t) (tab7 V c t) y0 y1 y2
  rw [iblk_1, iblk_2, iblk_3, iblk_4] at h
  rw [iblk_1, iblk_2, iblk_3, iblk_4]
  have ht := lt32 t
  refine h.trans (congr (congrArg₂ (resq (V c main_v60) (V c main_v2) (V c main_v13) (V c main_v18) (V c main_v95) (V c main_v105) (V c main_v108)) ?_ ?_) ?_)
  · (blk_simp [idx t] <;> try omega)
  · (blk_simp [idx t] <;> try omega)
  · refine Fin.ext ?_
    (blk_simp [idx t] <;> try omega)

/-- the array of the keys -/
theorem final9 (c : Dev nD) : (dat0 V c).arrAt 9 cfg0.N
    = fun i : S4x16384x128.Idx => resk (V c main_v60) (V c main_v2) (V c main_v13) (V c main_v23) (V c main_v95) (V c main_v105) (V c main_v108) (i 0) (i 1) (i 2) := by
  refine (dat0 V c).arrAt_eq_of_covers 9 _ (by decide +kernel) fun t _ y => ?_
  blk_simp
  rw [after0_9]
  obtain ⟨y0, y1, y2, rfl⟩ : ∃ (a : Fin 4) (b : Fin 512) (d : Fin 128), y = ix3 a b d := ⟨y 0, y 1, y 2, eq_ix3 y⟩
  have h := out9_at (iblk0 V c 0 t) (iblk0 V c 1 t) (iblk0 V c 2 t) (iblk0 V c 3 t) (iblk0 V c 4 t) (iblk0 V c 5 t) (iblk0 V c 6 t) (iblk0 V c 7 t) t.val _ _ _ _
    (xrow V c t) (tab5 V c t) (tab6 V c t) (tab7 V c t) y0 y1 y2
  rw [iblk_1, iblk_2, iblk_3, iblk_4] at h
  rw [iblk_1, iblk_2, iblk_3, iblk_4]
  have ht := lt32 t
  refine h.trans (congr (congrArg₂ (resk (V c main_v60) (V c main_v2) (V c main_v13) (V c main_v23) (V c main_v95) (V c main_v105) (V c main_v108)) ?_ ?_) ?_)
  · (blk_simp [idx t] <;> try omega)
  · (blk_simp [idx t] <;> try omega)
  · refine Fin.ext ?_
    (blk_simp [idx t] <;> try omega)

/-- the array of the values -/
theorem final10 (c : Dev nD) : (dat0 V c).arrAt 10 cfg0.N
    = fun i : S8x16384x128.Idx => resv (V c main_v60) (V c main_v2) (V c main_v13) (i 0) (i 1) (i 2) := by
  refine (dat0 V c).arrAt_eq_of_covers 10 _ (by decide +kernel) fun t _ y => ?_
  blk_simp
  rw [after0_10]
  obtain ⟨y0, y1, y2, rfl⟩ : ∃ (a : Fin 8) (b : Fin 512) (d : Fin 128), y = ix3 a b d := ⟨y 0, y 1, y 2, eq_ix3 y⟩
  have h := out10_at (iblk0 V c 0 t) (iblk0 V c 1 t) (iblk0 V c 2 t) (iblk0 V c 3 t) (iblk0 V c 4 t) (iblk0 V c 5 t) (iblk0 V c 6 t) (iblk0 V c 7 t) t.val _ _ _ _
    (xrow V c t) (tab5 V c t) (tab6 V c t) (tab7 V c t) y0 y1 y2
  rw [iblk_1, iblk_2, iblk_3, iblk_4] at h
  rw [iblk_1, iblk_2, iblk_3, iblk_4]
  have ht := lt32 t
  refine h.trans (congr (congrArg₂ (resv (V c main_v60) (V c main_v2) (V c main_v13)) ?_ ?_) ?_)
  · (blk_simp [idx t] <;> try omega)
  · (blk_simp [idx t] <;> try omega)
  · refine Fin.ext ?_
    (blk_simp [idx t] <;> try omega)

end Cert.KernelIdeal.Qkv
end
-- ==== Proof.AttnBlk.lean ====
module

public import proofs.«01_k».proof.Proof.ModelA
public import proofs.«01_k».proof.Proof.Attn
public import proofs.«01_k».proof.Proof.Ffn
public import proofs.«01_k».proof.Proof.Gen.KernelIdeal.Frame.Region1
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The attention's region: what its stores are, read at an element. -/
namespace Cert.KernelIdeal.Attn
open Cert.KernelIdeal Cert.KernelIdeal.Gen

section block
variable (x0 : Vec Ideal S16x512x128 .bf16) (x1 : Vec Ideal S4x2048x128 .bf16) (x2 : Vec Ideal S8x2048x128 .bf16) (x3 : Vec Ideal S512x1024 .f32)
  (x4 : Vec Ideal S1024x1024 .bf16) (x5 : Vec Ideal S1x1024 .f32)

/-- head 0 -/
def a0 : FVec Ideal S512x128 .f32 := hd (View.ld x0 r1_0) (View.ld x1 r1_1) (View.ld x2 r1_3)

/-- head 1 -/
def a1 : FVec Ideal S512x128 .f32 := hd (View.ld x0 r1_2) (View.ld x1 r1_1) (View.ld x2 r1_5)

/-- head 2 -/
def a2 : FVec Ideal S512x128 .f32 := hd (View.ld x0 r1_4) (View.ld x1 r1_1) (View.ld x2 r1_3)

/-- head 3 -/
def a3 : FVec Ideal S512x128 .f32 := hd (View.ld x0 r1_6) (View.ld x1 r1_1) (View.ld x2 r1_5)

/-- head 4 -/
def a4 : FVec Ideal S512x128 .f32 := hd (View.ld x0 r1_7) (View.ld x1 r1_8) (View.ld x2 r1_10)

/-- head 5 -/
def a5 : FVec Ideal S512x128 .f32 := hd (View.ld x0 r1_9) (View.ld x1 r1_8) (View.ld x2 r1_12)

/-- head 6 -/
def a6 : FVec Ideal S512x128 .f32 := hd (View.ld x0 r1_11) (View.ld x1 r1_8) (View.ld x2 r1_10)

/-- head 7 -/
def a7 : FVec Ideal S512x128 .f32 := hd (View.ld x0 r1_13) (View.ld x1 r1_8) (View.ld x2 r1_12)

/-- head 8 -/
def a8 : FVec Ideal S512x128 .f32 := hd (View.ld x0 r1_14) (View.ld x1 r1_15) (View.ld x2 r1_17)

/-- head 9 -/
def a9 : FVec Ideal S512x128 .f32 := hd (View.ld x0 r1_16) (View.ld x1 r1_15) (View.ld x2 r1_19)

/-- head 10 -/
def a10 : FVec Ideal S512x128 .f32 := hd (View.ld x0 r1_18) (View.ld x1 r1_15) (View.ld x2 r1_17)

/-- head 11 -/
def a11 : FVec Ideal S512x128 .f32 := hd (View.ld x0 r1_20) (View.ld x1 r1_15) (View.ld x2 r1_19)

/-- head 12 -/
def a12 : FVec Ideal S512x128 .f32 := hd (View.ld x0 r1_21) (View.ld x1 r1_22) (View.ld x2 r1_24)

/-- head 13 -/
def a13 : FVec Ideal S512x128 .f32 := hd (View.ld x0 r1_23) (View.ld x1 r1_22) (View.ld x2 r1_26)

/-- head 14 -/
def a14 : FVec Ideal S512x128 .f32 := hd (View.ld x0 r1_25) (View.ld x1 r1_22) (View.ld x2 r1_24)

/-- head 15 -/
def a15 : FVec Ideal S512x128 .f32 := hd (View.ld x0 r1_27) (View.ld x1 r1_22) (View.ld x2 r1_26)

theorem a0_eq : (k1_pay21 (k1_pay298 x0 x1 x2 x3 x4 x5) (k1_pay5 (k1_pay300 x0 x1 x2 x3 x4 x5)) (k1_pay6 (k1_pay298 x0 x1 x2 x3 x4 x5) (k1_pay300 x0 x1 x2 x3 x4 x5)) (k1_pay7 (k1_pay298 x0 x1 x2 x3 x4 x5) (k1_pay300 x0 x1 x2 x3 x4 x5)) (k1_pay8 (k1_pay298 x0 x1 x2 x3 x4 x5) (k1_pay300 x0 x1 x2 x3 x4 x5)) (k1_pay9 (k1_pay298 x0 x1 x2 x3 x4 x5) (k1_pay300 x0 x1 x2 x3 x4 x5)) (k1_pay10 (k1_pay298 x0 x1 x2 x3 x4 x5) (k1_pay300 x0 x1 x2 x3 x4 x5)) (k1_pay11 (k1_pay298 x0 x1 x2 x3 x4 x5) (k1_pay300 x0 x1 x2 x3 x4 x5)) (k1_pay12 (k1_pay298 x0 x1 x2 x3 x4 x5) (k1_pay300 x0 x1 x2 x3 x4 x5)) (k1_pay13 (k1_pay298 x0 x1 x2 x3 x4 x5) (k1_pay300 x0 x1 x2 x3 x4 x5)) (k1_pay14 (k1_pay298 x0 x1 x2 x3 x4 x5) (k1_pay300 x0 x1 x2 x3 x4 x5)) (k1_pay15 (k1_pay298 x0 x1 x2 x3 x4 x5) (k1_pay300 x0 x1 x2 x3 x4 x5)) (k1_pay16 (k1_pay298 x0 x1 x2 x3 x4 x5) (k1_pay300 x0 x1 x2 x3 x4 x5)) (k1_pay17 (k1_pay298 x0 x1 x2 x3 x4 x5) (k1_pay300 x0 x1 x2 x3 x4 x5)) (k1_pay18 (k1_pay298 x0 x1 x2 x3 x4 x5) (k1_pay300 x0 x1 x2 x3 x4 x5)) (k1_pay19 (k1_pay298 x0 x1 x2 x3 x4 x5) (k1_pay300 x0 x1 x2 x3 x4 x5)) (k1_pay20 (k1_pay298 x0 x1 x2 x3 x4 x5)) (View.ld x2 r1_3)) = a0 x0 x1 x2 := rfl

theorem a1_eq : (k1_pay40 (k1_pay299 x0 x1 x2 x3 x4 x5) (k1_pay24 (k1_pay302 x0 x1 x2 x3 x4 x5)) (k1_pay25 (k1_pay299 x0 x1 x2 x3 x4 x5) (k1_pay302 x0 x1 x2 x3 x4 x5)) (k1_pay26 (k1_pay299 x0 x1 x2 x3 x4 x5) (k1_pay302 x0 x1 x2 x3 x4 x5)) (k1_pay27 (k1_pay299 x0 x1 x2 x3 x4 x5) (k1_pay302 x0 x1 x2 x3 x4 x5)) (k1_pay28 (k1_pay299 x0 x1 x2 x3 x4 x5) (k1_pay302 x0 x1 x2 x3 x4 x5)) (k1_pay29 (k1_pay299 x0 x1 x2 x3 x4 x5) (k1_pay302 x0 x1 x2 x3 x4 x5)) (k1_pay30 (k1_pay299 x0 x1 x2 x3 x4 x5) (k1_pay302 x0 x1 x2 x3 x4 x5)) (k1_pay31 (k1_pay299 x0 x1 x2 x3 x4 x5) (k1_pay302 x0 x1 x2 x3 x4 x5)) (k1_pay32 (k1_pay299 x0 x1 x2 x3 x4 x5) (k1_pay302 x0 x1 x2 x3 x4 x5)) (k1_pay33 (k1_pay299 x0 x1 x2 x3 x4 x5) (k1_pay302 x0 x1 x2 x3 x4 x5)) (k1_pay34 (k1_pay299 x0 x1 x2 x3 x4 x5) (k1_pay302 x0 x1 x2 x3 x4 x5)) (k1_pay35 (k1_pay299 x0 x1 x2 x3 x4 x5) (k1_pay302 x0 x1 x2 x3 x4 x5)) (k1_pay36 (k1_pay299 x0 x1 x2 x3 x4 x5) (k1_pay302 x0 x1 x2 x3 x4 x5)) (k1_pay37 (k1_pay299 x0 x1 x2 x3 x4 x5) (k1_pay302 x0 x1 x2 x3 x4 x5)) (k1_pay38 (k1_pay299 x0 x1 x2 x3 x4 x5) (k1_pay302 x0 x1 x2 x3 x4 x5)) (k1_pay39 (k1_pay299 x0 x1 x2 x3 x4 x5)) (View.ld x2 r1_5)) = a1 x0 x1 x2 := rfl

theorem a2_eq : (k1_pay59 (k1_pay301 x0 x1 x2 x3 x4 x5) (k1_pay43 (k1_pay304 x0 x1 x2 x3 x4 x5)) (k1_pay44 (k1_pay301 x0 x1 x2 x3 x4 x5) (k1_pay304 x0 x1 x2 x3 x4 x5)) (k1_pay45 (k1_pay301 x0 x1 x2 x3 x4 x5) (k1_pay304 x0 x1 x2 x3 x4 x5)) (k1_pay46 (k1_pay301 x0 x1 x2 x3 x4 x5) (k1_pay304 x0 x1 x2 x3 x4 x5)) (k1_pay47 (k1_pay301 x0 x1 x2 x3 x4 x5) (k1_pay304 x0 x1 x2 x3 x4 x5)) (k1_pay48 (k1_pay301 x0 x1 x2 x3 x4 x5) (k1_pay304 x0 x1 x2 x3 x4 x5)) (k1_pay49 (k1_pay301 x0 x1 x2 x3 x4 x5) (k1_pay304 x0 x1 x2 x3 x4 x5)) (k1_pay50 (k1_pay301 x0 x1 x2 x3 x4 x5) (k1_pay304 x0 x1 x2 x3 x4 x5)) (k1_pay51 (k1_pay301 x0 x1 x2 x3 x4 x5) (k1_pay304 x0 x1 x2 x3 x4 x5)) (k1_pay52 (k1_pay301 x0 x1 x2 x3 x4 x5) (k1_pay304 x0 x1 x2 x3 x4 x5)) (k1_pay53 (k1_pay301 x0 x1 x2 x3 x4 x5) (k1_pay304 x0 x1 x2 x3 x4 x5)) (k1_pay54 (k1_pay301 x0 x1 x2 x3 x4 x5) (k1_pay304 x0 x1 x2 x3 x4 x5)) (k1_pay55 (k1_pay301 x0 x1 x2 x3 x4 x5) (k1_pay304 x0 x1 x2 x3 x4 x5)) (k1_pay56 (k1_pay301 x0 x1 x2 x3 x4 x5) (k1_pay304 x0 x1 x2 x3 x4 x5)) (k1_pay57 (k1_pay301 x0 x1 x2 x3 x4 x5) (k1_pay304 x0 x1 x2 x3 x4 x5)) (k1_pay58 (k1_pay301 x0 x1 x2 x3 x4 x5)) (View.ld x2 r1_3)) = a2 x0 x1 x2 := rfl

theorem a3_eq : (k1_pay78 (k1_pay303 x0 x1 x2 x3 x4 x5) (k1_pay62 (k1_pay306 x0 x1 x2 x3 x4 x5)) (k1_pay63 (k1_pay303 x0 x1 x2 x3 x4 x5) (k1_pay306 x0 x1 x2 x3 x4 x5)) (k1_pay64 (k1_pay303 x0 x1 x2 x3 x4 x5) (k1_pay306 x0 x1 x2 x3 x4 x5)) (k1_pay65 (k1_pay303 x0 x1 x2 x3 x4 x5) (k1_pay306 x0 x1 x2 x3 x4 x5)) (k1_pay66 (k1_pay303 x0 x1 x2 x3 x4 x5) (k1_pay306 x0 x1 x2 x3 x4 x5)) (k1_pay67 (k1_pay303 x0 x1 x2 x3 x4 x5) (k1_pay306 x0 x1 x2 x3 x4 x5)) (k1_pay68 (k1_pay303 x0 x1 x2 x3 x4 x5) (k1_pay306 x0 x1 x2 x3 x4 x5)) (k1_pay69 (k1_pay303 x0 x1 x2 x3 x4 x5) (k1_pay306 x0 x1 x2 x3 x4 x5)) (k1_pay70 (k1_pay303 x0 x1 x2 x3 x4 x5) (k1_pay306 x0 x1 x2 x3 x4 x5)) (k1_pay71 (k1_pay303 x0 x1 x2 x3 x4 x5) (k1_pay306 x0 x1 x2 x3 x4 x5)) (k1_pay72 (k1_pay303 x0 x1 x2 x3 x4 x5) (k1_pay306 x0 x1 x2 x3 x4 x5)) (k1_pay73 (k1_pay303 x0 x1 x2 x3 x4 x5) (k1_pay306 x0 x1 x2 x3 x4 x5)) (k1_pay74 (k1_pay303 x0 x1 x2 x3 x4 x5) (k1_pay306 x0 x1 x2 x3 x4 x5)) (k1_pay75 (k1_pay303 x0 x1 x2 x3 x4 x5) (k1_pay306 x0 x1 x2 x3 x4 x5)) (k1_pay76 (k1_pay303 x0 x1 x2 x3 x4 x5) (k1_pay306 x0 x1 x2 x3 x4 x5)) (k1_pay77 (k1_pay303 x0 x1 x2 x3 x4 x5)) (View.ld x2 r1_5)) = a3 x0 x1 x2 := rfl

theorem a4_eq : (k1_pay97 (k1_pay305 x0 x1 x2 x3 x4 x5) (k1_pay81 (k1_pay308 x0 x1 x2 x3 x4 x5)) (k1_pay82 (k1_pay305 x0 x1 x2 x3 x4 x5) (k1_pay308 x0 x1 x2 x3 x4 x5)) (k1_pay83 (k1_pay305 x0 x1 x2 x3 x4 x5) (k1_pay308 x0 x1 x2 x3 x4 x5)) (k1_pay84 (k1_pay305 x0 x1 x2 x3 x4 x5) (k1_pay308 x0 x1 x2 x3 x4 x5)) (k1_pay85 (k1_pay305 x0 x1 x2 x3 x4 x5) (k1_pay308 x0 x1 x2 x3 x4 x5)) (k1_pay86 (k1_pay305 x0 x1 x2 x3 x4 x5) (k1_pay308 x0 x1 x2 x3 x4 x5)) (k1_pay87 (k1_pay305 x0 x1 x2 x3 x4 x5) (k1_pay308 x0 x1 x2 x3 x4 x5)) (k1_pay88 (k1_pay305 x0 x1 x2 x3 x4 x5) (k1_pay308 x0 x1 x2 x3 x4 x5)) (k1_pay89 (k1_pay305 x0 x1 x2 x3 x4 x5) (k1_pay308 x0 x1 x2 x3 x4 x5)) (k1_pay90 (k1_pay305 x0 x1 x2 x3 x4 x5) (k1_pay308 x0 x1 x2 x3 x4 x5)) (k1_pay91 (k1_pay305 x0 x1 x2 x3 x4 x5) (k1_pay308 x0 x1 x2 x3 x4 x5)) (k1_pay92 (k1_pay305 x0 x1 x2 x3 x4 x5) (k1_pay308 x0 x1 x2 x3 x4 x5)) (k1_pay93 (k1_pay305 x0 x1 x2 x3 x4 x5) (k1_pay308 x0 x1 x2 x3 x4 x5)) (k1_pay94 (k1_pay305 x0 x1 x2 x3 x4 x5) (k1_pay308 x0 x1 x2 x3 x4 x5)) (k1_pay95 (k1_pay305 x0 x1 x2 x3 x4 x5) (k1_pay308 x0 x1 x2 x3 x4 x5)) (k1_pay96 (k1_pay305 x0 x1 x2 x3 x4 x5)) (View.ld x2 r1_10)) = a4 x0 x1 x2 := rfl

theorem a5_eq : (k1_pay116 (k1_pay307 x0 x1 x2 x3 x4 x5) (k1_pay100 (k1_pay310 x0 x1 x2 x3 x4 x5)) (k1_pay101 (k1_pay307 x0 x1 x2 x3 x4 x5) (k1_pay310 x0 x1 x2 x3 x4 x5)) (k1_pay102 (k1_pay307 x0 x1 x2 x3 x4 x5) (k1_pay310 x0 x1 x2 x3 x4 x5)) (k1_pay103 (k1_pay307 x0 x1 x2 x3 x4 x5) (k1_pay310 x0 x1 x2 x3 x4 x5)) (k1_pay104 (k1_pay307 x0 x1 x2 x3 x4 x5) (k1_pay310 x0 x1 x2 x3 x4 x5)) (k1_pay105 (k1_pay307 x0 x1 x2 x3 x4 x5) (k1_pay310 x0 x1 x2 x3 x4 x5)) (k1_pay106 (k1_pay307 x0 x1 x2 x3 x4 x5) (k1_pay310 x0 x1 x2 x3 x4 x5)) (k1_pay107 (k1_pay307 x0 x1 x2 x3 x4 x5) (k1_pay310 x0 x1 x2 x3 x4 x5)) (k1_pay108 (k1_pay307 x0 x1 x2 x3 x4 x5) (k1_pay310 x0 x1 x2 x3 x4 x5)) (k1_pay109 (k1_pay307 x0 x1 x2 x3 x4 x5) (k1_pay310 x0 x1 x2 x3 x4 x5)) (k1_pay110 (k1_pay307 x0 x1 x2 x3 x4 x5) (k1_pay310 x0 x1 x2 x3 x4 x5)) (k1_pay111 (k1_pay307 x0 x1 x2 x3 x4 x5) (k1_pay310 x0 x1 x2 x3 x4 x5)) (k1_pay112 (k1_pay307 x0 x1 x2 x3 x4 x5) (k1_pay310 x0 x1 x2 x3 x4 x5)) (k1_pay113 (k1_pay307 x0 x1 x2 x3 x4 x5) (k1_pay310 x0 x1 x2 x3 x4 x5)) (k1_pay114 (k1_pay307 x0 x1 x2 x3 x4 x5) (k1_pay310 x0 x1 x2 x3 x4 x5)) (k1_pay115 (k1_pay307 x0 x1 x2 x3 x4 x5)) (View.ld x2 r1_12)) = a5 x0 x1 x2 := rfl

theorem a6_eq : (k1_pay135 (k1_pay309 x0 x1 x2 x3 x4 x5) (k1_pay119 (k1_pay312 x0 x1 x2 x3 x4 x5)) (k1_pay120 (k1_pay309 x0 x1 x2 x3 x4 x5) (k1_pay312 x0 x1 x2 x3 x4 x5)) (k1_pay121 (k1_pay309 x0 x1 x2 x3 x4 x5) (k1_pay312 x0 x1 x2 x3 x4 x5)) (k1_pay122 (k1_pay309 x0 x1 x2 x3 x4 x5) (k1_pay312 x0 x1 x2 x3 x4 x5)) (k1_pay123 (k1_pay309 x0 x1 x2 x3 x4 x5) (k1_pay312 x0 x1 x2 x3 x4 x5)) (k1_pay124 (k1_pay309 x0 x1 x2 x3 x4 x5) (k1_pay312 x0 x1 x2 x3 x4 x5)) (k1_pay125 (k1_pay309 x0 x1 x2 x3 x4 x5) (k1_pay312 x0 x1 x2 x3 x4 x5)) (k1_pay126 (k1_pay309 x0 x1 x2 x3 x4 x5) (k1_pay312 x0 x1 x2 x3 x4 x5)) (k1_pay127 (k1_pay309 x0 x1 x2 x3 x4 x5) (k1_pay312 x0 x1 x2 x3 x4 x5)) (k1_pay128 (k1_pay309 x0 x1 x2 x3 x4 x5) (k1_pay312 x0 x1 x2 x3 x4 x5)) (k1_pay129 (k1_pay309 x0 x1 x2 x3 x4 x5) (k1_pay312 x0 x1 x2 x3 x4 x5)) (k1_pay130 (k1_pay309 x0 x1 x2 x3 x4 x5) (k1_pay312 x0 x1 x2 x3 x4 x5)) (k1_pay131 (k1_pay309 x0 x1 x2 x3 x4 x5) (k1_pay312 x0 x1 x2 x3 x4 x5)) (k1_pay132 (k1_pay309 x0 x1 x2 x3 x4 x5) (k1_pay312 x0 x1 x2 x3 x4 x5)) (k1_pay133 (k1_pay309 x0 x1 x2 x3 x4 x5) (k1_pay312 x0 x1 x2 x3 x4 x5)) (k1_pay134 (k1_pay309 x0 x1 x2 x3 x4 x5)) (View.ld x2 r1_10)) = a6 x0 x1 x2 := rfl

theorem a7_eq : (k1_pay154 (k1_pay311 x0 x1 x2 x3 x4 x5) (k1_pay138 (k1_pay314 x0 x1 x2 x3 x4 x5)) (k1_pay139 (k1_pay311 x0 x1 x2 x3 x4 x5) (k1_pay314 x0 x1 x2 x3 x4 x5)) (k1_pay140 (k1_pay311 x0 x1 x2 x3 x4 x5) (k1_pay314 x0 x1 x2 x3 x4 x5)) (k1_pay141 (k1_pay311 x0 x1 x2 x3 x4 x5) (k1_pay314 x0 x1 x2 x3 x4 x5)) (k1_pay142 (k1_pay311 x0 x1 x2 x3 x4 x5) (k1_pay314 x0 x1 x2 x3 x4 x5)) (k1_pay143 (k1_pay311 x0 x1 x2 x3 x4 x5) (k1_pay314 x0 x1 x2 x3 x4 x5)) (k1_pay144 (k1_pay311 x0 x1 x2 x3 x4 x5) (k1_pay314 x0 x1 x2 x3 x4 x5)) (k1_pay145 (k1_pay311 x0 x1 x2 x3 x4 x5) (k1_pay314 x0 x1 x2 x3 x4 x5)) (k1_pay146 (k1_pay311 x0 x1 x2 x3 x4 x5) (k1_pay314 x0 x1 x2 x3 x4 x5)) (k1_pay147 (k1_pay311 x0 x1 x2 x3 x4 x5) (k1_pay314 x0 x1 x2 x3 x4 x5)) (k1_pay148 (k1_pay311 x0 x1 x2 x3 x4 x5) (k1_pay314 x0 x1 x2 x3 x4 x5)) (k1_pay149 (k1_pay311 x0 x1 x2 x3 x4 x5) (k1_pay314 x0 x1 x2 x3 x4 x5)) (k1_pay150 (k1_pay311 x0 x1 x2 x3 x4 x5) (k1_pay314 x0 x1 x2 x3 x4 x5)) (k1_pay151 (k1_pay311 x0 x1 x2 x3 x4 x5) (k1_pay314 x0 x1 x2 x3 x4 x5)) (k1_pay152 (k1_pay311 x0 x1 x2 x3 x4 x5) (k1_pay314 x0 x1 x2 x3 x4 x5)) (k1_pay153 (k1_pay311 x0 x1 x2 x3 x4 x5)) (View.ld x2 r1_12)) = a7 x0 x1 x2 := rfl

theorem a8_eq : (k1_pay173 (k1_pay313 x0 x1 x2 x3 x4 x5) (k1_pay157 (k1_pay316 x0 x1 x2 x3 x4 x5)) (k1_pay158 (k1_pay313 x0 x1 x2 x3 x4 x5) (k1_pay316 x0 x1 x2 x3 x4 x5)) (k1_pay159 (k1_pay313 x0 x1 x2 x3 x4 x5) (k1_pay316 x0 x1 x2 x3 x4 x5)) (k1_pay160 (k1_pay313 x0 x1 x2 x3 x4 x5) (k1_pay316 x0 x1 x2 x3 x4 x5)) (k1_pay161 (k1_pay313 x0 x1 x2 x3 x4 x5) (k1_pay316 x0 x1 x2 x3 x4 x5)) (k1_pay162 (k1_pay313 x0 x1 x2 x3 x4 x5) (k1_pay316 x0 x1 x2 x3 x4 x5)) (k1_pay163 (k1_pay313 x0 x1 x2 x3 x4 x5) (k1_pay316 x0 x1 x2 x3 x4 x5)) (k1_pay164 (k1_pay313 x0 x1 x2 x3 x4 x5) (k1_pay316 x0 x1 x2 x3 x4 x5)) (k1_pay165 (k1_pay313 x0 x1 x2 x3 x4 x5) (k1_pay316 x0 x1 x2 x3 x4 x5)) (k1_pay166 (k1_pay313 x0 x1 x2 x3 x4 x5) (k1_pay316 x0 x1 x2 x3 x4 x5)) (k1_pay167 (k1_pay313 x0 x1 x2 x3 x4 x5) (k1_pay316 x0 x1 x2 x3 x4 x5)) (k1_pay168 (k1_pay313 x0 x1 x2 x3 x4 x5) (k1_pay316 x0 x1 x2 x3 x4 x5)) (k1_pay169 (k1_pay313 x0 x1 x2 x3 x4 x5) (k1_pay316 x0 x1 x2 x3 x4 x5)) (k1_pay170 (k1_pay313 x0 x1 x2 x3 x4 x5) (k1_pay316 x0 x1 x2 x3 x4 x5)) (k1_pay171 (k1_pay313 x0 x1 x2 x3 x4 x5) (k1_pay316 x0 x1 x2 x3 x4 x5)) (k1_pay172 (k1_pay313 x0 x1 x2 x3 x4 x5)) (View.ld x2 r1_17)) = a8 x0 x1 x2 := rfl

theorem a9_eq : (k1_pay192 (k1_pay315 x0 x1 x2 x3 x4 x5) (k1_pay176 (k1_pay318 x0 x1 x2 x3 x4 x5)) (k1_pay177 (k1_pay315 x0 x1 x2 x3 x4 x5) (k1_pay318 x0 x1 x2 x3 x4 x5)) (k1_pay178 (k1_pay315 x0 x1 x2 x3 x4 x5) (k1_pay318 x0 x1 x2 x3 x4 x5)) (k1_pay179 (k1_pay315 x0 x1 x2 x3 x4 x5) (k1_pay318 x0 x1 x2 x3 x4 x5)) (k1_pay180 (k1_pay315 x0 x1 x2 x3 x4 x5) (k1_pay318 x0 x1 x2 x3 x4 x5)) (k1_pay181 (k1_pay315 x0 x1 x2 x3 x4 x5) (k1_pay318 x0 x1 x2 x3 x4 x5)) (k1_pay182 (k1_pay315 x0 x1 x2 x3 x4 x5) (k1_pay318 x0 x1 x2 x3 x4 x5)) (k1_pay183 (k1_pay315 x0 x1 x2 x3 x4 x5) (k1_pay318 x0 x1 x2 x3 x4 x5)) (k1_pay184 (k1_pay315 x0 x1 x2 x3 x4 x5) (k1_pay318 x0 x1 x2 x3 x4 x5)) (k1_pay185 (k1_pay315 x0 x1 x2 x3 x4 x5) (k1_pay318 x0 x1 x2 x3 x4 x5)) (k1_pay186 (k1_pay315 x0 x1 x2 x3 x4 x5) (k1_pay318 x0 x1 x2 x3 x4 x5)) (k1_pay187 (k1_pay315 x0 x1 x2 x3 x4 x5) (k1_pay318 x0 x1 x2 x3 x4 x5)) (k1_pay188 (k1_pay315 x0 x1 x2 x3 x4 x5) (k1_pay318 x0 x1 x2 x3 x4 x5)) (k1_pay189 (k1_pay315 x0 x1 x2 x3 x4 x5) (k1_pay318 x0 x1 x2 x3 x4 x5)) (k1_pay190 (k1_pay315 x0 x1 x2 x3 x4 x5) (k1_pay318 x0 x1 x2 x3 x4 x5)) (k1_pay191 (k1_pay315 x0 x1 x2 x3 x4 x5)) (View.ld x2 r1_19)) = a9 x0 x1 x2 := rfl

theorem a10_eq : (k1_pay211 (k1_pay317 x0 x1 x2 x3 x4 x5) (k1_pay195 (k1_pay320 x0 x1 x2 x3 x4 x5)) (k1_pay196 (k1_pay317 x0 x1 x2 x3 x4 x5) (k1_pay320 x0 x1 x2 x3 x4 x5)) (k1_pay197 (k1_pay317 x0 x1 x2 x3 x4 x5) (k1_pay320 x0 x1 x2 x3 x4 x5)) (k1_pay198 (k1_pay317 x0 x1 x2 x3 x4 x5) (k1_pay320 x0 x1 x2 x3 x4 x5)) (k1_pay199 (k1_pay317 x0 x1 x2 x3 x4 x5) (k1_pay320 x0 x1 x2 x3 x4 x5)) (k1_pay200 (k1_pay317 x0 x1 x2 x3 x4 x5) (k1_pay320 x0 x1 x2 x3 x4 x5)) (k1_pay201 (k1_pay317 x0 x1 x2 x3 x4 x5) (k1_pay320 x0 x1 x2 x3 x4 x5)) (k1_pay202 (k1_pay317 x0 x1 x2 x3 x4 x5) (k1_pay320 x0 x1 x2 x3 x4 x5)) (k1_pay203 (k1_pay317 x0 x1 x2 x3 x4 x5) (k1_pay320 x0 x1 x2 x3 x4 x5)) (k1_pay204 (k1_pay317 x0 x1 x2 x3 x4 x5) (k1_pay320 x0 x1 x2 x3 x4 x5)) (k1_pay205 (k1_pay317 x0 x1 x2 x3 x4 x5) (k1_pay320 x0 x1 x2 x3 x4 x5)) (k1_pay206 (k1_pay317 x0 x1 x2 x3 x4 x5) (k1_pay320 x0 x1 x2 x3 x4 x5)) (k1_pay207 (k1_pay317 x0 x1 x2 x3 x4 x5) (k1_pay320 x0 x1 x2 x3 x4 x5)) (k1_pay208 (k1_pay317 x0 x1 x2 x3 x4 x5) (k1_pay320 x0 x1 x2 x3 x4 x5)) (k1_pay209 (k1_pay317 x0 x1 x2 x3 x4 x5) (k1_pay320 x0 x1 x2 x3 x4 x5)) (k1_pay210 (k1_pay317 x0 x1 x2 x3 x4 x5)) (View.ld x2 r1_17)) = a10 x0 x1 x2 := rfl

theorem a11_eq : (k1_pay230 (k1_pay319 x0 x1 x2 x3 x4 x5) (k1_pay214 (k1_pay322 x0 x1 x2 x3 x4 x5)) (k1_pay215 (k1_pay319 x0 x1 x2 x3 x4 x5) (k1_pay322 x0 x1 x2 x3 x4 x5)) (k1_pay216 (k1_pay319 x0 x1 x2 x3 x4 x5) (k1_pay322 x0 x1 x2 x3 x4 x5)) (k1_pay217 (k1_pay319 x0 x1 x2 x3 x4 x5) (k1_pay322 x0 x1 x2 x3 x4 x5)) (k1_pay218 (k1_pay319 x0 x1 x2 x3 x4 x5) (k1_pay322 x0 x1 x2 x3 x4 x5)) (k1_pay219 (k1_pay319 x0 x1 x2 x3 x4 x5) (k1_pay322 x0 x1 x2 x3 x4 x5)) (k1_pay220 (k1_pay319 x0 x1 x2 x3 x4 x5) (k1_pay322 x0 x1 x2 x3 x4 x5)) (k1_pay221 (k1_pay319 x0 x1 x2 x3 x4 x5) (k1_pay322 x0 x1 x2 x3 x4 x5)) (k1_pay222 (k1_pay319 x0 x1 x2 x3 x4 x5) (k1_pay322 x0 x1 x2 x3 x4 x5)) (k1_pay223 (k1_pay319 x0 x1 x2 x3 x4 x5) (k1_pay322 x0 x1 x2 x3 x4 x5)) (k1_pay224 (k1_pay319 x0 x1 x2 x3 x4 x5) (k1_pay322 x0 x1 x2 x3 x4 x5)) (k1_pay225 (k1_pay319 x0 x1 x2 x3 x4 x5) (k1_pay322 x0 x1 x2 x3 x4 x5)) (k1_pay226 (k1_pay319 x0 x1 x2 x3 x4 x5) (k1_pay322 x0 x1 x2 x3 x4 x5)) (k1_pay227 (k1_pay319 x0 x1 x2 x3 x4 x5) (k1_pay322 x0 x1 x2 x3 x4 x5)) (k1_pay228 (k1_pay319 x0 x1 x2 x3 x4 x5) (k1_pay322 x0 x1 x2 x3 x4 x5)) (k1_pay229 (k1_pay319 x0 x1 x2 x3 x4 x5)) (View.ld x2 r1_19)) = a11 x0 x1 x2 := rfl

theorem a12_eq : (k1_pay249 (k1_pay321 x0 x1 x2 x3 x4 x5) (k1_pay233 (k1_pay324 x0 x1 x2 x3 x4 x5)) (k1_pay234 (k1_pay321 x0 x1 x2 x3 x4 x5) (k1_pay324 x0 x1 x2 x3 x4 x5)) (k1_pay235 (k1_pay321 x0 x1 x2 x3 x4 x5) (k1_pay324 x0 x1 x2 x3 x4 x5)) (k1_pay236 (k1_pay321 x0 x1 x2 x3 x4 x5) (k1_pay324 x0 x1 x2 x3 x4 x5)) (k1_pay237 (k1_pay321 x0 x1 x2 x3 x4 x5) (k1_pay324 x0 x1 x2 x3 x4 x5)) (k1_pay238 (k1_pay321 x0 x1 x2 x3 x4 x5) (k1_pay324 x0 x1 x2 x3 x4 x5)) (k1_pay239 (k1_pay321 x0 x1 x2 x3 x4 x5) (k1_pay324 x0 x1 x2 x3 x4 x5)) (k1_pay240 (k1_pay321 x0 x1 x2 x3 x4 x5) (k1_pay324 x0 x1 x2 x3 x4 x5)) (k1_pay241 (k1_pay321 x0 x1 x2 x3 x4 x5) (k1_pay324 x0 x1 x2 x3 x4 x5)) (k1_pay242 (k1_pay321 x0 x1 x2 x3 x4 x5) (k1_pay324 x0 x1 x2 x3 x4 x5)) (k1_pay243 (k1_pay321 x0 x1 x2 x3 x4 x5) (k1_pay324 x0 x1 x2 x3 x4 x5)) (k1_pay244 (k1_pay321 x0 x1 x2 x3 x4 x5) (k1_pay324 x0 x1 x2 x3 x4 x5)) (k1_pay245 (k1_pay321 x0 x1 x2 x3 x4 x5) (k1_pay324 x0 x1 x2 x3 x4 x5)) (k1_pay246 (k1_pay321 x0 x1 x2 x3 x4 x5) (k1_pay324 x0 x1 x2 x3 x4 x5)) (k1_pay247 (k1_pay321 x0 x1 x2 x3 x4 x5) (k1_pay324 x0 x1 x2 x3 x4 x5)) (k1_pay248 (k1_pay321 x0 x1 x2 x3 x4 x5)) (View.ld x2 r1_24)) = a12 x0 x1 x2 := rfl

theorem a13_eq : (k1_pay268 (k1_pay323 x0 x1 x2 x3 x4 x5) (k1_pay252 (k1_pay326 x0 x1 x2 x3 x4 x5)) (k1_pay253 (k1_pay323 x0 x1 x2 x3 x4 x5) (k1_pay326 x0 x1 x2 x3 x4 x5)) (k1_pay254 (k1_pay323 x0 x1 x2 x3 x4 x5) (k1_pay326 x0 x1 x2 x3 x4 x5)) (k1_pay255 (k1_pay323 x0 x1 x2 x3 x4 x5) (k1_pay326 x0 x1 x2 x3 x4 x5)) (k1_pay256 (k1_pay323 x0 x1 x2 x3 x4 x5) (k1_pay326 x0 x1 x2 x3 x4 x5)) (k1_pay257 (k1_pay323 x0 x1 x2 x3 x4 x5) (k1_pay326 x0 x1 x2 x3 x4 x5)) (k1_pay258 (k1_pay323 x0 x1 x2 x3 x4 x5) (k1_pay326 x0 x1 x2 x3 x4 x5)) (k1_pay259 (k1_pay323 x0 x1 x2 x3 x4 x5) (k1_pay326 x0 x1 x2 x3 x4 x5)) (k1_pay260 (k1_pay323 x0 x1 x2 x3 x4 x5) (k1_pay326 x0 x1 x2 x3 x4 x5)) (k1_pay261 (k1_pay323 x0 x1 x2 x3 x4 x5) (k1_pay326 x0 x1 x2 x3 x4 x5)) (k1_pay262 (k1_pay323 x0 x1 x2 x3 x4 x5) (k1_pay326 x0 x1 x2 x3 x4 x5)) (k1_pay263 (k1_pay323 x0 x1 x2 x3 x4 x5) (k1_pay326 x0 x1 x2 x3 x4 x5)) (k1_pay264 (k1_pay323 x0 x1 x2 x3 x4 x5) (k1_pay326 x0 x1 x2 x3 x4 x5)) (k1_pay265 (k1_pay323 x0 x1 x2 x3 x4 x5) (k1_pay326 x0 x1 x2 x3 x4 x5)) (k1_pay266 (k1_pay323 x0 x1 x2 x3 x4 x5) (k1_pay326 x0 x1 x2 x3 x4 x5)) (k1_pay267 (k1_pay323 x0 x1 x2 x3 x4 x5)) (View.ld x2 r1_26)) = a13 x0 x1 x2 := rfl

theorem a14_eq : (k1_pay287 (k1_pay325 x0 x1 x2 x3 x4 x5) (k1_pay271 (k1_pay328 x0 x1 x2 x3 x4 x5)) (k1_pay272 (k1_pay325 x0 x1 x2 x3 x4 x5) (k1_pay328 x0 x1 x2 x3 x4 x5)) (k1_pay273 (k1_pay325 x0 x1 x2 x3 x4 x5) (k1_pay328 x0 x1 x2 x3 x4 x5)) (k1_pay274 (k1_pay325 x0 x1 x2 x3 x4 x5) (k1_pay328 x0 x1 x2 x3 x4 x5)) (k1_pay275 (k1_pay325 x0 x1 x2 x3 x4 x5) (k1_pay328 x0 x1 x2 x3 x4 x5)) (k1_pay276 (k1_pay325 x0 x1 x2 x3 x4 x5) (k1_pay328 x0 x1 x2 x3 x4 x5)) (k1_pay277 (k1_pay325 x0 x1 x2 x3 x4 x5) (k1_pay328 x0 x1 x2 x3 x4 x5)) (k1_pay278 (k1_pay325 x0 x1 x2 x3 x4 x5) (k1_pay328 x0 x1 x2 x3 x4 x5)) (k1_pay279 (k1_pay325 x0 x1 x2 x3 x4 x5) (k1_pay328 x0 x1 x2 x3 x4 x5)) (k1_pay280 (k1_pay325 x0 x1 x2 x3 x4 x5) (k1_pay328 x0 x1 x2 x3 x4 x5)) (k1_pay281 (k1_pay325 x0 x1 x2 x3 x4 x5) (k1_pay328 x0 x1 x2 x3 x4 x5)) (k1_pay282 (k1_pay325 x0 x1 x2 x3 x4 x5) (k1_pay328 x0 x1 x2 x3 x4 x5)) (k1_pay283 (k1_pay325 x0 x1 x2 x3 x4 x5) (k1_pay328 x0 x1 x2 x3 x4 x5)) (k1_pay284 (k1_pay325 x0 x1 x2 x3 x4 x5) (k1_pay328 x0 x1 x2 x3 x4 x5)) (k1_pay285 (k1_pay325 x0 x1 x2 x3 x4 x5) (k1_pay328 x0 x1 x2 x3 x4 x5)) (k1_pay286 (k1_pay325 x0 x1 x2 x3 x4 x5)) (View.ld x2 r1_24)) = a14 x0 x1 x2 := rfl

/-- the heads' outputs side by side, from the heads -/
def o16 (y0 y1 y2 y3 y4 y5 y6 y7 y8 y9 y10 y11 y12 y13 y14 y15 : FVec Ideal S512x128 .f32) : FVec Ideal S512x1024 .bf16 :=
  cat8 (pr y0 y1) (pr y2 y3) (pr y4 y5) (pr y6 y7) (pr y8 y9) (pr y10 y11) (pr y12 y13) (pr y14 y15)

theorem last_eq (y0 y1 y2 y3 y4 y5 y6 y7 y8 y9 y10 y11 y12 y13 y14 : FVec Ideal S512x128 .f32) :
    k1_pay293 y0 y1 y2 y3 y4 y5 y6 y7 y8 y9 y10 y11 y12 y13 y14 (k1_pay292 (k1_pay327 x0 x1 x2 x3 x4 x5) (k1_pay288 (k1_pay327 x0 x1 x2 x3 x4 x5)) (k1_pay289 (k1_pay327 x0 x1 x2 x3 x4 x5)) (k1_pay290 (k1_pay327 x0 x1 x2 x3 x4 x5)) (k1_pay291 (k1_pay327 x0 x1 x2 x3 x4 x5))) (View.ld x2 r1_26)
      = o16 y0 y1 y2 y3 y4 y5 y6 y7 y8 y9 y10 y11 y12 y13 y14 (a15 x0 x1 x2) := rfl

/-- the heads' outputs side by side -/
def oV : FVec Ideal S512x1024 .bf16 := o16 (a0 x0 x1 x2) (a1 x0 x1 x2) (a2 x0 x1 x2) (a3 x0 x1 x2) (a4 x0 x1 x2) (a5 x0 x1 x2) (a6 x0 x1 x2) (a7 x0 x1 x2) (a8 x0 x1 x2) (a9 x0 x1 x2) (a10 x0 x1 x2) (a11 x0 x1 x2) (a12 x0 x1 x2) (a13 x0 x1 x2) (a14 x0 x1 x2) (a15 x0 x1 x2)

theorem pay329_eq : k1_pay329 x0 x1 x2 x3 x4 x5 = oV x0 x1 x2 := by
  unfold k1_pay329
  rw [a0_eq, a1_eq, a2_eq, a3_eq, a4_eq, a5_eq, a6_eq, a7_eq, a8_eq, a9_eq, a10_eq, a11_eq, a12_eq, a13_eq, a14_eq, last_eq]
  rfl

/-- the block after the residual addition -/
def xV : FVec Ideal S512x1024 .f32 := xo (View.ld x3 r1_28) (View.ld x4 r1_29) (oV x0 x1 x2)

theorem pay295_eq : k1_pay295 (k1_pay329 x0 x1 x2 x3 x4 x5) (k1_pay330 x0 x1 x2 x3 x4 x5) (View.ld x4 r1_29) = xV x0 x1 x2 x3 x4 := by
  rw [pay329_eq]
  rfl

/-- the mean squares of a block's rows, broadcast to them -/
theorem pay1_eq (o : FVec Ideal S512x1024 .bf16) (x : FVec Ideal S512x1024 .f32) : k1_pay1 (k1_pay295 o x (View.ld x4 r1_29)) (k1_pay296 (View.ld x5 r1_30)) (k1_pay297 o x (View.ld x4 r1_29)) = Ffn.nrmV (k1_pay295 o x (View.ld x4 r1_29)) (View.ld x5 r1_30) := rfl

variable (t : ℕ) (Q K V : ℕ → ℕ → Fin 128 → EReal) (X : ℕ → Fin 1024 → EReal)
  (hQ : ∀ (h : Fin 16) (p : Fin 512) (e : Fin 128), x0 (ix3 h p e) = Q h (512 * t + p) e)
  (hK : ∀ (h : Fin 4) (κ : Fin 2048) (e : Fin 128), x1 (ix3 h κ e) = K h (2048 * (t / 4) + κ) e)
  (hV : ∀ (h : Fin 8) (κ : Fin 2048) (e : Fin 128), x2 (ix3 h κ e) = V h (2048 * (t / 4) + κ) e)
  (hX : ∀ (p : Fin 512) (k : Fin 1024), x3 (ix2 p k) = X (512 * t + p) k)
include hQ hK hV

/-- a head's packed output from blocks that are the head's -/
theorem hd_pv (h : ℕ) (q : FVec Ideal S1x512x128 .bf16) (k v : FVec Ideal S1x2048x128 .bf16)
    (hq : ∀ (p : Fin 512) (e : Fin 128), q (ix3 0 p e) = Q h (512 * t + p) e)
    (hk : ∀ (κ : Fin 2048) (e : Fin 128), k (ix3 0 κ e) = K (h / 4) (2048 * (t / 4) + κ) e)
    (hv : ∀ (κ : Fin 2048) (e : Fin 128), v (ix3 0 κ e) = V (2 * (h / 4) + h % 2) (2048 * (t / 4) + κ) e)
    (p : Fin 512) (e : Fin 128) : hd q k v (ix2 p e) = M.att_pv Q K V h (512 * t + p) e := by
  have hr : (512 * t + (p : ℕ)) / 2048 = t / 4 := by omega
  have hs : ∀ κ : Fin 2048, sc q k (ix2 p κ) = M.att_s Q K h (512 * t + p) κ := by
    intro κ
    rw [sc_at]
    unfold M.att_s
    rw [hr]
    simp only [hq, hk]
  rw [hd_at]
  unfold M.att_pv
  rw [hr]
  simp only [hs, hv]

theorem a0_at (p : Fin 512) (e : Fin 128) : a0 x0 x1 x2 (ix2 p e) = M.att_pv Q K V 0 (512 * t + p) e := by
  refine hd_pv x0 x1 x2 t Q K V hQ hK hV 0 _ _ _ ?_ ?_ ?_ p e
  · intro p e
    pointwise
    exact hQ 0 p e
  · intro κ e
    pointwise
    exact hK 0 κ e
  · intro κ e
    pointwise
    exact hV 0 κ e

theorem a1_at (p : Fin 512) (e : Fin 128) : a1 x0 x1 x2 (ix2 p e) = M.att_pv Q K V 1 (512 * t + p) e := by
  refine hd_pv x0 x1 x2 t Q K V hQ hK hV 1 _ _ _ ?_ ?_ ?_ p e
  · intro p e
    pointwise
    exact hQ 1 p e
  · intro κ e
    pointwise
    exact hK 0 κ e
  · intro κ e
    pointwise
    exact hV 1 κ e

theorem a2_at (p : Fin 512) (e : Fin 128) : a2 x0 x1 x2 (ix2 p e) = M.att_pv Q K V 2 (512 * t + p) e := by
  refine hd_pv x0 x1 x2 t Q K V hQ hK hV 2 _ _ _ ?_ ?_ ?_ p e
  · intro p e
    pointwise
    exact hQ 2 p e
  · intro κ e
    pointwise
    exact hK 0 κ e
  · intro κ e
    pointwise
    exact hV 0 κ e

theorem a3_at (p : Fin 512) (e : Fin 128) : a3 x0 x1 x2 (ix2 p e) = M.att_pv Q K V 3 (512 * t + p) e := by
  refine hd_pv x0 x1 x2 t Q K V hQ hK hV 3 _ _ _ ?_ ?_ ?_ p e
  · intro p e
    pointwise
    exact hQ 3 p e
  · intro κ e
    pointwise
    exact hK 0 κ e
  · intro κ e
    pointwise
    exact hV 1 κ e

theorem a4_at (p : Fin 512) (e : Fin 128) : a4 x0 x1 x2 (ix2 p e) = M.att_pv Q K V 4 (512 * t + p) e := by
  refine hd_pv x0 x1 x2 t Q K V hQ hK hV 4 _ _ _ ?_ ?_ ?_ p e
  · intro p e
    pointwise
    exact hQ 4 p e
  · intro κ e
    pointwise
    exact hK 1 κ e
  · intro κ e
    pointwise
    exact hV 2 κ e

theorem a5_at (p : Fin 512) (e : Fin 128) : a5 x0 x1 x2 (ix2 p e) = M.att_pv Q K V 5 (512 * t + p) e := by
  refine hd_pv x0 x1 x2 t Q K V hQ hK hV 5 _ _ _ ?_ ?_ ?_ p e
  · intro p e
    pointwise
    exact hQ 5 p e
  · intro κ e
    pointwise
    exact hK 1 κ e
  · intro κ e
    pointwise
    exact hV 3 κ e

theorem a6_at (p : Fin 512) (e : Fin 128) : a6 x0 x1 x2 (ix2 p e) = M.att_pv Q K V 6 (512 * t + p) e := by
  refine hd_pv x0 x1 x2 t Q K V hQ hK hV 6 _ _ _ ?_ ?_ ?_ p e
  · intro p e
    pointwise
    exact hQ 6 p e
  · intro κ e
    pointwise
    exact hK 1 κ e
  · intro κ e
    pointwise
    exact hV 2 κ e

theorem a7_at (p : Fin 512) (e : Fin 128) : a7 x0 x1 x2 (ix2 p e) = M.att_pv Q K V 7 (512 * t + p) e := by
  refine hd_pv x0 x1 x2 t Q K V hQ hK hV 7 _ _ _ ?_ ?_ ?_ p e
  · intro p e
    pointwise
    exact hQ 7 p e
  · intro κ e
    pointwise
    exact hK 1 κ e
  · intro κ e
    pointwise
    exact hV 3 κ e

theorem a8_at (p : Fin 512) (e : Fin 128) : a8 x0 x1 x2 (ix2 p e) = M.att_pv Q K V 8 (512 * t + p) e := by
  refine hd_pv x0 x1 x2 t Q K V hQ hK hV 8 _ _ _ ?_ ?_ ?_ p e
  · intro p e
    pointwise
    exact hQ 8 p e
  · intro κ e
    pointwise
    exact hK 2 κ e
  · intro κ e
    pointwise
    exact hV 4 κ e

theorem a9_at (p : Fin 512) (e : Fin 128) : a9 x0 x1 x2 (ix2 p e) = M.att_pv Q K V 9 (512 * t + p) e := by
  refine hd_pv x0 x1 x2 t Q K V hQ hK hV 9 _ _ _ ?_ ?_ ?_ p e
  · intro p e
    pointwise
    exact hQ 9 p e
  · intro κ e
    pointwise
    exact hK 2 κ e
  · intro κ e
    pointwise
    exact hV 5 κ e

theorem a10_at (p : Fin 512) (e : Fin 128) : a10 x0 x1 x2 (ix2 p e) = M.att_pv Q K V 10 (512 * t + p) e := by
  refine hd_pv x0 x1 x2 t Q K V hQ hK hV 10 _ _ _ ?_ ?_ ?_ p e
  · intro p e
    pointwise
    exact hQ 10 p e
  · intro κ e
    pointwise
    exact hK 2 κ e
  · intro κ e
    pointwise
    exact hV 4 κ e

theorem a11_at (p : Fin 512) (e : Fin 128) : a11 x0 x1 x2 (ix2 p e) = M.att_pv Q K V 11 (512 * t + p) e := by
  refine hd_pv x0 x1 x2 t Q K V hQ hK hV 11 _ _ _ ?_ ?_ ?_ p e
  · intro p e
    pointwise
    exact hQ 11 p e
  · intro κ e
    pointwise
    exact hK 2 κ e
  · intro κ e
    pointwise
    exact hV 5 κ e

theorem a12_at (p : Fin 512) (e : Fin 128) : a12 x0 x1 x2 (ix2 p e) = M.att_pv Q K V 12 (512 * t + p) e := by
  refine hd_pv x0 x1 x2 t Q K V hQ hK hV 12 _ _ _ ?_ ?_ ?_ p e
  · intro p e
    pointwise
    exact hQ 12 p e
  · intro κ e
    pointwise
    exact hK 3 κ e
  · intro κ e
    pointwise
    exact hV 6 κ e

theorem a13_at (p : Fin 512) (e : Fin 128) : a13 x0 x1 x2 (ix2 p e) = M.att_pv Q K V 13 (512 * t + p) e := by
  refine hd_pv x0 x1 x2 t Q K V hQ hK hV 13 _ _ _ ?_ ?_ ?_ p e
  · intro p e
    pointwise
    exact hQ 13 p e
  · intro κ e
    pointwise
    exact hK 3 κ e
  · intro κ e
    pointwise
    exact hV 7 κ e

theorem a14_at (p : Fin 512) (e : Fin 128) : a14 x0 x1 x2 (ix2 p e) = M.att_pv Q K V 14 (512 * t + p) e := by
  refine hd_pv x0 x1 x2 t Q K V hQ hK hV 14 _ _ _ ?_ ?_ ?_ p e
  · intro p e
    pointwise
    exact hQ 14 p e
  · intro κ e
    pointwise
    exact hK 3 κ e
  · intro κ e
    pointwise
    exact hV 6 κ e

theorem a15_at (p : Fin 512) (e : Fin 128) : a15 x0 x1 x2 (ix2 p e) = M.att_pv Q K V 15 (512 * t + p) e := by
  refine hd_pv x0 x1 x2 t Q K V hQ hK hV 15 _ _ _ ?_ ?_ ?_ p e
  · intro p e
    pointwise
    exact hQ 15 p e
  · intro κ e
    pointwise
    exact hK 3 κ e
  · intro κ e
    pointwise
    exact hV 7 κ e

/-- a pair's packed quotient from its two heads -/
theorem pr_o (j : ℕ) (hj : j < 8) (b0 b1 : FVec Ideal S512x128 .f32)
    (h0 : ∀ (p : Fin 512) (e : Fin 128), b0 (ix2 p e) = M.att_pv Q K V (2 * j) (512 * t + p) e)
    (h1 : ∀ (p : Fin 512) (e : Fin 128), b1 (ix2 p e) = M.att_pv Q K V (2 * j + 1) (512 * t + p) e)
    (p : Fin 512) (e : Fin 128) : pr b0 b1 (ix2 p e) = M.att_o Q K V (512 * t + p) ⟨128 * j + e, by omega⟩ := by
  have e1 : (128 * j + (e : ℕ)) % 128 = e := by omega
  have e2 : (128 * j + (e : ℕ)) / 128 = j := by omega
  rw [pr_at]
  unfold M.att_o
  simp only [h0, h1, e1, e2, Fin.eta]

theorem oV_at (p : Fin 512) (c : Fin 1024) : oV x0 x1 x2 (ix2 p c) = M.att_o Q K V (512 * t + p) c := by
  have hf : ∀ (n : Fin 8) (e : Fin 128), (![pr (a0 x0 x1 x2) (a1 x0 x1 x2), pr (a2 x0 x1 x2) (a3 x0 x1 x2), pr (a4 x0 x1 x2) (a5 x0 x1 x2), pr (a6 x0 x1 x2) (a7 x0 x1 x2), pr (a8 x0 x1 x2) (a9 x0 x1 x2), pr (a10 x0 x1 x2) (a11 x0 x1 x2), pr (a12 x0 x1 x2) (a13 x0 x1 x2), pr (a14 x0 x1 x2) (a15 x0 x1 x2)] : Fin 8 → FVec Ideal S512x128 .bf16) n (ix2 p e)
      = M.att_o Q K V (512 * t + p) ⟨128 * n + e, by omega⟩ := fun n e => match n with
    | ⟨0, _⟩ => pr_o x0 x1 x2 t Q K V hQ hK hV 0 (by decide) _ _ (a0_at x0 x1 x2 t Q K V hQ hK hV) (a1_at x0 x1 x2 t Q K V hQ hK hV) p e
    | ⟨1, _⟩ => pr_o x0 x1 x2 t Q K V hQ hK hV 1 (by decide) _ _ (a2_at x0 x1 x2 t Q K V hQ hK hV) (a3_at x0 x1 x2 t Q K V hQ hK hV) p e
    | ⟨2, _⟩ => pr_o x0 x1 x2 t Q K V hQ hK hV 2 (by decide) _ _ (a4_at x0 x1 x2 t Q K V hQ hK hV) (a5_at x0 x1 x2 t Q K V hQ hK hV) p e
    | ⟨3, _⟩ => pr_o x0 x1 x2 t Q K V hQ hK hV 3 (by decide) _ _ (a6_at x0 x1 x2 t Q K V hQ hK hV) (a7_at x0 x1 x2 t Q K V hQ hK hV) p e
    | ⟨4, _⟩ => pr_o x0 x1 x2 t Q K V hQ hK hV 4 (by decide) _ _ (a8_at x0 x1 x2 t Q K V hQ hK hV) (a9_at x0 x1 x2 t Q K V hQ hK hV) p e
    | ⟨5, _⟩ => pr_o x0 x1 x2 t Q K V hQ hK hV 5 (by decide) _ _ (a10_at x0 x1 x2 t Q K V hQ hK hV) (a11_at x0 x1 x2 t Q K V hQ hK hV) p e
    | ⟨6, _⟩ => pr_o x0 x1 x2 t Q K V hQ hK hV 6 (by decide) _ _ (a12_at x0 x1 x2 t Q K V hQ hK hV) (a13_at x0 x1 x2 t Q K V hQ hK hV) p e
    | ⟨7, _⟩ => pr_o x0 x1 x2 t Q K V hQ hK hV 7 (by decide) _ _ (a14_at x0 x1 x2 t Q K V hQ hK hV) (a15_at x0 x1 x2 t Q K V hQ hK hV) p e
    | ⟨n + 8, h⟩ => absurd h (by omega)
  exact (cat8_at _ p c).trans ((hf _ _).trans (congrArg _ (Fin.ext (Nat.div_add_mod (c : ℕ) 128))))

include hX
theorem xV_at (p : Fin 512) (e : Fin 1024) : xV x0 x1 x2 x3 x4 (ix2 p e) = M.att_x Q K V X (fun c e => x4 (ix2 c e)) (512 * t + p) e := by
  unfold xV
  rw [xo_at]
  simp only [oV_at x0 x1 x2 t Q K V hQ hK hV]
  unfold M.att_x M.mv
  pointwise
  rw [hX]

theorem out6_at (p : Fin 512) (e : Fin 1024) : out1_6 (F := Ideal) x0 x1 x2 x3 x4 x5 (ix2 p e) = M.att_x Q K V X (fun c e => x4 (ix2 c e)) (512 * t + p) e := by
  refine Eq.trans ?_ (xV_at x0 x1 x2 x3 x4 t Q K V X hQ hK hV hX p e)
  unfold out1_6
  rw [pay295_eq]
  frame_out

theorem out7_at (p : Fin 512) (e : Fin 1024) : out1_7 (F := Ideal) x0 x1 x2 x3 x4 x5 (ix2 p e) = M.nrm (M.att_x Q K V X (fun c e => x4 (ix2 c e))) (fun j => x5 (ix2 0 j)) (512 * t + p) e := by
  have h := Ffn.nrmV_at (xV x0 x1 x2 x3 x4) (View.ld x5 r1_30) p e
  simp only [xV_at x0 x1 x2 x3 x4 t Q K V X hQ hK hV hX] at h
  refine Eq.trans ?_ (h.trans ?_)
  · unfold out1_7
    rw [pay1_eq, pay295_eq]
    frame_out
  · unfold M.nrm
    congr 1
    funext j
    pointwise
end block

end Cert.KernelIdeal.Attn
end
-- ==== Proof.AttnArr.lean ====
module

public import proofs.«01_k».proof.Proof.AttnBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The two arrays the attention's region leaves. -/
namespace Cert.KernelIdeal.Attn
open Cert.KernelIdeal Cert.KernelIdeal.Gen

theorem idx : ∀ t : Fin cfg1.N, win1_0.index t = ![0, t.val, 0]
    ∧ win1_1.index t = ![0, t.val / 4, 0]
    ∧ win1_2.index t = ![0, t.val / 4, 0]
    ∧ win1_3.index t = ![t.val, 0]
    ∧ win1_4.index t = ![0, 0]
    ∧ win1_5.index t = ![0, 0]
    ∧ win1_6.index t = ![t.val, 0]
    ∧ win1_7.index t = ![t.val, 0] :=
  (by decide +kernel : ∀ t : Fin grid1.N, _)

theorem lt32 (t : Fin cfg1.N) : t.val < 32 := lt_of_lt_of_eq t.isLt (by decide)

variable (V : (c : Dev nD) → (b : Ref sig .tc) → Buf (Elt Ideal) ((c : Thread nD τ).loc b))

/-- the region's first result, over what the region reads -/
def res (Q : FVec Ideal S16x16384x128 .bf16) (K : FVec Ideal S4x16384x128 .bf16) (W : FVec Ideal S8x16384x128 .bf16) (X : FVec Ideal S16384x1024 .f32)
    (wo : FVec Ideal S1024x1024 .bf16) : ℕ → Fin 1024 → EReal :=
  M.att_x (M.planes Q) (M.planes K) (M.planes W) (M.rows X) (fun c e => wo (ix2 c e))

theorem qrow (c : Dev nD) (t : Fin cfg1.N) (h : Fin 16) (p : Fin 512) (e : Fin 128) :
    iblk1 V c 0 t (ix3 h p e) = M.planes (n := 16) (φ := .bf16) (V c main_v109_0) h (512 * t.val + p) e := by
  unfold M.planes
  have ht := lt32 t
  blk_ext [iblk1, idx t]

theorem krow (c : Dev nD) (t : Fin cfg1.N) (h : Fin 4) (p : Fin 2048) (e : Fin 128) :
    iblk1 V c 1 t (ix3 h p e) = M.planes (n := 4) (φ := .bf16) (V c main_v109_1) h (2048 * (t.val / 4) + p) e := by
  unfold M.planes
  have ht := lt32 t
  blk_ext [iblk1, idx t]

theorem vrow (c : Dev nD) (t : Fin cfg1.N) (h : Fin 8) (p : Fin 2048) (e : Fin 128) :
    iblk1 V c 2 t (ix3 h p e) = M.planes (n := 8) (φ := .bf16) (V c main_v109_2) h (2048 * (t.val / 4) + p) e := by
  unfold M.planes
  have ht := lt32 t
  blk_ext [iblk1, idx t]

theorem xrow (c : Dev nD) (t : Fin cfg1.N) (p : Fin 512) (k : Fin 1024) :
    iblk1 V c 3 t (ix2 p k) = M.rows (φ := .f32) (V c main_v60) (512 * t.val + p) k := by
  unfold M.rows
  have ht := lt32 t
  blk_ext [iblk1, idx t]

theorem iblk_4 (c : Dev nD) (t : Fin cfg1.N) : iblk1 V c 4 t = V c main_v25 := by blk_ext! [iblk1, idx t]
theorem iblk_5 (c : Dev nD) (t : Fin cfg1.N) : iblk1 V c 5 t = V c main_v8 := by blk_ext! [iblk1, idx t]

/-- the array of the rows after the residual addition -/
theorem final6 (c : Dev nD) : (dat1 V c).arrAt 6 cfg1.N
    = fun i : S16384x1024.Idx => res (V c main_v109_0) (V c main_v109_1) (V c main_v109_2) (V c main_v60) (V c main_v25) (i 0) (i 1) := by
  refine (dat1 V c).arrAt_eq_of_covers 6 _ (by decide +kernel) fun t _ y => ?_
  blk_simp
  rw [after1_6]
  obtain ⟨y0, y1, rfl⟩ : ∃ (a : Fin 512) (b : Fin 1024), y = ix2 a b := ⟨y 0, y 1, eq_ix2 y⟩
  have h := out6_at (iblk1 V c 0 t) (iblk1 V c 1 t) (iblk1 V c 2 t) (iblk1 V c 3 t) (iblk1 V c 4 t) (iblk1 V c 5 t) t.val _ _ _ _
    (qrow V c t) (krow V c t) (vrow V c t) (xrow V c t) y0 y1
  rw [iblk_4] at h
  rw [iblk_4]
  refine h.trans (congrArg₂ (res (V c main_v109_0) (V c main_v109_1) (V c main_v109_2) (V c main_v60) (V c main_v25)) ?_ ?_)
  · blk_simp [idx t]
    omega
  · refine Fin.ext ?_
    (blk_simp [idx t] <;> try omega)

/-- the array of the rows normalised for what follows -/
theorem final7 (c : Dev nD) : (dat1 V c).arrAt 7 cfg1.N
    = fun i : S16384x1024.Idx => M.nrm (res (V c main_v109_0) (V c main_v109_1) (V c main_v109_2) (V c main_v60) (V c main_v25)) (fun j => V c main_v8 (ix2 0 j)) (i 0) (i 1) := by
  refine (dat1 V c).arrAt_eq_of_covers 7 _ (by decide +kernel) fun t _ y => ?_
  blk_simp
  rw [after1_7]
  obtain ⟨y0, y1, rfl⟩ : ∃ (a : Fin 512) (b : Fin 1024), y = ix2 a b := ⟨y 0, y 1, eq_ix2 y⟩
  have h := out7_at (iblk1 V c 0 t) (iblk1 V c 1 t) (iblk1 V c 2 t) (iblk1 V c 3 t) (iblk1 V c 4 t) (iblk1 V c 5 t) t.val _ _ _ _
    (qrow V c t) (krow V c t) (vrow V c t) (xrow V c t) y0 y1
  rw [iblk_4, iblk_5] at h
  rw [iblk_4, iblk_5]
  refine h.trans (congrArg₂ (M.nrm (res (V c main_v109_0) (V c main_v109_1) (V c main_v109_2) (V c main_v60) (V c main_v25)) (fun j => V c main_v8 (ix2 0 j))) ?_ ?_)
  · blk_simp [idx t]
    omega
  · refine Fin.ext ?_
    (blk_simp [idx t] <;> try omega)

end Cert.KernelIdeal.Attn
end
-- ==== Proof.FfnG.lean ====
module

public import proofs.«01_k».proof.Proof.Model
public import proofs.«01_k».proof.Proof.Scal
public import proofs.«01_k».proof.Proof.Ffn
public import proofs.«01_k».proof.Proof.Gen.KernelIdeal.Frame.Region2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gated feed-forward of one tile, whatever the number of tiles in a sequence: the eleven chunks and the block after
the residual addition, read at an element. -/
namespace Cert.KernelIdeal.Ffn
open Cert.KernelIdeal Cert.KernelIdeal.Gen

section block
variable (ν : EReal) (c1 c2 : BitVec 1) (x0 : Vec Ideal S16x1024 .bf16) (x1 : Vec Ideal S512x1024 .bf16) (x2 : Vec Ideal S16x1024 .bf16) (x3 : Vec Ideal S512x1024 .f32)
  (x4 : Vec Ideal S1024x5632 .bf16) (x5 : Vec Ideal S3x5632 .f32) (x6 : Vec Ideal S1x5632 .f32) (x7 : Vec Ideal S2816x1024 .bf16)

/-- the tile's rows with their neighbours -/
def hc : FVec Ideal S544x1024 .bf16 :=
  hcat c1 c2 (View.ld x0 r2_0) (View.ld x2 r2_0) (View.ld x1 r2_1)

def z0 : FVec Ideal S512x256 .bf16 :=
  chk ν (hc c1 c2 x0 x1 x2) (View.ld x4 r2_2) (View.ld x4 r2_3) (View.ld x5 r2_6) (View.ld x6 r2_7) (View.ld x5 r2_8) (View.ld x6 r2_9)

def z1 : FVec Ideal S512x256 .bf16 :=
  chk ν (hc c1 c2 x0 x1 x2) (View.ld x4 r2_4) (View.ld x4 r2_5) (View.ld x5 r2_12) (View.ld x6 r2_13) (View.ld x5 r2_14) (View.ld x6 r2_15)

def z2 : FVec Ideal S512x256 .bf16 :=
  chk ν (hc c1 c2 x0 x1 x2) (View.ld x4 r2_10) (View.ld x4 r2_11) (View.ld x5 r2_18) (View.ld x6 r2_19) (View.ld x5 r2_20) (View.ld x6 r2_21)

def z3 : FVec Ideal S512x256 .bf16 :=
  chk ν (hc c1 c2 x0 x1 x2) (View.ld x4 r2_16) (View.ld x4 r2_17) (View.ld x5 r2_24) (View.ld x6 r2_25) (View.ld x5 r2_26) (View.ld x6 r2_27)

def z4 : FVec Ideal S512x256 .bf16 :=
  chk ν (hc c1 c2 x0 x1 x2) (View.ld x4 r2_22) (View.ld x4 r2_23) (View.ld x5 r2_30) (View.ld x6 r2_31) (View.ld x5 r2_32) (View.ld x6 r2_33)

def z5 : FVec Ideal S512x256 .bf16 :=
  chk ν (hc c1 c2 x0 x1 x2) (View.ld x4 r2_28) (View.ld x4 r2_29) (View.ld x5 r2_36) (View.ld x6 r2_37) (View.ld x5 r2_38) (View.ld x6 r2_39)

def z6 : FVec Ideal S512x256 .bf16 :=
  chk ν (hc c1 c2 x0 x1 x2) (View.ld x4 r2_34) (View.ld x4 r2_35) (View.ld x5 r2_42) (View.ld x6 r2_43) (View.ld x5 r2_44) (View.ld x6 r2_45)

def z7 : FVec Ideal S512x256 .bf16 :=
  chk ν (hc c1 c2 x0 x1 x2) (View.ld x4 r2_40) (View.ld x4 r2_41) (View.ld x5 r2_48) (View.ld x6 r2_49) (View.ld x5 r2_50) (View.ld x6 r2_51)

def z8 : FVec Ideal S512x256 .bf16 :=
  chk ν (hc c1 c2 x0 x1 x2) (View.ld x4 r2_46) (View.ld x4 r2_47) (View.ld x5 r2_54) (View.ld x6 r2_55) (View.ld x5 r2_56) (View.ld x6 r2_57)

def z9 : FVec Ideal S512x256 .bf16 :=
  chk ν (hc c1 c2 x0 x1 x2) (View.ld x4 r2_52) (View.ld x4 r2_53) (View.ld x5 r2_60) (View.ld x6 r2_61) (View.ld x5 r2_62) (View.ld x6 r2_63)

def z10 : FVec Ideal S512x256 .bf16 :=
  chk ν (hc c1 c2 x0 x1 x2) (View.ld x4 r2_58) (View.ld x4 r2_59) (View.ld x5 r2_64) (View.ld x6 r2_65) (View.ld x5 r2_66) (View.ld x6 r2_67)

/-- the block after the residual addition -/
def xV : FVec Ideal S512x1024 .f32 :=
  xo (View.ld x3 r2_1) (View.ld x7 r2_68) (cat (z0 ν c1 c2 x0 x1 x2 x4 x5 x6) (z1 ν c1 c2 x0 x1 x2 x4 x5 x6) (z2 ν c1 c2 x0 x1 x2 x4 x5 x6) (z3 ν c1 c2 x0 x1 x2 x4 x5 x6) (z4 ν c1 c2 x0 x1 x2 x4 x5 x6) (z5 ν c1 c2 x0 x1 x2 x4 x5 x6) (z6 ν c1 c2 x0 x1 x2 x4 x5 x6) (z7 ν c1 c2 x0 x1 x2 x4 x5 x6) (z8 ν c1 c2 x0 x1 x2 x4 x5 x6) (z9 ν c1 c2 x0 x1 x2 x4 x5 x6) (z10 ν c1 c2 x0 x1 x2 x4 x5 x6))

/-- the mean squares of a block's rows -/
def ssq (x : FVec Ideal S512x1024 .f32) : FVec Ideal S512x1 .f32 :=
  divf (shapeCast S512x1 (multiReduction .add [1] S512 (mulf x x) 0x00000000#32 reduces_S512x1024_S512 (.inl rfl) rfl) shapeCasts_S512_S512x1)
    (broadcast S512x1 (Scalar.ofBits (F := Ideal) .f32 0x44800000#32))

variable (n l L t : ℕ) (H X : ℕ → Fin 1024 → EReal) (hν : ν = ((-((Real.log 2)⁻¹) : ℝ) : EReal)) (hl : l + 1 = n) (hL : L = 512 * n)
  (hc1 : c1 = if t % n = 0 then 1#1 else 0#1) (hc2 : c2 = if t % n = l then 1#1 else 0#1)
  (h0 : t % n ≠ 0 → ∀ k, x0 (ix2 15 k) = H (512 * t - 1) k) (h2 : t % n ≠ l → ∀ k, x2 (ix2 0 k) = H (512 * t + 512) k)
  (h1 : ∀ (p : Fin 512) (k : Fin 1024), x1 (ix2 p k) = H (512 * t + p) k)
  (hX : ∀ (p : Fin 512) (k : Fin 1024), x3 (ix2 p k) = X (512 * t + p) k)

include h0 h1 h2 in
/-- the neighbouring rows and the tile's own, as the body loads them -/
theorem hyps : (t % n ≠ 0 → ∀ k, View.ld x0 r2_0 (ix2 15 k) = H (512 * t - 1) k)
    ∧ (t % n ≠ l → ∀ k, View.ld x2 r2_0 (ix2 0 k) = H (512 * t + 512) k)
    ∧ (∀ (p : Fin 512) (k : Fin 1024), View.ld x1 r2_1 (ix2 p k) = H (512 * t + p) k) := by
  refine ⟨?_, ?_, ?_⟩
  · intro h k
    pointwise
    exact h0 h k
  · intro h k
    pointwise
    exact h2 h k
  · intro p k
    pointwise
    exact h1 p k

include hν hl hL hc1 hc2 h0 h1 h2

theorem z0_at (p : Fin 512) (q : Fin 256) : z0 ν c1 c2 x0 x1 x2 x4 x5 x6 (ix2 p q)
    = M.ffnA L H (fun k c => x4 (ix2 k c)) (fun k c => x5 (ix2 k c)) (fun c => x6 (ix2 0 c)) (512 * t + p) ⟨0 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 0 (by omega) _ _ _ _ _ _ ?_ ?_ ?_ ?_ ?_ ?_ p q
  all_goals
    intros
    pointwise

theorem z1_at (p : Fin 512) (q : Fin 256) : z1 ν c1 c2 x0 x1 x2 x4 x5 x6 (ix2 p q)
    = M.ffnA L H (fun k c => x4 (ix2 k c)) (fun k c => x5 (ix2 k c)) (fun c => x6 (ix2 0 c)) (512 * t + p) ⟨256 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 256 (by omega) _ _ _ _ _ _ ?_ ?_ ?_ ?_ ?_ ?_ p q
  all_goals
    intros
    pointwise

theorem z2_at (p : Fin 512) (q : Fin 256) : z2 ν c1 c2 x0 x1 x2 x4 x5 x6 (ix2 p q)
    = M.ffnA L H (fun k c => x4 (ix2 k c)) (fun k c => x5 (ix2 k c)) (fun c => x6 (ix2 0 c)) (512 * t + p) ⟨512 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 512 (by omega) _ _ _ _ _ _ ?_ ?_ ?_ ?_ ?_ ?_ p q
  all_goals
    intros
    pointwise

theorem z3_at (p : Fin 512) (q : Fin 256) : z3 ν c1 c2 x0 x1 x2 x4 x5 x6 (ix2 p q)
    = M.ffnA L H (fun k c => x4 (ix2 k c)) (fun k c => x5 (ix2 k c)) (fun c => x6 (ix2 0 c)) (512 * t + p) ⟨768 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 768 (by omega) _ _ _ _ _ _ ?_ ?_ ?_ ?_ ?_ ?_ p q
  all_goals
    intros
    pointwise

theorem z4_at (p : Fin 512) (q : Fin 256) : z4 ν c1 c2 x0 x1 x2 x4 x5 x6 (ix2 p q)
    = M.ffnA L H (fun k c => x4 (ix2 k c)) (fun k c => x5 (ix2 k c)) (fun c => x6 (ix2 0 c)) (512 * t + p) ⟨1024 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 1024 (by omega) _ _ _ _ _ _ ?_ ?_ ?_ ?_ ?_ ?_ p q
  all_goals
    intros
    pointwise

theorem z5_at (p : Fin 512) (q : Fin 256) : z5 ν c1 c2 x0 x1 x2 x4 x5 x6 (ix2 p q)
    = M.ffnA L H (fun k c => x4 (ix2 k c)) (fun k c => x5 (ix2 k c)) (fun c => x6 (ix2 0 c)) (512 * t + p) ⟨1280 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 1280 (by omega) _ _ _ _ _ _ ?_ ?_ ?_ ?_ ?_ ?_ p q
  all_goals
    intros
    pointwise

theorem z6_at (p : Fin 512) (q : Fin 256) : z6 ν c1 c2 x0 x1 x2 x4 x5 x6 (ix2 p q)
    = M.ffnA L H (fun k c => x4 (ix2 k c)) (fun k c => x5 (ix2 k c)) (fun c => x6 (ix2 0 c)) (512 * t + p) ⟨1536 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 1536 (by omega) _ _ _ _ _ _ ?_ ?_ ?_ ?_ ?_ ?_ p q
  all_goals
    intros
    pointwise

theorem z7_at (p : Fin 512) (q : Fin 256) : z7 ν c1 c2 x0 x1 x2 x4 x5 x6 (ix2 p q)
    = M.ffnA L H (fun k c => x4 (ix2 k c)) (fun k c => x5 (ix2 k c)) (fun c => x6 (ix2 0 c)) (512 * t + p) ⟨1792 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 1792 (by omega) _ _ _ _ _ _ ?_ ?_ ?_ ?_ ?_ ?_ p q
  all_goals
    intros
    pointwise

theorem z8_at (p : Fin 512) (q : Fin 256) : z8 ν c1 c2 x0 x1 x2 x4 x5 x6 (ix2 p q)
    = M.ffnA L H (fun k c => x4 (ix2 k c)) (fun k c => x5 (ix2 k c)) (fun c => x6 (ix2 0 c)) (512 * t + p) ⟨2048 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 2048 (by omega) _ _ _ _ _ _ ?_ ?_ ?_ ?_ ?_ ?_ p q
  all_goals
    intros
    pointwise

theorem z9_at (p : Fin 512) (q : Fin 256) : z9 ν c1 c2 x0 x1 x2 x4 x5 x6 (ix2 p q)
    = M.ffnA L H (fun k c => x4 (ix2 k c)) (fun k c => x5 (ix2 k c)) (fun c => x6 (ix2 0 c)) (512 * t + p) ⟨2304 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 2304 (by omega) _ _ _ _ _ _ ?_ ?_ ?_ ?_ ?_ ?_ p q
  all_goals
    intros
    pointwise

theorem z10_at (p : Fin 512) (q : Fin 256) : z10 ν c1 c2 x0 x1 x2 x4 x5 x6 (ix2 p q)
    = M.ffnA L H (fun k c => x4 (ix2 k c)) (fun k c => x5 (ix2 k c)) (fun c => x6 (ix2 0 c)) (512 * t + p) ⟨2560 + q, by omega⟩ := by
  have H3 := hyps x0 x1 x2 n l t H h0 h2 h1
  refine chk_at n l L t H _ _ _ _ _ hl hL hc1 hc2 H3.1 H3.2.1 H3.2.2 ν hν (fun k c => x4 (ix2 k c)) (fun k c => x5 (ix2 k c)) (fun c => x6 (ix2 0 c)) 2560 (by omega) _ _ _ _ _ _ ?_ ?_ ?_ ?_ ?_ ?_ p q
  all_goals
    intros
    pointwise

include hX
theorem xV_at (p : Fin 512) (e : Fin 1024) : xV ν c1 c2 x0 x1 x2 x3 x4 x5 x6 x7 (ix2 p e) = M.ffnX L H X (fun k c => x4 (ix2 k c)) (fun k c => x5 (ix2 k c)) (fun c => x6 (ix2 0 c)) (fun c e => x7 (ix2 c e)) (512 * t + p) e := by
  unfold xV
  rw [xo_at]
  simp only [cat_at _ _ _ _ _ _ _ _ _ _ _ (fun p c => M.ffnA L H (fun k c => x4 (ix2 k c)) (fun k c => x5 (ix2 k c)) (fun c => x6 (ix2 0 c)) (512 * t + p) c)
    (z0_at ν c1 c2 x0 x1 x2 x4 x5 x6 n l L t H hν hl hL hc1 hc2 h0 h2 h1) (z1_at ν c1 c2 x0 x1 x2 x4 x5 x6 n l L t H hν hl hL hc1 hc2 h0 h2 h1) (z2_at ν c1 c2 x0 x1 x2 x4 x5 x6 n l L t H hν hl hL hc1 hc2 h0 h2 h1) (z3_at ν c1 c2 x0 x1 x2 x4 x5 x6 n l L t H hν hl hL hc1 hc2 h0 h2 h1) (z4_at ν c1 c2 x0 x1 x2 x4 x5 x6 n l L t H hν hl hL hc1 hc2 h0 h2 h1) (z5_at ν c1 c2 x0 x1 x2 x4 x5 x6 n l L t H hν hl hL hc1 hc2 h0 h2 h1) (z6_at ν c1 c2 x0 x1 x2 x4 x5 x6 n l L t H hν hl hL hc1 hc2 h0 h2 h1) (z7_at ν c1 c2 x0 x1 x2 x4 x5 x6 n l L t H hν hl hL hc1 hc2 h0 h2 h1) (z8_at ν c1 c2 x0 x1 x2 x4 x5 x6 n l L t H hν hl hL hc1 hc2 h0 h2 h1) (z9_at ν c1 c2 x0 x1 x2 x4 x5 x6 n l L t H hν hl hL hc1 hc2 h0 h2 h1) (z10_at ν c1 c2 x0 x1 x2 x4 x5 x6 n l L t H hν hl hL hc1 hc2 h0 h2 h1)]
  unfold M.ffnX M.mv
  pointwise
  rw [hX]

end block

/-- a feed-forward region's first result, over what the region reads; `L` is the length of a sequence -/
def res (L : ℕ) (H : FVec Ideal S16384x1024 .bf16) (X : FVec Ideal S16384x1024 .f32) (W : FVec Ideal S1024x5632 .bf16) (cw : FVec Ideal S3x5632 .f32)
    (cb : FVec Ideal S1x5632 .f32) (wd : FVec Ideal S2816x1024 .bf16) : ℕ → Fin 1024 → EReal :=
  M.ffnX L (M.rows H) (M.rows X) (fun k c => W (ix2 k c)) (fun k c => cw (ix2 k c)) (fun c => cb (ix2 0 c)) (fun c e => wd (ix2 c e))

theorem res_of (L : ℕ) (H : FVec Ideal S16384x1024 .bf16) (X : FVec Ideal S16384x1024 .f32) (W : FVec Ideal S1024x5632 .bf16) (cw : FVec Ideal S3x5632 .f32)
    (cb : FVec Ideal S1x5632 .f32) (wd : FVec Ideal S2816x1024 .bf16) {H' X' : ℕ → Fin 1024 → EReal} {W' : Fin 1024 → Fin 5632 → EReal} {cw' : Fin 3 → Fin 5632 → EReal}
    {cb' : Fin 5632 → EReal} {wd' : Fin 2816 → Fin 1024 → EReal} (hH : M.rows H = H') (hX : M.rows X = X') (hW : ∀ k c, W (ix2 k c) = W' k c)
    (hcw : ∀ k c, cw (ix2 k c) = cw' k c) (hcb : ∀ c, cb (ix2 0 c) = cb' c) (hwd : ∀ c e, wd (ix2 c e) = wd' c e) :
    res L H X W cw cb wd = M.ffnX L H' X' W' cw' cb' wd' := by
  have e1 : (fun k c => W (ix2 k c)) = W' := funext fun k => funext fun c => hW k c
  have e2 : (fun k c => cw (ix2 k c)) = cw' := funext fun k => funext fun c => hcw k c
  have e3 : (fun c => cb (ix2 0 c)) = cb' := funext fun c => hcb c
  have e4 : (fun c e => wd (ix2 c e)) = wd' := funext fun k => funext fun c => hwd k c
  unfold res
  rw [hH, hX, e1, e2, e3, e4]

end Cert.KernelIdeal.Ffn
end
-- ==== Proof.Ffn2.lean ====
module

public import proofs.«01_k».proof.Proof.Model
public import proofs.«01_k».proof.Proof.Scal
public import proofs.«01_k».proof.Proof.FfnG
public import proofs.«01_k».proof.Proof.Gen.KernelIdeal.Frame.Region2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gated feed-forward of region 2: what its stores are, read at an element. -/
namespace Cert.KernelIdeal.Ffn2
open Cert.KernelIdeal Cert.KernelIdeal.Gen Cert.KernelIdeal.Ffn

section block
/-- the constant in the power of two -/
abbrev nu : EReal := Named.named (F := Ideal) Cert.KernelIdeal.κ "neg_log2e" (φ := .f32) 0xBFB8AA3B#32

variable (i : grid2.Coords) (x0 : Vec Ideal S16x1024 .bf16) (x1 : Vec Ideal S512x1024 .bf16) (x2 : Vec Ideal S16x1024 .bf16) (x3 : Vec Ideal S512x1024 .f32)
  (x4 : Vec Ideal S1024x5632 .bf16) (x5 : Vec Ideal S3x5632 .f32) (x6 : Vec Ideal S1x5632 .f32) (x7 : Vec Ideal S2816x1024 .bf16) (x8 : Vec Ideal S1x1024 .f32)

/-- whether the tile is its sequence's first -/
abbrev fst : BitVec 1 := (Scalar.cmpi .eq (posw 4#32 (BitVec.ofNat 32 (i 0))) 0#32)
/-- whether the tile is its sequence's last -/
abbrev lst : BitVec 1 := (Scalar.cmpi .eq (posw 4#32 (BitVec.ofNat 32 (i 0))) 3#32)

theorem z0_eq : (k2_pay74 i x0 x1 x2 x3 x4 x5 x6 x7 x8) = z0 nu (fst i) (lst i) x0 x1 x2 x4 x5 x6 := rfl

theorem z1_eq : (k2_pay76 i x0 x1 x2 x3 x4 x5 x6 x7 x8) = z1 nu (fst i) (lst i) x0 x1 x2 x4 x5 x6 := rfl

theorem z2_eq : (k2_pay77 i x0 x1 x2 x3 x4 x5 x6 x7 x8) = z2 nu (fst i) (lst i) x0 x1 x2 x4 x5 x6 := rfl

theorem z3_eq : (k2_pay79 i x0 x1 x2 x3 x4 x5 x6 x7 x8) = z3 nu (fst i) (lst i) x0 x1 x2 x4 x5 x6 := rfl

theorem z4_eq : (k2_pay81 i x0 x1 x2 x3 x4 x5 x6 x7 x8) = z4 nu (fst i) (lst i) x0 x1 x2 x4 x5 x6 := rfl

theorem z5_eq : (k2_pay82 i x0 x1 x2 x3 x4 x5 x6 x7 x8) = z5 nu (fst i) (lst i) x0 x1 x2 x4 x5 x6 := rfl

theorem z6_eq : (k2_pay83 i x0 x1 x2 x3 x4 x5 x6 x7 x8) = z6 nu (fst i) (lst i) x0 x1 x2 x4 x5 x6 := rfl

theorem z7_eq : (k2_pay85 i x0 x1 x2 x3 x4 x5 x6 x7 x8) = z7 nu (fst i) (lst i) x0 x1 x2 x4 x5 x6 := rfl

theorem z8_eq : (k2_pay87 i x0 x1 x2 x3 x4 x5 x6 x7 x8) = z8 nu (fst i) (lst i) x0 x1 x2 x4 x5 x6 := rfl

theorem z9_eq : (k2_pay89 i x0 x1 x2 x3 x4 x5 x6 x7 x8) = z9 nu (fst i) (lst i) x0 x1 x2 x4 x5 x6 := rfl

theorem last_eq (y0 y1 y2 y3 y4 y5 y6 y7 y8 y9 : FVec Ideal S512x256 .bf16) :
    k2_pay68 y0 y1 y2 y3 y4 y5 y6 y7 y8 (k2_pay88 i x0 x1 x2 x3 x4 x5 x6 x7 x8) y9 (k2_pay90 i x0 x1 x2 x3 x4 x5 x6 x7 x8) (k2_pay91 i x0 x1 x2 x3 x4 x5 x6 x7 x8) (k2_pay92 i x0 x1 x2 x3 x4 x5 x6 x7 x8) (k2_pay93 i x0 x1 x2 x3 x4 x5 x6 x7 x8) (View.ld x6 r2_67) (View.ld x3 r2_1) (View.ld x7 r2_68)
      = xo (View.ld x3 r2_1) (View.ld x7 r2_68) (cat y0 y1 y2 y3 y4 y5 y6 y7 y8 y9 (z10 nu (fst i) (lst i) x0 x1 x2 x4 x5 x6)) := rfl

theorem pay_eq : k2_pay68 (k2_pay74 i x0 x1 x2 x3 x4 x5 x6 x7 x8) (k2_pay76 i x0 x1 x2 x3 x4 x5 x6 x7 x8) (k2_pay77 i x0 x1 x2 x3 x4 x5 x6 x7 x8) (k2_pay79 i x0 x1 x2 x3 x4 x5 x6 x7 x8) (k2_pay81 i x0 x1 x2 x3 x4 x5 x6 x7 x8) (k2_pay82 i x0 x1 x2 x3 x4 x5 x6 x7 x8) (k2_pay83 i x0 x1 x2 x3 x4 x5 x6 x7 x8) (k2_pay85 i x0 x1 x2 x3 x4 x5 x6 x7 x8) (k2_pay87 i x0 x1 x2 x3 x4 x5 x6 x7 x8) (k2_pay88 i x0 x1 x2 x3 x4 x5 x6 x7 x8) (k2_pay89 i x0 x1 x2 x3 x4 x5 x6 x7 x8) (k2_pay90 i x0 x1 x2 x3 x4 x5 x6 x7 x8) (k2_pay91 i x0 x1 x2 x3 x4 x5 x6 x7 x8) (k2_pay92 i x0 x1 x2 x3 x4 x5 x6 x7 x8) (k2_pay93 i x0 x1 x2 x3 x4 x5 x6 x7 x8) (View.ld x6 r2_67) (View.ld x3 r2_1) (View.ld x7 r2_68) = xV nu (fst i) (lst i) x0 x1 x2 x3 x4 x5 x6 x7 := by
  rw [z0_eq, z1_eq, z2_eq, z3_eq, z4_eq, z5_eq, z6_eq, z7_eq, z8_eq, z9_eq, last_eq]
  rfl

theorem ssq_eq : k2_pay70 (k2_pay74 i x0 x1 x2 x3 x4 x5 x6 x7 x8) (k2_pay76 i x0 x1 x2 x3 x4 x5 x6 x7 x8) (k2_pay77 i x0 x1 x2 x3 x4 x5 x6 x7 x8) (k2_pay79 i x0 x1 x2 x3 x4 x5 x6 x7 x8) (k2_pay81 i x0 x1 x2 x3 x4 x5 x6 x7 x8) (k2_pay82 i x0 x1 x2 x3 x4 x5 x6 x7 x8) (k2_pay83 i x0 x1 x2 x3 x4 x5 x6 x7 x8) (k2_pay85 i x0 x1 x2 x3 x4 x5 x6 x7 x8) (k2_pay87 i x0 x1 x2 x3 x4 x5 x6 x7 x8) (k2_pay88 i x0 x1 x2 x3 x4 x5 x6 x7 x8) (k2_pay89 i x0 x1 x2 x3 x4 x5 x6 x7 x8) (k2_pay90 i x0 x1 x2 x3 x4 x5 x6 x7 x8) (k2_pay91 i x0 x1 x2 x3 x4 x5 x6 x7 x8) (k2_pay92 i x0 x1 x2 x3 x4 x5 x6 x7 x8) (k2_pay93 i x0 x1 x2 x3 x4 x5 x6 x7 x8) (View.ld x6 r2_67) (View.ld x3 r2_1) (View.ld x7 r2_68) = ssq (k2_pay68 (k2_pay74 i x0 x1 x2 x3 x4 x5 x6 x7 x8) (k2_pay76 i x0 x1 x2 x3 x4 x5 x6 x7 x8) (k2_pay77 i x0 x1 x2 x3 x4 x5 x6 x7 x8) (k2_pay79 i x0 x1 x2 x3 x4 x5 x6 x7 x8) (k2_pay81 i x0 x1 x2 x3 x4 x5 x6 x7 x8) (k2_pay82 i x0 x1 x2 x3 x4 x5 x6 x7 x8) (k2_pay83 i x0 x1 x2 x3 x4 x5 x6 x7 x8) (k2_pay85 i x0 x1 x2 x3 x4 x5 x6 x7 x8) (k2_pay87 i x0 x1 x2 x3 x4 x5 x6 x7 x8) (k2_pay88 i x0 x1 x2 x3 x4 x5 x6 x7 x8) (k2_pay89 i x0 x1 x2 x3 x4 x5 x6 x7 x8) (k2_pay90 i x0 x1 x2 x3 x4 x5 x6 x7 x8) (k2_pay91 i x0 x1 x2 x3 x4 x5 x6 x7 x8) (k2_pay92 i x0 x1 x2 x3 x4 x5 x6 x7 x8) (k2_pay93 i x0 x1 x2 x3 x4 x5 x6 x7 x8) (View.ld x6 r2_67) (View.ld x3 r2_1) (View.ld x7 r2_68)) := rfl

theorem pay1_eq (x : FVec Ideal S512x1024 .f32) : k2_pay1 x (k2_pay69 (View.ld x8 r2_69)) (ssq x) (k2_pay71 (F := Ideal)) = nrmV x (View.ld x8 r2_69) := rfl

variable (t : ℕ) (H X : ℕ → Fin 1024 → EReal) (ht : t < 32) (hi : (i 0 : ℕ) = t)
  (h0 : t % 4 ≠ 0 → ∀ k, x0 (ix2 15 k) = H (512 * t - 1) k) (h2 : t % 4 ≠ 3 → ∀ k, x2 (ix2 0 k) = H (512 * t + 512) k)
  (h1 : ∀ (p : Fin 512) (k : Fin 1024), x1 (ix2 p k) = H (512 * t + p) k)
  (hX : ∀ (p : Fin 512) (k : Fin 1024), x3 (ix2 p k) = X (512 * t + p) k)
include ht hi h0 h1 h2 hX

theorem xV_at' (p : Fin 512) (e : Fin 1024) : xV nu (fst i) (lst i) x0 x1 x2 x3 x4 x5 x6 x7 (ix2 p e) = M.ffnX 2048 H X (fun k c => x4 (ix2 k c)) (fun k c => x5 (ix2 k c)) (fun c => x6 (ix2 0 c)) (fun c e => x7 (ix2 c e)) (512 * t + p) e :=
  xV_at nu (fst i) (lst i) x0 x1 x2 x3 x4 x5 x6 x7 4 3 2048 t H X (Scal.named_neg _) rfl rfl (by unfold fst; rw [hi]; exact pos_first ⟨t, ht⟩) (by unfold lst; rw [hi]; exact pos_last ⟨t, ht⟩) h0 h2 h1 hX p e

theorem out9_at (p : Fin 512) (e : Fin 1024) : out2_9 (F := Ideal) i x0 x1 x2 x3 x4 x5 x6 x7 x8 (ix2 p e) = M.ffnX 2048 H X (fun k c => x4 (ix2 k c)) (fun k c => x5 (ix2 k c)) (fun c => x6 (ix2 0 c)) (fun c e => x7 (ix2 c e)) (512 * t + p) e := by
  refine Eq.trans ?_ (xV_at' i x0 x1 x2 x3 x4 x5 x6 x7 t H X ht hi h0 h2 h1 hX p e)
  unfold out2_9
  rw [pay_eq]
  frame_out

theorem out10_at (p : Fin 512) (e : Fin 1024) : out2_10 (F := Ideal) i x0 x1 x2 x3 x4 x5 x6 x7 x8 (ix2 p e) = M.nrm (M.ffnX 2048 H X (fun k c => x4 (ix2 k c)) (fun k c => x5 (ix2 k c)) (fun c => x6 (ix2 0 c)) (fun c e => x7 (ix2 c e))) (fun j => x8 (ix2 0 j)) (512 * t + p) e := by
  have h := nrmV_at (xV nu (fst i) (lst i) x0 x1 x2 x3 x4 x5 x6 x7) (View.ld x8 r2_69) p e
  simp only [xV_at' i x0 x1 x2 x3 x4 x5 x6 x7 t H X ht hi h0 h2 h1 hX] at h
  refine Eq.trans ?_ (h.trans ?_)
  · unfold out2_10
    rw [ssq_eq, pay_eq, pay1_eq]
    frame_out
  · unfold M.nrm
    congr 1
    funext j
    pointwise
end block

end Cert.KernelIdeal.Ffn2
end
-- ==== Proof.Ffn2Arr.lean ====
module

public import proofs.«01_k».proof.Proof.Ffn2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The arrays the gated feed-forward of region 2 leaves. -/
namespace Cert.KernelIdeal.Ffn2
open Cert.KernelIdeal Cert.KernelIdeal.Gen

theorem idx : ∀ t : Fin cfg2.N, win2_1.index t = ![t.val, 0]
    ∧ win2_3.index t = ![t.val, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![t.val, 0]
    ∧ win2_10.index t = ![t.val, 0] :=
  (by decide +kernel : ∀ t : Fin grid2.N, _)

theorem idx_before : ∀ t : Fin cfg2.N, t.val % 4 ≠ 0 → win2_0.index t = ![t.val * 32 - 1, 0] :=
  (by decide +kernel : ∀ t : Fin grid2.N, t.val % 4 ≠ 0 → win2_0.index t = ![t.val * 32 - 1, 0])

theorem idx_after : ∀ t : Fin cfg2.N, t.val % 4 ≠ 3 → win2_2.index t = ![t.val * 32 + 32, 0] :=
  (by decide +kernel : ∀ t : Fin grid2.N, t.val % 4 ≠ 3 → win2_2.index t = ![t.val * 32 + 32, 0])

theorem coord : ∀ t : Fin cfg2.N, ((grid2.coords t) 0 : ℕ) = t.val :=
  (by decide +kernel : ∀ t : Fin grid2.N, ((grid2.coords t) 0 : ℕ) = t.val)

variable (V : (c : Dev nD) → (b : Ref sig .tc) → Buf (Elt Ideal) ((c : Thread nD τ).loc b))

/-- the region's first result, over what the region reads -/
abbrev res := Ffn.res 2048

theorem lt32 (t : Fin cfg2.N) : t.val < 32 := lt_of_lt_of_eq t.isLt (by decide)

theorem hrow (c : Dev nD) (t : Fin cfg2.N) (p : Fin 512) (k : Fin 1024) :
    iblk2 V c 1 t (ix2 p k) = M.rows (φ := .bf16) (V c main_v110_1) (512 * t.val + p) k := by
  unfold M.rows
  have ht := lt32 t
  blk_ext [iblk2, idx t]

theorem hbefore (c : Dev nD) (t : Fin cfg2.N) (h4 : t.val % 4 ≠ 0) (k : Fin 1024) :
    iblk2 V c 0 t (ix2 15 k) = M.rows (φ := .bf16) (V c main_v110_1) (512 * t.val - 1) k := by
  unfold M.rows
  have ht := lt32 t
  blk_ext [iblk2, idx_before t h4]

theorem hafter (c : Dev nD) (t : Fin cfg2.N) (h4 : t.val % 4 ≠ 3) (k : Fin 1024) :
    iblk2 V c 2 t (ix2 0 k) = M.rows (φ := .bf16) (V c main_v110_1) (512 * t.val + 512) k := by
  unfold M.rows
  have ht := lt32 t
  blk_ext [iblk2, idx_after t h4]

theorem xrow (c : Dev nD) (t : Fin cfg2.N) (p : Fin 512) (k : Fin 1024) :
    iblk2 V c 3 t (ix2 p k) = M.rows (φ := .f32) (V c main_v110_0) (512 * t.val + p) k := by
  unfold M.rows
  have ht := lt32 t
  blk_ext [iblk2, idx t]

theorem iblk_4 (c : Dev nD) (t : Fin cfg2.N) : iblk2 V c 4 t = V c main_v40 := by blk_ext! [iblk2, idx t]
theorem iblk_5 (c : Dev nD) (t : Fin cfg2.N) : iblk2 V c 5 t = V c main_v45 := by blk_ext! [iblk2, idx t]
theorem iblk_6 (c : Dev nD) (t : Fin cfg2.N) : iblk2 V c 6 t = V c main_v50 := by blk_ext! [iblk2, idx t]
theorem iblk_7 (c : Dev nD) (t : Fin cfg2.N) : iblk2 V c 7 t = V c main_v56 := by blk_ext! [iblk2, idx t]
theorem iblk_8 (c : Dev nD) (t : Fin cfg2.N) : iblk2 V c 8 t = V c main_v5 := by blk_ext! [iblk2, idx t]

/-- the array of the rows after the residual addition -/
theorem final9 (c : Dev nD) : (dat2 V c).arrAt 9 cfg2.N
    = fun i : S16384x1024.Idx => res (V c main_v110_1) (V c main_v110_0) (V c main_v40) (V c main_v45) (V c main_v50) (V c main_v56) (i 0) (i 1) := by
  refine (dat2 V c).arrAt_eq_of_covers 9 _ (by decide +kernel) fun t _ y => ?_
  blk_simp
  rw [after2_9]
  obtain ⟨y0, y1, rfl⟩ : ∃ (a : Fin 512) (b : Fin 1024), y = ix2 a b := ⟨y 0, y 1, eq_ix2 y⟩
  have h := out9_at (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) t.val _ _ (lt32 t) (coord t)
    (hbefore V c t) (hafter V c t) (hrow V c t) (xrow V c t) y0 y1
  rw [iblk_4, iblk_5, iblk_6, iblk_7] at h
  rw [iblk_4, iblk_5, iblk_6, iblk_7]
  refine h.trans (congrArg₂ (res (V c main_v110_1) (V c main_v110_0) (V c main_v40) (V c main_v45) (V c main_v50) (V c main_v56)) ?_ ?_)
  · blk_simp [idx t]
    omega
  · refine Fin.ext ?_
    (blk_simp [idx t] <;> try omega)

/-- the array of the rows normalised for what follows -/
theorem final10 (c : Dev nD) : (dat2 V c).arrAt 10 cfg2.N
    = fun i : S16384x1024.Idx => M.nrm (res (V c main_v110_1) (V c main_v110_0) (V c main_v40) (V c main_v45) (V c main_v50) (V c main_v56)) (fun j => V c main_v5 (ix2 0 j)) (i 0) (i 1) := by
  refine (dat2 V c).arrAt_eq_of_covers 10 _ (by decide +kernel) fun t _ y => ?_
  blk_simp
  rw [after2_10]
  obtain ⟨y0, y1, rfl⟩ : ∃ (a : Fin 512) (b : Fin 1024), y = ix2 a b := ⟨y 0, y 1, eq_ix2 y⟩
  have h := out10_at (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) t.val _ _ (lt32 t) (coord t)
    (hbefore V c t) (hafter V c t) (hrow V c t) (xrow V c t) y0 y1
  rw [iblk_4, iblk_5, iblk_6, iblk_7, iblk_8] at h
  rw [iblk_4, iblk_5, iblk_6, iblk_7, iblk_8]
  refine h.trans (congrArg₂ (M.nrm (res (V c main_v110_1) (V c main_v110_0) (V c main_v40) (V c main_v45) (V c main_v50) (V c main_v56)) (fun j => V c main_v5 (ix2 0 j))) ?_ ?_)
  · blk_simp [idx t]
    omega
  · refine Fin.ext ?_
    (blk_simp [idx t] <;> try omega)

end Cert.KernelIdeal.Ffn2
end
-- ==== Proof.Sgu.lean ====
module

public import proofs.«01_k».proof.Proof.Model
public import proofs.«01_k».proof.Proof.Gen.KernelIdeal.Frame.Region3
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The body of the spatial gating unit, read at an element of a 512-row block. -/
namespace Cert.KernelIdeal.Sgu
open Cert.KernelIdeal Cert.KernelIdeal.Gen

/-- the mixed half, normalised -/
theorem v_at (h : FVec Ideal S512x1024 .bf16) (w : FVec Ideal S1024x2048 .bf16) (vg : FVec Ideal S1x2048 .f32)
    (t : ℕ) (H : ℕ → Fin 1024 → EReal) (W : Fin 1024 → Fin 4096 → EReal)
    (hH : ∀ (p : Fin 512) (k : Fin 1024), h (ix2 p k) = H (512 * t + p) k)
    (hW : ∀ (k : Fin 1024) (c : Fin 2048), w (ix2 k c) = W k ⟨2048 + c, by omega⟩)
    (p : Fin 512) (c : Fin 2048) :
    k3_pay3 (F := Ideal) h w vg (ix2 p c) = M.sguV H W (fun c => vg (ix2 0 c)) (512 * t + p) c := by
  pointwise [k3_pay3, k3_pay2]
  simp only [hH, hW]
  rfl

/-- one group's gated mixture: the gelu of the projection times the four chunks' mixtures stacked -/
def grp (u : FVec Ideal S512x256 .f32) (ws : FVec Ideal S1x128x128 .bf16) (b : FVec Ideal S128x256 .f32)
    (v0 v1 v2 v3 : FVec Ideal S128x256 .bf16) : FVec Ideal S512x256 .bf16 :=
  truncf .bf16 (mulf
    (mulf (mulf (broadcast S512x256 (Scalar.ofBits (F := Ideal) .f32 0x3F000000#32)) u)
      (addf (broadcast S512x256 (Scalar.ofBits .f32 0x3F800000#32))
        (tanh (mulf (broadcast S512x256 (Scalar.ofBits .f32 0x3F4C422A#32))
          (addf u (mulf (broadcast S512x256 (Scalar.ofBits .f32 0x3D372713#32)) (mulf (mulf u u) u)))))))
    (concatenate S512x256 0
      [⟨S128x256, addf (matmul dot_S128x128_S128x256_S128x256_1_0_0_1_n_n none (shapeCast S128x128 ws shapeCasts_S1x128x128_S128x128) v0 (constant S128x256 .f32 0x00000000#32)) (shapeCast S128x256 b shapeCasts_S128x256_S128x256)⟩,
       ⟨S128x256, addf (matmul dot_S128x128_S128x256_S128x256_1_0_0_1_n_n none (shapeCast S128x128 ws shapeCasts_S1x128x128_S128x128) v1 (constant S128x256 .f32 0x00000000#32)) (shapeCast S128x256 b shapeCasts_S128x256_S128x256)⟩,
       ⟨S128x256, addf (matmul dot_S128x128_S128x256_S128x256_1_0_0_1_n_n none (shapeCast S128x128 ws shapeCasts_S1x128x128_S128x128) v2 (constant S128x256 .f32 0x00000000#32)) (shapeCast S128x256 b shapeCasts_S128x256_S128x256)⟩,
       ⟨S128x256, addf (matmul dot_S128x128_S128x256_S128x256_1_0_0_1_n_n none (shapeCast S128x128 ws shapeCasts_S1x128x128_S128x128) v3 (constant S128x256 .f32 0x00000000#32)) (shapeCast S128x256 b shapeCasts_S128x256_S128x256)⟩]
      concatenates_S128x256_S128x256_S128x256_S128x256_S512x256_d0)) bitsLt_bf16_f32

/-- a group at an element: `g` is the group's number -/
theorem grp_at (u : FVec Ideal S512x256 .f32) (ws : FVec Ideal S1x128x128 .bf16) (b : FVec Ideal S128x256 .f32)
    (v0 v1 v2 v3 : FVec Ideal S128x256 .bf16) (t g : ℕ) (hg : g < 8)
    (H : ℕ → Fin 1024 → EReal) (W : Fin 1024 → Fin 4096 → EReal)
    (vg : Fin 2048 → EReal) (wsF : Fin 8 → Fin 128 → Fin 128 → EReal) (bs : Fin 128 → Fin 2048 → EReal)
    (hu : ∀ (p : Fin 512) (q : Fin 256), u (ix2 p q) = M.mv (H (512 * t + p)) W ⟨256 * g + q, by omega⟩)
    (hws : ∀ a q : Fin 128, ws (ix3 0 a q) = wsF ⟨g, hg⟩ a q)
    (hb : ∀ (a : Fin 128) (q : Fin 256), b (ix2 a q) = bs a ⟨256 * g + q, by omega⟩)
    (h0 : ∀ (a : Fin 128) (q : Fin 256), v0 (ix2 a q) = M.sguV H W vg (512 * t + a) ⟨256 * g + q, by omega⟩)
    (h1 : ∀ (a : Fin 128) (q : Fin 256), v1 (ix2 a q) = M.sguV H W vg (512 * t + (128 + a)) ⟨256 * g + q, by omega⟩)
    (h2 : ∀ (a : Fin 128) (q : Fin 256), v2 (ix2 a q) = M.sguV H W vg (512 * t + (256 + a)) ⟨256 * g + q, by omega⟩)
    (h3 : ∀ (a : Fin 128) (q : Fin 256), v3 (ix2 a q) = M.sguV H W vg (512 * t + (384 + a)) ⟨256 * g + q, by omega⟩)
    (p : Fin 512) (q : Fin 256) :
    grp u ws b v0 v1 v2 v3 (ix2 p q) = M.sguY H W vg wsF bs (512 * t + p) ⟨256 * g + q, by omega⟩ := by
  have hgq : (⟨(256 * g + (q : ℕ)) / 256, by omega⟩ : Fin 8) = ⟨g, hg⟩ := Fin.ext (by show (256 * g + (q : ℕ)) / 256 = g; omega)
  unfold M.sguY
  pointwise [grp]
  simp only [hgq]
  have key : ∀ (v : FVec Ideal S128x256 .bf16) (j a : ℕ) (ha : a < 128) (hj : (p : ℕ) = 128 * j + a) (hj4 : j < 4)
      (hv : ∀ (a : Fin 128) (q : Fin 256), v (ix2 a q) = M.sguV H W vg (512 * t + (128 * j + a)) ⟨256 * g + q, by omega⟩),
      (∑ x, ws (ix3 0 ⟨a, ha⟩ x) * v (ix2 x q) + b (ix2 ⟨a, ha⟩ q)
        = ∑ x, wsF ⟨g, hg⟩ ⟨(512 * t + (p : ℕ)) % 128, Nat.mod_lt _ (by decide)⟩ x
            * M.sguV H W vg (128 * ((512 * t + (p : ℕ)) / 128) + (x : ℕ)) ⟨256 * g + q, by omega⟩
          + bs ⟨(512 * t + (p : ℕ)) % 128, Nat.mod_lt _ (by decide)⟩ ⟨256 * g + q, by omega⟩) := by
    intro v j a ha hj hj4 hv
    have e1 : (⟨(512 * t + (p : ℕ)) % 128, Nat.mod_lt _ (by decide)⟩ : Fin 128) = ⟨a, ha⟩ :=
      Fin.ext (by show (512 * t + (p : ℕ)) % 128 = a; omega)
    have e2 : 128 * ((512 * t + (p : ℕ)) / 128) = 512 * t + 128 * j := by omega
    simp only [e1, e2, hws, hb, hv, Nat.add_assoc]
  have hp := p.isLt
  unfold M.sguZ M.gelu
  simp only [hu]
  refine congrArg _ ?_
  split
  · exact key v0 0 _ (by omega) (by omega) (by omega) (by simpa using h0)
  split
  · exact key v1 1 _ (by omega) (by omega) (by omega) h1
  split
  · exact key v2 2 _ (by omega) (by omega) (by omega) h2
  · exact key v3 3 _ (by omega) (by omega) (by omega) h3

/-- the block after the residual addition, from the eight groups -/
def xo (x : FVec Ideal S512x1024 .f32) (wo : FVec Ideal S2048x1024 .bf16) (y0 y1 y2 y3 y4 y5 y6 y7 : FVec Ideal S512x256 .bf16) :
    FVec Ideal S512x1024 .f32 :=
  addf (shapeCast S512x1024 x shapeCasts_S512x1024_S512x1024)
    (matmul dot_S512x2048_S2048x1024_S512x1024_1_0_0_1_n_n none
      (concatenate S512x2048 1 [⟨S512x256, y0⟩, ⟨S512x256, y1⟩, ⟨S512x256, y2⟩, ⟨S512x256, y3⟩, ⟨S512x256, y4⟩, ⟨S512x256, y5⟩, ⟨S512x256, y6⟩, ⟨S512x256, y7⟩]
        concatenates_S512x256_S512x256_S512x256_S512x256_S512x256_S512x256_S512x256_S512x256_S512x2048_d1)
      (shapeCast S2048x1024 wo shapeCasts_S2048x1024_S2048x1024) (constant S512x1024 .f32 0x00000000#32))

theorem xo_at (x : FVec Ideal S512x1024 .f32) (wo : FVec Ideal S2048x1024 .bf16) (y0 y1 y2 y3 y4 y5 y6 y7 : FVec Ideal S512x256 .bf16)
    (Y : Fin 512 → Fin 2048 → EReal)
    (h0 : ∀ (p : Fin 512) (q : Fin 256), y0 (ix2 p q) = Y p ⟨256 * 0 + q, by omega⟩)
    (h1 : ∀ (p : Fin 512) (q : Fin 256), y1 (ix2 p q) = Y p ⟨256 * 1 + q, by omega⟩)
    (h2 : ∀ (p : Fin 512) (q : Fin 256), y2 (ix2 p q) = Y p ⟨256 * 2 + q, by omega⟩)
    (h3 : ∀ (p : Fin 512) (q : Fin 256), y3 (ix2 p q) = Y p ⟨256 * 3 + q, by omega⟩)
    (h4 : ∀ (p : Fin 512) (q : Fin 256), y4 (ix2 p q) = Y p ⟨256 * 4 + q, by omega⟩)
    (h5 : ∀ (p : Fin 512) (q : Fin 256), y5 (ix2 p q) = Y p ⟨256 * 5 + q, by omega⟩)
    (h6 : ∀ (p : Fin 512) (q : Fin 256), y6 (ix2 p q) = Y p ⟨256 * 6 + q, by omega⟩)
    (h7 : ∀ (p : Fin 512) (q : Fin 256), y7 (ix2 p q) = Y p ⟨256 * 7 + q, by omega⟩)
    (p : Fin 512) (e : Fin 1024) :
    xo x wo y0 y1 y2 y3 y4 y5 y6 y7 (ix2 p e) = x (ix2 p e) + M.mv (Y p) (fun c e => wo (ix2 c e)) e := by
  unfold M.mv
  pointwise [xo]
  refine congrArg _ (Finset.sum_congr rfl fun c _ => congrArg (· * _) ?_)
  have hc := c.isLt
  split
  · exact (h0 _ _).trans (congrArg (Y p) (Fin.ext (by show 256 * 0 + _ = (c : ℕ); dsimp only; omega)))
  split
  · exact (h1 _ _).trans (congrArg (Y p) (Fin.ext (by show 256 * 1 + _ = (c : ℕ); dsimp only; omega)))
  split
  · exact (h2 _ _).trans (congrArg (Y p) (Fin.ext (by show 256 * 2 + _ = (c : ℕ); dsimp only; omega)))
  split
  · exact (h3 _ _).trans (congrArg (Y p) (Fin.ext (by show 256 * 3 + _ = (c : ℕ); dsimp only; omega)))
  split
  · exact (h4 _ _).trans (congrArg (Y p) (Fin.ext (by show 256 * 4 + _ = (c : ℕ); dsimp only; omega)))
  split
  · exact (h5 _ _).trans (congrArg (Y p) (Fin.ext (by show 256 * 5 + _ = (c : ℕ); dsimp only; omega)))
  split
  · exact (h6 _ _).trans (congrArg (Y p) (Fin.ext (by show 256 * 6 + _ = (c : ℕ); dsimp only; omega)))
  · exact (h7 _ _).trans (congrArg (Y p) (Fin.ext (by show 256 * 7 + _ = (c : ℕ); dsimp only; omega)))

/-- the following normalisation, over the block it normalises -/
def nrmV (x : FVec Ideal S512x1024 .f32) (g : FVec Ideal S1x1024 .f32) : FVec Ideal S512x1024 .bf16 :=
  truncf .bf16 (mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits (F := Ideal) .f32 0x44800000#32)))
      (broadcast S512x1 (Scalar.ofBits (F := Ideal) .f32 0x358637BD#32)))) broadcasts_S512x1_S512x1024))
    (broadcastTo S512x1024 (shapeCast S1x1024 g shapeCasts_S1x1024_S1x1024) broadcasts_S1x1024_S512x1024)) bitsLt_bf16_f32

theorem nrmV_at (x : FVec Ideal S512x1024 .f32) (g : FVec Ideal S1x1024 .f32) (p : Fin 512) (e : Fin 1024) :
    nrmV x g (ix2 p e) = M.rms (Ideal.ofBits .f32 0x44800000#32) (fun j => x (ix2 p j)) (fun j => g (ix2 0 j)) e := by
  pointwise [nrmV]
  rfl

/-- a block's row sums of squares -/
def ssq (x : FVec Ideal S512x1024 .f32) : FVec Ideal S512x1 .f32 :=
  shapeCast S512x1 (multiReduction .add [1] S512 (mulf x x) 0x00000000#32 reduces_S512x1024_S512 (.inl rfl) rfl) shapeCasts_S512_S512x1

theorem pay1_eq (x : FVec Ideal S512x1024 .f32) (g : FVec Ideal S1x1024 .f32) : k3_pay1 (F := Ideal) x (k3_pay35 g) (ssq x) = nrmV x g := rfl

section block
variable (x0 : Vec Ideal S512x1024 .bf16) (x1 : Vec Ideal S512x1024 .f32) (x2 : Vec Ideal S1024x4096 .bf16) (x3 : Vec Ideal S1x2048 .f32)
  (x4 : Vec Ideal S8x128x128 .bf16) (x5 : Vec Ideal S128x2048 .f32) (x6 : Vec Ideal S2048x1024 .bf16) (x7 : Vec Ideal S1x1024 .f32)

/-- group 0: its projection, mixing weights, bias and the four chunks of the mixed half -/
def z0 : FVec Ideal S512x256 .bf16 :=
  grp (k3_pay4 (View.ld x0 r3_0) (View.ld x2 r3_3)) (View.ld x4 r3_5) (View.ld x5 r3_6)
    (extractStridedSlice S128x256 ![0, 0] (k3_pay38 x0 x1 x2 x3 x4 x5 x6 x7) slices_S512x2048_o0_0_S128x256)
    (extractStridedSlice S128x256 ![128, 0] (k3_pay38 x0 x1 x2 x3 x4 x5 x6 x7) slices_S512x2048_o128_0_S128x256)
    (extractStridedSlice S128x256 ![256, 0] (k3_pay38 x0 x1 x2 x3 x4 x5 x6 x7) slices_S512x2048_o256_0_S128x256)
    (extractStridedSlice S128x256 ![384, 0] (k3_pay38 x0 x1 x2 x3 x4 x5 x6 x7) slices_S512x2048_o384_0_S128x256)
theorem y0_eq : k3_pay40 x0 x1 x2 x3 x4 x5 x6 x7 = z0 x0 x1 x2 x3 x4 x5 x6 x7 := rfl
/-- group 1: its projection, mixing weights, bias and the four chunks of the mixed half -/
def z1 : FVec Ideal S512x256 .bf16 :=
  grp (k3_pay4 (View.ld x0 r3_0) (View.ld x2 r3_4)) (View.ld x4 r3_8) (View.ld x5 r3_9)
    (extractStridedSlice S128x256 ![0, 256] (k3_pay38 x0 x1 x2 x3 x4 x5 x6 x7) slices_S512x2048_o0_256_S128x256)
    (extractStridedSlice S128x256 ![128, 256] (k3_pay38 x0 x1 x2 x3 x4 x5 x6 x7) slices_S512x2048_o128_256_S128x256)
    (extractStridedSlice S128x256 ![256, 256] (k3_pay38 x0 x1 x2 x3 x4 x5 x6 x7) slices_S512x2048_o256_256_S128x256)
    (extractStridedSlice S128x256 ![384, 256] (k3_pay38 x0 x1 x2 x3 x4 x5 x6 x7) slices_S512x2048_o384_256_S128x256)
theorem y1_eq : k3_pay41 x0 x1 x2 x3 x4 x5 x6 x7 = z1 x0 x1 x2 x3 x4 x5 x6 x7 := rfl
/-- group 2: its projection, mixing weights, bias and the four chunks of the mixed half -/
def z2 : FVec Ideal S512x256 .bf16 :=
  grp (k3_pay4 (View.ld x0 r3_0) (View.ld x2 r3_7)) (View.ld x4 r3_11) (View.ld x5 r3_12)
    (extractStridedSlice S128x256 ![0, 512] (k3_pay38 x0 x1 x2 x3 x4 x5 x6 x7) slices_S512x2048_o0_512_S128x256)
    (extractStridedSlice S128x256 ![128, 512] (k3_pay38 x0 x1 x2 x3 x4 x5 x6 x7) slices_S512x2048_o128_512_S128x256)
    (extractStridedSlice S128x256 ![256, 512] (k3_pay38 x0 x1 x2 x3 x4 x5 x6 x7) slices_S512x2048_o256_512_S128x256)
    (extractStridedSlice S128x256 ![384, 512] (k3_pay38 x0 x1 x2 x3 x4 x5 x6 x7) slices_S512x2048_o384_512_S128x256)
theorem y2_eq : k3_pay42 x0 x1 x2 x3 x4 x5 x6 x7 = z2 x0 x1 x2 x3 x4 x5 x6 x7 := rfl
/-- group 3: its projection, mixing weights, bias and the four chunks of the mixed half -/
def z3 : FVec Ideal S512x256 .bf16 :=
  grp (k3_pay4 (View.ld x0 r3_0) (View.ld x2 r3_10)) (View.ld x4 r3_14) (View.ld x5 r3_15)
    (extractStridedSlice S128x256 ![0, 768] (k3_pay38 x0 x1 x2 x3 x4 x5 x6 x7) slices_S512x2048_o0_768_S128x256)
    (extractStridedSlice S128x256 ![128, 768] (k3_pay38 x0 x1 x2 x3 x4 x5 x6 x7) slices_S512x2048_o128_768_S128x256)
    (extractStridedSlice S128x256 ![256, 768] (k3_pay38 x0 x1 x2 x3 x4 x5 x6 x7) slices_S512x2048_o256_768_S128x256)
    (extractStridedSlice S128x256 ![384, 768] (k3_pay38 x0 x1 x2 x3 x4 x5 x6 x7) slices_S512x2048_o384_768_S128x256)
theorem y3_eq : k3_pay43 x0 x1 x2 x3 x4 x5 x6 x7 = z3 x0 x1 x2 x3 x4 x5 x6 x7 := rfl
/-- group 4: its projection, mixing weights, bias and the four chunks of the mixed half -/
def z4 : FVec Ideal S512x256 .bf16 :=
  grp (k3_pay4 (View.ld x0 r3_0) (View.ld x2 r3_13)) (View.ld x4 r3_17) (View.ld x5 r3_18)
    (extractStridedSlice S128x256 ![0, 1024] (k3_pay38 x0 x1 x2 x3 x4 x5 x6 x7) slices_S512x2048_o0_1024_S128x256)
    (extractStridedSlice S128x256 ![128, 1024] (k3_pay38 x0 x1 x2 x3 x4 x5 x6 x7) slices_S512x2048_o128_1024_S128x256)
    (extractStridedSlice S128x256 ![256, 1024] (k3_pay38 x0 x1 x2 x3 x4 x5 x6 x7) slices_S512x2048_o256_1024_S128x256)
    (extractStridedSlice S128x256 ![384, 1024] (k3_pay38 x0 x1 x2 x3 x4 x5 x6 x7) slices_S512x2048_o384_1024_S128x256)
theorem y4_eq : k3_pay44 x0 x1 x2 x3 x4 x5 x6 x7 = z4 x0 x1 x2 x3 x4 x5 x6 x7 := rfl
/-- group 5: its projection, mixing weights, bias and the four chunks of the mixed half -/
def z5 : FVec Ideal S512x256 .bf16 :=
  grp (k3_pay4 (View.ld x0 r3_0) (View.ld x2 r3_16)) (View.ld x4 r3_20) (View.ld x5 r3_21)
    (extractStridedSlice S128x256 ![0, 1280] (k3_pay38 x0 x1 x2 x3 x4 x5 x6 x7) slices_S512x2048_o0_1280_S128x256)
    (extractStridedSlice S128x256 ![128, 1280] (k3_pay38 x0 x1 x2 x3 x4 x5 x6 x7) slices_S512x2048_o128_1280_S128x256)
    (extractStridedSlice S128x256 ![256, 1280] (k3_pay38 x0 x1 x2 x3 x4 x5 x6 x7) slices_S512x2048_o256_1280_S128x256)
    (extractStridedSlice S128x256 ![384, 1280] (k3_pay38 x0 x1 x2 x3 x4 x5 x6 x7) slices_S512x2048_o384_1280_S128x256)
theorem y5_eq : k3_pay45 x0 x1 x2 x3 x4 x5 x6 x7 = z5 x0 x1 x2 x3 x4 x5 x6 x7 := rfl
/-- group 6: its projection, mixing weights, bias and the four chunks of the mixed half -/
def z6 : FVec Ideal S512x256 .bf16 :=
  grp (k3_pay4 (View.ld x0 r3_0) (View.ld x2 r3_19)) (View.ld x4 r3_23) (View.ld x5 r3_24)
    (extractStridedSlice S128x256 ![0, 1536] (k3_pay38 x0 x1 x2 x3 x4 x5 x6 x7) slices_S512x2048_o0_1536_S128x256)
    (extractStridedSlice S128x256 ![128, 1536] (k3_pay38 x0 x1 x2 x3 x4 x5 x6 x7) slices_S512x2048_o128_1536_S128x256)
    (extractStridedSlice S128x256 ![256, 1536] (k3_pay38 x0 x1 x2 x3 x4 x5 x6 x7) slices_S512x2048_o256_1536_S128x256)
    (extractStridedSlice S128x256 ![384, 1536] (k3_pay38 x0 x1 x2 x3 x4 x5 x6 x7) slices_S512x2048_o384_1536_S128x256)
theorem y6_eq : k3_pay46 x0 x1 x2 x3 x4 x5 x6 x7 = z6 x0 x1 x2 x3 x4 x5 x6 x7 := rfl
/-- group 7: its projection, mixing weights, bias and the four chunks of the mixed half -/
def z7 : FVec Ideal S512x256 .bf16 :=
  grp (k3_pay4 (View.ld x0 r3_0) (View.ld x2 r3_22)) (View.ld x4 r3_25) (View.ld x5 r3_26)
    (extractStridedSlice S128x256 ![0, 1792] (k3_pay38 x0 x1 x2 x3 x4 x5 x6 x7) slices_S512x2048_o0_1792_S128x256)
    (extractStridedSlice S128x256 ![128, 1792] (k3_pay38 x0 x1 x2 x3 x4 x5 x6 x7) slices_S512x2048_o128_1792_S128x256)
    (extractStridedSlice S128x256 ![256, 1792] (k3_pay38 x0 x1 x2 x3 x4 x5 x6 x7) slices_S512x2048_o256_1792_S128x256)
    (extractStridedSlice S128x256 ![384, 1792] (k3_pay38 x0 x1 x2 x3 x4 x5 x6 x7) slices_S512x2048_o384_1792_S128x256)

/-- the block's rows after the residual addition -/
def xV : FVec Ideal S512x1024 .f32 := xo (View.ld x1 r3_0) (View.ld x6 r3_27) (z0 x0 x1 x2 x3 x4 x5 x6 x7) (z1 x0 x1 x2 x3 x4 x5 x6 x7) (z2 x0 x1 x2 x3 x4 x5 x6 x7) (z3 x0 x1 x2 x3 x4 x5 x6 x7) (z4 x0 x1 x2 x3 x4 x5 x6 x7) (z5 x0 x1 x2 x3 x4 x5 x6 x7) (z6 x0 x1 x2 x3 x4 x5 x6 x7) (z7 x0 x1 x2 x3 x4 x5 x6 x7)

theorem pay34_eq : k3_pay34 (k3_pay38 x0 x1 x2 x3 x4 x5 x6 x7) (k3_pay40 x0 x1 x2 x3 x4 x5 x6 x7) (k3_pay41 x0 x1 x2 x3 x4 x5 x6 x7) (k3_pay42 x0 x1 x2 x3 x4 x5 x6 x7) (k3_pay43 x0 x1 x2 x3 x4 x5 x6 x7) (k3_pay44 x0 x1 x2 x3 x4 x5 x6 x7) (k3_pay45 x0 x1 x2 x3 x4 x5 x6 x7) (k3_pay46 x0 x1 x2 x3 x4 x5 x6 x7) (k3_pay47 x0 x1 x2 x3 x4 x5 x6 x7) (k3_pay48 x0 x1 x2 x3 x4 x5 x6 x7) (View.ld x4 r3_25) (View.ld x5 r3_26) (View.ld x1 r3_0) (View.ld x6 r3_27) = xV x0 x1 x2 x3 x4 x5 x6 x7 := rfl
theorem pay36_eq : k3_pay36 (k3_pay38 x0 x1 x2 x3 x4 x5 x6 x7) (k3_pay40 x0 x1 x2 x3 x4 x5 x6 x7) (k3_pay41 x0 x1 x2 x3 x4 x5 x6 x7) (k3_pay42 x0 x1 x2 x3 x4 x5 x6 x7) (k3_pay43 x0 x1 x2 x3 x4 x5 x6 x7) (k3_pay44 x0 x1 x2 x3 x4 x5 x6 x7) (k3_pay45 x0 x1 x2 x3 x4 x5 x6 x7) (k3_pay46 x0 x1 x2 x3 x4 x5 x6 x7) (k3_pay47 x0 x1 x2 x3 x4 x5 x6 x7) (k3_pay48 x0 x1 x2 x3 x4 x5 x6 x7) (View.ld x4 r3_25) (View.ld x5 r3_26) (View.ld x1 r3_0) (View.ld x6 r3_27) = ssq (xV x0 x1 x2 x3 x4 x5 x6 x7) := by
  unfold k3_pay36
  rw [pay34_eq]
  rfl

variable (t : ℕ) (H X : ℕ → Fin 1024 → EReal)
  (hH : ∀ (p : Fin 512) (k : Fin 1024), x0 (ix2 p k) = H (512 * t + p) k)
include hH

theorem v38_at (p : Fin 512) (c : Fin 2048) : k3_pay38 (F := Ideal) x0 x1 x2 x3 x4 x5 x6 x7 (ix2 p c)
    = M.sguV H (fun k c => x2 (ix2 k c)) (fun c => x3 (ix2 0 c)) (512 * t + p) c := by
  unfold k3_pay38
  refine (v_at _ _ _ t H (fun k c => x2 (ix2 k c)) ?_ ?_ p c).trans ?_
  · intro p k; pointwise; exact hH p k
  · intro k c; pointwise
  · congr 1
    funext c; pointwise

theorem z0_at (p : Fin 512) (q : Fin 256) : z0 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 0 + q, by omega⟩ := by
  refine grp_at _ _ _ _ _ _ _ t 0 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z1_at (p : Fin 512) (q : Fin 256) : z1 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 1 + q, by omega⟩ := by
  refine grp_at _ _ _ _ _ _ _ t 1 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z2_at (p : Fin 512) (q : Fin 256) : z2 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 2 + q, by omega⟩ := by
  refine grp_at _ _ _ _ _ _ _ t 2 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z3_at (p : Fin 512) (q : Fin 256) : z3 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 3 + q, by omega⟩ := by
  refine grp_at _ _ _ _ _ _ _ t 3 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z4_at (p : Fin 512) (q : Fin 256) : z4 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 4 + q, by omega⟩ := by
  refine grp_at _ _ _ _ _ _ _ t 4 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z5_at (p : Fin 512) (q : Fin 256) : z5 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 5 + q, by omega⟩ := by
  refine grp_at _ _ _ _ _ _ _ t 5 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z6_at (p : Fin 512) (q : Fin 256) : z6 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 6 + q, by omega⟩ := by
  refine grp_at _ _ _ _ _ _ _ t 6 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)
theorem z7_at (p : Fin 512) (q : Fin 256) : z7 x0 x1 x2 x3 x4 x5 x6 x7 (ix2 p q) = M.sguY H (fun k c => x2 (ix2 k c)) (fun c => x3 (ix2 0 c))
    (fun g a q => x4 (ix3 g a q)) (fun a c => x5 (ix2 a c)) (512 * t + p) ⟨256 * 7 + q, by omega⟩ := by
  refine grp_at _ _ _ _ _ _ _ t 7 (by decide) H _ _ _ _ ?_ ?_ ?_ ?_ ?_ ?_ ?_ p q
  · intro p q
    pointwise [k3_pay4, k3_pay2]
    simp only [hH]
    rfl
  · intro a q; pointwise
  · intro a q; pointwise
  all_goals (intro a q; pointwise; refine (v38_at x0 x1 x2 x3 x4 x5 x6 x7 t H hH _ _).trans ?_; rfl)

variable (hX : ∀ (p : Fin 512) (k : Fin 1024), x1 (ix2 p k) = X (512 * t + p) k)
include hX

theorem xV_at (p : Fin 512) (e : Fin 1024) : xV x0 x1 x2 x3 x4 x5 x6 x7 (ix2 p e)
    = M.sguX H X (fun k c => x2 (ix2 k c)) (fun c => x3 (ix2 0 c)) (fun g a q => x4 (ix3 g a q)) (fun a c => x5 (ix2 a c)) (fun c e => x6 (ix2 c e)) (512 * t + p) e := by
  unfold xV
  refine (xo_at _ _ _ _ _ _ _ _ _ _ (fun p => M.sguY H (fun k c => x2 (ix2 k c)) (fun c => x3 (ix2 0 c)) (fun g a q => x4 (ix3 g a q)) (fun a c => x5 (ix2 a c)) (512 * t + p))
    (z0_at x0 x1 x2 x3 x4 x5 x6 x7 t H hH) (z1_at x0 x1 x2 x3 x4 x5 x6 x7 t H hH) (z2_at x0 x1 x2 x3 x4 x5 x6 x7 t H hH) (z3_at x0 x1 x2 x3 x4 x5 x6 x7 t H hH) (z4_at x0 x1 x2 x3 x4 x5 x6 x7 t H hH) (z5_at x0 x1 x2 x3 x4 x5 x6 x7 t H hH) (z6_at x0 x1 x2 x3 x4 x5 x6 x7 t H hH) (z7_at x0 x1 x2 x3 x4 x5 x6 x7 t H hH) p e).trans ?_
  unfold M.sguX
  pointwise
  rw [hX]

theorem out8_at (p : Fin 512) (e : Fin 1024) : out3_8 (F := Ideal) x0 x1 x2 x3 x4 x5 x6 x7 (ix2 p e)
    = M.sguX H X (fun k c => x2 (ix2 k c)) (fun c => x3 (ix2 0 c)) (fun g a q => x4 (ix3 g a q)) (fun a c => x5 (ix2 a c)) (fun c e => x6 (ix2 c e)) (512 * t + p) e := by
  refine Eq.trans ?_ (xV_at x0 x1 x2 x3 x4 x5 x6 x7 t H X hH hX p e)
  unfold out3_8
  rw [pay34_eq]
  frame_out

theorem out9_at (p : Fin 512) (e : Fin 1024) : out3_9 (F := Ideal) x0 x1 x2 x3 x4 x5 x6 x7 (ix2 p e)
    = M.nrm (M.sguX H X (fun k c => x2 (ix2 k c)) (fun c => x3 (ix2 0 c)) (fun g a q => x4 (ix3 g a q)) (fun a c => x5 (ix2 a c)) (fun c e => x6 (ix2 c e))) (fun j => x7 (ix2 0 j)) (512 * t + p) e := by
  have h := nrmV_at (xV x0 x1 x2 x3 x4 x5 x6 x7) (View.ld x7 r3_28) p e
  simp only [xV_at x0 x1 x2 x3 x4 x5 x6 x7 t H X hH hX] at h
  refine Eq.trans ?_ (h.trans ?_)
  · unfold out3_9
    rw [pay34_eq, pay36_eq, pay1_eq]
    frame_out
  · unfold M.nrm
    congr 1
    funext j
    pointwise
end block

end Cert.KernelIdeal.Sgu
end
-- ==== Proof.SguArr.lean ====
module

public import proofs.«01_k».proof.Proof.Sgu
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The two arrays the spatial gating unit's region leaves. -/
namespace Cert.KernelIdeal.Sgu
open Cert.KernelIdeal Cert.KernelIdeal.Gen

theorem idx : ∀ t : Fin cfg3.N, win3_0.index t = ![t.val, 0] ∧ win3_1.index t = ![t.val, 0] ∧ win3_2.index t = ![0, 0]
    ∧ win3_3.index t = ![0, 0] ∧ win3_4.index t = ![0, 0, 0] ∧ win3_5.index t = ![0, 0] ∧ win3_6.index t = ![0, 0]
    ∧ win3_7.index t = ![0, 0] ∧ win3_8.index t = ![t.val, 0] ∧ win3_9.index t = ![t.val, 0] :=
  (by decide +kernel : ∀ t : Fin grid3.N, _)

variable (V : (c : Dev nD) → (b : Ref sig .tc) → Buf (Elt Ideal) ((c : Thread nD τ).loc b))

/-- the region's first result, over what the region reads -/
def res (H : FVec Ideal S16384x1024 .bf16) (X : FVec Ideal S16384x1024 .f32) (W : FVec Ideal S1024x4096 .bf16) (vg : FVec Ideal S1x2048 .f32)
    (ws : FVec Ideal S8x128x128 .bf16) (bs : FVec Ideal S128x2048 .f32) (wo : FVec Ideal S2048x1024 .bf16) : ℕ → Fin 1024 → EReal :=
  M.sguX (M.rows H) (M.rows X) (fun k c => W (ix2 k c)) (fun c => vg (ix2 0 c)) (fun g a q => ws (ix3 g a q)) (fun a c => bs (ix2 a c)) (fun c e => wo (ix2 c e))

theorem res_of (H : FVec Ideal S16384x1024 .bf16) (X : FVec Ideal S16384x1024 .f32) (W : FVec Ideal S1024x4096 .bf16) (vg : FVec Ideal S1x2048 .f32)
    (ws : FVec Ideal S8x128x128 .bf16) (bs : FVec Ideal S128x2048 .f32) (wo : FVec Ideal S2048x1024 .bf16) {H' X' : ℕ → Fin 1024 → EReal} {W' : Fin 1024 → Fin 4096 → EReal}
    {vg' : Fin 2048 → EReal} {ws' : Fin 8 → Fin 128 → Fin 128 → EReal} {bs' : Fin 128 → Fin 2048 → EReal} {wo' : Fin 2048 → Fin 1024 → EReal}
    (hH : M.rows H = H') (hX : M.rows X = X') (hW : ∀ k c, W (ix2 k c) = W' k c) (hvg : ∀ c, vg (ix2 0 c) = vg' c)
    (hws : ∀ g a q, ws (ix3 g a q) = ws' g a q) (hbs : ∀ a c, bs (ix2 a c) = bs' a c) (hwo : ∀ c e, wo (ix2 c e) = wo' c e) :
    res H X W vg ws bs wo = M.sguX H' X' W' vg' ws' bs' wo' := by
  have e1 : (fun k c => W (ix2 k c)) = W' := funext fun k => funext fun c => hW k c
  have e2 : (fun c => vg (ix2 0 c)) = vg' := funext fun c => hvg c
  have e3 : (fun g a q => ws (ix3 g a q)) = ws' := funext fun g => funext fun a => funext fun q => hws g a q
  have e4 : (fun a c => bs (ix2 a c)) = bs' := funext fun k => funext fun c => hbs k c
  have e5 : (fun c e => wo (ix2 c e)) = wo' := funext fun k => funext fun c => hwo k c
  unfold res
  rw [hH, hX, e1, e2, e3, e4, e5]

theorem hrow (c : Dev nD) (t : Fin cfg3.N) (p : Fin 512) (k : Fin 1024) :
    iblk3 V c 0 t (ix2 p k) = M.rows (φ := .bf16) (V c main_v111_1) (512 * t.val + p) k := by
  unfold M.rows
  have ht : t.val < 32 := lt_of_lt_of_eq t.isLt (by decide)
  blk_ext [iblk3, idx t]

theorem xrow (c : Dev nD) (t : Fin cfg3.N) (p : Fin 512) (k : Fin 1024) :
    iblk3 V c 1 t (ix2 p k) = M.rows (φ := .f32) (V c main_v111_0) (512 * t.val + p) k := by
  unfold M.rows
  have ht : t.val < 32 := lt_of_lt_of_eq t.isLt (by decide)
  blk_ext [iblk3, idx t]

theorem iblk_2 (c : Dev nD) (t : Fin cfg3.N) : iblk3 V c 2 t = V c main_v27 := by blk_ext! [iblk3, idx t]
theorem iblk_3 (c : Dev nD) (t : Fin cfg3.N) : iblk3 V c 3 t = V c main_v29 := by blk_ext! [iblk3, idx t]
theorem iblk_4 (c : Dev nD) (t : Fin cfg3.N) : iblk3 V c 4 t = V c main_v31 := by blk_ext! [iblk3, idx t]
theorem iblk_5 (c : Dev nD) (t : Fin cfg3.N) : iblk3 V c 5 t = V c main_v35 := by blk_ext! [iblk3, idx t]
theorem iblk_6 (c : Dev nD) (t : Fin cfg3.N) : iblk3 V c 6 t = V c main_v37 := by blk_ext! [iblk3, idx t]
theorem iblk_7 (c : Dev nD) (t : Fin cfg3.N) : iblk3 V c 7 t = V c main_v11 := by blk_ext! [iblk3, idx t]

/-- the array of the rows after the residual addition -/
theorem final8 (c : Dev nD) : (dat3 V c).arrAt 8 cfg3.N
    = fun i : S16384x1024.Idx => res (V c main_v111_1) (V c main_v111_0) (V c main_v27) (V c main_v29) (V c main_v31) (V c main_v35) (V c main_v37) (i 0) (i 1) := by
  refine (dat3 V c).arrAt_eq_of_covers 8 _ (by decide +kernel) fun t _ y => ?_
  blk_simp
  rw [after3_8]
  obtain ⟨y0, y1, rfl⟩ : ∃ (a : Fin 512) (b : Fin 1024), y = ix2 a b := ⟨y 0, y 1, eq_ix2 y⟩
  have h := out8_at (iblk3 V c 0 t) (iblk3 V c 1 t) (iblk3 V c 2 t) (iblk3 V c 3 t) (iblk3 V c 4 t) (iblk3 V c 5 t) (iblk3 V c 6 t) (iblk3 V c 7 t)
    t.val _ _ (hrow V c t) (xrow V c t) y0 y1
  rw [iblk_2, iblk_3, iblk_4, iblk_5, iblk_6] at h
  rw [iblk_2, iblk_3, iblk_4, iblk_5, iblk_6]
  refine h.trans (congrArg₂ (res (V c main_v111_1) (V c main_v111_0) (V c main_v27) (V c main_v29) (V c main_v31) (V c main_v35) (V c main_v37)) ?_ ?_)
  · blk_simp [idx t]
    omega
  · refine Fin.ext ?_
    (blk_simp [idx t] <;> try omega)

/-- the array of the rows normalised for what follows -/
theorem final9 (c : Dev nD) : (dat3 V c).arrAt 9 cfg3.N
    = fun i : S16384x1024.Idx => M.nrm (res (V c main_v111_1) (V c main_v111_0) (V c main_v27) (V c main_v29) (V c main_v31) (V c main_v35) (V c main_v37)) (fun j => V c main_v11 (ix2 0 j)) (i 0) (i 1) := by
  refine (dat3 V c).arrAt_eq_of_covers 9 _ (by decide +kernel) fun t _ y => ?_
  blk_simp
  rw [after3_9]
  obtain ⟨y0, y1, rfl⟩ : ∃ (a : Fin 512) (b : Fin 1024), y = ix2 a b := ⟨y 0, y 1, eq_ix2 y⟩
  have h := out9_at (iblk3 V c 0 t) (iblk3 V c 1 t) (iblk3 V c 2 t) (iblk3 V c 3 t) (iblk3 V c 4 t) (iblk3 V c 5 t) (iblk3 V c 6 t) (iblk3 V c 7 t)
    t.val _ _ (hrow V c t) (xrow V c t) y0 y1
  rw [iblk_2, iblk_3, iblk_4, iblk_5, iblk_6, iblk_7] at h
  rw [iblk_2, iblk_3, iblk_4, iblk_5, iblk_6, iblk_7]
  refine h.trans (congrArg₂ (M.nrm (res (V c main_v111_1) (V c main_v111_0) (V c main_v27) (V c main_v29) (V c main_v31) (V c main_v35) (V c main_v37)) (fun j => V c main_v11 (ix2 0 j))) ?_ ?_)
  · blk_simp [idx t]
    omega
  · refine Fin.ext ?_
    (blk_simp [idx t] <;> try omega)

end Cert.KernelIdeal.Sgu
end
-- ==== Proof.Ffn4.lean ====
module

public import proofs.«01_k».proof.Proof.Model
public import proofs.«01_k».proof.Proof.Scal
public import proofs.«01_k».proof.Proof.FfnG
public import proofs.«01_k».proof.Proof.Gen.KernelIdeal.Frame.Region4
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The gated feed-forward of region 4: what its stores are, read at an element. -/
namespace Cert.KernelIdeal.Ffn4
open Cert.KernelIdeal Cert.KernelIdeal.Gen Cert.KernelIdeal.Ffn

section block
/-- the constant in the power of two -/
abbrev nu : EReal := Named.named (F := Ideal) Cert.KernelIdeal.κ "neg_log2e" (φ := .f32) 0xBFB8AA3B#32

variable (i : grid4.Coords) (x0 : Vec Ideal S16x1024 .bf16) (x1 : Vec Ideal S512x1024 .bf16) (x2 : Vec Ideal S16x1024 .bf16) (x3 : Vec Ideal S512x1024 .f32)
  (x4 : Vec Ideal S1024x5632 .bf16) (x5 : Vec Ideal S3x5632 .f32) (x6 : Vec Ideal S1x5632 .f32) (x7 : Vec Ideal S2816x1024 .bf16) (x8 : Vec Ideal S1x1024 .f32)

/-- whether the tile is its sequence's first -/
abbrev fst : BitVec 1 := (Scalar.cmpi .eq (posw 4#32 (BitVec.ofNat 32 (i 0))) 0#32)
/-- whether the tile is its sequence's last -/
abbrev lst : BitVec 1 := (Scalar.cmpi .eq (posw 4#32 (BitVec.ofNat 32 (i 0))) 3#32)

theorem z0_eq : (k4_pay8 (k4_pay6 (k4_pay2 i (View.ld x0 r4_0) (View.ld x2 r4_0) (View.ld x1 r4_1) (View.ld x4 r4_2)) (View.ld x5 r4_6) (View.ld x6 r4_7)) (k4_pay7 (k4_pay3 i (View.ld x0 r4_0) (View.ld x2 r4_0) (View.ld x1 r4_1) (View.ld x4 r4_3)) (View.ld x5 r4_8) (View.ld x6 r4_9))) = z0 nu (fst i) (lst i) x0 x1 x2 x4 x5 x6 := rfl

theorem z1_eq : (k4_pay14 (k4_pay70 i x0 x1 x2 x3 x4 x5 x6 x7 x8) (k4_pay11 (k4_pay4 i (View.ld x0 r4_0) (View.ld x2 r4_0) (View.ld x1 r4_1) (View.ld x4 r4_4)) (View.ld x5 r4_12) (View.ld x6 r4_13)) (k4_pay12 (k4_pay70 i x0 x1 x2 x3 x4 x5 x6 x7 x8)) (k4_pay13 (k4_pay70 i x0 x1 x2 x3 x4 x5 x6 x7 x8)) (View.ld x5 r4_14) (View.ld x6 r4_15)) = z1 nu (fst i) (lst i) x0 x1 x2 x4 x5 x6 := rfl

theorem z2_eq : (k4_pay21 (k4_pay10 (k4_pay69 i x0 x1 x2 x3 x4 x5 x6 x7 x8) (View.ld x4 r4_11)) (k4_pay17 (k4_pay71 i x0 x1 x2 x3 x4 x5 x6 x7 x8)) (k4_pay18 (View.ld x5 r4_18)) (k4_pay19 (k4_pay71 i x0 x1 x2 x3 x4 x5 x6 x7 x8) (View.ld x5 r4_18)) (k4_pay20 (k4_pay71 i x0 x1 x2 x3 x4 x5 x6 x7 x8)) (View.ld x6 r4_19) (View.ld x5 r4_20) (View.ld x6 r4_21)) = z2 nu (fst i) (lst i) x0 x1 x2 x4 x5 x6 := rfl

theorem z3_eq : (k4_pay27 (k4_pay25 (k4_pay15 (k4_pay69 i x0 x1 x2 x3 x4 x5 x6 x7 x8) (View.ld x4 r4_16)) (View.ld x5 r4_24) (View.ld x6 r4_25)) (k4_pay26 (k4_pay16 (k4_pay69 i x0 x1 x2 x3 x4 x5 x6 x7 x8) (View.ld x4 r4_17)) (View.ld x5 r4_26)) (View.ld x6 r4_27)) = z3 nu (fst i) (lst i) x0 x1 x2 x4 x5 x6 := rfl

theorem z4_eq : (k4_pay32 (k4_pay72 i x0 x1 x2 x3 x4 x5 x6 x7 x8) (k4_pay30 (k4_pay23 (k4_pay69 i x0 x1 x2 x3 x4 x5 x6 x7 x8) (k4_pay22 (View.ld x4 r4_22)) (constant S544x256 .f32 0x00000000#32)) (View.ld x5 r4_30) (View.ld x6 r4_31)) (k4_pay31 (k4_pay72 i x0 x1 x2 x3 x4 x5 x6 x7 x8)) 543#32 (View.ld x5 r4_32) (View.ld x6 r4_33)) = z4 nu (fst i) (lst i) x0 x1 x2 x4 x5 x6 := rfl

theorem z5_eq : (k4_pay39 (k4_pay73 i x0 x1 x2 x3 x4 x5 x6 x7 x8) (k4_pay29 (k4_pay69 i x0 x1 x2 x3 x4 x5 x6 x7 x8) (View.ld x4 r4_29)) (k4_pay35 (k4_pay73 i x0 x1 x2 x3 x4 x5 x6 x7 x8)) (k4_pay36 (k4_pay73 i x0 x1 x2 x3 x4 x5 x6 x7 x8)) (k4_pay37 (View.ld x5 r4_36)) (k4_pay38 (View.ld x5 r4_36)) (View.ld x6 r4_37) (View.ld x5 r4_38) (View.ld x6 r4_39)) = z5 nu (fst i) (lst i) x0 x1 x2 x4 x5 x6 := rfl

theorem z6_eq : (k4_pay44 (k4_pay42 (k4_pay33 (k4_pay69 i x0 x1 x2 x3 x4 x5 x6 x7 x8) (View.ld x4 r4_34)) (View.ld x5 r4_42) (View.ld x6 r4_43)) (k4_pay43 (k4_pay34 (k4_pay69 i x0 x1 x2 x3 x4 x5 x6 x7 x8) (View.ld x4 r4_35)) (View.ld x5 r4_44)) (View.ld x6 r4_45)) = z6 nu (fst i) (lst i) x0 x1 x2 x4 x5 x6 := rfl

theorem z7_eq : (k4_pay48 (k4_pay41 (k4_pay69 i x0 x1 x2 x3 x4 x5 x6 x7 x8) (View.ld x4 r4_41)) (k4_pay47 (k4_pay40 (k4_pay69 i x0 x1 x2 x3 x4 x5 x6 x7 x8) (View.ld x4 r4_40)) (View.ld x5 r4_48) (View.ld x6 r4_49)) 1#32 (View.ld x5 r4_50) (View.ld x6 r4_51)) = z7 nu (fst i) (lst i) x0 x1 x2 x4 x5 x6 := rfl

theorem z8_eq : (k4_pay54 (k4_pay53 (k4_pay74 i x0 x1 x2 x3 x4 x5 x6 x7 x8) (k4_pay46 (k4_pay69 i x0 x1 x2 x3 x4 x5 x6 x7 x8) (View.ld x4 r4_47)) (k4_pay51 (k4_pay74 i x0 x1 x2 x3 x4 x5 x6 x7 x8)) (k4_pay52 (k4_pay74 i x0 x1 x2 x3 x4 x5 x6 x7 x8)) (View.ld x5 r4_54) (View.ld x6 r4_55) (View.ld x5 r4_56) (View.ld x6 r4_57))) = z8 nu (fst i) (lst i) x0 x1 x2 x4 x5 x6 := rfl

theorem z9_eq : (k4_pay62 (k4_pay57 (k4_pay49 (k4_pay69 i x0 x1 x2 x3 x4 x5 x6 x7 x8) (View.ld x4 r4_52)) (View.ld x5 r4_60) (View.ld x6 r4_61)) (k4_pay58 (k4_pay75 i x0 x1 x2 x3 x4 x5 x6 x7 x8)) (k4_pay60 (k4_pay75 i x0 x1 x2 x3 x4 x5 x6 x7 x8) (View.ld x5 r4_62)) (k4_pay61 (View.ld x5 r4_62)) (View.ld x6 r4_63)) = z9 nu (fst i) (lst i) x0 x1 x2 x4 x5 x6 := rfl

theorem last_eq (y0 y1 y2 y3 y4 y5 y6 y7 y8 y9 : FVec Ideal S512x256 .bf16) :
    k4_pay68 y0 y1 y2 y3 y4 y5 y6 y7 y8 y9 (k4_pay67 (k4_pay76 i x0 x1 x2 x3 x4 x5 x6 x7 x8) (k4_pay63 (k4_pay55 (k4_pay69 i x0 x1 x2 x3 x4 x5 x6 x7 x8) (View.ld x4 r4_58)) (View.ld x5 r4_64) (View.ld x6 r4_65)) (k4_pay64 (k4_pay76 i x0 x1 x2 x3 x4 x5 x6 x7 x8)) (k4_pay65 (k4_pay76 i x0 x1 x2 x3 x4 x5 x6 x7 x8)) (k4_pay66 (View.ld x5 r4_66)) (View.ld x6 r4_67)) (View.ld x3 r4_1) (View.ld x7 r4_68)
      = xo (View.ld x3 r4_1) (View.ld x7 r4_68) (cat y0 y1 y2 y3 y4 y5 y6 y7 y8 y9 (z10 nu (fst i) (lst i) x0 x1 x2 x4 x5 x6)) := rfl

theorem pay_eq : k4_pay68 (k4_pay8 (k4_pay6 (k4_pay2 i (View.ld x0 r4_0) (View.ld x2 r4_0) (View.ld x1 r4_1) (View.ld x4 r4_2)) (View.ld x5 r4_6) (View.ld x6 r4_7)) (k4_pay7 (k4_pay3 i (View.ld x0 r4_0) (View.ld x2 r4_0) (View.ld x1 r4_1) (View.ld x4 r4_3)) (View.ld x5 r4_8) (View.ld x6 r4_9))) (k4_pay14 (k4_pay70 i x0 x1 x2 x3 x4 x5 x6 x7 x8) (k4_pay11 (k4_pay4 i (View.ld x0 r4_0) (View.ld x2 r4_0) (View.ld x1 r4_1) (View.ld x4 r4_4)) (View.ld x5 r4_12) (View.ld x6 r4_13)) (k4_pay12 (k4_pay70 i x0 x1 x2 x3 x4 x5 x6 x7 x8)) (k4_pay13 (k4_pay70 i x0 x1 x2 x3 x4 x5 x6 x7 x8)) (View.ld x5 r4_14) (View.ld x6 r4_15)) (k4_pay21 (k4_pay10 (k4_pay69 i x0 x1 x2 x3 x4 x5 x6 x7 x8) (View.ld x4 r4_11)) (k4_pay17 (k4_pay71 i x0 x1 x2 x3 x4 x5 x6 x7 x8)) (k4_pay18 (View.ld x5 r4_18)) (k4_pay19 (k4_pay71 i x0 x1 x2 x3 x4 x5 x6 x7 x8) (View.ld x5 r4_18)) (k4_pay20 (k4_pay71 i x0 x1 x2 x3 x4 x5 x6 x7 x8)) (View.ld x6 r4_19) (View.ld x5 r4_20) (View.ld x6 r4_21)) (k4_pay27 (k4_pay25 (k4_pay15 (k4_pay69 i x0 x1 x2 x3 x4 x5 x6 x7 x8) (View.ld x4 r4_16)) (View.ld x5 r4_24) (View.ld x6 r4_25)) (k4_pay26 (k4_pay16 (k4_pay69 i x0 x1 x2 x3 x4 x5 x6 x7 x8) (View.ld x4 r4_17)) (View.ld x5 r4_26)) (View.ld x6 r4_27)) (k4_pay32 (k4_pay72 i x0 x1 x2 x3 x4 x5 x6 x7 x8) (k4_pay30 (k4_pay23 (k4_pay69 i x0 x1 x2 x3 x4 x5 x6 x7 x8) (k4_pay22 (View.ld x4 r4_22)) (constant S544x256 .f32 0x00000000#32)) (View.ld x5 r4_30) (View.ld x6 r4_31)) (k4_pay31 (k4_pay72 i x0 x1 x2 x3 x4 x5 x6 x7 x8)) 543#32 (View.ld x5 r4_32) (View.ld x6 r4_33)) (k4_pay39 (k4_pay73 i x0 x1 x2 x3 x4 x5 x6 x7 x8) (k4_pay29 (k4_pay69 i x0 x1 x2 x3 x4 x5 x6 x7 x8) (View.ld x4 r4_29)) (k4_pay35 (k4_pay73 i x0 x1 x2 x3 x4 x5 x6 x7 x8)) (k4_pay36 (k4_pay73 i x0 x1 x2 x3 x4 x5 x6 x7 x8)) (k4_pay37 (View.ld x5 r4_36)) (k4_pay38 (View.ld x5 r4_36)) (View.ld x6 r4_37) (View.ld x5 r4_38) (View.ld x6 r4_39)) (k4_pay44 (k4_pay42 (k4_pay33 (k4_pay69 i x0 x1 x2 x3 x4 x5 x6 x7 x8) (View.ld x4 r4_34)) (View.ld x5 r4_42) (View.ld x6 r4_43)) (k4_pay43 (k4_pay34 (k4_pay69 i x0 x1 x2 x3 x4 x5 x6 x7 x8) (View.ld x4 r4_35)) (View.ld x5 r4_44)) (View.ld x6 r4_45)) (k4_pay48 (k4_pay41 (k4_pay69 i x0 x1 x2 x3 x4 x5 x6 x7 x8) (View.ld x4 r4_41)) (k4_pay47 (k4_pay40 (k4_pay69 i x0 x1 x2 x3 x4 x5 x6 x7 x8) (View.ld x4 r4_40)) (View.ld x5 r4_48) (View.ld x6 r4_49)) 1#32 (View.ld x5 r4_50) (View.ld x6 r4_51)) (k4_pay54 (k4_pay53 (k4_pay74 i x0 x1 x2 x3 x4 x5 x6 x7 x8) (k4_pay46 (k4_pay69 i x0 x1 x2 x3 x4 x5 x6 x7 x8) (View.ld x4 r4_47)) (k4_pay51 (k4_pay74 i x0 x1 x2 x3 x4 x5 x6 x7 x8)) (k4_pay52 (k4_pay74 i x0 x1 x2 x3 x4 x5 x6 x7 x8)) (View.ld x5 r4_54) (View.ld x6 r4_55) (View.ld x5 r4_56) (View.ld x6 r4_57))) (k4_pay62 (k4_pay57 (k4_pay49 (k4_pay69 i x0 x1 x2 x3 x4 x5 x6 x7 x8) (View.ld x4 r4_52)) (View.ld x5 r4_60) (View.ld x6 r4_61)) (k4_pay58 (k4_pay75 i x0 x1 x2 x3 x4 x5 x6 x7 x8)) (k4_pay60 (k4_pay75 i x0 x1 x2 x3 x4 x5 x6 x7 x8) (View.ld x5 r4_62)) (k4_pay61 (View.ld x5 r4_62)) (View.ld x6 r4_63)) (k4_pay67 (k4_pay76 i x0 x1 x2 x3 x4 x5 x6 x7 x8) (k4_pay63 (k4_pay55 (k4_pay69 i x0 x1 x2 x3 x4 x5 x6 x7 x8) (View.ld x4 r4_58)) (View.ld x5 r4_64) (View.ld x6 r4_65)) (k4_pay64 (k4_pay76 i x0 x1 x2 x3 x4 x5 x6 x7 x8)) (k4_pay65 (k4_pay76 i x0 x1 x2 x3 x4 x5 x6 x7 x8)) (k4_pay66 (View.ld x5 r4_66)) (View.ld x6 r4_67)) (View.ld x3 r4_1) (View.ld x7 r4_68) = xV nu (fst i) (lst i) x0 x1 x2 x3 x4 x5 x6 x7 := by
  rw [z0_eq, z1_eq, z2_eq, z3_eq, z4_eq, z5_eq, z6_eq, z7_eq, z8_eq, z9_eq, last_eq]
  rfl

variable (t : ℕ) (H X : ℕ → Fin 1024 → EReal) (ht : t < 32) (hi : (i 0 : ℕ) = t)
  (h0 : t % 4 ≠ 0 → ∀ k, x0 (ix2 15 k) = H (512 * t - 1) k) (h2 : t % 4 ≠ 3 → ∀ k, x2 (ix2 0 k) = H (512 * t + 512) k)
  (h1 : ∀ (p : Fin 512) (k : Fin 1024), x1 (ix2 p k) = H (512 * t + p) k)
  (hX : ∀ (p : Fin 512) (k : Fin 1024), x3 (ix2 p k) = X (512 * t + p) k)
include ht hi h0 h1 h2 hX

theorem xV_at' (p : Fin 512) (e : Fin 1024) : xV nu (fst i) (lst i) x0 x1 x2 x3 x4 x5 x6 x7 (ix2 p e) = M.ffnX 2048 H X (fun k c => x4 (ix2 k c)) (fun k c => x5 (ix2 k c)) (fun c => x6 (ix2 0 c)) (fun c e => x7 (ix2 c e)) (512 * t + p) e :=
  xV_at nu (fst i) (lst i) x0 x1 x2 x3 x4 x5 x6 x7 4 3 2048 t H X (Scal.named_neg _) rfl rfl (by unfold fst; rw [hi]; exact pos_first ⟨t, ht⟩) (by unfold lst; rw [hi]; exact pos_last ⟨t, ht⟩) h0 h2 h1 hX p e

theorem out9_at (p : Fin 512) (e : Fin 1024) : out4_9 (F := Ideal) i x0 x1 x2 x3 x4 x5 x6 x7 x8 (ix2 p e) = M.ffnX 2048 H X (fun k c => x4 (ix2 k c)) (fun k c => x5 (ix2 k c)) (fun c => x6 (ix2 0 c)) (fun c e => x7 (ix2 c e)) (512 * t + p) e := by
  refine Eq.trans ?_ (xV_at' i x0 x1 x2 x3 x4 x5 x6 x7 t H X ht hi h0 h2 h1 hX p e)
  unfold out4_9
  rw [pay_eq]
  frame_out
end block

end Cert.KernelIdeal.Ffn4
end
-- ==== Proof.Ffn4Arr.lean ====
module

public import proofs.«01_k».proof.Proof.Ffn4
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The arrays the gated feed-forward of region 4 leaves. -/
namespace Cert.KernelIdeal.Ffn4
open Cert.KernelIdeal Cert.KernelIdeal.Gen

theorem idx : ∀ t : Fin cfg4.N, win4_1.index t = ![t.val, 0]
    ∧ win4_3.index t = ![t.val, 0]
    ∧ win4_4.index t = ![0, 0]
    ∧ win4_5.index t = ![0, 0]
    ∧ win4_6.index t = ![0, 0]
    ∧ win4_7.index t = ![0, 0]
    ∧ win4_8.index t = ![0, 0]
    ∧ win4_9.index t = ![t.val, 0] :=
  (by decide +kernel : ∀ t : Fin grid4.N, _)

theorem idx_before : ∀ t : Fin cfg4.N, t.val % 4 ≠ 0 → win4_0.index t = ![t.val * 32 - 1, 0] :=
  (by decide +kernel : ∀ t : Fin grid4.N, t.val % 4 ≠ 0 → win4_0.index t = ![t.val * 32 - 1, 0])

theorem idx_after : ∀ t : Fin cfg4.N, t.val % 4 ≠ 3 → win4_2.index t = ![t.val * 32 + 32, 0] :=
  (by decide +kernel : ∀ t : Fin grid4.N, t.val % 4 ≠ 3 → win4_2.index t = ![t.val * 32 + 32, 0])

theorem coord : ∀ t : Fin cfg4.N, ((grid4.coords t) 0 : ℕ) = t.val :=
  (by decide +kernel : ∀ t : Fin grid4.N, ((grid4.coords t) 0 : ℕ) = t.val)

variable (V : (c : Dev nD) → (b : Ref sig .tc) → Buf (Elt Ideal) ((c : Thread nD τ).loc b))

/-- the region's first result, over what the region reads -/
abbrev res := Ffn.res 2048

theorem lt32 (t : Fin cfg4.N) : t.val < 32 := lt_of_lt_of_eq t.isLt (by decide)

theorem hrow (c : Dev nD) (t : Fin cfg4.N) (p : Fin 512) (k : Fin 1024) :
    iblk4 V c 1 t (ix2 p k) = M.rows (φ := .bf16) (V c main_v112_1) (512 * t.val + p) k := by
  unfold M.rows
  have ht := lt32 t
  blk_ext [iblk4, idx t]

theorem hbefore (c : Dev nD) (t : Fin cfg4.N) (h4 : t.val % 4 ≠ 0) (k : Fin 1024) :
    iblk4 V c 0 t (ix2 15 k) = M.rows (φ := .bf16) (V c main_v112_1) (512 * t.val - 1) k := by
  unfold M.rows
  have ht := lt32 t
  blk_ext [iblk4, idx_before t h4]

theorem hafter (c : Dev nD) (t : Fin cfg4.N) (h4 : t.val % 4 ≠ 3) (k : Fin 1024) :
    iblk4 V c 2 t (ix2 0 k) = M.rows (φ := .bf16) (V c main_v112_1) (512 * t.val + 512) k := by
  unfold M.rows
  have ht := lt32 t
  blk_ext [iblk4, idx_after t h4]

theorem xrow (c : Dev nD) (t : Fin cfg4.N) (p : Fin 512) (k : Fin 1024) :
    iblk4 V c 3 t (ix2 p k) = M.rows (φ := .f32) (V c main_v112_0) (512 * t.val + p) k := by
  unfold M.rows
  have ht := lt32 t
  blk_ext [iblk4, idx t]

theorem iblk_4 (c : Dev nD) (t : Fin cfg4.N) : iblk4 V c 4 t = V c main_v43 := by blk_ext! [iblk4, idx t]
theorem iblk_5 (c : Dev nD) (t : Fin cfg4.N) : iblk4 V c 5 t = V c main_v47 := by blk_ext! [iblk4, idx t]
theorem iblk_6 (c : Dev nD) (t : Fin cfg4.N) : iblk4 V c 6 t = V c main_v53 := by blk_ext! [iblk4, idx t]
theorem iblk_7 (c : Dev nD) (t : Fin cfg4.N) : iblk4 V c 7 t = V c main_v59 := by blk_ext! [iblk4, idx t]
theorem iblk_8 (c : Dev nD) (t : Fin cfg4.N) : iblk4 V c 8 t = V c main_v11 := by blk_ext! [iblk4, idx t]

/-- the array of the rows after the residual addition -/
theorem final9 (c : Dev nD) : (dat4 V c).arrAt 9 cfg4.N
    = fun i : S16384x1024.Idx => res (V c main_v112_1) (V c main_v112_0) (V c main_v43) (V c main_v47) (V c main_v53) (V c main_v59) (i 0) (i 1) := by
  refine (dat4 V c).arrAt_eq_of_covers 9 _ (by decide +kernel) fun t _ y => ?_
  blk_simp
  rw [after4_9]
  obtain ⟨y0, y1, rfl⟩ : ∃ (a : Fin 512) (b : Fin 1024), y = ix2 a b := ⟨y 0, y 1, eq_ix2 y⟩
  have h := out9_at (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t) t.val _ _ (lt32 t) (coord t)
    (hbefore V c t) (hafter V c t) (hrow V c t) (xrow V c t) y0 y1
  rw [iblk_4, iblk_5, iblk_6, iblk_7] at h
  rw [iblk_4, iblk_5, iblk_6, iblk_7]
  refine h.trans (congrArg₂ (res (V c main_v112_1) (V c main_v112_0) (V c main_v43) (V c main_v47) (V c main_v53) (V c main_v59)) ?_ ?_)
  · blk_simp [idx t]
    omega
  · refine Fin.ext ?_
    (blk_simp [idx t] <;> try omega)

end Cert.KernelIdeal.Ffn4
end
-- ==== Proof.Chain.lean ====
module

public import proofs.«01_k».proof.Proof.AttEq2
public import proofs.«01_k».proof.Proof.Cong
public import proofs.«01_k».proof.Proof.RefStage
public import proofs.«01_k».proof.Proof.Host
public import proofs.«01_k».proof.Proof.HostTab
public import proofs.«01_k».proof.Proof.QkvArr
public import proofs.«01_k».proof.Proof.AttnArr
public import proofs.«01_k».proof.Proof.Ffn2Arr
public import proofs.«01_k».proof.Proof.SguArr
public import proofs.«01_k».proof.Proof.Ffn4Arr
public import proofs.«01_k».proof.Proof.Gen.KernelIdeal.Frame

@[expose] public section

set_option maxRecDepth 16384

noncomputable section

open Idealize.ShloMosaic Idealize.ShloMosaic.TcCoe Idealize.SL.Sem

/-! ### A region's result over arrays that are known as rows -/
namespace Cert.KernelIdeal
open Cert.KernelIdeal Cert.KernelIdeal.Gen

/-- the attention's region over the packed arrays of the first region -/
theorem Attn.res_of (Q : FVec Ideal S16x16384x128 .bf16) (K : FVec Ideal S4x16384x128 .bf16) (W : FVec Ideal S8x16384x128 .bf16) (X : FVec Ideal S16384x1024 .f32)
    (wo : FVec Ideal S1024x1024 .bf16) {q k v : ℕ → ℕ → Fin 128 → EReal} {X' : ℕ → Fin 1024 → EReal} {wo' : Fin 1024 → Fin 1024 → EReal}
    (hQ : Q = fun i => q (i 0) (i 1) (i 2)) (hK : K = fun i => k (i 0) (i 1) (i 2)) (hW : W = fun i => v (i 0) (i 1) (i 2))
    (hX : M.rows X = X') (hwo : ∀ c e, wo (ix2 c e) = wo' c e) (r : ℕ) (hr : r < 16384) (e : Fin 1024) :
    Attn.res Q K W X wo r e = M.att_x q k v X' wo' r e := by
  have e1 : (fun c e => wo (ix2 c e)) = wo' := funext fun k => funext fun c => hwo k c
  unfold Attn.res
  rw [hX, e1]
  refine M.att_x_congr (fun h r hh hr => ?_) (fun h r hh hr => ?_) (fun h r hh hr => ?_) _ _ r hr e
  · funext e
    unfold M.planes
    rw [hQ]
    exact congrArg₂ (fun a b => q a b e) (Nat.mod_eq_of_lt hh) (Nat.mod_eq_of_lt hr)
  · funext e
    unfold M.planes
    rw [hK]
    exact congrArg₂ (fun a b => k a b e) (Nat.mod_eq_of_lt hh) (Nat.mod_eq_of_lt hr)
  · funext e
    unfold M.planes
    rw [hW]
    exact congrArg₂ (fun a b => v a b e) (Nat.mod_eq_of_lt hh) (Nat.mod_eq_of_lt hr)

/-! ### The contents at the regions' boundaries -/
namespace Chain

/-- the host's arrays that the regions read -/
def later : List (Ref sig .tc) := [main_v2, main_v5, main_v8, main_v11, main_v13, main_v18, main_v23, main_v25, main_v27, main_v29, main_v31, main_v35, main_v37,
  main_v40, main_v43, main_v45, main_v47, main_v50, main_v53, main_v56, main_v59, main_v60, main_v95, main_v99]

theorem stretches : ∀ r ∈ later, r ∉ hostOps0_1_W ∧ r ∉ hostOps0_2_W ∧ r ∉ hostOps0_3_W ∧ r ∉ hostOps0_4_W ∧ r ∉ hostOps0_5_W := by decide +kernel
theorem outs0 : ∀ r ∈ later, ∀ w : Fin cfg0.W, Pipeline.arrRef spec0 w = r → (cfg0.win w).isOut = false := by decide +kernel
theorem outs1 : ∀ r ∈ later, ∀ w : Fin cfg1.W, Pipeline.arrRef spec1 w = r → (cfg1.win w).isOut = false := by decide +kernel
theorem outs2 : ∀ r ∈ later, ∀ w : Fin cfg2.W, Pipeline.arrRef spec2 w = r → (cfg2.win w).isOut = false := by decide +kernel
theorem outs3 : ∀ r ∈ later, ∀ w : Fin cfg3.W, Pipeline.arrRef spec3 w = r → (cfg3.win w).isOut = false := by decide +kernel

variable (m : (ℓ : Loc nD τ sig) → Buf (Elt Ideal) ℓ) (ρ : Dev nD → PrngReg) (c : Dev nD)

theorem k6 (r : Ref sig .tc) (h : r ∈ later) : V6 m ρ c r = W1 m ρ c (Proc.devRef .tc r) :=
  have hs := stretches r h
  (W6_of m ρ c r hs.2.2.2.2).trans ((W5_of m ρ c r hs.2.2.2.1).trans ((W4_of m ρ c r hs.2.2.1).trans ((W3_of m ρ c r hs.2.1).trans (W2_of m ρ c r hs.1))))
theorem k7 (r : Ref sig .tc) (h : r ∈ later) : V7 m ρ c r = W1 m ρ c (Proc.devRef .tc r) := (W7_of m ρ c r (outs0 r h)).trans (k6 m ρ c r h)
theorem k8 (r : Ref sig .tc) (h : r ∈ later) : V8 m ρ c r = W1 m ρ c (Proc.devRef .tc r) := (W8_of m ρ c r (outs1 r h)).trans (k7 m ρ c r h)
theorem k9 (r : Ref sig .tc) (h : r ∈ later) : V9 m ρ c r = W1 m ρ c (Proc.devRef .tc r) := (W9_of m ρ c r (outs2 r h)).trans (k8 m ρ c r h)
theorem k10 (r : Ref sig .tc) (h : r ∈ later) : V10 m ρ c r = W1 m ρ c (Proc.devRef .tc r) := (W10_of m ρ c r (outs3 r h)).trans (k9 m ρ c r h)

/-- argument 0 -/
abbrev x0 : FVec Ideal Cert.ReferenceIdeal.S8x2048x1024 .f32 := m ((c : Thread nD τ).loc main_arg0)
/-- argument 1 -/
abbrev x1 : FVec Ideal Cert.ReferenceIdeal.S2x1024 .f32 := m ((c : Thread nD τ).loc main_arg1)
/-- argument 2 -/
abbrev x2 : FVec Ideal Cert.ReferenceIdeal.S2x1024 .f32 := m ((c : Thread nD τ).loc main_arg2)
/-- argument 3 -/
abbrev x3 : FVec Ideal Cert.ReferenceIdeal.S1x1024x1536 .f32 := m ((c : Thread nD τ).loc main_arg3)
/-- argument 4 -/
abbrev x4 : FVec Ideal Cert.ReferenceIdeal.S1x64 .f32 := m ((c : Thread nD τ).loc main_arg4)
/-- argument 5 -/
abbrev x5 : FVec Ideal Cert.ReferenceIdeal.S1x64 .f32 := m ((c : Thread nD τ).loc main_arg5)
/-- argument 6 -/
abbrev x6 : FVec Ideal Cert.ReferenceIdeal.S1x1024x1024 .f32 := m ((c : Thread nD τ).loc main_arg6)
/-- argument 7 -/
abbrev x7 : FVec Ideal Cert.ReferenceIdeal.S1x1024x4096 .f32 := m ((c : Thread nD τ).loc main_arg7)
/-- argument 8 -/
abbrev x8 : FVec Ideal Cert.ReferenceIdeal.S1x2048 .f32 := m ((c : Thread nD τ).loc main_arg8)
/-- argument 9 -/
abbrev x9 : FVec Ideal Cert.ReferenceIdeal.S1x8x128x128 .f32 := m ((c : Thread nD τ).loc main_arg9)
/-- argument 10 -/
abbrev x10 : FVec Ideal Cert.ReferenceIdeal.S1x8x128 .f32 := m ((c : Thread nD τ).loc main_arg10)
/-- argument 11 -/
abbrev x11 : FVec Ideal Cert.ReferenceIdeal.S1x2048x1024 .f32 := m ((c : Thread nD τ).loc main_arg11)
/-- argument 12 -/
abbrev x12 : FVec Ideal Cert.ReferenceIdeal.S2x1024x5632 .f32 := m ((c : Thread nD τ).loc main_arg12)
/-- argument 13 -/
abbrev x13 : FVec Ideal Cert.ReferenceIdeal.S2x3x5632 .f32 := m ((c : Thread nD τ).loc main_arg13)
/-- argument 14 -/
abbrev x14 : FVec Ideal Cert.ReferenceIdeal.S2x5632 .f32 := m ((c : Thread nD τ).loc main_arg14)
/-- argument 15 -/
abbrev x15 : FVec Ideal Cert.ReferenceIdeal.S2x2816x1024 .f32 := m ((c : Thread nD τ).loc main_arg15)

/-- the flattened input -/
theorem rows_in : M.rows (φ := .f32) (W1 m ρ c (Proc.devRef .tc main_v60)) = M.fl 8 2048 (x0 m c) := by
  funext r k
  unfold M.rows M.fl
  refine (Host.v60_at (W0 m ρ c) ⟨r % 16384, Nat.mod_lt _ (by decide)⟩ k).trans ?_
  refine congrArg₂ (fun a b => x0 m c (ix3 a b k)) (Fin.ext ?_) (Fin.ext ?_)
  · show r % 16384 / 2048 = r / 2048 % 8; omega
  · show r % 16384 % 2048 = r % 2048; omega

/-- the masks' word: whether a lane lies in the upper half of its 32 -/
theorem mask (l : Fin 128) : IntOp.cmpi .sge (W2 m ρ c (Proc.devRef .tc main_v101) (ix1 l)) 16#32 = if (l : ℕ) % 32 < 16 then 0#1 else 1#1 := by
  have h : W2 m ρ c (Proc.devRef .tc main_v101) (ix1 l) = BitVec.ofNat 32 (l % 32) :=
    Host.v101_at (W1 m ρ c) l (fun l => Host.v100_at (W0 m ρ c) l) (fun i => Host.c_at (W0 m ρ c) i)
  rw [h]
  exact Host.sge_at l

theorem sel {α : Type} (p : Prop) [Decidable p] (w : BitVec 1) (hw : w = if p then 0#1 else 1#1) (a b : α) : Scalar.select w a b = if p then b else a := by
  subst hw
  by_cases h : p <;> simp [Scalar.select, h]

/-- the first table of sines -/
theorem t105 (r : Fin 2048) (l : Fin 128) : V6 m ρ c main_v105 (ix2 r l)
    = if (l : ℕ) % 32 < 16 then (0 : EReal) else Ideal.sin (M.ang r ⟨l % 64, Nat.mod_lt _ (by decide)⟩) := by
  have h1 : V6 m ρ c main_v105 = W4 m ρ c (Proc.devRef .tc main_v105) :=
    (W6_of m ρ c main_v105 (by decide +kernel)).trans (W5_of m ρ c main_v105 (by decide +kernel))
  have h99 : W3 m ρ c (Proc.devRef .tc main_v99) = W1 m ρ c (Proc.devRef .tc main_v99) :=
    (W3_of m ρ c main_v99 (by decide +kernel)).trans (W2_of m ρ c main_v99 (by decide +kernel))
  rw [h1]
  refine (Host.v105_at (W3 m ρ c) r l).trans ((sel _ _ ((Host.v104_at (W2 m ρ c) l).trans (mask m ρ c l)) _ _).trans ?_)
  rw [h99]
  exact congrArg₂ (fun a b : EReal => if (l : ℕ) % 32 < 16 then a else b) (Host.cst4_at (W2 m ρ c) ix0) (Host.v99_at (W0 m ρ c) r l)

/-- the second table of sines -/
theorem t108 (r : Fin 2048) (l : Fin 128) : V6 m ρ c main_v108 (ix2 r l)
    = if (l : ℕ) % 32 < 16 then -Ideal.sin (M.ang r ⟨l % 64, Nat.mod_lt _ (by decide)⟩) else (0 : EReal) := by
  have h99 : W4 m ρ c (Proc.devRef .tc main_v99) = W1 m ρ c (Proc.devRef .tc main_v99) :=
    (W4_of m ρ c main_v99 (by decide +kernel)).trans ((W3_of m ρ c main_v99 (by decide +kernel)).trans (W2_of m ρ c main_v99 (by decide +kernel)))
  have h103 : W4 m ρ c (Proc.devRef .tc main_v103) = W3 m ρ c (Proc.devRef .tc main_v103) := W4_of m ρ c main_v103 (by decide +kernel)
  have h106 : W5 m ρ c (Proc.devRef .tc main_v106) (ix2 0 l) = if (l : ℕ) % 32 < 16 then 0#1 else 1#1 :=
    (Host.v106_at (W4 m ρ c) l).trans ((congrFun h103 (ix1 l)).trans ((Host.v103_at (W2 m ρ c) l).trans (mask m ρ c l)))
  refine (Host.v108_at (W5 m ρ c) r l).trans ((sel _ _ h106 _ _).trans ?_)
  refine congrArg₂ (fun a b : EReal => if (l : ℕ) % 32 < 16 then a else b) ?_ (Host.cst5_at (W4 m ρ c) ix0)
  refine (Host.v107_at (W4 m ρ c) r l).trans (congrArg (fun z : EReal => -z) ?_)
  exact (congrFun h99 (ix2 r l)).trans (Host.v99_at (W0 m ρ c) r l)

/-- what the inputs must be: real numbers where the scores come from -/
structure Fin0 : Prop where
  x0 : ∀ i, M.IsR (x0 m c i)
  x1 : ∀ i, M.IsR (x1 m c i)
  x3 : ∀ i, M.IsR (x3 m c i)
  x4 : ∀ i, M.IsR (x4 m c i)
  x5 : ∀ i, M.IsR (x5 m c i)

variable (hf : Fin0 m c)
include hf

/-- the first region's tables, gains and projections -/
theorem setup : M.Setup (M.nrm (M.fl 8 2048 (x0 m c)) (fun j => x1 m c (ix2 0 j))) (fun k j => x3 m c (ix3 0 k j)) (fun d => x4 m c (ix2 0 d)) (fun d => x5 m c (ix2 0 d))
    (Qkv.gq (V6 m ρ c main_v18)) (fun l => V6 m ρ c main_v23 (ix2 0 l)) (Qkv.tab (V6 m ρ c main_v95)) (Qkv.tab (V6 m ρ c main_v105)) (Qkv.tab (V6 m ρ c main_v108)) where
  tab :=
    { co := fun r l => (congrFun (k6 m ρ c main_v95 (by decide +kernel)) _).trans (Host.v95_at (W0 m ρ c) ⟨r % 2048, Nat.mod_lt _ (by decide)⟩ l)
      sa := fun r l => t105 m ρ c ⟨r % 2048, Nat.mod_lt _ (by decide)⟩ l
      sb := fun r l => t108 m ρ c ⟨r % 2048, Nat.mod_lt _ (by decide)⟩ l }
  y := fun r j => by
    refine M.mv_isR (fun k => ?_) (fun k j => hf.x3 _) j
    unfold M.nrm
    rw [M.w1024]
    exact M.rms_isR 1024 (by norm_num) (fun k => hf.x0 _) (fun k => hf.x1 _) k
  q := fun d => hf.x4 _
  k := fun d => hf.x5 _
  gq := fun l => congrArg (fun z : EReal => z * (((Real.log 2)⁻¹ * (1 / 8) : ℝ) : EReal))
    ((congrFun (k6 m ρ c main_v18 (by decide +kernel)) (ix2 0 l)).trans (Host.v18_at (W0 m ρ c) l))
  gk := fun l => (congrFun (k6 m ρ c main_v23 (by decide +kernel)) (ix2 0 l)).trans (Host.v23_at (W0 m ρ c) l)

end Chain
end Cert.KernelIdeal
end
-- ==== Proof.Chain2.lean ====
module

public import proofs.«01_k».proof.Proof.Chain

@[expose] public section

set_option maxRecDepth 16384

noncomputable section

open Idealize.ShloMosaic Idealize.ShloMosaic.TcCoe Idealize.SL.Sem

/-! The five regions in turn: each leaves the rows of the reference's stream at that point. -/
namespace Cert.KernelIdeal.Chain
open Cert.KernelIdeal Cert.KernelIdeal.Gen
open Cert.ReferenceIdeal.Read (val_main_v141 val_main_v195 val_main_v255 val_main_v309)

variable (m : (ℓ : Loc nD τ sig) → Buf (Elt Ideal) ℓ) (ρ : Dev nD → PrngReg) (c : Dev nD)

/-- the reference's stream after the attention -/
abbrev y1 : FVec Ideal Cert.ReferenceIdeal.S8x2048x1024 .f32 := val_main_v141 (F := Ideal) (x0 m c) (x1 m c) (x3 m c) (x4 m c) (x5 m c) (x6 m c)
/-- the reference's stream after the first feed-forward -/
abbrev y2 : FVec Ideal Cert.ReferenceIdeal.S8x2048x1024 .f32 := val_main_v195 (F := Ideal) (x0 m c) (x1 m c) (x2 m c) (x3 m c) (x4 m c) (x5 m c) (x6 m c) (x12 m c) (x13 m c) (x14 m c) (x15 m c)
/-- the reference's stream after the gating unit -/
abbrev y3 : FVec Ideal Cert.ReferenceIdeal.S8x2048x1024 .f32 := val_main_v255 (F := Ideal) (x0 m c) (x1 m c) (x2 m c) (x3 m c) (x4 m c) (x5 m c) (x6 m c) (x7 m c) (x8 m c) (x9 m c) (x10 m c) (x11 m c) (x12 m c) (x13 m c) (x14 m c) (x15 m c)
/-- the reference's result -/
abbrev y4 : FVec Ideal Cert.ReferenceIdeal.S8x2048x1024 .f32 := val_main_v309 (F := Ideal) (x0 m c) (x1 m c) (x2 m c) (x3 m c) (x4 m c) (x5 m c) (x6 m c) (x7 m c) (x8 m c) (x9 m c) (x10 m c) (x11 m c) (x12 m c) (x13 m c) (x14 m c) (x15 m c)

section
variable (hf : Fin0 m c)
include hf

/-- the rows the attention's region computes -/
theorem att_rows (b : Fin 8) (s : Fin 2048) (e : Fin 1024) : y1 m c (ix3 b s e)
    = Attn.res (V7 m ρ c main_v109_0) (V7 m ρ c main_v109_1) (V7 m ρ c main_v109_2) (V7 m ρ c main_v60) (V7 m ρ c main_v25) (2048 * b + s) e := by
  have hH : Qkv.hn (V6 m ρ c main_v60) (V6 m ρ c main_v2) = M.nrm (M.fl 8 2048 (x0 m c)) (fun j => x1 m c (ix2 0 j)) := by
    have e1 : M.rows (φ := .f32) (V6 m ρ c main_v60) = M.fl 8 2048 (x0 m c) :=
      (congrArg (fun z => M.rows (φ := .f32) z) (k6 m ρ c main_v60 (by decide +kernel))).trans (rows_in m ρ c)
    have e2 : (fun j => V6 m ρ c main_v2 (ix2 0 j)) = fun j => x1 m c (ix2 0 j) := funext fun j =>
      (congrFun (k6 m ρ c main_v2 (by decide +kernel)) (ix2 0 j)).trans (Host.v2_at (W0 m ρ c) j)
    unfold Qkv.hn Qkv.Hn
    exact congrArg₂ M.nrm e1 e2
  have hW : (fun k j => V6 m ρ c main_v13 (ix2 k j)) = fun k j => x3 m c (ix3 0 k j) := funext fun k => funext fun j =>
    (congrFun (k6 m ρ c main_v13 (by decide +kernel)) (ix2 k j)).trans (Host.v13_at (W0 m ρ c) k j)
  have hq : V7 m ρ c main_v109_0 = fun i : S16x16384x128.Idx => M.qP (M.nrm (M.fl 8 2048 (x0 m c)) (fun j => x1 m c (ix2 0 j))) (fun k j => x3 m c (ix3 0 k j)) (Qkv.gq (V6 m ρ c main_v18))
      (Qkv.tab (V6 m ρ c main_v95)) (Qkv.tab (V6 m ρ c main_v105)) (Qkv.tab (V6 m ρ c main_v108)) (i 0) (i 1) (i 2) := by
    refine (W7_arr m ρ c 8).trans ((Qkv.final8 (V6 m ρ) c).trans ?_)
    unfold Qkv.resq
    rw [hH, hW]
  have hk : V7 m ρ c main_v109_1 = fun i : S4x16384x128.Idx => M.kP (M.nrm (M.fl 8 2048 (x0 m c)) (fun j => x1 m c (ix2 0 j))) (fun k j => x3 m c (ix3 0 k j)) (fun l => V6 m ρ c main_v23 (ix2 0 l))
      (Qkv.tab (V6 m ρ c main_v95)) (Qkv.tab (V6 m ρ c main_v105)) (Qkv.tab (V6 m ρ c main_v108)) (i 0) (i 1) (i 2) := by
    refine (W7_arr m ρ c 9).trans ((Qkv.final9 (V6 m ρ) c).trans ?_)
    unfold Qkv.resk
    rw [hH, hW]
  have hv : V7 m ρ c main_v109_2 = fun i : S8x16384x128.Idx => M.vP (M.nrm (M.fl 8 2048 (x0 m c)) (fun j => x1 m c (ix2 0 j))) (fun k j => x3 m c (ix3 0 k j)) (i 0) (i 1) (i 2) := by
    refine (W7_arr m ρ c 10).trans ((Qkv.final10 (V6 m ρ) c).trans ?_)
    unfold Qkv.resv
    rw [hH, hW]
  have hx : M.rows (φ := .f32) (V7 m ρ c main_v60) = M.fl 8 2048 (x0 m c) :=
    (congrArg (fun z => M.rows (φ := .f32) z) (k7 m ρ c main_v60 (by decide +kernel))).trans (rows_in m ρ c)
  have ho : ∀ a e, V7 m ρ c main_v25 (ix2 a e) = x6 m c (ix3 0 a e) := fun a e =>
    (congrFun (k7 m ρ c main_v25 (by decide +kernel)) (ix2 a e)).trans (Host.v25_at (W0 m ρ c) a e)
  refine (Cert.ReferenceIdeal.Ref.v141_st (x0 m c) (x1 m c) (x3 m c) (x4 m c) (x5 m c) (x6 m c) b s e).trans ?_
  refine Eq.trans ?_ (Attn.res_of (V7 m ρ c main_v109_0) (V7 m ρ c main_v109_1) (V7 m ρ c main_v109_2) (V7 m ρ c main_v60) (V7 m ρ c main_v25) hq hk hv hx ho (2048 * b + s) (by omega) e).symm
  exact (M.att_x_eq (setup m ρ c hf) (M.fl 8 2048 (x0 m c)) (fun a e => x6 m c (ix3 0 a e)) (2048 * b + s) e).symm

theorem s8 : M.rows (φ := .f32) (V8 m ρ c main_v110_0) = M.fl 8 2048 (y1 m c)
    ∧ M.rows (φ := .bf16) (V8 m ρ c main_v110_1) = M.nrm (M.fl 8 2048 (y1 m c)) (fun j => x2 m c (ix2 0 j)) := by
  have hg : (fun j => V7 m ρ c main_v8 (ix2 0 j)) = fun j => x2 m c (ix2 0 j) := funext fun j =>
    (congrFun (k7 m ρ c main_v8 (by decide +kernel)) (ix2 0 j)).trans (Host.v8_at (W0 m ρ c) j)
  refine ⟨M.rows_of (by norm_num) _ _ _ ((W8_arr m ρ c 6).trans (Attn.final6 (V7 m ρ) c)) (att_rows m ρ c hf), ?_⟩
  rw [← hg]
  exact M.rows_nrm (by norm_num) _ _ _ _ ((W8_arr m ρ c 7).trans (Attn.final7 (V7 m ρ) c)) (att_rows m ρ c hf)

/-- the rows the first feed-forward's region computes -/
theorem ffn_rows (b : Fin 8) (s : Fin 2048) (e : Fin 1024) : y2 m c (ix3 b s e)
    = Ffn2.res (V8 m ρ c main_v110_1) (V8 m ρ c main_v110_0) (V8 m ρ c main_v40) (V8 m ρ c main_v45) (V8 m ρ c main_v50) (V8 m ρ c main_v56) (2048 * b + s) e := by
  refine (Cert.ReferenceIdeal.Ref.v195_st (x0 m c) (x1 m c) (x2 m c) (x3 m c) (x4 m c) (x5 m c) (x6 m c) (x12 m c) (x13 m c) (x14 m c) (x15 m c) b s e).trans ?_
  refine congrFun (congrFun (Ffn.res_of 2048 _ _ _ _ _ _ (s8 m ρ c hf).2 (s8 m ρ c hf).1 ?_ ?_ ?_ ?_).symm (2048 * b + s)) e
  · exact fun k j => (congrFun (k8 m ρ c main_v40 (by decide +kernel)) (ix2 k j)).trans (Host.v40_at (W0 m ρ c) k j)
  · exact fun k j => (congrFun (k8 m ρ c main_v45 (by decide +kernel)) (ix2 k j)).trans (Host.v45_at (W0 m ρ c) k j)
  · exact fun j => (congrFun (k8 m ρ c main_v50 (by decide +kernel)) (ix2 0 j)).trans (Host.v50_at (W0 m ρ c) j)
  · exact fun k j => (congrFun (k8 m ρ c main_v56 (by decide +kernel)) (ix2 k j)).trans (Host.v56_at (W0 m ρ c) k j)

theorem s9 : M.rows (φ := .f32) (V9 m ρ c main_v111_0) = M.fl 8 2048 (y2 m c)
    ∧ M.rows (φ := .bf16) (V9 m ρ c main_v111_1) = M.nrm (M.fl 8 2048 (y2 m c)) (fun j => x1 m c (ix2 1 j)) := by
  have hg : (fun j => V8 m ρ c main_v5 (ix2 0 j)) = fun j => x1 m c (ix2 1 j) := funext fun j =>
    (congrFun (k8 m ρ c main_v5 (by decide +kernel)) (ix2 0 j)).trans (Host.v5_at (W0 m ρ c) j)
  refine ⟨M.rows_of (by norm_num) _ _ _ ((W9_arr m ρ c 9).trans (Ffn2.final9 (V8 m ρ) c)) (ffn_rows m ρ c hf), ?_⟩
  rw [← hg]
  exact M.rows_nrm (by norm_num) _ _ _ _ ((W9_arr m ρ c 10).trans (Ffn2.final10 (V8 m ρ) c)) (ffn_rows m ρ c hf)

/-- the rows the gating unit's region computes -/
theorem sgu_rows (b : Fin 8) (s : Fin 2048) (e : Fin 1024) : y3 m c (ix3 b s e)
    = Sgu.res (V9 m ρ c main_v111_1) (V9 m ρ c main_v111_0) (V9 m ρ c main_v27) (V9 m ρ c main_v29) (V9 m ρ c main_v31) (V9 m ρ c main_v35) (V9 m ρ c main_v37) (2048 * b + s) e := by
  refine (Cert.ReferenceIdeal.Ref.v255_st (x0 m c) (x1 m c) (x2 m c) (x3 m c) (x4 m c) (x5 m c) (x6 m c) (x7 m c) (x8 m c) (x9 m c) (x10 m c) (x11 m c) (x12 m c) (x13 m c) (x14 m c) (x15 m c) b s e).trans ?_
  refine congrFun (congrFun (Sgu.res_of _ _ _ _ _ _ _ (s9 m ρ c hf).2 (s9 m ρ c hf).1 ?_ ?_ ?_ ?_ ?_).symm (2048 * b + s)) e
  · exact fun k j => (congrFun (k9 m ρ c main_v27 (by decide +kernel)) (ix2 k j)).trans (Host.v27_at (W0 m ρ c) k j)
  · exact fun j => (congrFun (k9 m ρ c main_v29 (by decide +kernel)) (ix2 0 j)).trans (Host.v29_at (W0 m ρ c) j)
  · exact fun g a q => (congrFun (k9 m ρ c main_v31 (by decide +kernel)) (ix3 g a q)).trans (Host.v31_at (W0 m ρ c) g a q)
  · exact fun a j => (congrFun (k9 m ρ c main_v35 (by decide +kernel)) (ix2 a j)).trans (Host.v35_at (W0 m ρ c) a j)
  · exact fun k j => (congrFun (k9 m ρ c main_v37 (by decide +kernel)) (ix2 k j)).trans (Host.v37_at (W0 m ρ c) k j)

theorem s10 : M.rows (φ := .f32) (V10 m ρ c main_v112_0) = M.fl 8 2048 (y3 m c)
    ∧ M.rows (φ := .bf16) (V10 m ρ c main_v112_1) = M.nrm (M.fl 8 2048 (y3 m c)) (fun j => x2 m c (ix2 1 j)) := by
  have hg : (fun j => V9 m ρ c main_v11 (ix2 0 j)) = fun j => x2 m c (ix2 1 j) := funext fun j =>
    (congrFun (k9 m ρ c main_v11 (by decide +kernel)) (ix2 0 j)).trans (Host.v11_at (W0 m ρ c) j)
  refine ⟨M.rows_of (by norm_num) _ _ _ ((W10_arr m ρ c 8).trans (Sgu.final8 (V9 m ρ) c)) (sgu_rows m ρ c hf), ?_⟩
  rw [← hg]
  exact M.rows_nrm (by norm_num) _ _ _ _ ((W10_arr m ρ c 9).trans (Sgu.final9 (V9 m ρ) c)) (sgu_rows m ρ c hf)

/-- the rows the last region computes -/
theorem out_rows (b : Fin 8) (s : Fin 2048) (e : Fin 1024) : y4 m c (ix3 b s e)
    = Ffn4.res (V10 m ρ c main_v112_1) (V10 m ρ c main_v112_0) (V10 m ρ c main_v43) (V10 m ρ c main_v47) (V10 m ρ c main_v53) (V10 m ρ c main_v59) (2048 * b + s) e := by
  refine (Cert.ReferenceIdeal.Ref.v309_st (x0 m c) (x1 m c) (x2 m c) (x3 m c) (x4 m c) (x5 m c) (x6 m c) (x7 m c) (x8 m c) (x9 m c) (x10 m c) (x11 m c) (x12 m c) (x13 m c) (x14 m c) (x15 m c) b s e).trans ?_
  refine congrFun (congrFun (Ffn.res_of 2048 _ _ _ _ _ _ (s10 m ρ c hf).2 (s10 m ρ c hf).1 ?_ ?_ ?_ ?_).symm (2048 * b + s)) e
  · exact fun k j => (congrFun (k10 m ρ c main_v43 (by decide +kernel)) (ix2 k j)).trans (Host.v43_at (W0 m ρ c) k j)
  · exact fun k j => (congrFun (k10 m ρ c main_v47 (by decide +kernel)) (ix2 k j)).trans (Host.v47_at (W0 m ρ c) k j)
  · exact fun j => (congrFun (k10 m ρ c main_v53 (by decide +kernel)) (ix2 0 j)).trans (Host.v53_at (W0 m ρ c) j)
  · exact fun k j => (congrFun (k10 m ρ c main_v59 (by decide +kernel)) (ix2 k j)).trans (Host.v59_at (W0 m ρ c) k j)

/-- the kernel's result is the reference's -/
theorem result : W12 m ρ c (Proc.devRef .tc main_v114) = y4 m c := by
  have h : M.rows (φ := .f32) (V11 m ρ c main_v113) = M.fl 8 2048 (y4 m c) :=
    M.rows_of (by norm_num) _ _ _ ((W11_arr m ρ c 9).trans (Ffn4.final9 (V10 m ρ) c)) (out_rows m ρ c hf)
  refine funext fun i : Cert.ReferenceIdeal.S8x2048x1024.Idx => ?_
  obtain ⟨b, s, e, rfl⟩ : ∃ (b : Fin 8) (s : Fin 2048) (e : Fin 1024), i = ix3 b s e := ⟨i 0, i 1, i 2, eq_ix3 i⟩
  refine (Host.v114_at (W11 m ρ c) b s e).trans ?_
  have h1 := congrFun (congrFun h (2048 * b + s)) e
  rw [M.fl_of _ _ b s rfl] at h1
  refine Eq.trans ?_ h1
  unfold M.rows
  exact congrArg (fun z => V11 m ρ c main_v113 (ix2 z e)) (Fin.ext (by show (b : ℕ) * 2048 + s = (2048 * b + s) % 16384; omega))
end

end Cert.KernelIdeal.Chain
end
-- ==== Proof.Run.lean ====
module

public import proofs.«01_k».proof.Proof.Gen.KernelIdeal.Frame

@[expose] public section

set_option maxRecDepth 16384

noncomputable section

/-! The kernel's run, the result's buffer read from the last boundary's contents. -/
namespace Cert.KernelIdeal.Run
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- every run ends with the result at the last boundary's contents and the arguments as launched -/
theorem run : θ_run defs (onTc (τ := τ) (main (F := F))) ⟨m, fun _ => 0, ρ⟩ (fun r => ∀ c : Dev nD,
      r.2.mem ((c.tc : Thread nD τ).loc main_v114) = W12 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨h c _ (mem_uc main_v114 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Run
end
-- ==== Proof.Finite.lean ====
module

public import proofs.«01_k».proof.Proof.Soft
public import proofs.«01_k».proof.Proof.Gen.Pre_finite
public import Idealize.ShloMosaic.Lib.Pipeline.ValueKit

@[expose] public section

noncomputable section

open Idealize.ShloMosaic Idealize.ShloMosaic.TcCoe

/-! An input whose absolute value compares below infinity is a real number. -/
namespace Cert.M

theorem top_word : Ideal.ofBits .f32 0x7F800000#32 = ⊤ := by simp [Ideal.ofBits, Ideal.ieee]

/-- one element -/
theorem isR_of_lt (x : EReal) (h : Ideal.cmp .olt (max x (-x)) (Ideal.ofBits .f32 0x7F800000#32) = 1#1) : IsR x := by
  rw [top_word] at h
  induction x with
  | bot => exfalso; revert h; simp [Ideal.cmp]
  | coe r => exact IsR.coe r
  | top => exfalso; revert h; simp [Ideal.cmp]

/-- every element of an array -/
theorem isR_of {s t : Shape} (x : FVec Ideal s .f32) (dims : Fin t.rank → Fin s.rank) (hb : t.BroadcastsInDim s dims)
    (h : cmpf .olt (Host.absf x) (broadcastInDim s dims hb (constant (F := Ideal) t .f32 0x7F800000#32)) = fun _ => 1#1) (i : s.Idx) : IsR (x i) :=
  isR_of_lt (x i) (congrFun h i)

end Cert.M
end
-- ==== Proof.TailRefA.lean ====
module

public import proofs.«01_k».proof.Proof.Model
public import proofs.«01_k».proof.Proof.Gen.ReferenceTailIdeal.Read
public import Idealize.ShloMosaic.Lib.Pipeline.ValueKit

@[expose] public section

set_option maxRecDepth 16384

noncomputable section

open Idealize.ShloMosaic Idealize.ShloMosaic.TcCoe

/-! The reference's feed-forwards and normalisations of the prompt's later parts, read at an element. -/
namespace Cert.ReferenceTailIdeal.Ref
open Cert.ReferenceTailIdeal Cert.ReferenceTailIdeal.Gen Cert.ReferenceTailIdeal.Read

section
variable (x0 : (⟨S16384x1024, .bf16⟩ : BufTy).Contents (Elt Ideal)) (x1 : (⟨S16384x1024, .f32⟩ : BufTy).Contents (Elt Ideal)) (x2 : (⟨S2x1024, .f32⟩ : BufTy).Contents (Elt Ideal)) (x3 : (⟨S2x1024, .f32⟩ : BufTy).Contents (Elt Ideal)) (x4 : (⟨S1x1024x4096, .f32⟩ : BufTy).Contents (Elt Ideal)) (x5 : (⟨S1x2048, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x2048x1024, .f32⟩ : BufTy).Contents (Elt Ideal)) (x9 : (⟨S2x1024x5632, .f32⟩ : BufTy).Contents (Elt Ideal)) (x10 : (⟨S2x3x5632, .f32⟩ : BufTy).Contents (Elt Ideal)) (x11 : (⟨S2x5632, .f32⟩ : BufTy).Contents (Elt Ideal)) (x12 : (⟨S2x2816x1024, .f32⟩ : BufTy).Contents (Elt Ideal))

theorem v1_at (b : Fin 2) (s : Fin 8192) (k : Fin 1024) : (val_main_v1 (F := Ideal) x0) (ix3 b s k) = x0 (ix2 ⟨b * 8192 + s, by omega⟩ k) := by
  pointwise [val_main_v1, val_main_v0]

theorem v2_at (b : Fin 2) (s : Fin 8192) (k : Fin 1024) : (val_main_v2 (F := Ideal) x1) (ix3 b s k) = x1 (ix2 ⟨b * 8192 + s, by omega⟩ k) := by
  pointwise [val_main_v2]

theorem zero_word : (FloatOps.sitofp (F := Ideal) FTy.f32 (0#32) : EReal) = 0 := by
  show (((0#32 : BitVec 32).toInt : ℝ) : EReal) = 0
  simp

/-- one row of padding before a sequence: the row before row `s` -/
theorem pad_lo (s : Fin 8192) (f : ∀ n : ℕ, n < 8192 → EReal) :
    (if h : 1 ≤ (s : ℕ) ∧ (s : ℕ) - 1 < 8192 then f (s - 1) h.2 else (FloatOps.sitofp (F := Ideal) FTy.f32 (0#32) : EReal))
      = if h : (s : ℕ) = 0 then 0 else f (s - 1) (by omega) := by
  rw [zero_word]
  by_cases h : (s : ℕ) = 0
  · rw [dif_neg (by omega), dif_pos h]
  · rw [dif_pos ⟨by omega, by omega⟩, dif_neg h]

/-- one row of padding after a sequence: the row after row `s` -/
theorem pad_hi (s : Fin 8192) (f : ∀ n : ℕ, n < 8192 → EReal) :
    (if h : 1 ≤ 2 + (s : ℕ) ∧ 2 + (s : ℕ) - 1 < 8192 then f (2 + s - 1) h.2 else (FloatOps.sitofp (F := Ideal) FTy.f32 (0#32) : EReal))
      = if h : (s : ℕ) = 8191 then 0 else f (s + 1) (by omega) := by
  rw [zero_word]
  by_cases h : (s : ℕ) = 8191
  · rw [dif_neg (by omega), dif_pos h]
  · rw [dif_pos ⟨by omega, by omega⟩, dif_neg h]
    congr 1; omega

theorem v56_at (b : Fin 2) (s : Fin 8192) (k : Fin 1024) : (val_main_v56 (F := Ideal) x0 x1 x2 x9 x10 x11 x12) (ix3 b s k)
    = M.rms (Ideal.ofBits .f32 0x44800000#32) (fun j => (val_main_v41 (F := Ideal) x0 x1 x9 x10 x11 x12) (ix3 b s j)) (fun j => x2 (ix2 1 j)) k := by
  unfold M.rms
  pointwise [val_main_v56, val_main_v55, val_main_v54, val_main_v43, val_main_v42, val_main_v53, val_main_v52, val_main_v51, val_main_v50, val_main_v49, val_main_cst_1, val_main_v48, val_main_v47, val_main_cst_0, val_main_v46, val_main_v45, val_main_cst, val_main_v44]

theorem v116_at (b : Fin 2) (s : Fin 8192) (k : Fin 1024) : (val_main_v116 (F := Ideal) x0 x1 x2 x3 x4 x5 x6 x7 x8 x9 x10 x11 x12) (ix3 b s k)
    = M.rms (Ideal.ofBits .f32 0x44800000#32) (fun j => (val_main_v101 (F := Ideal) x0 x1 x2 x4 x5 x6 x7 x8 x9 x10 x11 x12) (ix3 b s j)) (fun j => x3 (ix2 1 j)) k := by
  unfold M.rms
  pointwise [val_main_v116, val_main_v115, val_main_v114, val_main_v103, val_main_v102, val_main_v113, val_main_v112, val_main_v111, val_main_v110, val_main_v109, val_main_cst_11, val_main_v108, val_main_v107, val_main_cst_10, val_main_v106, val_main_v105, val_main_cst_9, val_main_v104]

theorem v11_at (b : Fin 2) (s : Fin 8192) (c : Fin 5632) : (val_main_v11 (F := Ideal) x0 x9) (ix3 b s c)
    = M.mv (fun k => (val_main_v1 (F := Ideal) x0) (ix3 b s k)) (fun k c => x9 (ix3 0 k c)) c := by
  unfold M.mv
  pointwise [val_main_v11, val_main_v4, val_main_v3]

theorem v35_at (b : Fin 2) (s : Fin 8192) (c : Fin 5632) : (val_main_v35 (F := Ideal) x0 x9 x10 x11) (ix3 b s c)
    = (if h : (s : ℕ) = 0 then 0 else (val_main_v11 (F := Ideal) x0 x9) (ix3 b ⟨s - 1, by omega⟩ c)) * x10 (ix3 0 0 c) + (val_main_v11 (F := Ideal) x0 x9) (ix3 b s c) * x10 (ix3 0 1 c)
      + (if h : (s : ℕ) = 8191 then 0 else (val_main_v11 (F := Ideal) x0 x9) (ix3 b ⟨s + 1, by omega⟩ c)) * x10 (ix3 0 2 c) + x11 (ix2 0 c) := by
  pointwise [val_main_v35, val_main_v34, val_main_v33, val_main_v8, val_main_v7, val_main_v32, val_main_v31, val_main_v30, val_main_v29, val_main_v28, val_main_v27, val_main_v6, val_main_v5, val_main_v26, val_main_v12, val_main_call0_v0, val_main_c, val_main_v25, val_main_v24, val_main_v23, val_main_v22, val_main_v21, val_main_v20, val_main_v19, val_main_v18, val_main_v17, val_main_v16, val_main_v15, val_main_v14, val_main_v13]
  refine congrArg₂ (· + ·) (congrArg₂ (· + ·) (congrArg₂ (· + ·) (congrArg₂ (· * ·) (pad_lo s fun n hn => (val_main_v11 (F := Ideal) x0 x9) (ix3 b ⟨n, hn⟩ c)) rfl) rfl)
    (congrArg₂ (· * ·) (pad_hi s fun n hn => (val_main_v11 (F := Ideal) x0 x9) (ix3 b ⟨n, hn⟩ c)) rfl)) rfl

theorem v39_at (b : Fin 2) (s : Fin 8192) (c : Fin 2816) : (val_main_v39 (F := Ideal) x0 x9 x10 x11) (ix3 b s c)
    = (val_main_v35 (F := Ideal) x0 x9 x10 x11) (ix3 b s ⟨c, by omega⟩) * Ideal.div 1 (1 + Ideal.exp (-((val_main_v35 (F := Ideal) x0 x9 x10 x11) (ix3 b s ⟨c, by omega⟩)))) * (val_main_v35 (F := Ideal) x0 x9 x10 x11) (ix3 b s ⟨2816 + c, by omega⟩) := by
  pointwise [val_main_v39, val_main_v37, val_main_v38, val_main_call1_v5, val_main_call1_v3, val_main_call1_v1, val_main_call1_v0, val_main_v36, val_main_call1_v2, val_main_call1_cst, val_main_call1_v4, val_main_call1_cst_0]

theorem v41_at (b : Fin 2) (s : Fin 8192) (e : Fin 1024) : (val_main_v41 (F := Ideal) x0 x1 x9 x10 x11 x12) (ix3 b s e)
    = (val_main_v2 (F := Ideal) x1) (ix3 b s e) + M.mv (fun c => (val_main_v39 (F := Ideal) x0 x9 x10 x11) (ix3 b s c)) (fun c e => x12 (ix3 0 c e)) e := by
  unfold M.mv
  pointwise [val_main_v41, val_main_v40, val_main_v10, val_main_v9]

theorem v125_at (b : Fin 2) (s : Fin 8192) (c : Fin 5632) : (val_main_v125 (F := Ideal) x0 x1 x2 x3 x4 x5 x6 x7 x8 x9 x10 x11 x12) (ix3 b s c)
    = M.mv (fun k => (val_main_v116 (F := Ideal) x0 x1 x2 x3 x4 x5 x6 x7 x8 x9 x10 x11 x12) (ix3 b s k)) (fun k c => x9 (ix3 1 k c)) c := by
  unfold M.mv
  pointwise [val_main_v125, val_main_v118, val_main_v117]

theorem v149_at (b : Fin 2) (s : Fin 8192) (c : Fin 5632) : (val_main_v149 (F := Ideal) x0 x1 x2 x3 x4 x5 x6 x7 x8 x9 x10 x11 x12) (ix3 b s c)
    = (if h : (s : ℕ) = 0 then 0 else (val_main_v125 (F := Ideal) x0 x1 x2 x3 x4 x5 x6 x7 x8 x9 x10 x11 x12) (ix3 b ⟨s - 1, by omega⟩ c)) * x10 (ix3 1 0 c) + (val_main_v125 (F := Ideal) x0 x1 x2 x3 x4 x5 x6 x7 x8 x9 x10 x11 x12) (ix3 b s c) * x10 (ix3 1 1 c)
      + (if h : (s : ℕ) = 8191 then 0 else (val_main_v125 (F := Ideal) x0 x1 x2 x3 x4 x5 x6 x7 x8 x9 x10 x11 x12) (ix3 b ⟨s + 1, by omega⟩ c)) * x10 (ix3 1 2 c) + x11 (ix2 1 c) := by
  pointwise [val_main_v149, val_main_v148, val_main_v147, val_main_v122, val_main_v121, val_main_v146, val_main_v145, val_main_v144, val_main_v143, val_main_v142, val_main_v141, val_main_v120, val_main_v119, val_main_v140, val_main_v126, val_main_call2_v0, val_main_c_12, val_main_v139, val_main_v138, val_main_v137, val_main_v136, val_main_v135, val_main_v134, val_main_v133, val_main_v132, val_main_v131, val_main_v130, val_main_v129, val_main_v128, val_main_v127]
  refine congrArg₂ (· + ·) (congrArg₂ (· + ·) (congrArg₂ (· + ·) (congrArg₂ (· * ·) (pad_lo s fun n hn => (val_main_v125 (F := Ideal) x0 x1 x2 x3 x4 x5 x6 x7 x8 x9 x10 x11 x12) (ix3 b ⟨n, hn⟩ c)) rfl) rfl)
    (congrArg₂ (· * ·) (pad_hi s fun n hn => (val_main_v125 (F := Ideal) x0 x1 x2 x3 x4 x5 x6 x7 x8 x9 x10 x11 x12) (ix3 b ⟨n, hn⟩ c)) rfl)) rfl

theorem v153_at (b : Fin 2) (s : Fin 8192) (c : Fin 2816) : (val_main_v153 (F := Ideal) x0 x1 x2 x3 x4 x5 x6 x7 x8 x9 x10 x11 x12) (ix3 b s c)
    = (val_main_v149 (F := Ideal) x0 x1 x2 x3 x4 x5 x6 x7 x8 x9 x10 x11 x12) (ix3 b s ⟨c, by omega⟩) * Ideal.div 1 (1 + Ideal.exp (-((val_main_v149 (F := Ideal) x0 x1 x2 x3 x4 x5 x6 x7 x8 x9 x10 x11 x12) (ix3 b s ⟨c, by omega⟩)))) * (val_main_v149 (F := Ideal) x0 x1 x2 x3 x4 x5 x6 x7 x8 x9 x10 x11 x12) (ix3 b s ⟨2816 + c, by omega⟩) := by
  pointwise [val_main_v153, val_main_v151, val_main_v152, val_main_call3_v5, val_main_call3_v3, val_main_call3_v1, val_main_call3_v0, val_main_v150, val_main_call3_v2, val_main_call3_cst, val_main_call3_v4, val_main_call3_cst_0]

theorem v155_at (b : Fin 2) (s : Fin 8192) (e : Fin 1024) : (val_main_v155 (F := Ideal) x0 x1 x2 x3 x4 x5 x6 x7 x8 x9 x10 x11 x12) (ix3 b s e)
    = (val_main_v101 (F := Ideal) x0 x1 x2 x4 x5 x6 x7 x8 x9 x10 x11 x12) (ix3 b s e) + M.mv (fun c => (val_main_v153 (F := Ideal) x0 x1 x2 x3 x4 x5 x6 x7 x8 x9 x10 x11 x12) (ix3 b s c)) (fun c e => x12 (ix3 1 c e)) e := by
  unfold M.mv
  pointwise [val_main_v155, val_main_v154, val_main_v124, val_main_v123]

end

end Cert.ReferenceTailIdeal.Ref
end
-- ==== Proof.TailRefB.lean ====
module

public import proofs.«01_k».proof.Proof.Model
public import proofs.«01_k».proof.Proof.Gen.ReferenceTailIdeal.Read
public import Idealize.ShloMosaic.Lib.Pipeline.ValueKit

@[expose] public section

set_option maxRecDepth 16384

noncomputable section

open Idealize.ShloMosaic Idealize.ShloMosaic.TcCoe

/-! The reference's spatial gating unit of the prompt's later parts, read at an element. -/
namespace Cert.ReferenceTailIdeal.Ref
open Cert.ReferenceTailIdeal Cert.ReferenceTailIdeal.Gen Cert.ReferenceTailIdeal.Read

section
variable (x0 : (⟨S16384x1024, .bf16⟩ : BufTy).Contents (Elt Ideal)) (x1 : (⟨S16384x1024, .f32⟩ : BufTy).Contents (Elt Ideal)) (x2 : (⟨S2x1024, .f32⟩ : BufTy).Contents (Elt Ideal)) (x3 : (⟨S2x1024, .f32⟩ : BufTy).Contents (Elt Ideal)) (x4 : (⟨S1x1024x4096, .f32⟩ : BufTy).Contents (Elt Ideal)) (x5 : (⟨S1x2048, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x2048x1024, .f32⟩ : BufTy).Contents (Elt Ideal)) (x9 : (⟨S2x1024x5632, .f32⟩ : BufTy).Contents (Elt Ideal)) (x10 : (⟨S2x3x5632, .f32⟩ : BufTy).Contents (Elt Ideal)) (x11 : (⟨S2x5632, .f32⟩ : BufTy).Contents (Elt Ideal)) (x12 : (⟨S2x2816x1024, .f32⟩ : BufTy).Contents (Elt Ideal))

theorem v62_at (b : Fin 2) (s : Fin 8192) (c : Fin 4096) : (val_main_v62 (F := Ideal) x0 x1 x2 x4 x9 x10 x11 x12) (ix3 b s c)
    = M.mv (fun k => (val_main_v56 (F := Ideal) x0 x1 x2 x9 x10 x11 x12) (ix3 b s k)) (fun k c => x4 (ix3 0 k c)) c := by
  unfold M.mv
  pointwise [val_main_v62, val_main_v57]

theorem v75_at (b : Fin 2) (s : Fin 8192) (c : Fin 4096) : (val_main_v75 (F := Ideal) x0 x1 x2 x4 x9 x10 x11 x12) (ix3 b s c) = M.gelu ((val_main_v62 (F := Ideal) x0 x1 x2 x4 x9 x10 x11 x12) (ix3 b s c)) := by
  unfold M.gelu
  pointwise [val_main_v75, val_main_v74, val_main_v72, val_main_v70, val_main_v69, val_main_v67, val_main_v66, val_main_v64, val_main_v63, val_main_v65, val_main_cst_2, val_main_v68, val_main_cst_3, val_main_v71, val_main_cst_4, val_main_v73, val_main_cst_5]
  exact (mul_left_comm _ _ _).trans (mul_assoc _ _ _).symm

theorem v90_at (b : Fin 2) (s : Fin 8192) (c : Fin 2048) : (val_main_v90 (F := Ideal) x0 x1 x2 x4 x5 x9 x10 x11 x12) (ix3 b s c)
    = M.rms (Ideal.ofBits .f32 0x45000000#32) (fun j : Fin 2048 => (val_main_v75 (F := Ideal) x0 x1 x2 x4 x9 x10 x11 x12) (ix3 b s ⟨2048 + j, by omega⟩)) (fun j => x5 (ix2 0 j)) c := by
  unfold M.rms
  pointwise [val_main_v90, val_main_v89, val_main_v88, val_main_v58, val_main_v87, val_main_v86, val_main_v85, val_main_v84, val_main_v83, val_main_cst_8, val_main_v82, val_main_v81, val_main_cst_7, val_main_v80, val_main_v79, val_main_cst_6, val_main_v78, val_main_v77]

theorem v99_at (b : Fin 2) (s : Fin 8192) (c : Fin 2048) : (val_main_v99 (F := Ideal) x0 x1 x2 x4 x5 x6 x7 x9 x10 x11 x12) (ix3 b s c)
    = (val_main_v75 (F := Ideal) x0 x1 x2 x4 x9 x10 x11 x12) (ix3 b s ⟨c, by omega⟩) * ((∑ q : Fin 128, x6 (ix4 0 ⟨c / 256, by omega⟩ ⟨s % 128, by omega⟩ q) * (val_main_v90 (F := Ideal) x0 x1 x2 x4 x5 x9 x10 x11 x12) (ix3 b ⟨128 * (s / 128) + q, by omega⟩ c))
      + x7 (ix3 0 ⟨c / 256, by omega⟩ ⟨s % 128, by omega⟩)) := by
  pointwise [val_main_v99, val_main_v98, val_main_v97, val_main_v96, val_main_v95, val_main_v94, val_main_v60, val_main_v93, val_main_v92, val_main_v59, val_main_v91, val_main_v76]
  refine congrArg₂ (· * ·) rfl (congrArg₂ (· + ·) (Finset.sum_congr rfl fun q _ => ?_) rfl)
  exact (mul_comm _ _).trans (congrArg₂ (· * ·) rfl (congrArg (val_main_v90 (F := Ideal) x0 x1 x2 x4 x5 x9 x10 x11 x12) (congrArg (fun z => ix3 b z c) (Fin.ext (by show (s : ℕ) / 128 * 128 + q = 128 * (s / 128) + q; omega)))))

theorem v101_at (b : Fin 2) (s : Fin 8192) (e : Fin 1024) : (val_main_v101 (F := Ideal) x0 x1 x2 x4 x5 x6 x7 x8 x9 x10 x11 x12) (ix3 b s e)
    = (val_main_v41 (F := Ideal) x0 x1 x9 x10 x11 x12) (ix3 b s e) + M.mv (fun c => (val_main_v99 (F := Ideal) x0 x1 x2 x4 x5 x6 x7 x9 x10 x11 x12) (ix3 b s c)) (fun c e => x8 (ix3 0 c e)) e := by
  unfold M.mv
  pointwise [val_main_v101, val_main_v100, val_main_v61]

end

end Cert.ReferenceTailIdeal.Ref
end
-- ==== Proof.TailRefStage.lean ====
module

public import proofs.«01_k».proof.Proof.Stage
public import proofs.«01_k».proof.Proof.TailRefA
public import proofs.«01_k».proof.Proof.TailRefB
public import Idealize.ShloMosaic.Lib.Pipeline.ValueKit

@[expose] public section

set_option maxRecDepth 16384

noncomputable section

open Idealize.ShloMosaic Idealize.ShloMosaic.TcCoe

/-! The reference's three stages of the prompt's later parts, as the model's functions of the rows. -/
namespace Cert.ReferenceTailIdeal.Ref
open Cert.ReferenceTailIdeal Cert.ReferenceTailIdeal.Gen Cert.ReferenceTailIdeal.Read

section
variable (x0 : (⟨S16384x1024, .bf16⟩ : BufTy).Contents (Elt Ideal)) (x1 : (⟨S16384x1024, .f32⟩ : BufTy).Contents (Elt Ideal)) (x2 : (⟨S2x1024, .f32⟩ : BufTy).Contents (Elt Ideal)) (x3 : (⟨S2x1024, .f32⟩ : BufTy).Contents (Elt Ideal)) (x4 : (⟨S1x1024x4096, .f32⟩ : BufTy).Contents (Elt Ideal)) (x5 : (⟨S1x2048, .f32⟩ : BufTy).Contents (Elt Ideal)) (x6 : (⟨S1x8x128x128, .f32⟩ : BufTy).Contents (Elt Ideal)) (x7 : (⟨S1x8x128, .f32⟩ : BufTy).Contents (Elt Ideal)) (x8 : (⟨S1x2048x1024, .f32⟩ : BufTy).Contents (Elt Ideal)) (x9 : (⟨S2x1024x5632, .f32⟩ : BufTy).Contents (Elt Ideal)) (x10 : (⟨S2x3x5632, .f32⟩ : BufTy).Contents (Elt Ideal)) (x11 : (⟨S2x5632, .f32⟩ : BufTy).Contents (Elt Ideal)) (x12 : (⟨S2x2816x1024, .f32⟩ : BufTy).Contents (Elt Ideal))

/-- the stream after the first feed-forward -/
theorem v41_st (b : Fin 2) (s : Fin 8192) (e : Fin 1024) : (val_main_v41 (F := Ideal) x0 x1 x9 x10 x11 x12) (ix3 b s e)
    = M.ffnX 8192 (fun r k => x0 (ix2 ⟨r % 16384, Nat.mod_lt _ (by decide)⟩ k)) (M.fl 2 8192 (val_main_v2 (F := Ideal) x1))
      (fun k c => x9 (ix3 0 k c)) (fun a c => x10 (ix3 0 a c)) (fun c => x11 (ix2 0 c)) (fun c e => x12 (ix3 0 c e)) (8192 * b + s) e := by
  rw [v41_at]
  have hP : ∀ (b : Fin 2) (s : Fin 8192), (fun k => val_main_v1 (F := Ideal) x0 (ix3 b s k)) = fun k => x0 (ix2 ⟨(8192 * b + s) % 16384, Nat.mod_lt _ (by decide)⟩ k) := fun b s => funext fun k => by
    rw [v1_at]
    exact congrArg (fun z => x0 (ix2 z k)) (Fin.ext (by show (b : ℕ) * 8192 + s = (8192 * b + s) % 16384; omega))
  exact M.ffn_of _ (val_main_v2 (F := Ideal) x1) (fun b s k => val_main_v1 (F := Ideal) x0 (ix3 b s k)) hP _ (fun a c => x10 (ix3 0 a c)) (fun c => x11 (ix2 0 c)) _
    (fun b s c => val_main_v11 (F := Ideal) x0 x9 (ix3 b s c)) (fun b s c => val_main_v35 (F := Ideal) x0 x9 x10 x11 (ix3 b s c))
    (fun b s c => val_main_v39 (F := Ideal) x0 x9 x10 x11 (ix3 b s c))
    (v11_at x0 x9) (v35_at x0 x9 x10 x11) (v39_at x0 x9 x10 x11) b s e

/-- the stream after the gating unit -/
theorem v101_st (b : Fin 2) (s : Fin 8192) (e : Fin 1024) : (val_main_v101 (F := Ideal) x0 x1 x2 x4 x5 x6 x7 x8 x9 x10 x11 x12) (ix3 b s e)
    = M.sguX (M.nrm (M.fl 2 8192 (val_main_v41 (F := Ideal) x0 x1 x9 x10 x11 x12)) (fun j => x2 (ix2 1 j))) (M.fl 2 8192 (val_main_v41 (F := Ideal) x0 x1 x9 x10 x11 x12))
      (fun k c => x4 (ix3 0 k c)) (fun c => x5 (ix2 0 c)) (fun g a q => x6 (ix4 0 g a q)) (fun a c => x7 (ix3 0 ⟨c / 256, by omega⟩ a)) (fun c e => x8 (ix3 0 c e)) (8192 * b + s) e := by
  rw [v101_at]
  exact M.sgu_of _ (val_main_v41 (F := Ideal) x0 x1 x9 x10 x11 x12) (fun b s k => val_main_v56 (F := Ideal) x0 x1 x2 x9 x10 x11 x12 (ix3 b s k)) (M.nrm_of (val_main_v41 (F := Ideal) x0 x1 x9 x10 x11 x12) _ _ (v56_at x0 x1 x2 x9 x10 x11 x12)) 64 rfl _ _
    (fun g a q => x6 (ix4 0 g a q)) (fun a c => x7 (ix3 0 ⟨c / 256, by omega⟩ a)) _
    (fun b s c => val_main_v62 (F := Ideal) x0 x1 x2 x4 x9 x10 x11 x12 (ix3 b s c)) (fun b s c => val_main_v75 (F := Ideal) x0 x1 x2 x4 x9 x10 x11 x12 (ix3 b s c))
    (fun b s c => val_main_v90 (F := Ideal) x0 x1 x2 x4 x5 x9 x10 x11 x12 (ix3 b s c)) (fun b s c => val_main_v99 (F := Ideal) x0 x1 x2 x4 x5 x6 x7 x9 x10 x11 x12 (ix3 b s c))
    (v62_at x0 x1 x2 x4 x9 x10 x11 x12) (v75_at x0 x1 x2 x4 x9 x10 x11 x12) (v90_at x0 x1 x2 x4 x5 x9 x10 x11 x12) (v99_at x0 x1 x2 x4 x5 x6 x7 x9 x10 x11 x12) b s e

/-- the result -/
theorem v155_st (b : Fin 2) (s : Fin 8192) (e : Fin 1024) : (val_main_v155 (F := Ideal) x0 x1 x2 x3 x4 x5 x6 x7 x8 x9 x10 x11 x12) (ix3 b s e)
    = M.ffnX 8192 (M.nrm (M.fl 2 8192 (val_main_v101 (F := Ideal) x0 x1 x2 x4 x5 x6 x7 x8 x9 x10 x11 x12)) (fun j => x3 (ix2 1 j))) (M.fl 2 8192 (val_main_v101 (F := Ideal) x0 x1 x2 x4 x5 x6 x7 x8 x9 x10 x11 x12))
      (fun k c => x9 (ix3 1 k c)) (fun a c => x10 (ix3 1 a c)) (fun c => x11 (ix2 1 c)) (fun c e => x12 (ix3 1 c e)) (8192 * b + s) e := by
  rw [v155_at]
  exact M.ffn_of _ (val_main_v101 (F := Ideal) x0 x1 x2 x4 x5 x6 x7 x8 x9 x10 x11 x12) (fun b s k => val_main_v116 (F := Ideal) x0 x1 x2 x3 x4 x5 x6 x7 x8 x9 x10 x11 x12 (ix3 b s k)) (M.nrm_of (val_main_v101 (F := Ideal) x0 x1 x2 x4 x5 x6 x7 x8 x9 x10 x11 x12) _ _ (v116_at x0 x1 x2 x3 x4 x5 x6 x7 x8 x9 x10 x11 x12)) _ (fun a c => x10 (ix3 1 a c)) (fun c => x11 (ix2 1 c)) _
    (fun b s c => val_main_v125 (F := Ideal) x0 x1 x2 x3 x4 x5 x6 x7 x8 x9 x10 x11 x12 (ix3 b s c)) (fun b s c => val_main_v149 (F := Ideal) x0 x1 x2 x3 x4 x5 x6 x7 x8 x9 x10 x11 x12 (ix3 b s c))
    (fun b s c => val_main_v153 (F := Ideal) x0 x1 x2 x3 x4 x5 x6 x7 x8 x9 x10 x11 x12 (ix3 b s c))
    (v125_at x0 x1 x2 x3 x4 x5 x6 x7 x8 x9 x10 x11 x12) (v149_at x0 x1 x2 x3 x4 x5 x6 x7 x8 x9 x10 x11 x12) (v153_at x0 x1 x2 x3 x4 x5 x6 x7 x8 x9 x10 x11 x12) b s e
end

end Cert.ReferenceTailIdeal.Ref
end
-- ==== Proof.TailHost.lean ====
module

public import proofs.«01_k».proof.Proof.Model
public import proofs.«01_k».proof.Proof.Gen.KernelTailIdeal.Launch
public import Idealize.ShloMosaic.Lib.Pipeline.ValueKit

@[expose] public section

set_option maxRecDepth 16384

noncomputable section

open Idealize.ShloMosaic Idealize.ShloMosaic.TcCoe Idealize.SL.Sem

/-! What the tail's host lines leave in the buffers the regions read. -/
namespace Cert.KernelTailIdeal.Host
open Cert.KernelTailIdeal Cert.KernelTailIdeal.Gen

variable (V : Valuation τ sig (Elt Ideal))

theorem v2_at (j : Fin 1024) : StableHlo.after (hostOps0 (F := Ideal)) V (Proc.devRef .tc main_v2) (ix2 0 j)
    = V (Proc.devRef .tc main_arg2) (ix2 1 j) := by
  after_results_simp
  pointwise []

theorem v5_at (j : Fin 1024) : StableHlo.after (hostOps0 (F := Ideal)) V (Proc.devRef .tc main_v5) (ix2 0 j)
    = V (Proc.devRef .tc main_arg3) (ix2 1 j) := by
  after_results_simp
  pointwise []

theorem v7_at (k : Fin 1024) (c : Fin 4096) : StableHlo.after (hostOps0 (F := Ideal)) V (Proc.devRef .tc main_v7) (ix2 k c)
    = V (Proc.devRef .tc main_arg4) (ix3 0 k c) := by
  after_results_simp
  pointwise []

theorem v9_at (c : Fin 2048) : StableHlo.after (hostOps0 (F := Ideal)) V (Proc.devRef .tc main_v9) (ix2 0 c)
    = V (Proc.devRef .tc main_arg5) (ix2 0 c) := by
  after_results_simp
  pointwise []

theorem v11_at (g : Fin 8) (a q : Fin 128) : StableHlo.after (hostOps0 (F := Ideal)) V (Proc.devRef .tc main_v11) (ix3 g a q)
    = V (Proc.devRef .tc main_arg6) (ix4 0 g a q) := by
  after_results_simp
  pointwise []

theorem v15_at (a : Fin 128) (c : Fin 2048) : StableHlo.after (hostOps0 (F := Ideal)) V (Proc.devRef .tc main_v15) (ix2 a c)
    = V (Proc.devRef .tc main_arg7) (ix3 0 ⟨c / 256, by omega⟩ a) := by
  after_results_simp
  pointwise []

theorem v17_at (c : Fin 2048) (e : Fin 1024) : StableHlo.after (hostOps0 (F := Ideal)) V (Proc.devRef .tc main_v17) (ix2 c e)
    = V (Proc.devRef .tc main_arg8) (ix3 0 c e) := by
  after_results_simp
  pointwise []

theorem v20_at (k : Fin 1024) (c : Fin 5632) : StableHlo.after (hostOps0 (F := Ideal)) V (Proc.devRef .tc main_v20) (ix2 k c)
    = V (Proc.devRef .tc main_arg9) (ix3 0 k c) := by
  after_results_simp
  pointwise []

theorem v23_at (k : Fin 1024) (c : Fin 5632) : StableHlo.after (hostOps0 (F := Ideal)) V (Proc.devRef .tc main_v23) (ix2 k c)
    = V (Proc.devRef .tc main_arg9) (ix3 1 k c) := by
  after_results_simp
  pointwise []

theorem v25_at (k : Fin 3) (c : Fin 5632) : StableHlo.after (hostOps0 (F := Ideal)) V (Proc.devRef .tc main_v25) (ix2 k c)
    = V (Proc.devRef .tc main_arg10) (ix3 0 k c) := by
  after_results_simp
  pointwise []

theorem v27_at (k : Fin 3) (c : Fin 5632) : StableHlo.after (hostOps0 (F := Ideal)) V (Proc.devRef .tc main_v27) (ix2 k c)
    = V (Proc.devRef .tc main_arg10) (ix3 1 k c) := by
  after_results_simp
  pointwise []

theorem v30_at (c : Fin 5632) : StableHlo.after (hostOps0 (F := Ideal)) V (Proc.devRef .tc main_v30) (ix2 0 c)
    = V (Proc.devRef .tc main_arg11) (ix2 0 c) := by
  after_results_simp
  pointwise []

theorem v33_at (c : Fin 5632) : StableHlo.after (hostOps0 (F := Ideal)) V (Proc.devRef .tc main_v33) (ix2 0 c)
    = V (Proc.devRef .tc main_arg11) (ix2 1 c) := by
  after_results_simp
  pointwise []

theorem v36_at (c : Fin 2816) (e : Fin 1024) : StableHlo.after (hostOps0 (F := Ideal)) V (Proc.devRef .tc main_v36) (ix2 c e)
    = V (Proc.devRef .tc main_arg12) (ix3 0 c e) := by
  after_results_simp
  pointwise []

theorem v39_at (c : Fin 2816) (e : Fin 1024) : StableHlo.after (hostOps0 (F := Ideal)) V (Proc.devRef .tc main_v39) (ix2 c e)
    = V (Proc.devRef .tc main_arg12) (ix3 1 c e) := by
  after_results_simp
  pointwise []

theorem v43_at (b : Fin 2) (s : Fin 8192) (e : Fin 1024) : StableHlo.after (hostOps3 (F := Ideal)) V (Proc.devRef .tc main_v43) (ix3 b s e)
    = V (Proc.devRef .tc main_v42) (ix2 ⟨b * 8192 + s, by omega⟩ e) := by
  after_results_simp
  pointwise []

end Cert.KernelTailIdeal.Host
end
-- ==== Proof.TailFfn0.lean ====
module

public import proofs.«01_k».proof.Proof.Model
public import proofs.«01_k».proof.Proof.Scal
public import proofs.«01_k».proof.Proof.FfnG
public import proofs.«01_k».proof.Proof.Gen.KernelTailIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The tail's first feed-forward: what its stores are, read at an element. -/
namespace Cert.KernelTailIdeal.Ffn0
open Cert.KernelTailIdeal Cert.KernelTailIdeal.Gen Cert.KernelIdeal.Ffn

section block
/-- the constant in the power of two -/
abbrev nu : EReal := Named.named (F := Ideal) Cert.KernelTailIdeal.κ "neg_log2e" (φ := .f32) 0xBFB8AA3B#32

variable (i : grid0.Coords) (x0 : Vec Ideal S16x1024 .bf16) (x1 : Vec Ideal S512x1024 .bf16) (x2 : Vec Ideal S16x1024 .bf16) (x3 : Vec Ideal S512x1024 .f32)
  (x4 : Vec Ideal S1024x5632 .bf16) (x5 : Vec Ideal S3x5632 .f32) (x6 : Vec Ideal S1x5632 .f32) (x7 : Vec Ideal S2816x1024 .bf16) (x8 : Vec Ideal S1x1024 .f32)

/-- whether the tile is its sequence's first -/
abbrev fst : BitVec 1 := (Scalar.cmpi .eq (posw 16#32 (BitVec.ofNat 32 (i 0))) 0#32)
/-- whether the tile is its sequence's last -/
abbrev lst : BitVec 1 := (Scalar.cmpi .eq (posw 16#32 (BitVec.ofNat 32 (i 0))) 15#32)

theorem rows_eq (a b : Vec Ideal S16x1024 .bf16) (d : Vec Ideal S512x1024 .bf16) : k0_pay2 (F := Ideal) i a b d = hcat (fst i) (lst i) a b d := by
  unfold hcat
  rw [shapeCast_id, shapeCast_id, shapeCast_id]
  rfl

theorem z0_eq : (k0_pay77 i x0 x1 x2 x3 x4 x5 x6 x7 x8) = z0 nu (fst i) (lst i) x0 x1 x2 x4 x5 x6 := by
  unfold k0_pay77 k0_pay4 k0_pay75 k0_pay3
  rw [rows_eq]
  rfl

theorem z1_eq : (k0_pay79 i x0 x1 x2 x3 x4 x5 x6 x7 x8) = z1 nu (fst i) (lst i) x0 x1 x2 x4 x5 x6 := by
  unfold k0_pay79 k0_pay5 k0_pay76 k0_pay74
  rw [rows_eq]
  rfl

theorem z2_eq : (k0_pay80 i x0 x1 x2 x3 x4 x5 x6 x7 x8) = z2 nu (fst i) (lst i) x0 x1 x2 x4 x5 x6 := by
  unfold k0_pay80 k0_pay78 k0_pay74
  rw [rows_eq]
  rfl

theorem z3_eq : (k0_pay82 i x0 x1 x2 x3 x4 x5 x6 x7 x8) = z3 nu (fst i) (lst i) x0 x1 x2 x4 x5 x6 := by
  unfold k0_pay82 k0_pay74
  rw [rows_eq]
  rfl

theorem z4_eq : (k0_pay84 i x0 x1 x2 x3 x4 x5 x6 x7 x8) = z4 nu (fst i) (lst i) x0 x1 x2 x4 x5 x6 := by
  unfold k0_pay84 k0_pay81 k0_pay74
  rw [rows_eq]
  rfl

theorem z5_eq : (k0_pay85 i x0 x1 x2 x3 x4 x5 x6 x7 x8) = z5 nu (fst i) (lst i) x0 x1 x2 x4 x5 x6 := by
  unfold k0_pay85 k0_pay83 k0_pay74
  rw [rows_eq]
  rfl

theorem z6_eq : (k0_pay87 i x0 x1 x2 x3 x4 x5 x6 x7 x8) = z6 nu (fst i) (lst i) x0 x1 x2 x4 x5 x6 := by
  unfold k0_pay87 k0_pay74
  rw [rows_eq]
  rfl

theorem z7_eq : (k0_pay89 i x0 x1 x2 x3 x4 x5 x6 x7 x8) = z7 nu (fst i) (lst i) x0 x1 x2 x4 x5 x6 := by
  unfold k0_pay89 k0_pay86 k0_pay74
  rw [rows_eq]
  rfl

theorem z8_eq : (k0_pay90 i x0 x1 x2 x3 x4 x5 x6 x7 x8) = z8 nu (fst i) (lst i) x0 x1 x2 x4 x5 x6 := by
  unfold k0_pay90 k0_pay88 k0_pay74
  rw [rows_eq]
  rfl

theorem z9_eq : (k0_pay92 i x0 x1 x2 x3 x4 x5 x6 x7 x8) = z9 nu (fst i) (lst i) x0 x1 x2 x4 x5 x6 := by
  unfold k0_pay92 k0_pay74
  rw [rows_eq]
  rfl

theorem last_eq (y0 y1 y2 y3 y4 y5 y6 y7 y8 y9 : FVec Ideal S512x256 .bf16) :
    k0_pay71 y0 y1 y2 y3 y4 y5 y6 y7 y8 (k0_pay91 i x0 x1 x2 x3 x4 x5 x6 x7 x8) y9 (k0_pay93 i x0 x1 x2 x3 x4 x5 x6 x7 x8) (k0_pay94 i x0 x1 x2 x3 x4 x5 x6 x7 x8) (k0_pay95 i x0 x1 x2 x3 x4 x5 x6 x7 x8) (k0_pay96 i x0 x1 x2 x3 x4 x5 x6 x7 x8) (View.ld x6 r0_67) (View.ld x3 r0_1) (View.ld x7 r0_68)
      = xo (View.ld x3 r0_1) (View.ld x7 r0_68) (cat y0 y1 y2 y3 y4 y5 y6 y7 y8 y9 (z10 nu (fst i) (lst i) x0 x1 x2 x4 x5 x6)) := by
  unfold k0_pay96 k0_pay95 k0_pay94 k0_pay93 k0_pay91 k0_pay74 xo
  rw [rows_eq, shapeCast_id (s := S512x1024)]
  rfl

theorem pay_eq : k0_pay71 (k0_pay77 i x0 x1 x2 x3 x4 x5 x6 x7 x8) (k0_pay79 i x0 x1 x2 x3 x4 x5 x6 x7 x8) (k0_pay80 i x0 x1 x2 x3 x4 x5 x6 x7 x8) (k0_pay82 i x0 x1 x2 x3 x4 x5 x6 x7 x8) (k0_pay84 i x0 x1 x2 x3 x4 x5 x6 x7 x8) (k0_pay85 i x0 x1 x2 x3 x4 x5 x6 x7 x8) (k0_pay87 i x0 x1 x2 x3 x4 x5 x6 x7 x8) (k0_pay89 i x0 x1 x2 x3 x4 x5 x6 x7 x8) (k0_pay90 i x0 x1 x2 x3 x4 x5 x6 x7 x8) (k0_pay91 i x0 x1 x2 x3 x4 x5 x6 x7 x8) (k0_pay92 i x0 x1 x2 x3 x4 x5 x6 x7 x8) (k0_pay93 i x0 x1 x2 x3 x4 x5 x6 x7 x8) (k0_pay94 i x0 x1 x2 x3 x4 x5 x6 x7 x8) (k0_pay95 i x0 x1 x2 x3 x4 x5 x6 x7 x8) (k0_pay96 i x0 x1 x2 x3 x4 x5 x6 x7 x8) (View.ld x6 r0_67) (View.ld x3 r0_1) (View.ld x7 r0_68) = xV nu (fst i) (lst i) x0 x1 x2 x3 x4 x5 x6 x7 := by
  rw [z0_eq, z1_eq, z2_eq, z3_eq, z4_eq, z5_eq, z6_eq, z7_eq, z8_eq, z9_eq, last_eq]
  rfl

theorem nrm_eq (v85 : FVec Ideal S512x256 .bf16) (v145 : FVec Ideal S512x256 .bf16) (v205 : FVec Ideal S512x256 .bf16) (v265 : FVec Ideal S512x256 .bf16) (v325 : FVec Ideal S512x256 .bf16) (v385 : FVec Ideal S512x256 .bf16) (v445 : FVec Ideal S512x256 .bf16) (v505 : FVec Ideal S512x256 .bf16) (v565 : FVec Ideal S512x256 .bf16) (v571 : FVec Ideal S544x256 .f32) (v625 : FVec Ideal S512x256 .bf16) (v647 : FVec Ideal S512x256 .f32) (v651 : FVec Ideal S512x256 .f32) (v653 : FVec Ideal S3x256 .f32) (v656 : FVec Ideal S512x256 .f32) (v666 : Vec Ideal S1x256 .f32) (v681 : Vec Ideal S512x1024 .f32) (v682 : Vec Ideal S2816x1024 .bf16)
    (g : Vec Ideal S1x1024 .f32) : k0_pay1 (F := Ideal) (k0_pay72 g) (k0_pay73 v85 v145 v205 v265 v325 v385 v445 v505 v565 v571 v625 v647 v651 v653 v656 v666 v681 v682) = nrmV (k0_pay71 v85 v145 v205 v265 v325 v385 v445 v505 v565 v571 v625 v647 v651 v653 v656 v666 v681 v682) g := by
  unfold k0_pay73
  generalize k0_pay71 (F := Ideal) v85 v145 v205 v265 v325 v385 v445 v505 v565 v571 v625 v647 v651 v653 v656 v666 v681 v682 = x
  rfl

variable (t : ℕ) (H X : ℕ → Fin 1024 → EReal) (ht : t < 32) (hi : (i 0 : ℕ) = t)
  (h0 : t % 16 ≠ 0 → ∀ k, x0 (ix2 15 k) = H (512 * t - 1) k) (h2 : t % 16 ≠ 15 → ∀ k, x2 (ix2 0 k) = H (512 * t + 512) k)
  (h1 : ∀ (p : Fin 512) (k : Fin 1024), x1 (ix2 p k) = H (512 * t + p) k)
  (hX : ∀ (p : Fin 512) (k : Fin 1024), x3 (ix2 p k) = X (512 * t + p) k)
include ht hi h0 h1 h2 hX

theorem xV_at' (p : Fin 512) (e : Fin 1024) : xV nu (fst i) (lst i) x0 x1 x2 x3 x4 x5 x6 x7 (ix2 p e) = M.ffnX 8192 H X (fun k c => x4 (ix2 k c)) (fun k c => x5 (ix2 k c)) (fun c => x6 (ix2 0 c)) (fun c e => x7 (ix2 c e)) (512 * t + p) e :=
  xV_at nu (fst i) (lst i) x0 x1 x2 x3 x4 x5 x6 x7 16 15 8192 t H X (Scal.named_neg_tail _) rfl rfl (by unfold fst; rw [hi]; exact pos_first16 ⟨t, ht⟩) (by unfold lst; rw [hi]; exact pos_last16 ⟨t, ht⟩) h0 h2 h1 hX p e

theorem out9_at (p : Fin 512) (e : Fin 1024) : out0_9 (F := Ideal) i x0 x1 x2 x3 x4 x5 x6 x7 x8 (ix2 p e) = M.ffnX 8192 H X (fun k c => x4 (ix2 k c)) (fun k c => x5 (ix2 k c)) (fun c => x6 (ix2 0 c)) (fun c e => x7 (ix2 c e)) (512 * t + p) e := by
  refine Eq.trans ?_ (xV_at' i x0 x1 x2 x3 x4 x5 x6 x7 t H X ht hi h0 h2 h1 hX p e)
  unfold out0_9
  rw [pay_eq]
  frame_out

theorem out10_at (p : Fin 512) (e : Fin 1024) : out0_10 (F := Ideal) i x0 x1 x2 x3 x4 x5 x6 x7 x8 (ix2 p e) = M.nrm (M.ffnX 8192 H X (fun k c => x4 (ix2 k c)) (fun k c => x5 (ix2 k c)) (fun c => x6 (ix2 0 c)) (fun c e => x7 (ix2 c e))) (fun j => x8 (ix2 0 j)) (512 * t + p) e := by
  have h := nrmV_at (xV nu (fst i) (lst i) x0 x1 x2 x3 x4 x5 x6 x7) (View.ld x8 r0_69) p e
  simp only [xV_at' i x0 x1 x2 x3 x4 x5 x6 x7 t H X ht hi h0 h2 h1 hX] at h
  refine Eq.trans ?_ (h.trans ?_)
  · unfold out0_10
    rw [nrm_eq, pay_eq]
    frame_out
  · unfold M.nrm
    congr 1
    funext j
    pointwise
end block

end Cert.KernelTailIdeal.Ffn0
end
-- ==== Proof.TailFfn0Arr.lean ====
module

public import proofs.«01_k».proof.Proof.TailFfn0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The arrays the tail's first feed-forward leaves. -/
namespace Cert.KernelTailIdeal.Ffn0
open Cert.KernelTailIdeal Cert.KernelTailIdeal.Gen

theorem idx : ∀ t : Fin cfg0.N, win0_1.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0] :=
  (by decide +kernel : ∀ t : Fin grid0.N, _)

theorem idx_before : ∀ t : Fin cfg0.N, t.val % 16 ≠ 0 → win0_0.index t = ![t.val * 32 - 1, 0] :=
  (by decide +kernel : ∀ t : Fin grid0.N, t.val % 16 ≠ 0 → win0_0.index t = ![t.val * 32 - 1, 0])

theorem idx_after : ∀ t : Fin cfg0.N, t.val % 16 ≠ 15 → win0_2.index t = ![t.val * 32 + 32, 0] :=
  (by decide +kernel : ∀ t : Fin grid0.N, t.val % 16 ≠ 15 → win0_2.index t = ![t.val * 32 + 32, 0])

theorem coord : ∀ t : Fin cfg0.N, ((grid0.coords t) 0 : ℕ) = t.val :=
  (by decide +kernel : ∀ t : Fin grid0.N, ((grid0.coords t) 0 : ℕ) = t.val)

variable (V : (c : Dev nD) → (b : Ref sig .tc) → Buf (Elt Ideal) ((c : Thread nD τ).loc b))

/-- the region's first result, over what the region reads -/
abbrev res := Cert.KernelIdeal.Ffn.res 8192

theorem lt32 (t : Fin cfg0.N) : t.val < 32 := lt_of_lt_of_eq t.isLt (by decide)

theorem hrow (c : Dev nD) (t : Fin cfg0.N) (p : Fin 512) (k : Fin 1024) :
    iblk0 V c 1 t (ix2 p k) = M.rows (φ := .bf16) (V c main_arg0) (512 * t.val + p) k := by
  unfold M.rows
  have ht := lt32 t
  blk_ext [iblk0, idx t]

theorem hbefore (c : Dev nD) (t : Fin cfg0.N) (h4 : t.val % 16 ≠ 0) (k : Fin 1024) :
    iblk0 V c 0 t (ix2 15 k) = M.rows (φ := .bf16) (V c main_arg0) (512 * t.val - 1) k := by
  unfold M.rows
  have ht := lt32 t
  blk_ext [iblk0, idx_before t h4]

theorem hafter (c : Dev nD) (t : Fin cfg0.N) (h4 : t.val % 16 ≠ 15) (k : Fin 1024) :
    iblk0 V c 2 t (ix2 0 k) = M.rows (φ := .bf16) (V c main_arg0) (512 * t.val + 512) k := by
  unfold M.rows
  have ht := lt32 t
  blk_ext [iblk0, idx_after t h4]

theorem xrow (c : Dev nD) (t : Fin cfg0.N) (p : Fin 512) (k : Fin 1024) :
    iblk0 V c 3 t (ix2 p k) = M.rows (φ := .f32) (V c main_arg1) (512 * t.val + p) k := by
  unfold M.rows
  have ht := lt32 t
  blk_ext [iblk0, idx t]

theorem iblk_4 (c : Dev nD) (t : Fin cfg0.N) : iblk0 V c 4 t = V c main_v20 := by blk_ext! [iblk0, idx t]
theorem iblk_5 (c : Dev nD) (t : Fin cfg0.N) : iblk0 V c 5 t = V c main_v25 := by blk_ext! [iblk0, idx t]
theorem iblk_6 (c : Dev nD) (t : Fin cfg0.N) : iblk0 V c 6 t = V c main_v30 := by blk_ext! [iblk0, idx t]
theorem iblk_7 (c : Dev nD) (t : Fin cfg0.N) : iblk0 V c 7 t = V c main_v36 := by blk_ext! [iblk0, idx t]
theorem iblk_8 (c : Dev nD) (t : Fin cfg0.N) : iblk0 V c 8 t = V c main_v2 := by blk_ext! [iblk0, idx t]

/-- the array of the rows after the residual addition -/
theorem final9 (c : Dev nD) : (dat0 V c).arrAt 9 cfg0.N
    = fun i : S16384x1024.Idx => res (V c main_arg0) (V c main_arg1) (V c main_v20) (V c main_v25) (V c main_v30) (V c main_v36) (i 0) (i 1) := by
  refine (dat0 V c).arrAt_eq_of_covers 9 _ (by decide +kernel) fun t _ y => ?_
  blk_simp
  rw [after0_9]
  obtain ⟨y0, y1, rfl⟩ : ∃ (a : Fin 512) (b : Fin 1024), y = ix2 a b := ⟨y 0, y 1, eq_ix2 y⟩
  have h := out9_at (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) t.val _ _ (lt32 t) (coord t)
    (hbefore V c t) (hafter V c t) (hrow V c t) (xrow V c t) y0 y1
  rw [iblk_4, iblk_5, iblk_6, iblk_7] at h
  rw [iblk_4, iblk_5, iblk_6, iblk_7]
  refine h.trans (congrArg₂ (res (V c main_arg0) (V c main_arg1) (V c main_v20) (V c main_v25) (V c main_v30) (V c main_v36)) ?_ ?_)
  · blk_simp [idx t]
    omega
  · refine Fin.ext ?_
    (blk_simp [idx t] <;> try omega)

/-- the array of the rows normalised for what follows -/
theorem final10 (c : Dev nD) : (dat0 V c).arrAt 10 cfg0.N
    = fun i : S16384x1024.Idx => M.nrm (res (V c main_arg0) (V c main_arg1) (V c main_v20) (V c main_v25) (V c main_v30) (V c main_v36)) (fun j => V c main_v2 (ix2 0 j)) (i 0) (i 1) := by
  refine (dat0 V c).arrAt_eq_of_covers 10 _ (by decide +kernel) fun t _ y => ?_
  blk_simp
  rw [after0_10]
  obtain ⟨y0, y1, rfl⟩ : ∃ (a : Fin 512) (b : Fin 1024), y = ix2 a b := ⟨y 0, y 1, eq_ix2 y⟩
  have h := out10_at (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) t.val _ _ (lt32 t) (coord t)
    (hbefore V c t) (hafter V c t) (hrow V c t) (xrow V c t) y0 y1
  rw [iblk_4, iblk_5, iblk_6, iblk_7, iblk_8] at h
  rw [iblk_4, iblk_5, iblk_6, iblk_7, iblk_8]
  refine h.trans (congrArg₂ (M.nrm (res (V c main_arg0) (V c main_arg1) (V c main_v20) (V c main_v25) (V c main_v30) (V c main_v36)) (fun j => V c main_v2 (ix2 0 j))) ?_ ?_)
  · blk_simp [idx t]
    omega
  · refine Fin.ext ?_
    (blk_simp [idx t] <;> try omega)

end Cert.KernelTailIdeal.Ffn0
end
-- ==== Proof.TailSguArr.lean ====
module

public import proofs.«01_k».proof.Proof.SguArr
public import proofs.«01_k».proof.Proof.Gen.KernelTailIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The two arrays the tail's spatial gating unit leaves. -/
namespace Cert.KernelTailIdeal.Sgu
open Cert.KernelTailIdeal Cert.KernelTailIdeal.Gen

theorem idx : ∀ t : Fin cfg1.N, win1_0.index t = ![t.val, 0] ∧ win1_1.index t = ![t.val, 0] ∧ win1_2.index t = ![0, 0]
    ∧ win1_3.index t = ![0, 0] ∧ win1_4.index t = ![0, 0, 0] ∧ win1_5.index t = ![0, 0] ∧ win1_6.index t = ![0, 0]
    ∧ win1_7.index t = ![0, 0] ∧ win1_8.index t = ![t.val, 0] ∧ win1_9.index t = ![t.val, 0] :=
  (by decide +kernel : ∀ t : Fin grid1.N, _)

variable (V : (c : Dev nD) → (b : Ref sig .tc) → Buf (Elt Ideal) ((c : Thread nD τ).loc b))

/-- the region's first result, over what the region reads -/
abbrev res := Cert.KernelIdeal.Sgu.res

theorem out8_eq (x0 : FVec Ideal S512x1024 .bf16) (x1 : FVec Ideal S512x1024 .f32) (x2 : FVec Ideal S1024x4096 .bf16) (x3 : FVec Ideal S1x2048 .f32)
    (x4 : FVec Ideal S8x128x128 .bf16) (x5 : FVec Ideal S128x2048 .f32) (x6 : FVec Ideal S2048x1024 .bf16) (x7 : FVec Ideal S1x1024 .f32) :
    out1_8 (F := Ideal) x0 x1 x2 x3 x4 x5 x6 x7 = Cert.KernelIdeal.Gen.out3_8 (F := Ideal) x0 x1 x2 x3 x4 x5 x6 x7 := rfl

theorem out9_eq (x0 : FVec Ideal S512x1024 .bf16) (x1 : FVec Ideal S512x1024 .f32) (x2 : FVec Ideal S1024x4096 .bf16) (x3 : FVec Ideal S1x2048 .f32)
    (x4 : FVec Ideal S8x128x128 .bf16) (x5 : FVec Ideal S128x2048 .f32) (x6 : FVec Ideal S2048x1024 .bf16) (x7 : FVec Ideal S1x1024 .f32) :
    out1_9 (F := Ideal) x0 x1 x2 x3 x4 x5 x6 x7 = Cert.KernelIdeal.Gen.out3_9 (F := Ideal) x0 x1 x2 x3 x4 x5 x6 x7 := rfl

theorem hrow (c : Dev nD) (t : Fin cfg1.N) (p : Fin 512) (k : Fin 1024) :
    iblk1 V c 0 t (ix2 p k) = M.rows (φ := .bf16) (V c main_v40_1) (512 * t.val + p) k := by
  unfold M.rows
  have ht : t.val < 32 := lt_of_lt_of_eq t.isLt (by decide)
  blk_ext [iblk1, idx t]

theorem xrow (c : Dev nD) (t : Fin cfg1.N) (p : Fin 512) (k : Fin 1024) :
    iblk1 V c 1 t (ix2 p k) = M.rows (φ := .f32) (V c main_v40_0) (512 * t.val + p) k := by
  unfold M.rows
  have ht : t.val < 32 := lt_of_lt_of_eq t.isLt (by decide)
  blk_ext [iblk1, idx t]

theorem iblk_2 (c : Dev nD) (t : Fin cfg1.N) : iblk1 V c 2 t = V c main_v7 := by blk_ext! [iblk1, idx t]
theorem iblk_3 (c : Dev nD) (t : Fin cfg1.N) : iblk1 V c 3 t = V c main_v9 := by blk_ext! [iblk1, idx t]
theorem iblk_4 (c : Dev nD) (t : Fin cfg1.N) : iblk1 V c 4 t = V c main_v11 := by blk_ext! [iblk1, idx t]
theorem iblk_5 (c : Dev nD) (t : Fin cfg1.N) : iblk1 V c 5 t = V c main_v15 := by blk_ext! [iblk1, idx t]
theorem iblk_6 (c : Dev nD) (t : Fin cfg1.N) : iblk1 V c 6 t = V c main_v17 := by blk_ext! [iblk1, idx t]
theorem iblk_7 (c : Dev nD) (t : Fin cfg1.N) : iblk1 V c 7 t = V c main_v5 := by blk_ext! [iblk1, idx t]

/-- the array of the rows after the residual addition -/
theorem final8 (c : Dev nD) : (dat1 V c).arrAt 8 cfg1.N
    = fun i : S16384x1024.Idx => res (V c main_v40_1) (V c main_v40_0) (V c main_v7) (V c main_v9) (V c main_v11) (V c main_v15) (V c main_v17) (i 0) (i 1) := by
  refine (dat1 V c).arrAt_eq_of_covers 8 _ (by decide +kernel) fun t _ y => ?_
  blk_simp
  rw [after1_8, out8_eq]
  obtain ⟨y0, y1, rfl⟩ : ∃ (a : Fin 512) (b : Fin 1024), y = ix2 a b := ⟨y 0, y 1, eq_ix2 y⟩
  have h := Cert.KernelIdeal.Sgu.out8_at (iblk1 V c 0 t) (iblk1 V c 1 t) (iblk1 V c 2 t) (iblk1 V c 3 t) (iblk1 V c 4 t) (iblk1 V c 5 t) (iblk1 V c 6 t) (iblk1 V c 7 t)
    t.val _ _ (hrow V c t) (xrow V c t) y0 y1
  rw [iblk_2, iblk_3, iblk_4, iblk_5, iblk_6] at h
  rw [iblk_2, iblk_3, iblk_4, iblk_5, iblk_6]
  refine h.trans (congrArg₂ (res (V c main_v40_1) (V c main_v40_0) (V c main_v7) (V c main_v9) (V c main_v11) (V c main_v15) (V c main_v17)) ?_ ?_)
  · blk_simp [idx t]
    omega
  · refine Fin.ext ?_
    (blk_simp [idx t] <;> try omega)

/-- the array of the rows normalised for what follows -/
theorem final9 (c : Dev nD) : (dat1 V c).arrAt 9 cfg1.N
    = fun i : S16384x1024.Idx => M.nrm (res (V c main_v40_1) (V c main_v40_0) (V c main_v7) (V c main_v9) (V c main_v11) (V c main_v15) (V c main_v17)) (fun j => V c main_v5 (ix2 0 j)) (i 0) (i 1) := by
  refine (dat1 V c).arrAt_eq_of_covers 9 _ (by decide +kernel) fun t _ y => ?_
  blk_simp
  rw [after1_9, out9_eq]
  obtain ⟨y0, y1, rfl⟩ : ∃ (a : Fin 512) (b : Fin 1024), y = ix2 a b := ⟨y 0, y 1, eq_ix2 y⟩
  have h := Cert.KernelIdeal.Sgu.out9_at (iblk1 V c 0 t) (iblk1 V c 1 t) (iblk1 V c 2 t) (iblk1 V c 3 t) (iblk1 V c 4 t) (iblk1 V c 5 t) (iblk1 V c 6 t) (iblk1 V c 7 t)
    t.val _ _ (hrow V c t) (xrow V c t) y0 y1
  rw [iblk_2, iblk_3, iblk_4, iblk_5, iblk_6, iblk_7] at h
  rw [iblk_2, iblk_3, iblk_4, iblk_5, iblk_6, iblk_7]
  refine h.trans (congrArg₂ (M.nrm (res (V c main_v40_1) (V c main_v40_0) (V c main_v7) (V c main_v9) (V c main_v11) (V c main_v15) (V c main_v17)) (fun j => V c main_v5 (ix2 0 j))) ?_ ?_)
  · blk_simp [idx t]
    omega
  · refine Fin.ext ?_
    (blk_simp [idx t] <;> try omega)

end Cert.KernelTailIdeal.Sgu
end
-- ==== Proof.TailFfn2.lean ====
module

public import proofs.«01_k».proof.Proof.Model
public import proofs.«01_k».proof.Proof.Scal
public import proofs.«01_k».proof.Proof.FfnG
public import proofs.«01_k».proof.Proof.Gen.KernelTailIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The tail's last feed-forward: what its store is, read at an element. -/
namespace Cert.KernelTailIdeal.Ffn2
open Cert.KernelTailIdeal Cert.KernelTailIdeal.Gen Cert.KernelIdeal.Ffn

section block
/-- the constant in the power of two -/
abbrev nu : EReal := Named.named (F := Ideal) Cert.KernelTailIdeal.κ "neg_log2e" (φ := .f32) 0xBFB8AA3B#32

variable (i : grid2.Coords) (x0 : Vec Ideal S16x1024 .bf16) (x1 : Vec Ideal S512x1024 .bf16) (x2 : Vec Ideal S16x1024 .bf16) (x3 : Vec Ideal S512x1024 .f32)
  (x4 : Vec Ideal S1024x5632 .bf16) (x5 : Vec Ideal S3x5632 .f32) (x6 : Vec Ideal S1x5632 .f32) (x7 : Vec Ideal S2816x1024 .bf16) (x8 : Vec Ideal S1x1024 .f32)

/-- whether the tile is its sequence's first -/
abbrev fst : BitVec 1 := (Scalar.cmpi .eq (posw 16#32 (BitVec.ofNat 32 (i 0))) 0#32)
/-- whether the tile is its sequence's last -/
abbrev lst : BitVec 1 := (Scalar.cmpi .eq (posw 16#32 (BitVec.ofNat 32 (i 0))) 15#32)

theorem z0_eq : (k2_pay8 (k2_pay6 (k2_pay2 i (View.ld x0 r2_0) (View.ld x2 r2_0) (View.ld x1 r2_1) (View.ld x4 r2_2)) (View.ld x5 r2_6) (View.ld x6 r2_7)) (k2_pay7 (k2_pay3 i (View.ld x0 r2_0) (View.ld x2 r2_0) (View.ld x1 r2_1) (View.ld x4 r2_3)) (View.ld x5 r2_8) (View.ld x6 r2_9))) = z0 nu (fst i) (lst i) x0 x1 x2 x4 x5 x6 := rfl

theorem z1_eq : (k2_pay14 (k2_pay70 i x0 x1 x2 x3 x4 x5 x6 x7 x8) (k2_pay11 (k2_pay4 i (View.ld x0 r2_0) (View.ld x2 r2_0) (View.ld x1 r2_1) (View.ld x4 r2_4)) (View.ld x5 r2_12) (View.ld x6 r2_13)) (k2_pay12 (k2_pay70 i x0 x1 x2 x3 x4 x5 x6 x7 x8)) (k2_pay13 (k2_pay70 i x0 x1 x2 x3 x4 x5 x6 x7 x8)) (View.ld x5 r2_14) (View.ld x6 r2_15)) = z1 nu (fst i) (lst i) x0 x1 x2 x4 x5 x6 := rfl

theorem z2_eq : (k2_pay21 (k2_pay10 (k2_pay69 i x0 x1 x2 x3 x4 x5 x6 x7 x8) (View.ld x4 r2_11)) (k2_pay17 (k2_pay71 i x0 x1 x2 x3 x4 x5 x6 x7 x8)) (k2_pay18 (View.ld x5 r2_18)) (k2_pay19 (k2_pay71 i x0 x1 x2 x3 x4 x5 x6 x7 x8) (View.ld x5 r2_18)) (k2_pay20 (k2_pay71 i x0 x1 x2 x3 x4 x5 x6 x7 x8)) (View.ld x6 r2_19) (View.ld x5 r2_20) (View.ld x6 r2_21)) = z2 nu (fst i) (lst i) x0 x1 x2 x4 x5 x6 := rfl

theorem z3_eq : (k2_pay27 (k2_pay25 (k2_pay15 (k2_pay69 i x0 x1 x2 x3 x4 x5 x6 x7 x8) (View.ld x4 r2_16)) (View.ld x5 r2_24) (View.ld x6 r2_25)) (k2_pay26 (k2_pay16 (k2_pay69 i x0 x1 x2 x3 x4 x5 x6 x7 x8) (View.ld x4 r2_17)) (View.ld x5 r2_26)) (View.ld x6 r2_27)) = z3 nu (fst i) (lst i) x0 x1 x2 x4 x5 x6 := rfl

theorem z4_eq : (k2_pay32 (k2_pay72 i x0 x1 x2 x3 x4 x5 x6 x7 x8) (k2_pay30 (k2_pay23 (k2_pay69 i x0 x1 x2 x3 x4 x5 x6 x7 x8) (k2_pay22 (View.ld x4 r2_22)) (constant S544x256 .f32 0x00000000#32)) (View.ld x5 r2_30) (View.ld x6 r2_31)) (k2_pay31 (k2_pay72 i x0 x1 x2 x3 x4 x5 x6 x7 x8)) 543#32 (View.ld x5 r2_32) (View.ld x6 r2_33)) = z4 nu (fst i) (lst i) x0 x1 x2 x4 x5 x6 := rfl

theorem z5_eq : (k2_pay39 (k2_pay73 i x0 x1 x2 x3 x4 x5 x6 x7 x8) (k2_pay29 (k2_pay69 i x0 x1 x2 x3 x4 x5 x6 x7 x8) (View.ld x4 r2_29)) (k2_pay35 (k2_pay73 i x0 x1 x2 x3 x4 x5 x6 x7 x8)) (k2_pay36 (k2_pay73 i x0 x1 x2 x3 x4 x5 x6 x7 x8)) (k2_pay37 (View.ld x5 r2_36)) (k2_pay38 (View.ld x5 r2_36)) (View.ld x6 r2_37) (View.ld x5 r2_38) (View.ld x6 r2_39)) = z5 nu (fst i) (lst i) x0 x1 x2 x4 x5 x6 := rfl

theorem z6_eq : (k2_pay44 (k2_pay42 (k2_pay33 (k2_pay69 i x0 x1 x2 x3 x4 x5 x6 x7 x8) (View.ld x4 r2_34)) (View.ld x5 r2_42) (View.ld x6 r2_43)) (k2_pay43 (k2_pay34 (k2_pay69 i x0 x1 x2 x3 x4 x5 x6 x7 x8) (View.ld x4 r2_35)) (View.ld x5 r2_44)) (View.ld x6 r2_45)) = z6 nu (fst i) (lst i) x0 x1 x2 x4 x5 x6 := rfl

theorem z7_eq : (k2_pay48 (k2_pay41 (k2_pay69 i x0 x1 x2 x3 x4 x5 x6 x7 x8) (View.ld x4 r2_41)) (k2_pay47 (k2_pay40 (k2_pay69 i x0 x1 x2 x3 x4 x5 x6 x7 x8) (View.ld x4 r2_40)) (View.ld x5 r2_48) (View.ld x6 r2_49)) 1#32 (View.ld x5 r2_50) (View.ld x6 r2_51)) = z7 nu (fst i) (lst i) x0 x1 x2 x4 x5 x6 := rfl

theorem z8_eq : (k2_pay54 (k2_pay53 (k2_pay74 i x0 x1 x2 x3 x4 x5 x6 x7 x8) (k2_pay46 (k2_pay69 i x0 x1 x2 x3 x4 x5 x6 x7 x8) (View.ld x4 r2_47)) (k2_pay51 (k2_pay74 i x0 x1 x2 x3 x4 x5 x6 x7 x8)) (k2_pay52 (k2_pay74 i x0 x1 x2 x3 x4 x5 x6 x7 x8)) (View.ld x5 r2_54) (View.ld x6 r2_55) (View.ld x5 r2_56) (View.ld x6 r2_57))) = z8 nu (fst i) (lst i) x0 x1 x2 x4 x5 x6 := rfl

theorem z9_eq : (k2_pay62 (k2_pay57 (k2_pay49 (k2_pay69 i x0 x1 x2 x3 x4 x5 x6 x7 x8) (View.ld x4 r2_52)) (View.ld x5 r2_60) (View.ld x6 r2_61)) (k2_pay58 (k2_pay75 i x0 x1 x2 x3 x4 x5 x6 x7 x8)) (k2_pay60 (k2_pay75 i x0 x1 x2 x3 x4 x5 x6 x7 x8) (View.ld x5 r2_62)) (k2_pay61 (View.ld x5 r2_62)) (View.ld x6 r2_63)) = z9 nu (fst i) (lst i) x0 x1 x2 x4 x5 x6 := rfl

theorem last_eq (y0 y1 y2 y3 y4 y5 y6 y7 y8 y9 : FVec Ideal S512x256 .bf16) :
    k2_pay68 y0 y1 y2 y3 y4 y5 y6 y7 y8 y9 (k2_pay67 (k2_pay76 i x0 x1 x2 x3 x4 x5 x6 x7 x8) (k2_pay63 (k2_pay55 (k2_pay69 i x0 x1 x2 x3 x4 x5 x6 x7 x8) (View.ld x4 r2_58)) (View.ld x5 r2_64) (View.ld x6 r2_65)) (k2_pay64 (k2_pay76 i x0 x1 x2 x3 x4 x5 x6 x7 x8)) (k2_pay65 (k2_pay76 i x0 x1 x2 x3 x4 x5 x6 x7 x8)) (k2_pay66 (View.ld x5 r2_66)) (View.ld x6 r2_67)) (View.ld x3 r2_1) (View.ld x7 r2_68)
      = xo (View.ld x3 r2_1) (View.ld x7 r2_68) (cat y0 y1 y2 y3 y4 y5 y6 y7 y8 y9 (z10 nu (fst i) (lst i) x0 x1 x2 x4 x5 x6)) := rfl

theorem pay_eq : k2_pay68 (k2_pay8 (k2_pay6 (k2_pay2 i (View.ld x0 r2_0) (View.ld x2 r2_0) (View.ld x1 r2_1) (View.ld x4 r2_2)) (View.ld x5 r2_6) (View.ld x6 r2_7)) (k2_pay7 (k2_pay3 i (View.ld x0 r2_0) (View.ld x2 r2_0) (View.ld x1 r2_1) (View.ld x4 r2_3)) (View.ld x5 r2_8) (View.ld x6 r2_9))) (k2_pay14 (k2_pay70 i x0 x1 x2 x3 x4 x5 x6 x7 x8) (k2_pay11 (k2_pay4 i (View.ld x0 r2_0) (View.ld x2 r2_0) (View.ld x1 r2_1) (View.ld x4 r2_4)) (View.ld x5 r2_12) (View.ld x6 r2_13)) (k2_pay12 (k2_pay70 i x0 x1 x2 x3 x4 x5 x6 x7 x8)) (k2_pay13 (k2_pay70 i x0 x1 x2 x3 x4 x5 x6 x7 x8)) (View.ld x5 r2_14) (View.ld x6 r2_15)) (k2_pay21 (k2_pay10 (k2_pay69 i x0 x1 x2 x3 x4 x5 x6 x7 x8) (View.ld x4 r2_11)) (k2_pay17 (k2_pay71 i x0 x1 x2 x3 x4 x5 x6 x7 x8)) (k2_pay18 (View.ld x5 r2_18)) (k2_pay19 (k2_pay71 i x0 x1 x2 x3 x4 x5 x6 x7 x8) (View.ld x5 r2_18)) (k2_pay20 (k2_pay71 i x0 x1 x2 x3 x4 x5 x6 x7 x8)) (View.ld x6 r2_19) (View.ld x5 r2_20) (View.ld x6 r2_21)) (k2_pay27 (k2_pay25 (k2_pay15 (k2_pay69 i x0 x1 x2 x3 x4 x5 x6 x7 x8) (View.ld x4 r2_16)) (View.ld x5 r2_24) (View.ld x6 r2_25)) (k2_pay26 (k2_pay16 (k2_pay69 i x0 x1 x2 x3 x4 x5 x6 x7 x8) (View.ld x4 r2_17)) (View.ld x5 r2_26)) (View.ld x6 r2_27)) (k2_pay32 (k2_pay72 i x0 x1 x2 x3 x4 x5 x6 x7 x8) (k2_pay30 (k2_pay23 (k2_pay69 i x0 x1 x2 x3 x4 x5 x6 x7 x8) (k2_pay22 (View.ld x4 r2_22)) (constant S544x256 .f32 0x00000000#32)) (View.ld x5 r2_30) (View.ld x6 r2_31)) (k2_pay31 (k2_pay72 i x0 x1 x2 x3 x4 x5 x6 x7 x8)) 543#32 (View.ld x5 r2_32) (View.ld x6 r2_33)) (k2_pay39 (k2_pay73 i x0 x1 x2 x3 x4 x5 x6 x7 x8) (k2_pay29 (k2_pay69 i x0 x1 x2 x3 x4 x5 x6 x7 x8) (View.ld x4 r2_29)) (k2_pay35 (k2_pay73 i x0 x1 x2 x3 x4 x5 x6 x7 x8)) (k2_pay36 (k2_pay73 i x0 x1 x2 x3 x4 x5 x6 x7 x8)) (k2_pay37 (View.ld x5 r2_36)) (k2_pay38 (View.ld x5 r2_36)) (View.ld x6 r2_37) (View.ld x5 r2_38) (View.ld x6 r2_39)) (k2_pay44 (k2_pay42 (k2_pay33 (k2_pay69 i x0 x1 x2 x3 x4 x5 x6 x7 x8) (View.ld x4 r2_34)) (View.ld x5 r2_42) (View.ld x6 r2_43)) (k2_pay43 (k2_pay34 (k2_pay69 i x0 x1 x2 x3 x4 x5 x6 x7 x8) (View.ld x4 r2_35)) (View.ld x5 r2_44)) (View.ld x6 r2_45)) (k2_pay48 (k2_pay41 (k2_pay69 i x0 x1 x2 x3 x4 x5 x6 x7 x8) (View.ld x4 r2_41)) (k2_pay47 (k2_pay40 (k2_pay69 i x0 x1 x2 x3 x4 x5 x6 x7 x8) (View.ld x4 r2_40)) (View.ld x5 r2_48) (View.ld x6 r2_49)) 1#32 (View.ld x5 r2_50) (View.ld x6 r2_51)) (k2_pay54 (k2_pay53 (k2_pay74 i x0 x1 x2 x3 x4 x5 x6 x7 x8) (k2_pay46 (k2_pay69 i x0 x1 x2 x3 x4 x5 x6 x7 x8) (View.ld x4 r2_47)) (k2_pay51 (k2_pay74 i x0 x1 x2 x3 x4 x5 x6 x7 x8)) (k2_pay52 (k2_pay74 i x0 x1 x2 x3 x4 x5 x6 x7 x8)) (View.ld x5 r2_54) (View.ld x6 r2_55) (View.ld x5 r2_56) (View.ld x6 r2_57))) (k2_pay62 (k2_pay57 (k2_pay49 (k2_pay69 i x0 x1 x2 x3 x4 x5 x6 x7 x8) (View.ld x4 r2_52)) (View.ld x5 r2_60) (View.ld x6 r2_61)) (k2_pay58 (k2_pay75 i x0 x1 x2 x3 x4 x5 x6 x7 x8)) (k2_pay60 (k2_pay75 i x0 x1 x2 x3 x4 x5 x6 x7 x8) (View.ld x5 r2_62)) (k2_pay61 (View.ld x5 r2_62)) (View.ld x6 r2_63)) (k2_pay67 (k2_pay76 i x0 x1 x2 x3 x4 x5 x6 x7 x8) (k2_pay63 (k2_pay55 (k2_pay69 i x0 x1 x2 x3 x4 x5 x6 x7 x8) (View.ld x4 r2_58)) (View.ld x5 r2_64) (View.ld x6 r2_65)) (k2_pay64 (k2_pay76 i x0 x1 x2 x3 x4 x5 x6 x7 x8)) (k2_pay65 (k2_pay76 i x0 x1 x2 x3 x4 x5 x6 x7 x8)) (k2_pay66 (View.ld x5 r2_66)) (View.ld x6 r2_67)) (View.ld x3 r2_1) (View.ld x7 r2_68) = xV nu (fst i) (lst i) x0 x1 x2 x3 x4 x5 x6 x7 := by
  rw [z0_eq, z1_eq, z2_eq, z3_eq, z4_eq, z5_eq, z6_eq, z7_eq, z8_eq, z9_eq, last_eq]
  rfl

variable (t : ℕ) (H X : ℕ → Fin 1024 → EReal) (ht : t < 32) (hi : (i 0 : ℕ) = t)
  (h0 : t % 16 ≠ 0 → ∀ k, x0 (ix2 15 k) = H (512 * t - 1) k) (h2 : t % 16 ≠ 15 → ∀ k, x2 (ix2 0 k) = H (512 * t + 512) k)
  (h1 : ∀ (p : Fin 512) (k : Fin 1024), x1 (ix2 p k) = H (512 * t + p) k)
  (hX : ∀ (p : Fin 512) (k : Fin 1024), x3 (ix2 p k) = X (512 * t + p) k)
include ht hi h0 h1 h2 hX

theorem xV_at' (p : Fin 512) (e : Fin 1024) : xV nu (fst i) (lst i) x0 x1 x2 x3 x4 x5 x6 x7 (ix2 p e) = M.ffnX 8192 H X (fun k c => x4 (ix2 k c)) (fun k c => x5 (ix2 k c)) (fun c => x6 (ix2 0 c)) (fun c e => x7 (ix2 c e)) (512 * t + p) e :=
  xV_at nu (fst i) (lst i) x0 x1 x2 x3 x4 x5 x6 x7 16 15 8192 t H X (Scal.named_neg_tail _) rfl rfl (by unfold fst; rw [hi]; exact pos_first16 ⟨t, ht⟩) (by unfold lst; rw [hi]; exact pos_last16 ⟨t, ht⟩) h0 h2 h1 hX p e

theorem out9_at (p : Fin 512) (e : Fin 1024) : out2_9 (F := Ideal) i x0 x1 x2 x3 x4 x5 x6 x7 x8 (ix2 p e) = M.ffnX 8192 H X (fun k c => x4 (ix2 k c)) (fun k c => x5 (ix2 k c)) (fun c => x6 (ix2 0 c)) (fun c e => x7 (ix2 c e)) (512 * t + p) e := by
  refine Eq.trans ?_ (xV_at' i x0 x1 x2 x3 x4 x5 x6 x7 t H X ht hi h0 h2 h1 hX p e)
  unfold out2_9
  rw [pay_eq]
  frame_out
end block

end Cert.KernelTailIdeal.Ffn2
end
-- ==== Proof.TailFfn2Arr.lean ====
module

public import proofs.«01_k».proof.Proof.TailFfn2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! The array the tail's last feed-forward leaves. -/
namespace Cert.KernelTailIdeal.Ffn2
open Cert.KernelTailIdeal Cert.KernelTailIdeal.Gen

theorem idx : ∀ t : Fin cfg2.N, win2_1.index t = ![t.val, 0]
    ∧ win2_3.index t = ![t.val, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![t.val, 0] :=
  (by decide +kernel : ∀ t : Fin grid2.N, _)

theorem idx_before : ∀ t : Fin cfg2.N, t.val % 16 ≠ 0 → win2_0.index t = ![t.val * 32 - 1, 0] :=
  (by decide +kernel : ∀ t : Fin grid2.N, t.val % 16 ≠ 0 → win2_0.index t = ![t.val * 32 - 1, 0])

theorem idx_after : ∀ t : Fin cfg2.N, t.val % 16 ≠ 15 → win2_2.index t = ![t.val * 32 + 32, 0] :=
  (by decide +kernel : ∀ t : Fin grid2.N, t.val % 16 ≠ 15 → win2_2.index t = ![t.val * 32 + 32, 0])

theorem coord : ∀ t : Fin cfg2.N, ((grid2.coords t) 0 : ℕ) = t.val :=
  (by decide +kernel : ∀ t : Fin grid2.N, ((grid2.coords t) 0 : ℕ) = t.val)

variable (V : (c : Dev nD) → (b : Ref sig .tc) → Buf (Elt Ideal) ((c : Thread nD τ).loc b))

/-- the region's first result, over what the region reads -/
abbrev res := Cert.KernelIdeal.Ffn.res 8192

theorem lt32 (t : Fin cfg2.N) : t.val < 32 := lt_of_lt_of_eq t.isLt (by decide)

theorem hrow (c : Dev nD) (t : Fin cfg2.N) (p : Fin 512) (k : Fin 1024) :
    iblk2 V c 1 t (ix2 p k) = M.rows (φ := .bf16) (V c main_v41_1) (512 * t.val + p) k := by
  unfold M.rows
  have ht := lt32 t
  blk_ext [iblk2, idx t]

theorem hbefore (c : Dev nD) (t : Fin cfg2.N) (h4 : t.val % 16 ≠ 0) (k : Fin 1024) :
    iblk2 V c 0 t (ix2 15 k) = M.rows (φ := .bf16) (V c main_v41_1) (512 * t.val - 1) k := by
  unfold M.rows
  have ht := lt32 t
  blk_ext [iblk2, idx_before t h4]

theorem hafter (c : Dev nD) (t : Fin cfg2.N) (h4 : t.val % 16 ≠ 15) (k : Fin 1024) :
    iblk2 V c 2 t (ix2 0 k) = M.rows (φ := .bf16) (V c main_v41_1) (512 * t.val + 512) k := by
  unfold M.rows
  have ht := lt32 t
  blk_ext [iblk2, idx_after t h4]

theorem xrow (c : Dev nD) (t : Fin cfg2.N) (p : Fin 512) (k : Fin 1024) :
    iblk2 V c 3 t (ix2 p k) = M.rows (φ := .f32) (V c main_v41_0) (512 * t.val + p) k := by
  unfold M.rows
  have ht := lt32 t
  blk_ext [iblk2, idx t]

theorem iblk_4 (c : Dev nD) (t : Fin cfg2.N) : iblk2 V c 4 t = V c main_v23 := by blk_ext! [iblk2, idx t]
theorem iblk_5 (c : Dev nD) (t : Fin cfg2.N) : iblk2 V c 5 t = V c main_v27 := by blk_ext! [iblk2, idx t]
theorem iblk_6 (c : Dev nD) (t : Fin cfg2.N) : iblk2 V c 6 t = V c main_v33 := by blk_ext! [iblk2, idx t]
theorem iblk_7 (c : Dev nD) (t : Fin cfg2.N) : iblk2 V c 7 t = V c main_v39 := by blk_ext! [iblk2, idx t]
theorem iblk_8 (c : Dev nD) (t : Fin cfg2.N) : iblk2 V c 8 t = V c main_v5 := by blk_ext! [iblk2, idx t]

/-- the array of the rows after the residual addition -/
theorem final9 (c : Dev nD) : (dat2 V c).arrAt 9 cfg2.N
    = fun i : S16384x1024.Idx => res (V c main_v41_1) (V c main_v41_0) (V c main_v23) (V c main_v27) (V c main_v33) (V c main_v39) (i 0) (i 1) := by
  refine (dat2 V c).arrAt_eq_of_covers 9 _ (by decide +kernel) fun t _ y => ?_
  blk_simp
  rw [after2_9]
  obtain ⟨y0, y1, rfl⟩ : ∃ (a : Fin 512) (b : Fin 1024), y = ix2 a b := ⟨y 0, y 1, eq_ix2 y⟩
  have h := out9_at (grid2.coords t) (iblk2 V c 0 t) (iblk2 V c 1 t) (iblk2 V c 2 t) (iblk2 V c 3 t) (iblk2 V c 4 t) (iblk2 V c 5 t) (iblk2 V c 6 t) (iblk2 V c 7 t) (iblk2 V c 8 t) t.val _ _ (lt32 t) (coord t)
    (hbefore V c t) (hafter V c t) (hrow V c t) (xrow V c t) y0 y1
  rw [iblk_4, iblk_5, iblk_6, iblk_7] at h
  rw [iblk_4, iblk_5, iblk_6, iblk_7]
  refine h.trans (congrArg₂ (res (V c main_v41_1) (V c main_v41_0) (V c main_v23) (V c main_v27) (V c main_v33) (V c main_v39)) ?_ ?_)
  · blk_simp [idx t]
    omega
  · refine Fin.ext ?_
    (blk_simp [idx t] <;> try omega)

end Cert.KernelTailIdeal.Ffn2
end
-- ==== Proof.TailChain.lean ====
module

public import proofs.«01_k».proof.Proof.Cong
public import proofs.«01_k».proof.Proof.TailRefStage
public import proofs.«01_k».proof.Proof.TailHost
public import proofs.«01_k».proof.Proof.TailFfn0Arr
public import proofs.«01_k».proof.Proof.TailSguArr
public import proofs.«01_k».proof.Proof.TailFfn2Arr
public import proofs.«01_k».proof.Proof.Gen.KernelTailIdeal.Frame

@[expose] public section

set_option maxRecDepth 16384

noncomputable section

open Idealize.ShloMosaic Idealize.ShloMosaic.TcCoe Idealize.SL.Sem

/-! The tail's three regions in turn: each leaves the rows of the reference's stream at that point. -/
namespace Cert.KernelTailIdeal.Chain
open Cert.KernelTailIdeal Cert.KernelTailIdeal.Gen
open Cert.ReferenceTailIdeal.Read (val_main_v2 val_main_v41 val_main_v101 val_main_v155)

/-- the host's arrays that the regions read -/
def later : List (Ref sig .tc) := [main_v2, main_v5, main_v7, main_v9, main_v11, main_v15, main_v17, main_v20, main_v23, main_v25, main_v27, main_v30, main_v33,
  main_v36, main_v39]

theorem outs0 : ∀ r ∈ later, ∀ w : Fin cfg0.W, Pipeline.arrRef spec0 w = r → (cfg0.win w).isOut = false := by decide +kernel
theorem outs1 : ∀ r ∈ later, ∀ w : Fin cfg1.W, Pipeline.arrRef spec1 w = r → (cfg1.win w).isOut = false := by decide +kernel

variable (m : (ℓ : Loc nD τ sig) → Buf (Elt Ideal) ℓ) (ρ : Dev nD → PrngReg) (c : Dev nD)

theorem k1 (r : Ref sig .tc) (h : r ∈ later) : V1 m ρ c r = W1 m ρ c (Proc.devRef .tc r) := rfl
theorem k2 (r : Ref sig .tc) (h : r ∈ later) : V2 m ρ c r = W1 m ρ c (Proc.devRef .tc r) := W2_of m ρ c r (outs0 r h)
theorem k3 (r : Ref sig .tc) (h : r ∈ later) : V3 m ρ c r = W1 m ρ c (Proc.devRef .tc r) := (W3_of m ρ c r (outs1 r h)).trans (k2 m ρ c r h)

/-- argument 0 -/
abbrev x0 : FVec Ideal Cert.ReferenceTailIdeal.S16384x1024 .bf16 := m ((c : Thread nD τ).loc main_arg0)
/-- argument 1 -/
abbrev x1 : FVec Ideal Cert.ReferenceTailIdeal.S16384x1024 .f32 := m ((c : Thread nD τ).loc main_arg1)
/-- argument 2 -/
abbrev x2 : FVec Ideal Cert.ReferenceTailIdeal.S2x1024 .f32 := m ((c : Thread nD τ).loc main_arg2)
/-- argument 3 -/
abbrev x3 : FVec Ideal Cert.ReferenceTailIdeal.S2x1024 .f32 := m ((c : Thread nD τ).loc main_arg3)
/-- argument 4 -/
abbrev x4 : FVec Ideal Cert.ReferenceTailIdeal.S1x1024x4096 .f32 := m ((c : Thread nD τ).loc main_arg4)
/-- argument 5 -/
abbrev x5 : FVec Ideal Cert.ReferenceTailIdeal.S1x2048 .f32 := m ((c : Thread nD τ).loc main_arg5)
/-- argument 6 -/
abbrev x6 : FVec Ideal Cert.ReferenceTailIdeal.S1x8x128x128 .f32 := m ((c : Thread nD τ).loc main_arg6)
/-- argument 7 -/
abbrev x7 : FVec Ideal Cert.ReferenceTailIdeal.S1x8x128 .f32 := m ((c : Thread nD τ).loc main_arg7)
/-- argument 8 -/
abbrev x8 : FVec Ideal Cert.ReferenceTailIdeal.S1x2048x1024 .f32 := m ((c : Thread nD τ).loc main_arg8)
/-- argument 9 -/
abbrev x9 : FVec Ideal Cert.ReferenceTailIdeal.S2x1024x5632 .f32 := m ((c : Thread nD τ).loc main_arg9)
/-- argument 10 -/
abbrev x10 : FVec Ideal Cert.ReferenceTailIdeal.S2x3x5632 .f32 := m ((c : Thread nD τ).loc main_arg10)
/-- argument 11 -/
abbrev x11 : FVec Ideal Cert.ReferenceTailIdeal.S2x5632 .f32 := m ((c : Thread nD τ).loc main_arg11)
/-- argument 12 -/
abbrev x12 : FVec Ideal Cert.ReferenceTailIdeal.S2x2816x1024 .f32 := m ((c : Thread nD τ).loc main_arg12)

/-- the reference's stream after the first feed-forward -/
abbrev y1 : FVec Ideal Cert.ReferenceTailIdeal.S2x8192x1024 .f32 := val_main_v41 (F := Ideal) (x0 m c) (x1 m c) (x9 m c) (x10 m c) (x11 m c) (x12 m c)
/-- the reference's stream after the gating unit -/
abbrev y2 : FVec Ideal Cert.ReferenceTailIdeal.S2x8192x1024 .f32 := val_main_v101 (F := Ideal) (x0 m c) (x1 m c) (x2 m c) (x4 m c) (x5 m c) (x6 m c) (x7 m c) (x8 m c) (x9 m c) (x10 m c) (x11 m c) (x12 m c)
/-- the reference's result -/
abbrev y3 : FVec Ideal Cert.ReferenceTailIdeal.S2x8192x1024 .f32 := val_main_v155 (F := Ideal) (x0 m c) (x1 m c) (x2 m c) (x3 m c) (x4 m c) (x5 m c) (x6 m c) (x7 m c) (x8 m c) (x9 m c) (x10 m c) (x11 m c) (x12 m c)

/-- the normalised rows the tail starts from -/
theorem rows_h : M.rows (φ := .bf16) (V1 m ρ c main_arg0) = fun r k => x0 m c (ix2 ⟨r % 16384, Nat.mod_lt _ (by decide)⟩ k) :=
  congrArg (fun z => M.rows (φ := .bf16) z) (W1_args m ρ c main_arg0 (by decide))

/-- the stream the tail starts from -/
theorem rows_x : M.rows (φ := .f32) (V1 m ρ c main_arg1) = M.fl 2 8192 (val_main_v2 (F := Ideal) (x1 m c)) := by
  refine (congrArg (fun z => M.rows (φ := .f32) z) (W1_args m ρ c main_arg1 (by decide))).trans ?_
  funext r k
  unfold M.rows M.fl
  refine Eq.trans ?_ (Cert.ReferenceTailIdeal.Ref.v2_at (x1 m c) _ _ k).symm
  exact congrArg (fun z => x1 m c (ix2 z k)) (Fin.ext (by show r % 16384 = (r / 8192 % 2) * 8192 + r % 8192; omega))

/-- the rows the first feed-forward's region computes -/
theorem ffn_rows (b : Fin 2) (s : Fin 8192) (e : Fin 1024) : y1 m c (ix3 b s e)
    = Ffn0.res (V1 m ρ c main_arg0) (V1 m ρ c main_arg1) (V1 m ρ c main_v20) (V1 m ρ c main_v25) (V1 m ρ c main_v30) (V1 m ρ c main_v36) (8192 * b + s) e := by
  refine (Cert.ReferenceTailIdeal.Ref.v41_st (x0 m c) (x1 m c) (x9 m c) (x10 m c) (x11 m c) (x12 m c) b s e).trans ?_
  refine congrFun (congrFun (Cert.KernelIdeal.Ffn.res_of 8192 _ _ _ _ _ _ (rows_h m ρ c) (rows_x m ρ c) ?_ ?_ ?_ ?_).symm (8192 * b + s)) e
  · exact fun k j => (congrFun (k1 m ρ c main_v20 (by decide +kernel)) (ix2 k j)).trans (Host.v20_at (W0 m ρ c) k j)
  · exact fun k j => (congrFun (k1 m ρ c main_v25 (by decide +kernel)) (ix2 k j)).trans (Host.v25_at (W0 m ρ c) k j)
  · exact fun j => (congrFun (k1 m ρ c main_v30 (by decide +kernel)) (ix2 0 j)).trans (Host.v30_at (W0 m ρ c) j)
  · exact fun k j => (congrFun (k1 m ρ c main_v36 (by decide +kernel)) (ix2 k j)).trans (Host.v36_at (W0 m ρ c) k j)

theorem s1 : M.rows (φ := .f32) (V2 m ρ c main_v40_0) = M.fl 2 8192 (y1 m c)
    ∧ M.rows (φ := .bf16) (V2 m ρ c main_v40_1) = M.nrm (M.fl 2 8192 (y1 m c)) (fun j => x2 m c (ix2 1 j)) := by
  have hg : (fun j => V1 m ρ c main_v2 (ix2 0 j)) = fun j => x2 m c (ix2 1 j) := funext fun j =>
    (congrFun (k1 m ρ c main_v2 (by decide +kernel)) (ix2 0 j)).trans (Host.v2_at (W0 m ρ c) j)
  refine ⟨M.rows_of (by norm_num) _ _ _ ((W2_arr m ρ c 9).trans (Ffn0.final9 (V1 m ρ) c)) (ffn_rows m ρ c), ?_⟩
  rw [← hg]
  exact M.rows_nrm (by norm_num) _ _ _ _ ((W2_arr m ρ c 10).trans (Ffn0.final10 (V1 m ρ) c)) (ffn_rows m ρ c)

/-- the rows the gating unit's region computes -/
theorem sgu_rows (b : Fin 2) (s : Fin 8192) (e : Fin 1024) : y2 m c (ix3 b s e)
    = Sgu.res (V2 m ρ c main_v40_1) (V2 m ρ c main_v40_0) (V2 m ρ c main_v7) (V2 m ρ c main_v9) (V2 m ρ c main_v11) (V2 m ρ c main_v15) (V2 m ρ c main_v17) (8192 * b + s) e := by
  refine (Cert.ReferenceTailIdeal.Ref.v101_st (x0 m c) (x1 m c) (x2 m c) (x4 m c) (x5 m c) (x6 m c) (x7 m c) (x8 m c) (x9 m c) (x10 m c) (x11 m c) (x12 m c) b s e).trans ?_
  refine congrFun (congrFun (Cert.KernelIdeal.Sgu.res_of _ _ _ _ _ _ _ (s1 m ρ c).2 (s1 m ρ c).1 ?_ ?_ ?_ ?_ ?_).symm (8192 * b + s)) e
  · exact fun k j => (congrFun (k2 m ρ c main_v7 (by decide +kernel)) (ix2 k j)).trans (Host.v7_at (W0 m ρ c) k j)
  · exact fun j => (congrFun (k2 m ρ c main_v9 (by decide +kernel)) (ix2 0 j)).trans (Host.v9_at (W0 m ρ c) j)
  · exact fun g a q => (congrFun (k2 m ρ c main_v11 (by decide +kernel)) (ix3 g a q)).trans (Host.v11_at (W0 m ρ c) g a q)
  · exact fun a j => (congrFun (k2 m ρ c main_v15 (by decide +kernel)) (ix2 a j)).trans (Host.v15_at (W0 m ρ c) a j)
  · exact fun k j => (congrFun (k2 m ρ c main_v17 (by decide +kernel)) (ix2 k j)).trans (Host.v17_at (W0 m ρ c) k j)

theorem s2 : M.rows (φ := .f32) (V3 m ρ c main_v41_0) = M.fl 2 8192 (y2 m c)
    ∧ M.rows (φ := .bf16) (V3 m ρ c main_v41_1) = M.nrm (M.fl 2 8192 (y2 m c)) (fun j => x3 m c (ix2 1 j)) := by
  have hg : (fun j => V2 m ρ c main_v5 (ix2 0 j)) = fun j => x3 m c (ix2 1 j) := funext fun j =>
    (congrFun (k2 m ρ c main_v5 (by decide +kernel)) (ix2 0 j)).trans (Host.v5_at (W0 m ρ c) j)
  refine ⟨M.rows_of (by norm_num) _ _ _ ((W3_arr m ρ c 8).trans (Sgu.final8 (V2 m ρ) c)) (sgu_rows m ρ c), ?_⟩
  rw [← hg]
  exact M.rows_nrm (by norm_num) _ _ _ _ ((W3_arr m ρ c 9).trans (Sgu.final9 (V2 m ρ) c)) (sgu_rows m ρ c)

/-- the rows the last region computes -/
theorem out_rows (b : Fin 2) (s : Fin 8192) (e : Fin 1024) : y3 m c (ix3 b s e)
    = Ffn2.res (V3 m ρ c main_v41_1) (V3 m ρ c main_v41_0) (V3 m ρ c main_v23) (V3 m ρ c main_v27) (V3 m ρ c main_v33) (V3 m ρ c main_v39) (8192 * b + s) e := by
  refine (Cert.ReferenceTailIdeal.Ref.v155_st (x0 m c) (x1 m c) (x2 m c) (x3 m c) (x4 m c) (x5 m c) (x6 m c) (x7 m c) (x8 m c) (x9 m c) (x10 m c) (x11 m c) (x12 m c) b s e).trans ?_
  refine congrFun (congrFun (Cert.KernelIdeal.Ffn.res_of 8192 _ _ _ _ _ _ (s2 m ρ c).2 (s2 m ρ c).1 ?_ ?_ ?_ ?_).symm (8192 * b + s)) e
  · exact fun k j => (congrFun (k3 m ρ c main_v23 (by decide +kernel)) (ix2 k j)).trans (Host.v23_at (W0 m ρ c) k j)
  · exact fun k j => (congrFun (k3 m ρ c main_v27 (by decide +kernel)) (ix2 k j)).trans (Host.v27_at (W0 m ρ c) k j)
  · exact fun j => (congrFun (k3 m ρ c main_v33 (by decide +kernel)) (ix2 0 j)).trans (Host.v33_at (W0 m ρ c) j)
  · exact fun k j => (congrFun (k3 m ρ c main_v39 (by decide +kernel)) (ix2 k j)).trans (Host.v39_at (W0 m ρ c) k j)

/-- the tail's result is the reference's -/
theorem result : W5 m ρ c (Proc.devRef .tc main_v43) = y3 m c := by
  have h : M.rows (φ := .f32) (V4 m ρ c main_v42) = M.fl 2 8192 (y3 m c) :=
    M.rows_of (by norm_num) _ _ _ ((W4_arr m ρ c 9).trans (Ffn2.final9 (V3 m ρ) c)) (out_rows m ρ c)
  refine funext fun i : Cert.ReferenceTailIdeal.S2x8192x1024.Idx => ?_
  obtain ⟨b, s, e, rfl⟩ : ∃ (b : Fin 2) (s : Fin 8192) (e : Fin 1024), i = ix3 b s e := ⟨i 0, i 1, i 2, eq_ix3 i⟩
  refine (Host.v43_at (W4 m ρ c) b s e).trans ?_
  have h1 := congrFun (congrFun h (8192 * b + s)) e
  rw [M.fl_of _ _ b s rfl] at h1
  refine Eq.trans ?_ h1
  unfold M.rows
  exact congrArg (fun z => V4 m ρ c main_v42 (ix2 z e)) (Fin.ext (by show (b : ℕ) * 8192 + s = (8192 * b + s) % 16384; omega))

end Cert.KernelTailIdeal.Chain
end
-- ==== Proof.TailRun.lean ====
module

public import proofs.«01_k».proof.Proof.Gen.KernelTailIdeal.Frame

@[expose] public section

set_option maxRecDepth 16384

noncomputable section

/-! The tail's run, the result's buffer read from the last boundary's contents. -/
namespace Cert.KernelTailIdeal.Run
open Cert.KernelTailIdeal Cert.KernelTailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- every run ends with the result at the last boundary's contents and the arguments as launched -/
theorem run : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v43 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelTailIdeal.Run
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Gen.KernelTail.Frame
public import proofs.«01_k».proof.Proof.Gen.KernelTailIdeal.Frame
public import proofs.«01_k».proof.Proof.Gen.ReferenceTailIdeal.Run
public import proofs.«01_k».proof.Proof.Gen.ReferenceTailIdeal.Read
public import proofs.«01_k».proof.Proof.Chain2
public import proofs.«01_k».proof.Proof.Run
public import proofs.«01_k».proof.Proof.Finite
public import proofs.«01_k».proof.Proof.TailChain
public import proofs.«01_k».proof.Proof.TailRun
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- the two named constants are roundings of the terms they stand for -/
theorem named : Cert.preserves_Kernel_KernelIdeal :=
  ⟨IdealRules.named_const.statement Cert.KernelIdeal.κ "log2e_over_8" .f32 0x3E38AA3B#32 _ rfl,
    IdealRules.named_const.statement Cert.KernelIdeal.κ "neg_log2e" .f32 0xBFB8AA3B#32 _ rfl⟩

/-- the reference terminates, its arguments unchanged and no counter moved -/
theorem frame_r : Cert.quiescent_ReferenceIdeal := fun m g _ =>
  (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m g)

/-- the precondition gives real inputs where the scores come from -/
theorem fin0 (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Chain.Fin0 m c where
  x0 := M.isR_of _ _ _ (h c).1
  x1 := M.isR_of _ _ _ (h c).2.1
  x3 := M.isR_of _ _ _ (h c).2.2.1
  x4 := M.isR_of _ _ _ (h c).2.2.2.1
  x5 := M.isR_of _ _ _ (h c).2.2.2.2

/-- over the extended reals the kernel and the reference end with the same result -/
theorem value : Cert.algebraic_KernelIdeal_ReferenceIdeal_pre_finite := by
  intro m g m' g' hpre hag
  refine ⟨fun c => Cert.KernelIdeal.Chain.y4 m c, ?_, ?_⟩
  · exact (θ_run (Cert.KernelIdeal.defs (F := Ideal)) _ _).mono
      (fun r h c => ⟨(h c).1.trans (Cert.KernelIdeal.Chain.result m g c (fin0 m hpre c)), (h c).2⟩) (Cert.KernelIdeal.Run.run (F := Ideal) m g)
  · refine (θ_run (Cert.ReferenceIdeal.defs (F := Ideal)) _ _).mono
      (fun r h c => ⟨(h c).1.trans ((Cert.ReferenceIdeal.Read.val_main_v309_eq _).trans ?_), (h c).2⟩) (Cert.ReferenceIdeal.Value.run (F := Ideal) m' g')
    obtain ⟨h0, h1, h2, h3, h4, h5, h6, h7, h8, h9, h10, h11, h12, h13, h14, h15⟩ := hag c
    dsimp only [Cert.KernelIdeal.Chain.y4, Cert.KernelIdeal.Chain.x0, Cert.KernelIdeal.Chain.x1, Cert.KernelIdeal.Chain.x2, Cert.KernelIdeal.Chain.x3,
      Cert.KernelIdeal.Chain.x4, Cert.KernelIdeal.Chain.x5, Cert.KernelIdeal.Chain.x6, Cert.KernelIdeal.Chain.x7, Cert.KernelIdeal.Chain.x8,
      Cert.KernelIdeal.Chain.x9, Cert.KernelIdeal.Chain.x10, Cert.KernelIdeal.Chain.x11, Cert.KernelIdeal.Chain.x12, Cert.KernelIdeal.Chain.x13,
      Cert.KernelIdeal.Chain.x14, Cert.KernelIdeal.Chain.x15]
    rw [← h0, ← h1, ← h2, ← h3, ← h4, ← h5, ← h6, ← h7, ← h8, ← h9, ← h10, ← h11, ← h12, ← h13, ← h14, ← h15]

/-- the tail's named constant, in its two feed-forwards, is a rounding of the term it stands for -/
theorem named_tail : Cert.preserves_KernelTail_KernelTailIdeal :=
  IdealRules.named_const.statement Cert.KernelTailIdeal.κ "neg_log2e" .f32 0xBFB8AA3B#32 _ rfl

/-- the tail's reference terminates, its arguments unchanged and no counter moved -/
theorem frame_rt : Cert.quiescent_ReferenceTailIdeal := fun m g _ =>
  (θ_run (Cert.ReferenceTailIdeal.defs (F := Ideal)) _ _).mono (fun r h => ⟨fun c => (h c).2,
    Idealize.ShloMosaic.sem_eq_zero_of_no_sems (by decide) r.2⟩) (Cert.ReferenceTailIdeal.Value.run (F := Ideal) m g)

/-- over the extended reals the prompt's tail and its reference end with the same result -/
theorem value_tail : Cert.algebraic_KernelTailIdeal_ReferenceTailIdeal := by
  intro m g m' g' _ hag
  refine ⟨fun c => Cert.KernelTailIdeal.Chain.y3 m c, ?_, ?_⟩
  · exact (θ_run (Cert.KernelTailIdeal.defs (F := Ideal)) _ _).mono
      (fun r h c => ⟨(h c).1.trans (Cert.KernelTailIdeal.Chain.result m g c), (h c).2⟩) (Cert.KernelTailIdeal.Run.run (F := Ideal) m g)
  · refine (θ_run (Cert.ReferenceTailIdeal.defs (F := Ideal)) _ _).mono
      (fun r h c => ⟨(h c).1.trans ((Cert.ReferenceTailIdeal.Read.val_main_v155_eq _).trans ?_), (h c).2⟩) (Cert.ReferenceTailIdeal.Value.run (F := Ideal) m' g')
    obtain ⟨h0, h1, h2, h3, h4, h5, h6, h7, h8, h9, h10, h11, h12⟩ := hag c
    dsimp only [Cert.KernelTailIdeal.Chain.y3, Cert.KernelTailIdeal.Chain.x0, Cert.KernelTailIdeal.Chain.x1, Cert.KernelTailIdeal.Chain.x2, Cert.KernelTailIdeal.Chain.x3, Cert.KernelTailIdeal.Chain.x4, Cert.KernelTailIdeal.Chain.x5, Cert.KernelTailIdeal.Chain.x6, Cert.KernelTailIdeal.Chain.x7, Cert.KernelTailIdeal.Chain.x8, Cert.KernelTailIdeal.Chain.x9, Cert.KernelTailIdeal.Chain.x10, Cert.KernelTailIdeal.Chain.x11, Cert.KernelTailIdeal.Chain.x12]
    rw [← h0, ← h1, ← h2, ← h3, ← h4, ← h5, ← h6, ← h7, ← h8, ← h9, ← h10, ← h11, ← h12]

theorem claim : Cert.Claim := ⟨Cert.Kernel.Gen.facts, Cert.KernelIdeal.Gen.facts, Cert.ReferenceIdeal.Gen.facts,
  Cert.KernelTail.Gen.facts, Cert.KernelTailIdeal.Gen.facts, Cert.ReferenceTailIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.KernelTail.Gen.frame m ρ, fun m ρ _ => Cert.KernelTailIdeal.Gen.frame m ρ, frame_rt,
  named, value, named_tail, value_tail⟩

end Cert.Proof

end
